-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)) →
    ∃ (v0 : (c : Dev Cert.Kernel2Ideal.nD) → Buf (Elt Ideal) ((c.tc : Thread Cert.Kernel2Ideal.nD Cert.Kernel2Ideal.τ).loc Cert.Kernel2Ideal.main_v41)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v133) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v31)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v31) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v104) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v47_0)) (v1 : (c : Dev Cert.Kernel4Ideal.nD) → Buf (Elt Ideal) ((c.tc : Thread Cert.Kernel4Ideal.nD Cert.Kernel4Ideal.τ).loc Cert.Kernel4Ideal.main_v47_1)) (v2 : (c : Dev Cert.Kernel4Ideal.nD) → Buf (Elt Ideal) ((c.tc : Thread Cert.Kernel4Ideal.nD Cert.Kernel4Ideal.τ).loc Cert.Kernel4Ideal.main_v47_2)) (v3 : (c : Dev Cert.Kernel4Ideal.nD) → Buf (Elt Ideal) ((c.tc : Thread Cert.Kernel4Ideal.nD Cert.Kernel4Ideal.τ).loc Cert.Kernel4Ideal.main_v47_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v47_0) = v0 c
          ∧ r.2.mem ((c.tc : Thread Cert.Kernel4Ideal.nD Cert.Kernel4Ideal.τ).loc Cert.Kernel4Ideal.main_v47_1) = v1 c
          ∧ r.2.mem ((c.tc : Thread Cert.Kernel4Ideal.nD Cert.Kernel4Ideal.τ).loc Cert.Kernel4Ideal.main_v47_2) = v2 c
          ∧ r.2.mem ((c.tc : Thread Cert.Kernel4Ideal.nD Cert.Kernel4Ideal.τ).loc Cert.Kernel4Ideal.main_v47_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v155) = v0 c
          ∧ r.2.mem ((c.tc : Thread Cert.Reference4Ideal.nD Cert.Reference4Ideal.τ).loc Cert.Reference4Ideal.main_v162) = v1 c
          ∧ r.2.mem ((c.tc : Thread Cert.Reference4Ideal.nD Cert.Reference4Ideal.τ).loc Cert.Reference4Ideal.main_v164) = v2 c
          ∧ r.2.mem ((c.tc : Thread Cert.Reference4Ideal.nD Cert.Reference4Ideal.τ).loc Cert.Reference4Ideal.main_v165) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v102_0)) (v1 : (c : Dev Cert.Kernel5Ideal.nD) → Buf (Elt Ideal) ((c.tc : Thread Cert.Kernel5Ideal.nD Cert.Kernel5Ideal.τ).loc Cert.Kernel5Ideal.main_v102_2)) (v2 : (c : Dev Cert.Kernel5Ideal.nD) → Buf (Elt Ideal) ((c.tc : Thread Cert.Kernel5Ideal.nD Cert.Kernel5Ideal.τ).loc Cert.Kernel5Ideal.main_v102_3)) (v3 : (c : Dev Cert.Kernel5Ideal.nD) → Buf (Elt Ideal) ((c.tc : Thread Cert.Kernel5Ideal.nD Cert.Kernel5Ideal.τ).loc Cert.Kernel5Ideal.main_v102_4)) (v4 : (c : Dev Cert.Kernel5Ideal.nD) → Buf (Elt Ideal) ((c.tc : Thread Cert.Kernel5Ideal.nD Cert.Kernel5Ideal.τ).loc Cert.Kernel5Ideal.main_v102_5)) (v5 : (c : Dev Cert.Kernel5Ideal.nD) → Buf (Elt Ideal) ((c.tc : Thread Cert.Kernel5Ideal.nD Cert.Kernel5Ideal.τ).loc Cert.Kernel5Ideal.main_v102_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v102_0) = v0 c
          ∧ r.2.mem ((c.tc : Thread Cert.Kernel5Ideal.nD Cert.Kernel5Ideal.τ).loc Cert.Kernel5Ideal.main_v102_2) = v1 c
          ∧ r.2.mem ((c.tc : Thread Cert.Kernel5Ideal.nD Cert.Kernel5Ideal.τ).loc Cert.Kernel5Ideal.main_v102_3) = v2 c
          ∧ r.2.mem ((c.tc : Thread Cert.Kernel5Ideal.nD Cert.Kernel5Ideal.τ).loc Cert.Kernel5Ideal.main_v102_4) = v3 c
          ∧ r.2.mem ((c.tc : Thread Cert.Kernel5Ideal.nD Cert.Kernel5Ideal.τ).loc Cert.Kernel5Ideal.main_v102_5) = v4 c
          ∧ r.2.mem ((c.tc : Thread Cert.Kernel5Ideal.nD Cert.Kernel5Ideal.τ).loc Cert.Kernel5Ideal.main_v102_6) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v192) = v0 c
          ∧ r.2.mem ((c.tc : Thread Cert.Reference5Ideal.nD Cert.Reference5Ideal.τ).loc Cert.Reference5Ideal.main_v194) = v1 c
          ∧ r.2.mem ((c.tc : Thread Cert.Reference5Ideal.nD Cert.Reference5Ideal.τ).loc Cert.Reference5Ideal.main_v195) = v2 c
          ∧ r.2.mem ((c.tc : Thread Cert.Reference5Ideal.nD Cert.Reference5Ideal.τ).loc Cert.Reference5Ideal.main_v196) = v3 c
          ∧ r.2.mem ((c.tc : Thread Cert.Reference5Ideal.nD Cert.Reference5Ideal.τ).loc Cert.Reference5Ideal.main_v202) = v4 c
          ∧ r.2.mem ((c.tc : Thread Cert.Reference5Ideal.nD Cert.Reference5Ideal.τ).loc Cert.Reference5Ideal.main_v204) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8x8x4096x64 : Shape := ⟨4, ![8, 8, 4096, 64]⟩
abbrev S8x2x256x64 : Shape := ⟨4, ![8, 2, 256, 64]⟩
abbrev S8x2x4096x64 : Shape := ⟨4, ![8, 2, 4096, 64]⟩
abbrev S_ : Shape := ⟨0, ![]⟩

class Facts : Prop where
  bcast_S_S8x8x4096x64 : S_.BroadcastsInDim S8x8x4096x64 (![] : Fin 0 → Fin S8x8x4096x64.rank)
  reducesTo_S8x8x4096x64_S_d0_1_2_3 : S8x8x4096x64.ReducesTo [0, 1, 2, 3] S_
  h_S_ : 0 < S_.numel
  bcast_S_S8x2x256x64 : S_.BroadcastsInDim S8x2x256x64 (![] : Fin 0 → Fin S8x2x256x64.rank)
  reducesTo_S8x2x256x64_S_d0_1_2_3 : S8x2x256x64.ReducesTo [0, 1, 2, 3] S_
  bcast_S_S8x2x4096x64 : S_.BroadcastsInDim S8x2x4096x64 (![] : Fin 0 → Fin S8x2x4096x64.rank)
  reducesTo_S8x2x4096x64_S_d0_1_2_3 : S8x2x4096x64.ReducesTo [0, 1, 2, 3] S_

variable [Facts]

def fn_part1 {F : FTy → Type} [FloatOps F] (main_arg4 : FVec F S8x2x4096x64 .f32) (main_v13 : IVec S_ 1) (main_v16 : IVec S8x2x4096x64 1) : IVec S_ 1 :=
  let main_c_5 : IVec S_ 1 := constantI S_ 1 1#1
  let main_v17 : IVec S_ 1 := (fun x v => Host.reduce IntOp.andi x v reducesTo_S8x2x4096x64_S_d0_1_2_3 h_S_) main_v16 main_c_5
  let main_v18 : IVec S_ 1 := andi main_v13 main_v17
  let main_v19 : FVec F S8x2x4096x64 .f32 := Host.absf main_arg4
  let main_cst_6 : FVec F S_ .f32 := constant S_ .f32 0x7F800000#32
  let main_v20 : FVec F S8x2x4096x64 .f32 := broadcastInDim S8x2x4096x64 ![] bcast_S_S8x2x4096x64 main_cst_6
  let main_v21 : IVec S8x2x4096x64 1 := cmpf .olt main_v19 main_v20
  let main_c_7 : IVec S_ 1 := constantI S_ 1 1#1
  let main_v22 : IVec S_ 1 := (fun x v => Host.reduce IntOp.andi x v reducesTo_S8x2x4096x64_S_d0_1_2_3 h_S_) main_v21 main_c_7
  let main_v23 : IVec S_ 1 := andi main_v18 main_v22
  main_v23

def fn {F : FTy → Type} [FloatOps F] (main_arg0 : FVec F S8x8x4096x64 .f32) (main_arg1 : FVec F S8x2x256x64 .f32) (main_arg2 : FVec F S8x2x256x64 .f32) (main_arg3 : FVec F S8x2x4096x64 .f32) (main_arg4 : FVec F S8x2x4096x64 .f32) : IVec S_ 1 :=
  let main_v0 : FVec F S8x8x4096x64 .f32 := Host.absf main_arg0
  let main_cst : FVec F S_ .f32 := constant S_ .f32 0x7F800000#32
  let main_v1 : FVec F S8x8x4096x64 .f32 := broadcastInDim S8x8x4096x64 ![] bcast_S_S8x8x4096x64 main_cst
  let main_v2 : IVec S8x8x4096x64 1 := cmpf .olt main_v0 main_v1
  let main_c : IVec S_ 1 := constantI S_ 1 1#1
  let main_v3 : IVec S_ 1 := (fun x v => Host.reduce IntOp.andi x v reducesTo_S8x8x4096x64_S_d0_1_2_3 h_S_) main_v2 main_c
  let main_v4 : FVec F S8x2x256x64 .f32 := Host.absf main_arg1
  let main_cst_0 : FVec F S_ .f32 := constant S_ .f32 0x7F800000#32
  let main_v5 : FVec F S8x2x256x64 .f32 := broadcastInDim S8x2x256x64 ![] bcast_S_S8x2x256x64 main_cst_0
  let main_v6 : IVec S8x2x256x64 1 := cmpf .olt main_v4 main_v5
  let main_c_1 : IVec S_ 1 := constantI S_ 1 1#1
  let main_v7 : IVec S_ 1 := (fun x v => Host.reduce IntOp.andi x v reducesTo_S8x2x256x64_S_d0_1_2_3 h_S_) main_v6 main_c_1
  let main_v8 : IVec S_ 1 := andi main_v3 main_v7
  let main_v9 : FVec F S8x2x256x64 .f32 := Host.absf main_arg2
  let main_cst_2 : FVec F S_ .f32 := constant S_ .f32 0x7F800000#32
  let main_v10 : FVec F S8x2x256x64 .f32 := broadcastInDim S8x2x256x64 ![] bcast_S_S8x2x256x64 main_cst_2
  let main_v11 : IVec S8x2x256x64 1 := cmpf .olt main_v9 main_v10
  let main_c_3 : IVec S_ 1 := constantI S_ 1 1#1
  let main_v12 : IVec S_ 1 := (fun x v => Host.reduce IntOp.andi x v reducesTo_S8x2x256x64_S_d0_1_2_3 h_S_) main_v11 main_c_3
  let main_v13 : IVec S_ 1 := andi main_v8 main_v12
  let main_v14 : FVec F S8x2x4096x64 .f32 := Host.absf main_arg3
  let main_cst_4 : FVec F S_ .f32 := constant S_ .f32 0x7F800000#32
  let main_v15 : FVec F S8x2x4096x64 .f32 := broadcastInDim S8x2x4096x64 ![] bcast_S_S8x2x4096x64 main_cst_4
  let main_v16 : IVec S8x2x4096x64 1 := cmpf .olt main_v14 main_v15
  fn_part1 (F := F) main_arg4 main_v13 main_v16
-- ==== Kernel.lean ====
abbrev S8x8x4096x64 : Shape := ⟨4, ![8, 8, 4096, 64]⟩
abbrev S8x2x256x64 : Shape := ⟨4, ![8, 2, 256, 64]⟩
abbrev S8x2x4096x64 : Shape := ⟨4, ![8, 2, 4096, 64]⟩
abbrev S_ : Shape := ⟨0, ![]⟩
abbrev S8x8x32x128x64 : Shape := ⟨5, ![8, 8, 32, 128, 64]⟩
abbrev S8x32x8x64x128 : Shape := ⟨5, ![8, 32, 8, 64, 128]⟩
abbrev S8x32x512x128 : Shape := ⟨4, ![8, 32, 512, 128]⟩
abbrev S8x1x256x64 : Shape := ⟨4, ![8, 1, 256, 64]⟩
abbrev S8x256x64 : Shape := ⟨3, ![8, 256, 64]⟩
abbrev S8x256x256 : Shape := ⟨3, ![8, 256, 256]⟩
abbrev S8x2x64x256 : Shape := ⟨4, ![8, 2, 64, 256]⟩
abbrev S8x128x256 : Shape := ⟨3, ![8, 128, 256]⟩
abbrev S8x1x4096x64 : Shape := ⟨4, ![8, 1, 4096, 64]⟩
abbrev S8x4096x64 : Shape := ⟨3, ![8, 4096, 64]⟩
abbrev S8x4096x256 : Shape := ⟨3, ![8, 4096, 256]⟩
abbrev S8x2x64x4096 : Shape := ⟨4, ![8, 2, 64, 4096]⟩
abbrev S8x128x4096 : Shape := ⟨3, ![8, 128, 4096]⟩
abbrev S8x4096x512 : Shape := ⟨3, ![8, 4096, 512]⟩
abbrev S1x32x128x128 : Shape := ⟨4, ![1, 32, 128, 128]⟩
abbrev S1x256x128 : Shape := ⟨3, ![1, 256, 128]⟩
abbrev S1x64x256 : Shape := ⟨3, ![1, 64, 256]⟩
abbrev S1x4096x128 : Shape := ⟨3, ![1, 4096, 128]⟩
abbrev S1x64x4096 : Shape := ⟨3, ![1, 64, 4096]⟩
abbrev S128x1 : Shape := ⟨2, ![128, 1]⟩
abbrev S64x256 : Shape := ⟨2, ![64, 256]⟩
abbrev S1x64x512 : Shape := ⟨3, ![1, 64, 512]⟩
abbrev S64x512 : Shape := ⟨2, ![64, 512]⟩
abbrev S1x1x128x128 : Shape := ⟨4, ![1, 1, 128, 128]⟩
abbrev S128x128 : Shape := ⟨2, ![128, 128]⟩
abbrev S128x256 : Shape := ⟨2, ![128, 256]⟩
abbrev S1x256 : Shape := ⟨2, ![1, 256]⟩
abbrev S80x256 : Shape := ⟨2, ![80, 256]⟩
abbrev S1x128x128 : Shape := ⟨3, ![1, 128, 128]⟩
abbrev S256 : Shape := ⟨1, ![256]⟩
abbrev S16x256 : Shape := ⟨2, ![16, 256]⟩
abbrev S256x256 : Shape := ⟨2, ![256, 256]⟩
abbrev S16x512 : Shape := ⟨2, ![16, 512]⟩
abbrev S80x512 : Shape := ⟨2, ![80, 512]⟩
abbrev S512x256 : Shape := ⟨2, ![512, 256]⟩
abbrev S64x128 : Shape := ⟨2, ![64, 128]⟩

abbrev nBuf : Space → Nat
  | .hbm => 42
  | .vmem => 12
  | .smem => 0
  | _ => 0

abbrev bufTy : (tb : Table) → Fin (tcTables nBuf tb) → BufTy
  | .hbm, ⟨0, _⟩ => ⟨S8x8x4096x64, .f32⟩
  | .hbm, ⟨1, _⟩ => ⟨S8x2x256x64, .f32⟩
  | .hbm, ⟨2, _⟩ => ⟨S8x2x256x64, .f32⟩
  | .hbm, ⟨3, _⟩ => ⟨S8x2x4096x64, .f32⟩
  | .hbm, ⟨4, _⟩ => ⟨S8x2x4096x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x8x4096x64, .f32⟩
  | .hbm, ⟨10, _⟩ => ⟨S8x8x4096x64, .f32⟩
  | .hbm, ⟨11, _⟩ => ⟨S8x8x32x128x64, .f32⟩
  | .hbm, ⟨12, _⟩ => ⟨S8x32x8x64x128, .f32⟩
  | .hbm, ⟨13, _⟩ => ⟨S8x32x512x128, .f32⟩
  | .hbm, ⟨14, _⟩ => ⟨S8x32x512x128, .bf16⟩
  | .hbm, ⟨15, _⟩ => ⟨S8x1x256x64, .f32⟩
  | .hbm, ⟨16, _⟩ => ⟨S8x256x64, .f32⟩
  | .hbm, ⟨17, _⟩ => ⟨S8x1x256x64, .f32⟩
  | .hbm, ⟨18, _⟩ => ⟨S8x256x64, .f32⟩
  | .hbm, ⟨19, _⟩ => ⟨S8x1x256x64, .f32⟩
  | .hbm, ⟨20, _⟩ => ⟨S8x256x64, .f32⟩
  | .hbm, ⟨21, _⟩ => ⟨S8x1x256x64, .f32⟩
  | .hbm, ⟨22, _⟩ => ⟨S8x256x64, .f32⟩
  | .hbm, ⟨23, _⟩ => ⟨S8x256x256, .f32⟩
  | .hbm, ⟨24, _⟩ => ⟨S8x256x256, .bf16⟩
  | .hbm, ⟨25, _⟩ => ⟨S8x2x64x256, .f32⟩
  | .hbm, ⟨26, _⟩ => ⟨S8x128x256, .f32⟩
  | .hbm, ⟨27, _⟩ => ⟨S8x128x256, .bf16⟩
  | .hbm, ⟨28, _⟩ => ⟨S8x1x4096x64, .f32⟩
  | .hbm, ⟨29, _⟩ => ⟨S8x4096x64, .f32⟩
  | .hbm, ⟨30, _⟩ => ⟨S8x1x4096x64, .f32⟩
  | .hbm, ⟨31, _⟩ => ⟨S8x4096x64, .f32⟩
  | .hbm, ⟨32, _⟩ => ⟨S8x1x4096x64, .f32⟩
  | .hbm, ⟨33, _⟩ => ⟨S8x4096x64, .f32⟩
  | .hbm, ⟨34, _⟩ => ⟨S8x1x4096x64, .f32⟩
  | .hbm, ⟨35, _⟩ => ⟨S8x4096x64, .f32⟩
  | .hbm, ⟨36, _⟩ => ⟨S8x4096x256, .f32⟩
  | .hbm, ⟨37, _⟩ => ⟨S8x4096x256, .bf16⟩
  | .hbm, ⟨38, _⟩ => ⟨S8x2x64x4096, .f32⟩
  | .hbm, ⟨39, _⟩ => ⟨S8x128x4096, .f32⟩
  | .hbm, ⟨40, _⟩ => ⟨S8x128x4096, .bf16⟩
  | .hbm, ⟨41, _⟩ => ⟨S8x4096x512, .bf16⟩
  | .local _ .vmem, ⟨0, _⟩ => ⟨S1x32x128x128, .bf16⟩
  | .local _ .vmem, ⟨1, _⟩ => ⟨S1x32x128x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x64x256, .bf16⟩
  | .local _ .vmem, ⟨5, _⟩ => ⟨S1x64x256, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x64x4096, .bf16⟩
  | .local _ .vmem, ⟨9, _⟩ => ⟨S1x64x4096, .bf16⟩
  | .local _ .vmem, ⟨10, _⟩ => ⟨S1x4096x128, .bf16⟩
  | .local _ .vmem, ⟨11, _⟩ => ⟨S1x4096x128, .bf16⟩
  | _, _ => ⟨S8x8x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v21 : BitVec 32 := Scalar.addi c0_i32 c8_i32
  let c1_i32 : BitVec 32 := 1#32
  ⟨c0_i32, v21, c1_i32⟩
def k0_off1 (k0_t1 : Fin k0_t1_loop.trips) (c0_i32_20 : BitVec 32) : Fin 4 → Nat :=
  let c0_21 : Index := 0#32
  let c0_i32 : BitVec 32 := 0#32
  let c1_i32 : BitVec 32 := 1#32
  let arg8 : BitVec 32 := Scf.iv c0_i32 c1_i32 k0_t1
  let c4_i32 : BitVec 32 := 4#32
  let v22 : BitVec 32 := Scalar.muli arg8 c4_i32
  let v23 : BitVec 32 := Scalar.addi v22 c0_i32_20
  let v24 : Index := Scalar.indexCast v23
  let c0_22 : Index := 0#32
  let c0_23 : Index := 0#32
  ![0, v24.toNat, 0, 0]
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32_649 : BitVec 32 := 4#32
  let v1520 : BitVec 32 := Scalar.muli arg8 c4_i32_649
  let c0_i32_650 : BitVec 32 := 0#32
  let v1521 : BitVec 32 := Scalar.addi v1520 c0_i32_650
  let c128_i32 : BitVec 32 := 128#32
  let v1522 : BitVec 32 := Scalar.muli v1521 c128_i32
  v1522
def k0_off2 (k0_t1 : Fin k0_t1_loop.trips) (c0_i32_650 : BitVec 32) : Fin 3 → Nat :=
  let c0_651 : Index := 0#32
  let c0_i32 : BitVec 32 := 0#32
  let c1_i32 : BitVec 32 := 1#32
  let arg8 : BitVec 32 := Scf.iv c0_i32 c1_i32 k0_t1
  let c4_i32_649 : BitVec 32 := 4#32
  let v1520 : BitVec 32 := Scalar.muli arg8 c4_i32_649
  let v1521 : BitVec 32 := Scalar.addi v1520 c0_i32_650
  let c128_i32 : BitVec 32 := 128#32
  let v1522 : BitVec 32 := Scalar.muli v1521 c128_i32
  let v1523 : BitVec 32 := v1522
  let v1525 : Index := Scalar.indexCast v1523
  let c0_652 : Index := 0#32
  ![0, v1525.toNat, 0]
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32_653 : BitVec 32 := 4#32
  let v1537 : BitVec 32 := Scalar.muli arg8 c4_i32_653
  let c1_i32_654 : BitVec 32 := 1#32
  let v1538 : BitVec 32 := Scalar.addi v1537 c1_i32_654
  let c128_i32_655 : BitVec 32 := 128#32
  let v1539 : BitVec 32 := Scalar.muli v1538 c128_i32_655
  v1539
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32_658 : BitVec 32 := 4#32
  let v1554 : BitVec 32 := Scalar.muli arg8 c4_i32_658
  let c2_i32_659 : BitVec 32 := 2#32
  let v1555 : BitVec 32 := Scalar.addi v1554 c2_i32_659
  let c128_i32_660 : BitVec 32 := 128#32
  let v1556 : BitVec 32 := Scalar.muli v1555 c128_i32_660
  v1556
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c4_i32_663 : BitVec 32 := 4#32
  let v1571 : BitVec 32 := Scalar.muli arg8 c4_i32_663
  let c3_i32_664 : BitVec 32 := 3#32
  let v1572 : BitVec 32 := Scalar.addi v1571 c3_i32_664
  let c128_i32_665 : BitVec 32 := 128#32
  let v1573 : BitVec 32 := Scalar.muli v1572 c128_i32_665
  v1573
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, v16.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x32x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x8x4096x64 : Shape := ⟨4, ![8, 8, 4096, 64]⟩
abbrev S8x2x256x64 : Shape := ⟨4, ![8, 2, 256, 64]⟩
abbrev S8x2x4096x64 : Shape := ⟨4, ![8, 2, 4096, 64]⟩
abbrev S8x2x4352x64 : Shape := ⟨4, ![8, 2, 4352, 64]⟩
abbrev S8x2x4x4096x64 : Shape := ⟨5, ![8, 2, 4, 4096, 64]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x4096x8x64 : Shape := ⟨4, ![8, 4096, 8, 64]⟩
abbrev S8x4096x512 : Shape := ⟨3, ![8, 4096, 512]⟩

abbrev nBuf : Space → Nat
  | .hbm => 31
  | .vmem => 0
  | .smem => 0
  | _ => 0

abbrev bufTy : (tb : Table) → Fin (tcTables nBuf tb) → BufTy
  | .hbm, ⟨0, _⟩ => ⟨S8x8x4096x64, .f32⟩
  | .hbm, ⟨1, _⟩ => ⟨S8x2x256x64, .f32⟩
  | .hbm, ⟨2, _⟩ => ⟨S8x2x256x64, .f32⟩
  | .hbm, ⟨3, _⟩ => ⟨S8x2x4096x64, .f32⟩
  | .hbm, ⟨4, _⟩ => ⟨S8x2x4096x64, .f32⟩
  | .hbm, ⟨5, _⟩ => ⟨S8x2x4352x64, .f32⟩
  | .hbm, ⟨6, _⟩ => ⟨S8x2x4352x64, .f32⟩
  | .hbm, ⟨7, _⟩ => ⟨S8x2x4x4096x64, .f32⟩
  | .hbm, ⟨8, _⟩ => ⟨S8x2x4x4096x4352, .f32⟩
  | .hbm, ⟨9, _⟩ => ⟨S_, .f32⟩
  | .hbm, ⟨10, _⟩ => ⟨S8x2x4x4096x4352, .f32⟩
  | .hbm, ⟨11, _⟩ => ⟨S8x2x4x4096x4352, .f32⟩
  | .hbm, ⟨12, _⟩ => ⟨S_, .f32⟩
  | .hbm, ⟨13, _⟩ => ⟨S8x2x4x4096, .f32⟩
  | .hbm, ⟨14, _⟩ => ⟨S_, .f32⟩
  | .hbm, ⟨15, _⟩ => ⟨S8x2x4x4096, .f32⟩
  | .hbm, ⟨16, _⟩ => ⟨S8x2x4x4096, .f32⟩
  | .hbm, ⟨17, _⟩ => ⟨S8x2x4x4096x1, .f32⟩
  | .hbm, ⟨18, _⟩ => ⟨S8x2x4x4096x4352, .f32⟩
  | .hbm, ⟨19, _⟩ => ⟨S8x2x4x4096x4352, .f32⟩
  | .hbm, ⟨20, _⟩ => ⟨S8x2x4x4096x4352, .f32⟩
  | .hbm, ⟨21, _⟩ => ⟨S_, .f32⟩
  | .hbm, ⟨22, _⟩ => ⟨S8x2x4x4096, .f32⟩
  | .hbm, ⟨23, _⟩ => ⟨S8x2x4x4096x1, .f32⟩
  | .hbm, ⟨24, _⟩ => ⟨S8x2x4x4096x4352, .f32⟩
  | .hbm, ⟨25, _⟩ => ⟨S8x2x4x4096x4352, .f32⟩
  | .hbm, ⟨26, _⟩ => ⟨S8x2x4x4096x64, .f32⟩
  | .hbm, ⟨27, _⟩ => ⟨S8x8x4096x64, .f32⟩
  | .hbm, ⟨28, _⟩ => ⟨S8x4096x8x64, .f32⟩
  | .hbm, ⟨29, _⟩ => ⟨S8x4096x512, .f32⟩
  | .hbm, ⟨30, _⟩ => ⟨S8x4096x512, .bf16⟩
  | _, _ => ⟨S8x8x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x512 : Shape := ⟨3, ![8, 4096, 512]⟩
abbrev S2x16x6144 : Shape := ⟨3, ![2, 16, 6144]⟩
abbrev S2x4x1024 : Shape := ⟨3, ![2, 4, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x64 : Shape := ⟨2, ![1, 64]⟩
abbrev S1x512 : Shape := ⟨2, ![1, 512]⟩
abbrev S2x16x1x6144 : Shape := ⟨4, ![2, 16, 1, 6144]⟩
abbrev S2x4x1x1024 : Shape := ⟨4, ![2, 4, 1, 1024]⟩
abbrev S512 : Shape := ⟨1, ![512]⟩
abbrev S_ : Shape := ⟨0, ![]⟩
abbrev S512x1 : Shape := ⟨2, ![512, 1]⟩
abbrev S512x512 : Shape := ⟨2, ![512, 512]⟩
abbrev S64 : Shape := ⟨1, ![64]⟩
abbrev S8x64 : Shape := ⟨2, ![8, 64]⟩
abbrev S32768x1024 : Shape := ⟨2, ![32768, 1024]⟩
abbrev S32768x512 : Shape := ⟨2, ![32768, 512]⟩
abbrev S1x1024x1024 : Shape := ⟨3, ![1, 1024, 1024]⟩
abbrev S1024x1024 : Shape := ⟨2, ![1024, 1024]⟩
abbrev S512x1024 : Shape := ⟨2, ![512, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1x1x1024 : Shape := ⟨4, ![1, 1, 1, 1024]⟩
abbrev S256x512 : Shape := ⟨2, ![256, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 75
  | .vmem => 37
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x1024, .f32⟩
  | .hbm, ⟨4, _⟩ => ⟨S8x4096x512, .f32⟩
  | .hbm, ⟨5, _⟩ => ⟨S8x4096x512, .f32⟩
  | .hbm, ⟨6, _⟩ => ⟨S8x4096x512, .f32⟩
  | .hbm, ⟨7, _⟩ => ⟨S8x4096x512, .f32⟩
  | .hbm, ⟨8, _⟩ => ⟨S2x16x6144, .f32⟩
  | .hbm, ⟨9, _⟩ => ⟨S2x4x1024, .f32⟩
  | .hbm, ⟨10, _⟩ => ⟨S2x1024x1024, .f32⟩
  | .hbm, ⟨11, _⟩ => ⟨S2x1024x4096, .f32⟩
  | .hbm, ⟨12, _⟩ => ⟨S2x4096x1024, .f32⟩
  | .hbm, ⟨13, _⟩ => ⟨S1x64, .f32⟩
  | .hbm, ⟨14, _⟩ => ⟨S1x512, .f32⟩
  | .hbm, ⟨15, _⟩ => ⟨S1x64, .f32⟩
  | .hbm, ⟨16, _⟩ => ⟨S2x16x1x6144, .f32⟩
  | .hbm, ⟨17, _⟩ => ⟨S2x4x1x1024, .f32⟩
  | .hbm, ⟨18, _⟩ => ⟨S512, .i32⟩
  | .hbm, ⟨19, _⟩ => ⟨S_, .i32⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S512, .i1⟩
  | .hbm, ⟨33, _⟩ => ⟨S_, .i32⟩
  | .hbm, ⟨34, _⟩ => ⟨S512, .i32⟩
  | .hbm, ⟨35, _⟩ => ⟨S512, .i32⟩
  | .hbm, ⟨36, _⟩ => ⟨S512, .i32⟩
  | .hbm, ⟨37, _⟩ => ⟨S512x1, .i32⟩
  | .hbm, ⟨38, _⟩ => ⟨S1x512, .i32⟩
  | .hbm, ⟨39, _⟩ => ⟨S512x512, .i32⟩
  | .hbm, ⟨40, _⟩ => ⟨S512x512, .i32⟩
  | .hbm, ⟨41, _⟩ => ⟨S512x512, .i1⟩
  | .hbm, ⟨42, _⟩ => ⟨S512x512, .bf16⟩
  | .hbm, ⟨43, _⟩ => ⟨S64, .f32⟩
  | .hbm, ⟨44, _⟩ => ⟨S1x64, .f32⟩
  | .hbm, ⟨45, _⟩ => ⟨S8x64, .f32⟩
  | .hbm, ⟨46, _⟩ => ⟨S512, .f32⟩
  | .hbm, ⟨47, _⟩ => ⟨S1x512, .f32⟩
  | .hbm, ⟨48, _⟩ => ⟨S64, .f32⟩
  | .hbm, ⟨49, _⟩ => ⟨S1x64, .f32⟩
  | .hbm, ⟨50, _⟩ => ⟨S8x64, .f32⟩
  | .hbm, ⟨51, _⟩ => ⟨S512, .f32⟩
  | .hbm, ⟨52, _⟩ => ⟨S1x512, .f32⟩
  | .hbm, ⟨53, _⟩ => ⟨S32768x1024, .f32⟩
  | .hbm, ⟨54, _⟩ => ⟨S32768x512, .f32⟩
  | .hbm, ⟨55, _⟩ => ⟨S32768x512, .f32⟩
  | .hbm, ⟨56, _⟩ => ⟨S32768x1024, .f32⟩
  | .hbm, ⟨57, _⟩ => ⟨S512, .f32⟩
  | .hbm, ⟨58, _⟩ => ⟨S1x512, .f32⟩
  | .hbm, ⟨59, _⟩ => ⟨S32768x512, .f32⟩
  | .hbm, ⟨60, _⟩ => ⟨S32768x512, .f32⟩
  | .hbm, ⟨61, _⟩ => ⟨S32768x512, .f32⟩
  | .hbm, ⟨62, _⟩ => ⟨S32768x512, .f32⟩
  | .hbm, ⟨63, _⟩ => ⟨S1x1024x1024, .f32⟩
  | .hbm, ⟨64, _⟩ => ⟨S1024x1024, .f32⟩
  | .hbm, ⟨65, _⟩ => ⟨S1024x1024, .bf16⟩
  | .hbm, ⟨66, _⟩ => ⟨S512x1024, .bf16⟩
  | .hbm, ⟨67, _⟩ => ⟨S512x1024, .bf16⟩
  | .hbm, ⟨68, _⟩ => ⟨S1x1024x4096, .f32⟩
  | .hbm, ⟨69, _⟩ => ⟨S1024x4096, .f32⟩
  | .hbm, ⟨70, _⟩ => ⟨S1024x4096, .bf16⟩
  | .hbm, ⟨71, _⟩ => ⟨S1x4096x1024, .f32⟩
  | .hbm, ⟨72, _⟩ => ⟨S4096x1024, .f32⟩
  | .hbm, ⟨73, _⟩ => ⟨S4096x1024, .bf16⟩
  | .hbm, ⟨74, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S1x512, .f32⟩
  | .local _ .vmem, ⟨20, _⟩ => ⟨S1x1x1x1024, .f32⟩
  | .local _ .vmem, ⟨21, _⟩ => ⟨S1x1x1x1024, .f32⟩
  | .local _ .vmem, ⟨22, _⟩ => ⟨S1x1x1x1024, .f32⟩
  | .local _ .vmem, ⟨23, _⟩ => ⟨S1x1x1x1024, .f32⟩
  | .local _ .vmem, ⟨24, _⟩ => ⟨S1x1x1x1024, .f32⟩
  | .local _ .vmem, ⟨25, _⟩ => ⟨S1x1x1x1024, .f32⟩
  | .local _ .vmem, ⟨26, _⟩ => ⟨S1x1x1x1024, .f32⟩
  | .local _ .vmem, ⟨27, _⟩ => ⟨S1x1x1x1024, .f32⟩
  | .local _ .vmem, ⟨28, _⟩ => ⟨S1x1x1x1024, .f32⟩
  | .local _ .vmem, ⟨29, _⟩ => ⟨S1x1x1x1024, .f32⟩
  | .local _ .vmem, ⟨30, _⟩ => ⟨S1x1x1x1024, .f32⟩
  | .local _ .vmem, ⟨31, _⟩ => ⟨S512x1024, .bf16⟩
  | .local _ .vmem, ⟨32, _⟩ => ⟨S512x1024, .bf16⟩
  | .local _ .vmem, ⟨33, _⟩ => ⟨S1024x4096, .bf16⟩
  | .local _ .vmem, ⟨34, _⟩ => ⟨S4096x1024, .bf16⟩
  | .local _ .vmem, ⟨35, _⟩ => ⟨S512x1024, .f32⟩
  | .local _ .vmem, ⟨36, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg23_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem19_0 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c2_i32 : BitVec 32 := 2#32
  let c0_i32_6 : BitVec 32 := 0#32
  ![c1_i32_4.toNat, v16.toNat, c0_i32_5.toNat, c2_i32.toNat]

def cc0_transform_13 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c3_i32 : BitVec 32 := 3#32
  let c0_i32_6 : BitVec 32 := 0#32
  ![c1_i32_4.toNat, v16.toNat, c0_i32_5.toNat, c3_i32.toNat]

def cc0_transform_14 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c4_i32 : BitVec 32 := 4#32
  let c0_i32_6 : BitVec 32 := 0#32
  ![c1_i32_4.toNat, v16.toNat, c0_i32_5.toNat, c4_i32.toNat]

def cc0_transform_15 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c5_i32 : BitVec 32 := 5#32
  let c0_i32_6 : BitVec 32 := 0#32
  ![c1_i32_4.toNat, v16.toNat, c0_i32_5.toNat, c5_i32.toNat]

def cc0_transform_16 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_17 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_18 (i : grid0.Coords) : Fin 4 → Nat :=
  let arg0 : BitVec 32 := BitVec.ofNat 32 (i 0).val
  let c1_i32 : BitVec 32 := 1#32
  let c3_i32 : BitVec 32 := 3#32
  let c0_i32 : BitVec 32 := 0#32
  let c0_i32_0 : BitVec 32 := 0#32
  let c0_i32_1 : BitVec 32 := 0#32
  ![c1_i32.toNat, c3_i32.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1x1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x4096 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S4096x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S512x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference2Ideal.lean ====
abbrev S8x4096x1024 : Shape := ⟨3, ![8, 4096, 1024]⟩
abbrev S8x4096x512 : Shape := ⟨3, ![8, 4096, 512]⟩
abbrev S2x16x6144 : Shape := ⟨3, ![2, 16, 6144]⟩
abbrev S2x4x1024 : Shape := ⟨3, ![2, 4, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x64 : Shape := ⟨2, ![1, 64]⟩
abbrev S1x512 : Shape := ⟨2, ![1, 512]⟩
abbrev S1x4x1024 : Shape := ⟨3, ![1, 4, 1024]⟩
abbrev S4x1024 : Shape := ⟨2, ![4, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x4096x8x64 : Shape := ⟨4, ![8, 4096, 8, 64]⟩
abbrev S8x8x4096x64 : Shape := ⟨4, ![8, 8, 4096, 64]⟩
abbrev S64 : Shape := ⟨1, ![64]⟩
abbrev S_ : Shape := ⟨0, ![]⟩
abbrev S8x8x4096 : Shape := ⟨3, ![8, 8, 4096]⟩
abbrev S8x8x4096x1 : Shape := ⟨4, ![8, 8, 4096, 1]⟩
abbrev S1x1x1x64 : Shape := ⟨4, ![1, 1, 1, 64]⟩
abbrev S512 : Shape := ⟨1, ![512]⟩
abbrev S1x1x512 : Shape := ⟨3, ![1, 1, 512]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4096x4096 : Shape := ⟨3, ![8, 4096, 4096]⟩
abbrev S32768x1024 : Shape := ⟨2, ![32768, 1024]⟩

abbrev nBuf : Space → Nat
  | .hbm => 184
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .f32⟩
  | 3 => ⟨S8x4096x1024, .f32⟩
  | 4 => ⟨S8x4096x512, .f32⟩
  | 5 => ⟨S8x4096x512, .f32⟩
  | 6 => ⟨S8x4096x512, .f32⟩
  | 7 => ⟨S8x4096x512, .f32⟩
  | 8 => ⟨S2x16x6144, .f32⟩
  | 9 => ⟨S2x4x1024, .f32⟩
  | 10 => ⟨S2x1024x1024, .f32⟩
  | 11 => ⟨S2x1024x4096, .f32⟩
  | 12 => ⟨S2x4096x1024, .f32⟩
  | 13 => ⟨S1x64, .f32⟩
  | 14 => ⟨S1x512, .f32⟩
  | 15 => ⟨S1x64, .f32⟩
  | 16 => ⟨S1x4x1024, .f32⟩
  | 17 => ⟨S4x1024, .f32⟩
  | 18 => ⟨S1x8x6144, .f32⟩
  | 19 => ⟨S8x6144, .f32⟩
  | 20 => ⟨S8x1x6144, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S8x1x1024, .f32⟩
  | 27 => ⟨S8x4096x512, .f32⟩
  | 28 => ⟨S8x4096x512, .f32⟩
  | 29 => ⟨S8x4096x8x64, .f32⟩
  | 30 => ⟨S8x8x4096x64, .f32⟩
  | 31 => ⟨S8x4096x8x64, .f32⟩
  | 32 => ⟨S8x8x4096x64, .f32⟩
  | 33 => ⟨S8x8x4096x64, .f32⟩
  | 34 => ⟨S8x4096x8x64, .f32⟩
  | 35 => ⟨S8x8x4096x64, .f32⟩
  | 36 => ⟨S8x4096x8x64, .f32⟩
  | 37 => ⟨S8x8x4096x64, .f32⟩
  | 38 => ⟨S8x8x4096x64, .f32⟩
  | 39 => ⟨S64, .f32⟩
  | 40 => ⟨S8x8x4096x64, .f32⟩
  | 41 => ⟨S_, .f32⟩
  | 42 => ⟨S8x8x4096, .f32⟩
  | 43 => ⟨S8x8x4096x1, .f32⟩
  | 44 => ⟨S_, .f32⟩
  | 45 => ⟨S8x8x4096x1, .f32⟩
  | 46 => ⟨S8x8x4096x1, .f32⟩
  | 47 => ⟨S_, .f32⟩
  | 48 => ⟨S8x8x4096x1, .f32⟩
  | 49 => ⟨S8x8x4096x1, .f32⟩
  | 50 => ⟨S8x8x4096x1, .f32⟩
  | 51 => ⟨S8x8x4096x64, .f32⟩
  | 52 => ⟨S8x8x4096x64, .f32⟩
  | 53 => ⟨S1x1x1x64, .f32⟩
  | 54 => ⟨S8x8x4096x64, .f32⟩
  | 55 => ⟨S8x8x4096x64, .f32⟩
  | 56 => ⟨S8x4096x8x64, .f32⟩
  | 57 => ⟨S8x4096x512, .f32⟩
  | 58 => ⟨S512, .f32⟩
  | 59 => ⟨S1x1x512, .f32⟩
  | 60 => ⟨S8x4096x512, .f32⟩
  | 61 => ⟨S8x4096x512, .f32⟩
  | 62 => ⟨S8x4096x512, .f32⟩
  | 63 => ⟨S8x4096x512, .f32⟩
  | 64 => ⟨S8x4096x512, .f32⟩
  | 65 => ⟨S_, .f32⟩
  | 66 => ⟨S8x4096x512, .f32⟩
  | 67 => ⟨S8x4096x512, .f32⟩
  | 68 => ⟨S_, .f32⟩
  | 69 => ⟨S8x4096x512, .f32⟩
  | 70 => ⟨S8x4096x512, .f32⟩
  | 71 => ⟨S8x4096x512, .f32⟩
  | 72 => ⟨S8x4096x512, .f32⟩
  | 73 => ⟨S64, .f32⟩
  | 74 => ⟨S8x8x4096x64, .f32⟩
  | 75 => ⟨S_, .f32⟩
  | 76 => ⟨S8x8x4096, .f32⟩
  | 77 => ⟨S8x8x4096x1, .f32⟩
  | 78 => ⟨S_, .f32⟩
  | 79 => ⟨S8x8x4096x1, .f32⟩
  | 80 => ⟨S8x8x4096x1, .f32⟩
  | 81 => ⟨S_, .f32⟩
  | 82 => ⟨S8x8x4096x1, .f32⟩
  | 83 => ⟨S8x8x4096x1, .f32⟩
  | 84 => ⟨S8x8x4096x1, .f32⟩
  | 85 => ⟨S8x8x4096x64, .f32⟩
  | 86 => ⟨S8x8x4096x64, .f32⟩
  | 87 => ⟨S1x1x1x64, .f32⟩
  | 88 => ⟨S8x8x4096x64, .f32⟩
  | 89 => ⟨S8x8x4096x64, .f32⟩
  | 90 => ⟨S8x4096x8x64, .f32⟩
  | 91 => ⟨S8x4096x512, .f32⟩
  | 92 => ⟨S8x4096x512, .f32⟩
  | 93 => ⟨S8x4096x512, .f32⟩
  | 94 => ⟨S_, .f32⟩
  | 95 => ⟨S8x4096x512, .f32⟩
  | 96 => ⟨S8x4096x512, .f32⟩
  | 97 => ⟨S_, .f32⟩
  | 98 => ⟨S8x4096x512, .f32⟩
  | 99 => ⟨S8x4096x512, .f32⟩
  | 100 => ⟨S8x4096x512, .f32⟩
  | 101 => ⟨S8x4096x512, .f32⟩
  | 102 => ⟨S8x4096x1024, .f32⟩
  | 103 => ⟨S1x1024x1024, .f32⟩
  | 104 => ⟨S1024x1024, .f32⟩
  | 105 => ⟨S8x4096x1024, .f32⟩
  | 106 => ⟨S1x1024, .f32⟩
  | 107 => ⟨S1024, .f32⟩
  | 108 => ⟨S8x4096x1024, .f32⟩
  | 109 => ⟨S_, .f32⟩
  | 110 => ⟨S8x4096, .f32⟩
  | 111 => ⟨S8x4096x1, .f32⟩
  | 112 => ⟨S_, .f32⟩
  | 113 => ⟨S8x4096x1, .f32⟩
  | 114 => ⟨S8x4096x1, .f32⟩
  | 115 => ⟨S_, .f32⟩
  | 116 => ⟨S8x4096x1, .f32⟩
  | 117 => ⟨S8x4096x1, .f32⟩
  | 118 => ⟨S8x4096x1, .f32⟩
  | 119 => ⟨S8x4096x1024, .f32⟩
  | 120 => ⟨S8x4096x1024, .f32⟩
  | 121 => ⟨S1x1x1024, .f32⟩
  | 122 => ⟨S8x4096x1024, .f32⟩
  | 123 => ⟨S8x4096x1024, .f32⟩
  | 124 => ⟨S8x4096x1024, .f32⟩
  | 125 => ⟨S8x4096x1024, .f32⟩
  | 126 => ⟨S8x4096x1024, .f32⟩
  | 127 => ⟨S1x1024, .f32⟩
  | _ => ⟨S8x4096x1024, .f32⟩

abbrev hbmTy0_1 (i : Nat) : BufTy := match i % 128 with
  | 0 => ⟨S1024, .f32⟩
  | 1 => ⟨S8x4096x1024, .f32⟩
  | 2 => ⟨S_, .f32⟩
  | 3 => ⟨S8x4096, .f32⟩
  | 4 => ⟨S8x4096x1, .f32⟩
  | 5 => ⟨S_, .f32⟩
  | 6 => ⟨S8x4096x1, .f32⟩
  | 7 => ⟨S8x4096x1, .f32⟩
  | 8 => ⟨S_, .f32⟩
  | 9 => ⟨S8x4096x1, .f32⟩
  | 10 => ⟨S8x4096x1, .f32⟩
  | 11 => ⟨S8x4096x1, .f32⟩
  | 12 => ⟨S8x4096x1024, .f32⟩
  | 13 => ⟨S8x4096x1024, .f32⟩
  | 14 => ⟨S1x1x1024, .f32⟩
  | 15 => ⟨S8x4096x1024, .f32⟩
  | 16 => ⟨S8x4096x1024, .f32⟩
  | 17 => ⟨S_, .f32⟩
  | 18 => ⟨S8x1x1024, .f32⟩
  | 19 => ⟨S8x1x1024, .f32⟩
  | 20 => ⟨S8x4096x1024, .f32⟩
  | 21 => ⟨S8x4096x1024, .f32⟩
  | 22 => ⟨S8x4096x1024, .f32⟩
  | 23 => ⟨S8x4096x1024, .f32⟩
  | 24 => ⟨S1x1024x4096, .f32⟩
  | 25 => ⟨S1024x4096, .f32⟩
  | 26 => ⟨S1x4096x1024, .f32⟩
  | 27 => ⟨S4096x1024, .f32⟩
  | 28 => ⟨S8x4096x4096, .f32⟩
  | 29 => ⟨S_, .f32⟩
  | 30 => ⟨S8x4096x4096, .f32⟩
  | 31 => ⟨S8x4096x4096, .f32⟩
  | 32 => ⟨S8x4096x4096, .f32⟩
  | 33 => ⟨S8x4096x1024, .f32⟩
  | 34 => ⟨S1x1024, .f32⟩
  | 35 => ⟨S1024, .f32⟩
  | 36 => ⟨S8x4096x1024, .f32⟩
  | 37 => ⟨S_, .f32⟩
  | 38 => ⟨S8x4096, .f32⟩
  | 39 => ⟨S8x4096x1, .f32⟩
  | 40 => ⟨S_, .f32⟩
  | 41 => ⟨S8x4096x1, .f32⟩
  | 42 => ⟨S8x4096x1, .f32⟩
  | 43 => ⟨S_, .f32⟩
  | 44 => ⟨S8x4096x1, .f32⟩
  | 45 => ⟨S8x4096x1, .f32⟩
  | 46 => ⟨S8x4096x1, .f32⟩
  | 47 => ⟨S8x4096x1024, .f32⟩
  | 48 => ⟨S8x4096x1024, .f32⟩
  | 49 => ⟨S1x1x1024, .f32⟩
  | 50 => ⟨S8x4096x1024, .f32⟩
  | 51 => ⟨S8x4096x1024, .f32⟩
  | 52 => ⟨S8x4096x1024, .f32⟩
  | 53 => ⟨S8x4096x1024, .f32⟩
  | 54 => ⟨S8x4096x1024, .f32⟩
  | 55 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_cst_0 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_2 : Ref sig .tc := ⟨.hbm, 75, rfl⟩
abbrev main_v48 : Ref sig .tc := ⟨.hbm, 76, rfl⟩
abbrev main_v49 : Ref sig .tc := ⟨.hbm, 77, rfl⟩
abbrev main_cst_3 : Ref sig .tc := ⟨.hbm, 78, rfl⟩
abbrev main_v50 : Ref sig .tc := ⟨.hbm, 79, rfl⟩
abbrev main_v51 : Ref sig .tc := ⟨.hbm, 80, rfl⟩
abbrev main_cst_4 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_5 : Ref sig .tc := ⟨.hbm, 109, rfl⟩
abbrev main_v71 : Ref sig .tc := ⟨.hbm, 110, rfl⟩
abbrev main_v72 : Ref sig .tc := ⟨.hbm, 111, rfl⟩
abbrev main_cst_6 : Ref sig .tc := ⟨.hbm, 112, rfl⟩
abbrev main_v73 : Ref sig .tc := ⟨.hbm, 113, rfl⟩
abbrev main_v74 : Ref sig .tc := ⟨.hbm, 114, rfl⟩
abbrev main_cst_7 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_8 : Ref sig .tc := ⟨.hbm, 130, rfl⟩
abbrev main_v89 : Ref sig .tc := ⟨.hbm, 131, rfl⟩
abbrev main_v90 : Ref sig .tc := ⟨.hbm, 132, rfl⟩
abbrev main_cst_9 : Ref sig .tc := ⟨.hbm, 133, rfl⟩
abbrev main_v91 : Ref sig .tc := ⟨.hbm, 134, rfl⟩
abbrev main_v92 : Ref sig .tc := ⟨.hbm, 135, rfl⟩
abbrev main_cst_10 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_11 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call2_cst : Ref sig .tc := ⟨.hbm, 157, rfl⟩
abbrev main_call2_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_12 : Ref sig .tc := ⟨.hbm, 165, rfl⟩
abbrev main_v118 : Ref sig .tc := ⟨.hbm, 166, rfl⟩
abbrev main_v119 : Ref sig .tc := ⟨.hbm, 167, rfl⟩
abbrev main_cst_13 : Ref sig .tc := ⟨.hbm, 168, rfl⟩
abbrev main_v120 : Ref sig .tc := ⟨.hbm, 169, rfl⟩
abbrev main_v121 : Ref sig .tc := ⟨.hbm, 170, rfl⟩
abbrev main_cst_14 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x512 : Shape := ⟨3, ![8, 4096, 512]⟩
abbrev S2x16x6144 : Shape := ⟨3, ![2, 16, 6144]⟩
abbrev S2x4x1024 : Shape := ⟨3, ![2, 4, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x64 : Shape := ⟨2, ![1, 64]⟩
abbrev S2x16x1x6144 : Shape := ⟨4, ![2, 16, 1, 6144]⟩
abbrev S2x4x1x1024 : Shape := ⟨4, ![2, 4, 1, 1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S64 : Shape := ⟨1, ![64]⟩
abbrev S8x64 : Shape := ⟨2, ![8, 64]⟩
abbrev S32768x1024 : Shape := ⟨2, ![32768, 1024]⟩
abbrev S32768x512 : Shape := ⟨2, ![32768, 512]⟩
abbrev S1x1024x1024 : Shape := ⟨3, ![1, 1024, 1024]⟩
abbrev S1024x1024 : Shape := ⟨2, ![1024, 1024]⟩
abbrev S512x1024 : Shape := ⟨2, ![512, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x1x1x1024 : Shape := ⟨4, ![1, 1, 1, 1024]⟩
abbrev S256x512 : Shape := ⟨2, ![256, 512]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 60
  | .vmem => 29
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .f32⟩
  | .hbm, ⟨2, _⟩ => ⟨S8x4096x512, .f32⟩
  | .hbm, ⟨3, _⟩ => ⟨S8x4096x512, .f32⟩
  | .hbm, ⟨4, _⟩ => ⟨S8x4096x512, .bf16⟩
  | .hbm, ⟨5, _⟩ => ⟨S2x16x6144, .f32⟩
  | .hbm, ⟨6, _⟩ => ⟨S2x4x1024, .f32⟩
  | .hbm, ⟨7, _⟩ => ⟨S2x1024x1024, .f32⟩
  | .hbm, ⟨8, _⟩ => ⟨S2x1024x4096, .f32⟩
  | .hbm, ⟨9, _⟩ => ⟨S2x4096x1024, .f32⟩
  | .hbm, ⟨10, _⟩ => ⟨S1x64, .f32⟩
  | .hbm, ⟨11, _⟩ => ⟨S2x16x1x6144, .f32⟩
  | .hbm, ⟨12, _⟩ => ⟨S2x4x1x1024, .f32⟩
  | .hbm, ⟨13, _⟩ => ⟨S512, .i32⟩
  | .hbm, ⟨14, _⟩ => ⟨S_, .i32⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512, .i32⟩
  | .hbm, ⟨19, _⟩ => ⟨S_, .i32⟩
  | .hbm, ⟨20, _⟩ => ⟨S512, .i32⟩
  | .hbm, ⟨21, _⟩ => ⟨S512, .i1⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S512, .i1⟩
  | .hbm, ⟨28, _⟩ => ⟨S_, .i32⟩
  | .hbm, ⟨29, _⟩ => ⟨S512, .i32⟩
  | .hbm, ⟨30, _⟩ => ⟨S512, .i32⟩
  | .hbm, ⟨31, _⟩ => ⟨S512, .i32⟩
  | .hbm, ⟨32, _⟩ => ⟨S512x1, .i32⟩
  | .hbm, ⟨33, _⟩ => ⟨S1x512, .i32⟩
  | .hbm, ⟨34, _⟩ => ⟨S512x512, .i32⟩
  | .hbm, ⟨35, _⟩ => ⟨S512x512, .i32⟩
  | .hbm, ⟨36, _⟩ => ⟨S512x512, .i1⟩
  | .hbm, ⟨37, _⟩ => ⟨S512x512, .bf16⟩
  | .hbm, ⟨38, _⟩ => ⟨S64, .f32⟩
  | .hbm, ⟨39, _⟩ => ⟨S1x64, .f32⟩
  | .hbm, ⟨40, _⟩ => ⟨S8x64, .f32⟩
  | .hbm, ⟨41, _⟩ => ⟨S512, .f32⟩
  | .hbm, ⟨42, _⟩ => ⟨S1x512, .f32⟩
  | .hbm, ⟨43, _⟩ => ⟨S32768x1024, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S32768x512, .bf16⟩
  | .hbm, ⟨48, _⟩ => ⟨S1x1024x1024, .f32⟩
  | .hbm, ⟨49, _⟩ => ⟨S1024x1024, .f32⟩
  | .hbm, ⟨50, _⟩ => ⟨S1024x1024, .bf16⟩
  | .hbm, ⟨51, _⟩ => ⟨S512x1024, .bf16⟩
  | .hbm, ⟨52, _⟩ => ⟨S512x1024, .bf16⟩
  | .hbm, ⟨53, _⟩ => ⟨S1x1024x4096, .f32⟩
  | .hbm, ⟨54, _⟩ => ⟨S1024x4096, .f32⟩
  | .hbm, ⟨55, _⟩ => ⟨S1024x4096, .bf16⟩
  | .hbm, ⟨56, _⟩ => ⟨S1x4096x1024, .f32⟩
  | .hbm, ⟨57, _⟩ => ⟨S4096x1024, .f32⟩
  | .hbm, ⟨58, _⟩ => ⟨S4096x1024, .bf16⟩
  | .hbm, ⟨59, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1x1x1x1024, .f32⟩
  | .local _ .vmem, ⟨19, _⟩ => ⟨S1x1x1x1024, .f32⟩
  | .local _ .vmem, ⟨20, _⟩ => ⟨S1x1x1x1024, .f32⟩
  | .local _ .vmem, ⟨21, _⟩ => ⟨S1x1x1x1024, .f32⟩
  | .local _ .vmem, ⟨22, _⟩ => ⟨S1x1x1x1024, .f32⟩
  | .local _ .vmem, ⟨23, _⟩ => ⟨S512x1024, .bf16⟩
  | .local _ .vmem, ⟨24, _⟩ => ⟨S512x1024, .bf16⟩
  | .local _ .vmem, ⟨25, _⟩ => ⟨S1024x4096, .bf16⟩
  | .local _ .vmem, ⟨26, _⟩ => ⟨S4096x1024, .bf16⟩
  | .local _ .vmem, ⟨27, _⟩ => ⟨S512x1024, .f32⟩
  | .local _ .vmem, ⟨28, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c2_i32 : BitVec 32 := 2#32
  let c0_i32_6 : BitVec 32 := 0#32
  ![c0_i32_4.toNat, v16.toNat, c0_i32_5.toNat, c2_i32.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c3_i32 : BitVec 32 := 3#32
  let c0_i32_6 : BitVec 32 := 0#32
  ![c0_i32_4.toNat, v16.toNat, c0_i32_5.toNat, c3_i32.toNat]

def cc0_transform_9 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c4_i32 : BitVec 32 := 4#32
  let c0_i32_6 : BitVec 32 := 0#32
  ![c0_i32_4.toNat, v16.toNat, c0_i32_5.toNat, c4_i32.toNat]

def cc0_transform_10 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c5_i32 : BitVec 32 := 5#32
  let c0_i32_6 : BitVec 32 := 0#32
  ![c0_i32_4.toNat, v16.toNat, c0_i32_5.toNat, c5_i32.toNat]

def cc0_transform_11 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  let c0_i32_2 : BitVec 32 := 0#32
  ![c0_i32.toNat, c3_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x4096 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4096x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S8x4096x1024 : Shape := ⟨3, ![8, 4096, 1024]⟩
abbrev S8x4096x512 : Shape := ⟨3, ![8, 4096, 512]⟩
abbrev S2x16x6144 : Shape := ⟨3, ![2, 16, 6144]⟩
abbrev S2x4x1024 : Shape := ⟨3, ![2, 4, 1024]⟩
abbrev S2x1024x1024 : Shape := ⟨3, ![2, 1024, 1024]⟩
abbrev S2x1024x4096 : Shape := ⟨3, ![2, 1024, 4096]⟩
abbrev S2x4096x1024 : Shape := ⟨3, ![2, 4096, 1024]⟩
abbrev S1x64 : Shape := ⟨2, ![1, 64]⟩
abbrev S1x4x1024 : Shape := ⟨3, ![1, 4, 1024]⟩
abbrev S4x1024 : Shape := ⟨2, ![4, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S8x4096x8x64 : Shape := ⟨4, ![8, 4096, 8, 64]⟩
abbrev S8x8x4096x64 : Shape := ⟨4, ![8, 8, 4096, 64]⟩
abbrev S64 : Shape := ⟨1, ![64]⟩
abbrev S_ : Shape := ⟨0, ![]⟩
abbrev S8x8x4096 : Shape := ⟨3, ![8, 8, 4096]⟩
abbrev S8x8x4096x1 : Shape := ⟨4, ![8, 8, 4096, 1]⟩
abbrev S1x1x1x64 : Shape := ⟨4, ![1, 1, 1, 64]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4096x4096 : Shape := ⟨3, ![8, 4096, 4096]⟩
abbrev S32768x1024 : Shape := ⟨2, ![32768, 1024]⟩

abbrev nBuf : Space → Nat
  | .hbm => 139
  | .vmem => 0
  | .smem => 0
  | _ => 0

abbrev hbmTy0_0 (i : Nat) : BufTy := match i % 128 with
  | 0 => ⟨S8x4096x1024, .f32⟩
  | 1 => ⟨S8x4096x512, .f32⟩
  | 2 => ⟨S8x4096x512, .f32⟩
  | 3 => ⟨S8x4096x512, .f32⟩
  | 4 => ⟨S8x4096x512, .bf16⟩
  | 5 => ⟨S2x16x6144, .f32⟩
  | 6 => ⟨S2x4x1024, .f32⟩
  | 7 => ⟨S2x1024x1024, .f32⟩
  | 8 => ⟨S2x1024x4096, .f32⟩
  | 9 => ⟨S2x4096x1024, .f32⟩
  | 10 => ⟨S1x64, .f32⟩
  | 11 => ⟨S1x4x1024, .f32⟩
  | 12 => ⟨S4x1024, .f32⟩
  | 13 => ⟨S1x8x6144, .f32⟩
  | 14 => ⟨S8x6144, .f32⟩
  | 15 => ⟨S8x1x6144, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x4096x8x64, .f32⟩
  | 23 => ⟨S8x8x4096x64, .f32⟩
  | 24 => ⟨S8x4096x8x64, .f32⟩
  | 25 => ⟨S8x8x4096x64, .f32⟩
  | 26 => ⟨S8x8x4096x64, .f32⟩
  | 27 => ⟨S64, .f32⟩
  | 28 => ⟨S8x8x4096x64, .f32⟩
  | 29 => ⟨S_, .f32⟩
  | 30 => ⟨S8x8x4096, .f32⟩
  | 31 => ⟨S8x8x4096x1, .f32⟩
  | 32 => ⟨S_, .f32⟩
  | 33 => ⟨S8x8x4096x1, .f32⟩
  | 34 => ⟨S8x8x4096x1, .f32⟩
  | 35 => ⟨S_, .f32⟩
  | 36 => ⟨S8x8x4096x1, .f32⟩
  | 37 => ⟨S8x8x4096x1, .f32⟩
  | 38 => ⟨S8x8x4096x1, .f32⟩
  | 39 => ⟨S8x8x4096x64, .f32⟩
  | 40 => ⟨S8x8x4096x64, .f32⟩
  | 41 => ⟨S1x1x1x64, .f32⟩
  | 42 => ⟨S8x8x4096x64, .f32⟩
  | 43 => ⟨S8x8x4096x64, .f32⟩
  | 44 => ⟨S8x4096x8x64, .f32⟩
  | 45 => ⟨S8x4096x512, .f32⟩
  | 46 => ⟨S8x4096x512, .f32⟩
  | 47 => ⟨S8x4096x512, .f32⟩
  | 48 => ⟨S_, .f32⟩
  | 49 => ⟨S8x4096x512, .f32⟩
  | 50 => ⟨S8x4096x512, .f32⟩
  | 51 => ⟨S_, .f32⟩
  | 52 => ⟨S8x4096x512, .f32⟩
  | 53 => ⟨S8x4096x512, .f32⟩
  | 54 => ⟨S8x4096x512, .f32⟩
  | 55 => ⟨S8x4096x512, .f32⟩
  | 56 => ⟨S8x4096x512, .f32⟩
  | 57 => ⟨S8x4096x1024, .f32⟩
  | 58 => ⟨S1x1024x1024, .f32⟩
  | 59 => ⟨S1024x1024, .f32⟩
  | 60 => ⟨S8x4096x1024, .f32⟩
  | 61 => ⟨S1x1024, .f32⟩
  | 62 => ⟨S1024, .f32⟩
  | 63 => ⟨S8x4096x1024, .f32⟩
  | 64 => ⟨S_, .f32⟩
  | 65 => ⟨S8x4096, .f32⟩
  | 66 => ⟨S8x4096x1, .f32⟩
  | 67 => ⟨S_, .f32⟩
  | 68 => ⟨S8x4096x1, .f32⟩
  | 69 => ⟨S8x4096x1, .f32⟩
  | 70 => ⟨S_, .f32⟩
  | 71 => ⟨S8x4096x1, .f32⟩
  | 72 => ⟨S8x4096x1, .f32⟩
  | 73 => ⟨S8x4096x1, .f32⟩
  | 74 => ⟨S8x4096x1024, .f32⟩
  | 75 => ⟨S8x4096x1024, .f32⟩
  | 76 => ⟨S1x1x1024, .f32⟩
  | 77 => ⟨S8x4096x1024, .f32⟩
  | 78 => ⟨S8x4096x1024, .f32⟩
  | 79 => ⟨S8x4096x1024, .f32⟩
  | 80 => ⟨S8x4096x1024, .f32⟩
  | 81 => ⟨S8x4096x1024, .f32⟩
  | 82 => ⟨S1x1024, .f32⟩
  | 83 => ⟨S1024, .f32⟩
  | 84 => ⟨S8x4096x1024, .f32⟩
  | 85 => ⟨S_, .f32⟩
  | 86 => ⟨S8x4096, .f32⟩
  | 87 => ⟨S8x4096x1, .f32⟩
  | 88 => ⟨S_, .f32⟩
  | 89 => ⟨S8x4096x1, .f32⟩
  | 90 => ⟨S8x4096x1, .f32⟩
  | 91 => ⟨S_, .f32⟩
  | 92 => ⟨S8x4096x1, .f32⟩
  | 93 => ⟨S8x4096x1, .f32⟩
  | 94 => ⟨S8x4096x1, .f32⟩
  | 95 => ⟨S8x4096x1024, .f32⟩
  | 96 => ⟨S8x4096x1024, .f32⟩
  | 97 => ⟨S1x1x1024, .f32⟩
  | 98 => ⟨S8x4096x1024, .f32⟩
  | 99 => ⟨S8x4096x1024, .f32⟩
  | 100 => ⟨S_, .f32⟩
  | 101 => ⟨S8x1x1024, .f32⟩
  | 102 => ⟨S8x1x1024, .f32⟩
  | 103 => ⟨S8x4096x1024, .f32⟩
  | 104 => ⟨S8x4096x1024, .f32⟩
  | 105 => ⟨S8x4096x1024, .f32⟩
  | 106 => ⟨S8x4096x1024, .f32⟩
  | 107 => ⟨S1x1024x4096, .f32⟩
  | 108 => ⟨S1024x4096, .f32⟩
  | 109 => ⟨S1x4096x1024, .f32⟩
  | 110 => ⟨S4096x1024, .f32⟩
  | 111 => ⟨S8x4096x4096, .f32⟩
  | 112 => ⟨S_, .f32⟩
  | 113 => ⟨S8x4096x4096, .f32⟩
  | 114 => ⟨S8x4096x4096, .f32⟩
  | 115 => ⟨S8x4096x4096, .f32⟩
  | 116 => ⟨S8x4096x1024, .f32⟩
  | 117 => ⟨S1x1024, .f32⟩
  | 118 => ⟨S1024, .f32⟩
  | 119 => ⟨S8x4096x1024, .f32⟩
  | 120 => ⟨S_, .f32⟩
  | 121 => ⟨S8x4096, .f32⟩
  | 122 => ⟨S8x4096x1, .f32⟩
  | 123 => ⟨S_, .f32⟩
  | 124 => ⟨S8x4096x1, .f32⟩
  | 125 => ⟨S8x4096x1, .f32⟩
  | 126 => ⟨S_, .f32⟩
  | 127 => ⟨S8x4096x1, .f32⟩
  | _ => ⟨S8x4096x1024, .f32⟩

abbrev hbmTy0_1 (i : Nat) : BufTy := match i % 128 with
  | 0 => ⟨S8x4096x1, .f32⟩
  | 1 => ⟨S8x4096x1, .f32⟩
  | 2 => ⟨S8x4096x1024, .f32⟩
  | 3 => ⟨S8x4096x1024, .f32⟩
  | 4 => ⟨S1x1x1024, .f32⟩
  | 5 => ⟨S8x4096x1024, .f32⟩
  | 6 => ⟨S8x4096x1024, .f32⟩
  | 7 => ⟨S8x4096x1024, .f32⟩
  | 8 => ⟨S8x4096x1024, .f32⟩
  | 9 => ⟨S8x4096x1024, .f32⟩
  | 10 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_5 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_8 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_call1_cst : Ref sig .tc := ⟨.hbm, 112, rfl⟩
abbrev main_call1_v0 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_9 : Ref sig .tc := ⟨.hbm, 120, rfl⟩
abbrev main_v89 : Ref sig .tc := ⟨.hbm, 121, rfl⟩
abbrev main_v90 : Ref sig .tc := ⟨.hbm, 122, rfl⟩
abbrev main_cst_10 : Ref sig .tc := ⟨.hbm, 123, rfl⟩
abbrev main_v91 : Ref sig .tc := ⟨.hbm, 124, rfl⟩
abbrev main_v92 : Ref sig .tc := ⟨.hbm, 125, rfl⟩
abbrev main_cst_11 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩

abbrev nD : Nat := 1
abbrev τ : Topo := Topo.v7x

variable {F : FTy → Type} [FloatOps F]
-- ==== Kernel4.lean ====
abbrev S8x4096x1024 : Shape := ⟨3, ![8, 4096, 1024]⟩
abbrev S2x16x6144 : Shape := ⟨3, ![2, 16, 6144]⟩
abbrev S2x4x1024 : Shape := ⟨3, ![2, 4, 1024]⟩
abbrev S1x1024x3072 : Shape := ⟨3, ![1, 1024, 3072]⟩
abbrev S2x16x1x6144 : Shape := ⟨4, ![2, 16, 1, 6144]⟩
abbrev S2x4x1x1024 : Shape := ⟨4, ![2, 4, 1, 1024]⟩
abbrev S64 : Shape := ⟨1, ![64]⟩
abbrev S64x64 : Shape := ⟨2, ![64, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S32768x1024 : Shape := ⟨2, ![32768, 1024]⟩
abbrev S1024x3072 : Shape := ⟨2, ![1024, 3072]⟩
abbrev S32768x512 : Shape := ⟨2, ![32768, 512]⟩
abbrev S512x1024 : Shape := ⟨2, ![512, 1024]⟩
abbrev S1x1x1x1024 : Shape := ⟨4, ![1, 1, 1, 1024]⟩
abbrev S512x128 : Shape := ⟨2, ![512, 128]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S1x1024 : Shape := ⟨2, ![1, 1024]⟩
abbrev S256x3072 : Shape := ⟨2, ![256, 3072]⟩
abbrev S256x512 : Shape := ⟨2, ![256, 512]⟩
abbrev S256x128 : Shape := ⟨2, ![256, 128]⟩
abbrev S1x512 : Shape := ⟨2, ![1, 512]⟩

abbrev nBuf : Space → Nat
  | .hbm => 59
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S2x16x6144, .f32⟩
  | .hbm, ⟨2, _⟩ => ⟨S2x4x1024, .f32⟩
  | .hbm, ⟨3, _⟩ => ⟨S1x1024x3072, .f32⟩
  | .hbm, ⟨4, _⟩ => ⟨S2x16x1x6144, .f32⟩
  | .hbm, ⟨5, _⟩ => ⟨S2x4x1x1024, .f32⟩
  | .hbm, ⟨6, _⟩ => ⟨S64, .i32⟩
  | .hbm, ⟨7, _⟩ => ⟨S64, .i32⟩
  | .hbm, ⟨8, _⟩ => ⟨S64x64, .i32⟩
  | .hbm, ⟨9, _⟩ => ⟨S64x64, .i32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S4096x1, .i32⟩
  | .hbm, ⟨25, _⟩ => ⟨S4096x1, .f32⟩
  | .hbm, ⟨26, _⟩ => ⟨S1x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x1, .i32⟩
  | .hbm, ⟨31, _⟩ => ⟨S4096x1, .f32⟩
  | .hbm, ⟨32, _⟩ => ⟨S1x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x64, .f32⟩
  | .hbm, ⟨39, _⟩ => ⟨S4096x16, .f32⟩
  | .hbm, ⟨40, _⟩ => ⟨S4096x16, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S4096x16, .f32⟩
  | .hbm, ⟨45, _⟩ => ⟨S4096x64, .f32⟩
  | .hbm, ⟨46, _⟩ => ⟨S1x4096x1x64, .f32⟩
  | .hbm, ⟨47, _⟩ => ⟨S1x4096x2x64, .f32⟩
  | .hbm, ⟨48, _⟩ => ⟨S4096x128, .f32⟩
  | .hbm, ⟨49, _⟩ => ⟨S1x4096x1x64, .f32⟩
  | .hbm, ⟨50, _⟩ => ⟨S1x4096x2x64, .f32⟩
  | .hbm, ⟨51, _⟩ => ⟨S4096x128, .f32⟩
  | .hbm, ⟨52, _⟩ => ⟨S32768x1024, .f32⟩
  | .hbm, ⟨53, _⟩ => ⟨S1024x3072, .f32⟩
  | .hbm, ⟨54, _⟩ => ⟨S1024x3072, .bf16⟩
  | .hbm, ⟨55, _⟩ => ⟨S32768x1024, .f32⟩
  | .hbm, ⟨56, _⟩ => ⟨S32768x1024, .bf16⟩
  | .hbm, ⟨57, _⟩ => ⟨S32768x512, .bf16⟩
  | .hbm, ⟨58, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x3072, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S512x512, .f32⟩
  | .local _ .vmem, ⟨19, _⟩ => ⟨S512x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47_0 : Ref sig .tc := ⟨.hbm, 55, rfl⟩
abbrev main_v47_1 : Ref sig .tc := ⟨.hbm, 56, rfl⟩
abbrev main_v47_2 : Ref sig .tc := ⟨.hbm, 57, rfl⟩
abbrev main_v47_3 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c1_i32_6 : BitVec 32 := 1#32
  let c0_i32_7 : BitVec 32 := 0#32
  ![c1_i32_4.toNat, v16.toNat, c0_i32_5.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S8x4096x1024 : Shape := ⟨3, ![8, 4096, 1024]⟩
abbrev S2x16x6144 : Shape := ⟨3, ![2, 16, 6144]⟩
abbrev S2x4x1024 : Shape := ⟨3, ![2, 4, 1024]⟩
abbrev S1x1024x3072 : Shape := ⟨3, ![1, 1024, 3072]⟩
abbrev S1x4x1024 : Shape := ⟨3, ![1, 4, 1024]⟩
abbrev S4x1024 : Shape := ⟨2, ![4, 1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x3072 : Shape := ⟨2, ![1024, 3072]⟩
abbrev S8x4096x3072 : Shape := ⟨3, ![8, 4096, 3072]⟩
abbrev S8x4096x512 : Shape := ⟨3, ![8, 4096, 512]⟩
abbrev S64 : Shape := ⟨1, ![64]⟩
abbrev S64x64 : Shape := ⟨2, ![64, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S8x4096x8x64 : Shape := ⟨4, ![8, 4096, 8, 64]⟩
abbrev S8x8x4096x64 : Shape := ⟨4, ![8, 8, 4096, 64]⟩
abbrev S8x8x4096x32 : Shape := ⟨4, ![8, 8, 4096, 32]⟩
abbrev S8x8x4096x16 : Shape := ⟨4, ![8, 8, 4096, 16]⟩
abbrev S1x1x4096x16 : Shape := ⟨4, ![1, 1, 4096, 16]⟩
abbrev S32768x1024 : Shape := ⟨2, ![32768, 1024]⟩
abbrev S32768x512 : Shape := ⟨2, ![32768, 512]⟩

abbrev nBuf : Space → Nat
  | .hbm => 179
  | .vmem => 0
  | .smem => 0
  | _ => 0

abbrev hbmTy0_0 (i : Nat) : BufTy := match i % 128 with
  | 0 => ⟨S8x4096x1024, .f32⟩
  | 1 => ⟨S2x16x6144, .f32⟩
  | 2 => ⟨S2x4x1024, .f32⟩
  | 3 => ⟨S1x1024x3072, .f32⟩
  | 4 => ⟨S1x4x1024, .f32⟩
  | 5 => ⟨S4x1024, .f32⟩
  | 6 => ⟨S1x8x6144, .f32⟩
  | 7 => ⟨S8x6144, .f32⟩
  | 8 => ⟨S8x1x6144, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S1x1024, .f32⟩
  | 16 => ⟨S1024, .f32⟩
  | 17 => ⟨S8x4096x1024, .f32⟩
  | 18 => ⟨S_, .f32⟩
  | 19 => ⟨S8x4096, .f32⟩
  | 20 => ⟨S8x4096x1, .f32⟩
  | 21 => ⟨S_, .f32⟩
  | 22 => ⟨S8x4096x1, .f32⟩
  | 23 => ⟨S8x4096x1, .f32⟩
  | 24 => ⟨S_, .f32⟩
  | 25 => ⟨S8x4096x1, .f32⟩
  | 26 => ⟨S8x4096x1, .f32⟩
  | 27 => ⟨S8x4096x1, .f32⟩
  | 28 => ⟨S8x4096x1024, .f32⟩
  | 29 => ⟨S8x4096x1024, .f32⟩
  | 30 => ⟨S1x1x1024, .f32⟩
  | 31 => ⟨S8x4096x1024, .f32⟩
  | 32 => ⟨S8x4096x1024, .f32⟩
  | 33 => ⟨S_, .f32⟩
  | 34 => ⟨S8x1x1024, .f32⟩
  | 35 => ⟨S8x1x1024, .f32⟩
  | 36 => ⟨S8x4096x1024, .f32⟩
  | 37 => ⟨S8x4096x1024, .f32⟩
  | 38 => ⟨S8x4096x1024, .f32⟩
  | 39 => ⟨S8x4096x1024, .f32⟩
  | 40 => ⟨S1024x3072, .f32⟩
  | 41 => ⟨S8x4096x3072, .f32⟩
  | 42 => ⟨S8x4096x512, .f32⟩
  | 43 => ⟨S8x4096x512, .f32⟩
  | 44 => ⟨S8x4096x512, .f32⟩
  | 45 => ⟨S8x4096x512, .f32⟩
  | 46 => ⟨S8x4096x512, .f32⟩
  | 47 => ⟨S8x4096x512, .f32⟩
  | 48 => ⟨S64, .i32⟩
  | 49 => ⟨S64, .i32⟩
  | 50 => ⟨S64x64, .i32⟩
  | 51 => ⟨S64x64, .i32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S4096x1, .i32⟩
  | 67 => ⟨S4096x1, .f32⟩
  | 68 => ⟨S1x16, .f32⟩
  | 69 => ⟨S4096x16, .f32⟩
  | 70 => ⟨S4096x16, .f32⟩
  | 71 => ⟨S4096x16, .f32⟩
  | 72 => ⟨S4096x1, .i32⟩
  | 73 => ⟨S4096x1, .f32⟩
  | 74 => ⟨S1x16, .f32⟩
  | 75 => ⟨S4096x16, .f32⟩
  | 76 => ⟨S4096x16, .f32⟩
  | 77 => ⟨S4096x16, .f32⟩
  | 78 => ⟨S8x4096x8x64, .f32⟩
  | 79 => ⟨S8x8x4096x64, .f32⟩
  | 80 => ⟨S8x4096x8x64, .f32⟩
  | 81 => ⟨S8x8x4096x64, .f32⟩
  | 82 => ⟨S8x8x4096x32, .f32⟩
  | 83 => ⟨S8x8x4096x16, .f32⟩
  | 84 => ⟨S8x8x4096x16, .f32⟩
  | 85 => ⟨S4096x16, .f32⟩
  | 86 => ⟨S4096x16, .f32⟩
  | 87 => ⟨S1x1x4096x16, .f32⟩
  | 88 => ⟨S8x8x4096x16, .f32⟩
  | 89 => ⟨S8x8x4096x16, .f32⟩
  | 90 => ⟨S1x1x4096x16, .f32⟩
  | 91 => ⟨S8x8x4096x16, .f32⟩
  | 92 => ⟨S8x8x4096x16, .f32⟩
  | 93 => ⟨S8x8x4096x16, .f32⟩
  | 94 => ⟨S1x1x4096x16, .f32⟩
  | 95 => ⟨S8x8x4096x16, .f32⟩
  | 96 => ⟨S8x8x4096x16, .f32⟩
  | 97 => ⟨S1x1x4096x16, .f32⟩
  | 98 => ⟨S8x8x4096x16, .f32⟩
  | 99 => ⟨S8x8x4096x16, .f32⟩
  | 100 => ⟨S8x8x4096x16, .f32⟩
  | 101 => ⟨S8x8x4096x32, .f32⟩
  | 102 => ⟨S8x8x4096x32, .f32⟩
  | 103 => ⟨S8x8x4096x16, .f32⟩
  | 104 => ⟨S8x8x4096x16, .f32⟩
  | 105 => ⟨S4096x16, .f32⟩
  | 106 => ⟨S4096x16, .f32⟩
  | 107 => ⟨S1x1x4096x16, .f32⟩
  | 108 => ⟨S8x8x4096x16, .f32⟩
  | 109 => ⟨S8x8x4096x16, .f32⟩
  | 110 => ⟨S1x1x4096x16, .f32⟩
  | 111 => ⟨S8x8x4096x16, .f32⟩
  | 112 => ⟨S8x8x4096x16, .f32⟩
  | 113 => ⟨S8x8x4096x16, .f32⟩
  | 114 => ⟨S1x1x4096x16, .f32⟩
  | 115 => ⟨S8x8x4096x16, .f32⟩
  | 116 => ⟨S8x8x4096x16, .f32⟩
  | 117 => ⟨S1x1x4096x16, .f32⟩
  | 118 => ⟨S8x8x4096x16, .f32⟩
  | 119 => ⟨S8x8x4096x16, .f32⟩
  | 120 => ⟨S8x8x4096x16, .f32⟩
  | 121 => ⟨S8x8x4096x32, .f32⟩
  | 122 => ⟨S8x8x4096x64, .f32⟩
  | 123 => ⟨S8x8x4096x32, .f32⟩
  | 124 => ⟨S8x8x4096x16, .f32⟩
  | 125 => ⟨S8x8x4096x16, .f32⟩
  | 126 => ⟨S4096x16, .f32⟩
  | 127 => ⟨S4096x16, .f32⟩
  | _ => ⟨S8x4096x1024, .f32⟩

abbrev hbmTy0_1 (i : Nat) : BufTy := match i % 128 with
  | 0 => ⟨S1x1x4096x16, .f32⟩
  | 1 => ⟨S8x8x4096x16, .f32⟩
  | 2 => ⟨S8x8x4096x16, .f32⟩
  | 3 => ⟨S1x1x4096x16, .f32⟩
  | 4 => ⟨S8x8x4096x16, .f32⟩
  | 5 => ⟨S8x8x4096x16, .f32⟩
  | 6 => ⟨S8x8x4096x16, .f32⟩
  | 7 => ⟨S1x1x4096x16, .f32⟩
  | 8 => ⟨S8x8x4096x16, .f32⟩
  | 9 => ⟨S8x8x4096x16, .f32⟩
  | 10 => ⟨S1x1x4096x16, .f32⟩
  | 11 => ⟨S8x8x4096x16, .f32⟩
  | 12 => ⟨S8x8x4096x16, .f32⟩
  | 13 => ⟨S8x8x4096x16, .f32⟩
  | 14 => ⟨S8x8x4096x32, .f32⟩
  | 15 => ⟨S8x8x4096x32, .f32⟩
  | 16 => ⟨S8x8x4096x16, .f32⟩
  | 17 => ⟨S8x8x4096x16, .f32⟩
  | 18 => ⟨S4096x16, .f32⟩
  | 19 => ⟨S4096x16, .f32⟩
  | 20 => ⟨S1x1x4096x16, .f32⟩
  | 21 => ⟨S8x8x4096x16, .f32⟩
  | 22 => ⟨S8x8x4096x16, .f32⟩
  | 23 => ⟨S1x1x4096x16, .f32⟩
  | 24 => ⟨S8x8x4096x16, .f32⟩
  | 25 => ⟨S8x8x4096x16, .f32⟩
  | 26 => ⟨S8x8x4096x16, .f32⟩
  | 27 => ⟨S1x1x4096x16, .f32⟩
  | 28 => ⟨S8x8x4096x16, .f32⟩
  | 29 => ⟨S8x8x4096x16, .f32⟩
  | 30 => ⟨S1x1x4096x16, .f32⟩
  | 31 => ⟨S8x8x4096x16, .f32⟩
  | 32 => ⟨S8x8x4096x16, .f32⟩
  | 33 => ⟨S8x8x4096x16, .f32⟩
  | 34 => ⟨S8x8x4096x32, .f32⟩
  | 35 => ⟨S8x8x4096x64, .f32⟩
  | 36 => ⟨S_, .f32⟩
  | 37 => ⟨S8x8x4096x64, .f32⟩
  | 38 => ⟨S8x8x4096x64, .f32⟩
  | 39 => ⟨S8x4096x1024, .f32⟩
  | 40 => ⟨S32768x1024, .f32⟩
  | 41 => ⟨S8x4096x8x64, .f32⟩
  | 42 => ⟨S8x4096x512, .f32⟩
  | 43 => ⟨S8x4096x8x64, .f32⟩
  | 44 => ⟨S8x4096x512, .f32⟩
  | 45 => ⟨S8x4096x1024, .f32⟩
  | 46 => ⟨S32768x1024, .f32⟩
  | 47 => ⟨S32768x1024, .bf16⟩
  | 48 => ⟨S32768x512, .f32⟩
  | 49 => ⟨S32768x512, .bf16⟩
  | 50 => ⟨S32768x512, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_cst_7 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_v164 : Ref sig .tc := ⟨.hbm, 177, rfl⟩
abbrev main_v165 : Ref sig .tc := ⟨.hbm, 178, rfl⟩

abbrev nD : Nat := 1
abbrev τ : Topo := Topo.v7x

variable {F : FTy → Type} [FloatOps F]
-- ==== Kernel5.lean ====
abbrev S8x4096x1024 : Shape := ⟨3, ![8, 4096, 1024]⟩
abbrev S2x16x6144 : Shape := ⟨3, ![2, 16, 6144]⟩
abbrev S2x4x1024 : Shape := ⟨3, ![2, 4, 1024]⟩
abbrev S1x1024x2336 : Shape := ⟨3, ![1, 1024, 2336]⟩
abbrev S1x2x16x256 : Shape := ⟨4, ![1, 2, 16, 256]⟩
abbrev S1x2x256 : Shape := ⟨3, ![1, 2, 256]⟩
abbrev S1x2x64 : Shape := ⟨3, ![1, 2, 64]⟩
abbrev S2x16x1x6144 : Shape := ⟨4, ![2, 16, 1, 6144]⟩
abbrev S2x4x1x1024 : Shape := ⟨4, ![2, 4, 1, 1024]⟩
abbrev S64 : Shape := ⟨1, ![64]⟩
abbrev S64x64 : Shape := ⟨2, ![64, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S32768x1024 : Shape := ⟨2, ![32768, 1024]⟩
abbrev S1024x2336 : Shape := ⟨2, ![1024, 2336]⟩
abbrev S1024x128 : Shape := ⟨2, ![1024, 128]⟩
abbrev S1024x1568 : Shape := ⟨2, ![1024, 1568]⟩
abbrev S1024x96 : Shape := ⟨2, ![1024, 96]⟩
abbrev S1024x512 : Shape := ⟨2, ![1024, 512]⟩
abbrev S1024x64 : Shape := ⟨2, ![1024, 64]⟩
abbrev S1024x256 : Shape := ⟨2, ![1024, 256]⟩
abbrev S1024x2560 : Shape := ⟨2, ![1024, 2560]⟩
abbrev S128x512 : Shape := ⟨2, ![128, 512]⟩
abbrev S1x1x16x256 : Shape := ⟨4, ![1, 1, 16, 256]⟩
abbrev S16x256 : Shape := ⟨2, ![16, 256]⟩
abbrev S1 : Shape := ⟨1, ![1]⟩
abbrev S2 : Shape := ⟨1, ![2]⟩
abbrev S2x256 : Shape := ⟨2, ![2, 256]⟩
abbrev S1x1x64 : Shape := ⟨3, ![1, 1, 64]⟩
abbrev S1x64 : Shape := ⟨2, ![1, 64]⟩
abbrev S8x64 : Shape := ⟨2, ![8, 64]⟩
abbrev S4x64 : Shape := ⟨2, ![4, 64]⟩
abbrev S32768x512 : Shape := ⟨2, ![32768, 512]⟩
abbrev S8x32x512x128 : Shape := ⟨4, ![8, 32, 512, 128]⟩
abbrev S32768x256 : Shape := ⟨2, ![32768, 256]⟩
abbrev S8x128x4096 : Shape := ⟨3, ![8, 128, 4096]⟩
abbrev S512x1024 : Shape := ⟨2, ![512, 1024]⟩
abbrev S1x1x1x1024 : Shape := ⟨4, ![1, 1, 1, 1024]⟩
abbrev S512x128 : Shape := ⟨2, ![512, 128]⟩
abbrev S1x4x512x128 : Shape := ⟨4, ![1, 4, 512, 128]⟩
abbrev S512x256 : Shape := ⟨2, ![512, 256]⟩
abbrev S1x128x512 : Shape := ⟨3, ![1, 128, 512]⟩
abbrev S256x1024 : Shape := ⟨2, ![256, 1024]⟩
abbrev S1x1024 : Shape := ⟨2, ![1, 1024]⟩
abbrev S256x2560 : Shape := ⟨2, ![256, 2560]⟩
abbrev S256x512 : Shape := ⟨2, ![256, 512]⟩
abbrev S256x128 : Shape := ⟨2, ![256, 128]⟩
abbrev S1x1x512x128 : Shape := ⟨4, ![1, 1, 512, 128]⟩
abbrev S128x256 : Shape := ⟨2, ![128, 256]⟩
abbrev S1x128x256 : Shape := ⟨3, ![1, 128, 256]⟩

abbrev nBuf : Space → Nat
  | .hbm => 160
  | .vmem => 32
  | .smem => 0
  | _ => 0

abbrev hbmTy0_0 (i : Nat) : BufTy := match i % 128 with
  | 0 => ⟨S8x4096x1024, .f32⟩
  | 1 => ⟨S2x16x6144, .f32⟩
  | 2 => ⟨S2x4x1024, .f32⟩
  | 3 => ⟨S1x1024x2336, .f32⟩
  | 4 => ⟨S1x2x16x256, .f32⟩
  | 5 => ⟨S1x2x256, .f32⟩
  | 6 => ⟨S1x2x64, .f32⟩
  | 7 => ⟨S2x16x1x6144, .f32⟩
  | 8 => ⟨S2x4x1x1024, .f32⟩
  | 9 => ⟨S64, .i32⟩
  | 10 => ⟨S64, .i32⟩
  | 11 => ⟨S64x64, .i32⟩
  | 12 => ⟨S64x64, .i32⟩
  | 13 => ⟨S16, .f32⟩
  | 14 => ⟨S_, .f32⟩
  | 15 => ⟨S16, .f32⟩
  | 16 => ⟨S16, .f32⟩
  | 17 => ⟨S_, .f32⟩
  | 18 => ⟨S16, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S4096x1, .i32⟩
  | 28 => ⟨S4096x1, .f32⟩
  | 29 => ⟨S1x16, .f32⟩
  | 30 => ⟨S4096x16, .f32⟩
  | 31 => ⟨S4096x16, .f32⟩
  | 32 => ⟨S4096x16, .f32⟩
  | 33 => ⟨S4096x1, .i32⟩
  | 34 => ⟨S4096x1, .f32⟩
  | 35 => ⟨S1x16, .f32⟩
  | 36 => ⟨S4096x16, .f32⟩
  | 37 => ⟨S4096x16, .f32⟩
  | 38 => ⟨S4096x16, .f32⟩
  | 39 => ⟨S4096x16, .f32⟩
  | 40 => ⟨S4096x16, .f32⟩
  | 41 => ⟨S4096x64, .f32⟩
  | 42 => ⟨S4096x16, .f32⟩
  | 43 => ⟨S4096x16, .f32⟩
  | 44 => ⟨S4096x16, .f32⟩
  | 45 => ⟨S4096x16, .f32⟩
  | 46 => ⟨S4096x16, .f32⟩
  | 47 => ⟨S4096x16, .f32⟩
  | 48 => ⟨S4096x64, .f32⟩
  | 49 => ⟨S1x4096x1x64, .f32⟩
  | 50 => ⟨S1x4096x2x64, .f32⟩
  | 51 => ⟨S4096x128, .f32⟩
  | 52 => ⟨S1x4096x1x64, .f32⟩
  | 53 => ⟨S1x4096x2x64, .f32⟩
  | 54 => ⟨S4096x128, .f32⟩
  | 55 => ⟨S512, .i32⟩
  | 56 => ⟨S_, .i32⟩
  | 57 => ⟨S_, .i32⟩
  | 58 => ⟨S512, .i32⟩
  | 59 => ⟨S512, .i32⟩
  | 60 => ⟨S512, .i32⟩
  | 61 => ⟨S_, .i32⟩
  | 62 => ⟨S512, .i32⟩
  | 63 => ⟨S512, .i1⟩
  | 64 => ⟨S512, .i32⟩
  | 65 => ⟨S512, .i32⟩
  | 66 => ⟨S_, .i32⟩
  | 67 => ⟨S512, .i32⟩
  | 68 => ⟨S512, .i1⟩
  | 69 => ⟨S512, .i1⟩
  | 70 => ⟨S_, .i32⟩
  | 71 => ⟨S512, .i32⟩
  | 72 => ⟨S512, .i32⟩
  | 73 => ⟨S512, .i32⟩
  | 74 => ⟨S512x1, .i32⟩
  | 75 => ⟨S1x512, .i32⟩
  | 76 => ⟨S512x512, .i32⟩
  | 77 => ⟨S512x512, .i32⟩
  | 78 => ⟨S512x512, .i1⟩
  | 79 => ⟨S512x512, .bf16⟩
  | 80 => ⟨S256, .i32⟩
  | 81 => ⟨S_, .i32⟩
  | 82 => ⟨S_, .i32⟩
  | 83 => ⟨S256, .i32⟩
  | 84 => ⟨S256, .i32⟩
  | 85 => ⟨S256, .i32⟩
  | 86 => ⟨S_, .i32⟩
  | 87 => ⟨S256, .i32⟩
  | 88 => ⟨S256, .i1⟩
  | 89 => ⟨S256, .i32⟩
  | 90 => ⟨S256, .i32⟩
  | 91 => ⟨S_, .i32⟩
  | 92 => ⟨S256, .i32⟩
  | 93 => ⟨S256, .i1⟩
  | 94 => ⟨S256, .i1⟩
  | 95 => ⟨S_, .i32⟩
  | 96 => ⟨S256, .i32⟩
  | 97 => ⟨S256, .i32⟩
  | 98 => ⟨S256, .i32⟩
  | 99 => ⟨S256x1, .i32⟩
  | 100 => ⟨S1x256, .i32⟩
  | 101 => ⟨S256x256, .i32⟩
  | 102 => ⟨S256x256, .i32⟩
  | 103 => ⟨S256x256, .i1⟩
  | 104 => ⟨S256x256, .bf16⟩
  | 105 => ⟨S32768x1024, .f32⟩
  | 106 => ⟨S1024x2336, .f32⟩
  | 107 => ⟨S1024x128, .f32⟩
  | 108 => ⟨S1024x128, .f32⟩
  | 109 => ⟨S1024x1568, .f32⟩
  | 110 => ⟨S_, .f32⟩
  | 111 => ⟨S1024x96, .f32⟩
  | 112 => ⟨S1024x512, .f32⟩
  | 113 => ⟨S1024x64, .f32⟩
  | 114 => ⟨S1024x64, .f32⟩
  | 115 => ⟨S1024x64, .f32⟩
  | 116 => ⟨S1024x64, .f32⟩
  | 117 => ⟨S1024x256, .f32⟩
  | 118 => ⟨S1024x2560, .f32⟩
  | 119 => ⟨S1024x2560, .bf16⟩
  | 120 => ⟨S_, .f32⟩
  | 121 => ⟨S128x512, .f32⟩
  | 122 => ⟨S1x1x16x256, .f32⟩
  | 123 => ⟨S16x256, .f32⟩
  | 124 => ⟨S_, .i32⟩
  | 125 => ⟨S1, .i32⟩
  | 126 => ⟨S_, .i32⟩
  | 127 => ⟨S1, .i32⟩
  | _ => ⟨S8x4096x1024, .f32⟩

abbrev hbmTy0_1 (i : Nat) : BufTy := match i % 128 with
  | 0 => ⟨S2, .i32⟩
  | 1 => ⟨S128x512, .f32⟩
  | 2 => ⟨S1x1x16x256, .f32⟩
  | 3 => ⟨S16x256, .f32⟩
  | 4 => ⟨S_, .i32⟩
  | 5 => ⟨S1, .i32⟩
  | 6 => ⟨S_, .i32⟩
  | 7 => ⟨S1, .i32⟩
  | 8 => ⟨S2, .i32⟩
  | 9 => ⟨S128x512, .f32⟩
  | 10 => ⟨S128x512, .bf16⟩
  | 11 => ⟨S2x256, .f32⟩
  | 12 => ⟨S1x512, .f32⟩
  | 13 => ⟨S1x1x64, .f32⟩
  | 14 => ⟨S64, .f32⟩
  | 15 => ⟨S1x64, .f32⟩
  | 16 => ⟨S8x64, .f32⟩
  | 17 => ⟨S512, .f32⟩
  | 18 => ⟨S1x512, .f32⟩
  | 19 => ⟨S1x1x64, .f32⟩
  | 20 => ⟨S64, .f32⟩
  | 21 => ⟨S1x64, .f32⟩
  | 22 => ⟨S4x64, .f32⟩
  | 23 => ⟨S256, .f32⟩
  | 24 => ⟨S1x256, .f32⟩
  | 25 => ⟨S32768x512, .bf16⟩
  | 26 => ⟨S32768x512, .f32⟩
  | 27 => ⟨S32768x512, .bf16⟩
  | 28 => ⟨S32768x512, .f32⟩
  | 29 => ⟨S8x32x512x128, .bf16⟩
  | 30 => ⟨S32768x256, .bf16⟩
  | 31 => ⟨S8x128x4096, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x2560, .bf16⟩
  | .local _ .vmem, ⟨8, _⟩ => ⟨S128x512, .bf16⟩
  | .local _ .vmem, ⟨9, _⟩ => ⟨S1x512, .f32⟩
  | .local _ .vmem, ⟨10, _⟩ => ⟨S512x512, .bf16⟩
  | .local _ .vmem, ⟨11, _⟩ => ⟨S256x256, .bf16⟩
  | .local _ .vmem, ⟨12, _⟩ => ⟨S1x512, .f32⟩
  | .local _ .vmem, ⟨13, _⟩ => ⟨S1x256, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | .local _ .vmem, ⟨26, _⟩ => ⟨S1x4x512x128, .bf16⟩
  | .local _ .vmem, ⟨27, _⟩ => ⟨S1x4x512x128, .bf16⟩
  | .local _ .vmem, ⟨28, _⟩ => ⟨S512x256, .bf16⟩
  | .local _ .vmem, ⟨29, _⟩ => ⟨S512x256, .bf16⟩
  | .local _ .vmem, ⟨30, _⟩ => ⟨S1x128x512, .bf16⟩
  | .local _ .vmem, ⟨31, _⟩ => ⟨S1x128x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_v8 : Ref sig .tc := ⟨.hbm, 65, rfl⟩
abbrev main_call0_c : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_c_0 : Ref sig .tc := ⟨.hbm, 70, rfl⟩
abbrev main_call0_v12 : Ref sig .tc := ⟨.hbm, 71, rfl⟩
abbrev main_call0_v13 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_3 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_c : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_0 : Ref sig .tc := ⟨.hbm, 95, rfl⟩
abbrev main_call1_v12 : Ref sig .tc := ⟨.hbm, 96, rfl⟩
abbrev main_call1_v13 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_4 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_5 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_c_6 : Ref sig .tc := ⟨.hbm, 124, rfl⟩
abbrev main_v77 : Ref sig .tc := ⟨.hbm, 125, rfl⟩
abbrev main_c_7 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_c_8 : Ref sig .tc := ⟨.hbm, 132, rfl⟩
abbrev main_v83 : Ref sig .tc := ⟨.hbm, 133, rfl⟩
abbrev main_c_9 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102_0 : Ref sig .tc := ⟨.hbm, 153, rfl⟩
abbrev main_v102_1 : Ref sig .tc := ⟨.hbm, 154, rfl⟩
abbrev main_v102_2 : Ref sig .tc := ⟨.hbm, 155, rfl⟩
abbrev main_v102_3 : Ref sig .tc := ⟨.hbm, 156, rfl⟩
abbrev main_v102_4 : Ref sig .tc := ⟨.hbm, 157, rfl⟩
abbrev main_v102_5 : Ref sig .tc := ⟨.hbm, 158, rfl⟩
abbrev main_v102_6 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c1_i32_6 : BitVec 32 := 1#32
  let c0_i32_7 : BitVec 32 := 0#32
  ![c0_i32_4.toNat, v16.toNat, c0_i32_5.toNat, c1_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x4x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x128x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference5Ideal.lean ====
abbrev S8x4096x1024 : Shape := ⟨3, ![8, 4096, 1024]⟩
abbrev S2x16x6144 : Shape := ⟨3, ![2, 16, 6144]⟩
abbrev S2x4x1024 : Shape := ⟨3, ![2, 4, 1024]⟩
abbrev S1x1024x2336 : Shape := ⟨3, ![1, 1024, 2336]⟩
abbrev S1x2x16x256 : Shape := ⟨4, ![1, 2, 16, 256]⟩
abbrev S1x2x256 : Shape := ⟨3, ![1, 2, 256]⟩
abbrev S1x2x64 : Shape := ⟨3, ![1, 2, 64]⟩
abbrev S1x4x1024 : Shape := ⟨3, ![1, 4, 1024]⟩
abbrev S4x1024 : Shape := ⟨2, ![4, 1024]⟩
abbrev S2x64 : Shape := ⟨2, ![2, 64]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x2336 : Shape := ⟨2, ![1024, 2336]⟩
abbrev S8x4096x2336 : Shape := ⟨3, ![8, 4096, 2336]⟩
abbrev S8x4096x256 : Shape := ⟨3, ![8, 4096, 256]⟩
abbrev S8x4096x512 : Shape := ⟨3, ![8, 4096, 512]⟩
abbrev S8x4096x16 : Shape := ⟨3, ![8, 4096, 16]⟩
abbrev S8x4096x128 : Shape := ⟨3, ![8, 4096, 128]⟩
abbrev S64 : Shape := ⟨1, ![64]⟩
abbrev S64x64 : Shape := ⟨2, ![64, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S8x4096x8x64 : Shape := ⟨4, ![8, 4096, 8, 64]⟩
abbrev S8x8x4096x64 : Shape := ⟨4, ![8, 8, 4096, 64]⟩
abbrev S1x64 : Shape := ⟨2, ![1, 64]⟩
abbrev S8x8x4096 : Shape := ⟨3, ![8, 8, 4096]⟩
abbrev S8x8x4096x1 : Shape := ⟨4, ![8, 8, 4096, 1]⟩
abbrev S1x1x1x64 : Shape := ⟨4, ![1, 1, 1, 64]⟩
abbrev S8x8x4096x32 : Shape := ⟨4, ![8, 8, 4096, 32]⟩
abbrev S8x8x4096x16 : Shape := ⟨4, ![8, 8, 4096, 16]⟩
abbrev S1x1x4096x16 : Shape := ⟨4, ![1, 1, 4096, 16]⟩
abbrev S8x4096x2x64 : Shape := ⟨4, ![8, 4096, 2, 64]⟩
abbrev S8x2x4096x64 : Shape := ⟨4, ![8, 2, 4096, 64]⟩
abbrev S8x2x4096 : Shape := ⟨3, ![8, 2, 4096]⟩
abbrev S8x2x4096x1 : Shape := ⟨4, ![8, 2, 4096, 1]⟩
abbrev S8x2x4096x32 : Shape := ⟨4, ![8, 2, 4096, 32]⟩
abbrev S8x2x4096x16 : Shape := ⟨4, ![8, 2, 4096, 16]⟩
abbrev S8x32x128x512 : Shape := ⟨4, ![8, 32, 128, 512]⟩
abbrev S8x32x512x128 : Shape := ⟨4, ![8, 32, 512, 128]⟩
abbrev S32768x512 : Shape := ⟨2, ![32768, 512]⟩
abbrev S8x2x2x4096x64 : Shape := ⟨5, ![8, 2, 2, 4096, 64]⟩
abbrev S8x4x4096x64 : Shape := ⟨4, ![8, 4, 4096, 64]⟩
abbrev S8x4096x4x64 : Shape := ⟨4, ![8, 4096, 4, 64]⟩
abbrev S32768x256 : Shape := ⟨2, ![32768, 256]⟩
abbrev S8x128x4096 : Shape := ⟨3, ![8, 128, 4096]⟩

abbrev nBuf : Space → Nat
  | .hbm => 226
  | .vmem => 0
  | .smem => 0
  | _ => 0

abbrev hbmTy0_0 (i : Nat) : BufTy := match i % 128 with
  | 0 => ⟨S8x4096x1024, .f32⟩
  | 1 => ⟨S2x16x6144, .f32⟩
  | 2 => ⟨S2x4x1024, .f32⟩
  | 3 => ⟨S1x1024x2336, .f32⟩
  | 4 => ⟨S1x2x16x256, .f32⟩
  | 5 => ⟨S1x2x256, .f32⟩
  | 6 => ⟨S1x2x64, .f32⟩
  | 7 => ⟨S1x4x1024, .f32⟩
  | 8 => ⟨S4x1024, .f32⟩
  | 9 => ⟨S2x64, .f32⟩
  | 10 => ⟨S1x8x6144, .f32⟩
  | 11 => ⟨S8x6144, .f32⟩
  | 12 => ⟨S8x1x6144, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S1x1024, .f32⟩
  | 20 => ⟨S1024, .f32⟩
  | 21 => ⟨S8x4096x1024, .f32⟩
  | 22 => ⟨S_, .f32⟩
  | 23 => ⟨S8x4096, .f32⟩
  | 24 => ⟨S8x4096x1, .f32⟩
  | 25 => ⟨S_, .f32⟩
  | 26 => ⟨S8x4096x1, .f32⟩
  | 27 => ⟨S8x4096x1, .f32⟩
  | 28 => ⟨S_, .f32⟩
  | 29 => ⟨S8x4096x1, .f32⟩
  | 30 => ⟨S8x4096x1, .f32⟩
  | 31 => ⟨S8x4096x1, .f32⟩
  | 32 => ⟨S8x4096x1024, .f32⟩
  | 33 => ⟨S8x4096x1024, .f32⟩
  | 34 => ⟨S1x1x1024, .f32⟩
  | 35 => ⟨S8x4096x1024, .f32⟩
  | 36 => ⟨S8x4096x1024, .f32⟩
  | 37 => ⟨S_, .f32⟩
  | 38 => ⟨S8x1x1024, .f32⟩
  | 39 => ⟨S8x1x1024, .f32⟩
  | 40 => ⟨S8x4096x1024, .f32⟩
  | 41 => ⟨S8x4096x1024, .f32⟩
  | 42 => ⟨S8x4096x1024, .f32⟩
  | 43 => ⟨S8x4096x1024, .f32⟩
  | 44 => ⟨S1024x2336, .f32⟩
  | 45 => ⟨S8x4096x2336, .f32⟩
  | 46 => ⟨S8x4096x256, .f32⟩
  | 47 => ⟨S8x4096x256, .f32⟩
  | 48 => ⟨S8x4096x512, .f32⟩
  | 49 => ⟨S8x4096x512, .f32⟩
  | 50 => ⟨S8x4096x16, .f32⟩
  | 51 => ⟨S8x4096x16, .f32⟩
  | 52 => ⟨S8x4096x512, .f32⟩
  | 53 => ⟨S8x4096x128, .f32⟩
  | 54 => ⟨S8x4096x128, .f32⟩
  | 55 => ⟨S64, .i32⟩
  | 56 => ⟨S64, .i32⟩
  | 57 => ⟨S64x64, .i32⟩
  | 58 => ⟨S64x64, .i32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S4096x1, .i32⟩
  | 74 => ⟨S4096x1, .f32⟩
  | 75 => ⟨S1x16, .f32⟩
  | 76 => ⟨S4096x16, .f32⟩
  | 77 => ⟨S4096x16, .f32⟩
  | 78 => ⟨S4096x16, .f32⟩
  | 79 => ⟨S4096x1, .i32⟩
  | 80 => ⟨S4096x1, .f32⟩
  | 81 => ⟨S1x16, .f32⟩
  | 82 => ⟨S4096x16, .f32⟩
  | 83 => ⟨S4096x16, .f32⟩
  | 84 => ⟨S4096x16, .f32⟩
  | 85 => ⟨S8x4096x8x64, .f32⟩
  | 86 => ⟨S8x8x4096x64, .f32⟩
  | 87 => ⟨S1x64, .f32⟩
  | 88 => ⟨S64, .f32⟩
  | 89 => ⟨S8x8x4096x64, .f32⟩
  | 90 => ⟨S_, .f32⟩
  | 91 => ⟨S8x8x4096, .f32⟩
  | 92 => ⟨S8x8x4096x1, .f32⟩
  | 93 => ⟨S_, .f32⟩
  | 94 => ⟨S8x8x4096x1, .f32⟩
  | 95 => ⟨S8x8x4096x1, .f32⟩
  | 96 => ⟨S_, .f32⟩
  | 97 => ⟨S8x8x4096x1, .f32⟩
  | 98 => ⟨S8x8x4096x1, .f32⟩
  | 99 => ⟨S8x8x4096x1, .f32⟩
  | 100 => ⟨S8x8x4096x64, .f32⟩
  | 101 => ⟨S8x8x4096x64, .f32⟩
  | 102 => ⟨S1x1x1x64, .f32⟩
  | 103 => ⟨S8x8x4096x64, .f32⟩
  | 104 => ⟨S8x8x4096x64, .f32⟩
  | 105 => ⟨S8x8x4096x32, .f32⟩
  | 106 => ⟨S8x8x4096x16, .f32⟩
  | 107 => ⟨S8x8x4096x16, .f32⟩
  | 108 => ⟨S4096x16, .f32⟩
  | 109 => ⟨S4096x16, .f32⟩
  | 110 => ⟨S1x1x4096x16, .f32⟩
  | 111 => ⟨S8x8x4096x16, .f32⟩
  | 112 => ⟨S8x8x4096x16, .f32⟩
  | 113 => ⟨S1x1x4096x16, .f32⟩
  | 114 => ⟨S8x8x4096x16, .f32⟩
  | 115 => ⟨S8x8x4096x16, .f32⟩
  | 116 => ⟨S8x8x4096x16, .f32⟩
  | 117 => ⟨S1x1x4096x16, .f32⟩
  | 118 => ⟨S8x8x4096x16, .f32⟩
  | 119 => ⟨S8x8x4096x16, .f32⟩
  | 120 => ⟨S1x1x4096x16, .f32⟩
  | 121 => ⟨S8x8x4096x16, .f32⟩
  | 122 => ⟨S8x8x4096x16, .f32⟩
  | 123 => ⟨S8x8x4096x16, .f32⟩
  | 124 => ⟨S8x8x4096x32, .f32⟩
  | 125 => ⟨S8x8x4096x32, .f32⟩
  | 126 => ⟨S8x8x4096x16, .f32⟩
  | 127 => ⟨S8x8x4096x16, .f32⟩
  | _ => ⟨S8x4096x1024, .f32⟩

abbrev hbmTy0_1 (i : Nat) : BufTy := match i % 128 with
  | 0 => ⟨S4096x16, .f32⟩
  | 1 => ⟨S4096x16, .f32⟩
  | 2 => ⟨S1x1x4096x16, .f32⟩
  | 3 => ⟨S8x8x4096x16, .f32⟩
  | 4 => ⟨S8x8x4096x16, .f32⟩
  | 5 => ⟨S1x1x4096x16, .f32⟩
  | 6 => ⟨S8x8x4096x16, .f32⟩
  | 7 => ⟨S8x8x4096x16, .f32⟩
  | 8 => ⟨S8x8x4096x16, .f32⟩
  | 9 => ⟨S1x1x4096x16, .f32⟩
  | 10 => ⟨S8x8x4096x16, .f32⟩
  | 11 => ⟨S8x8x4096x16, .f32⟩
  | 12 => ⟨S1x1x4096x16, .f32⟩
  | 13 => ⟨S8x8x4096x16, .f32⟩
  | 14 => ⟨S8x8x4096x16, .f32⟩
  | 15 => ⟨S8x8x4096x16, .f32⟩
  | 16 => ⟨S8x8x4096x32, .f32⟩
  | 17 => ⟨S8x8x4096x64, .f32⟩
  | 18 => ⟨S8x4096x2x64, .f32⟩
  | 19 => ⟨S8x2x4096x64, .f32⟩
  | 20 => ⟨S1x64, .f32⟩
  | 21 => ⟨S64, .f32⟩
  | 22 => ⟨S8x2x4096x64, .f32⟩
  | 23 => ⟨S_, .f32⟩
  | 24 => ⟨S8x2x4096, .f32⟩
  | 25 => ⟨S8x2x4096x1, .f32⟩
  | 26 => ⟨S_, .f32⟩
  | 27 => ⟨S8x2x4096x1, .f32⟩
  | 28 => ⟨S8x2x4096x1, .f32⟩
  | 29 => ⟨S_, .f32⟩
  | 30 => ⟨S8x2x4096x1, .f32⟩
  | 31 => ⟨S8x2x4096x1, .f32⟩
  | 32 => ⟨S8x2x4096x1, .f32⟩
  | 33 => ⟨S8x2x4096x64, .f32⟩
  | 34 => ⟨S8x2x4096x64, .f32⟩
  | 35 => ⟨S1x1x1x64, .f32⟩
  | 36 => ⟨S8x2x4096x64, .f32⟩
  | 37 => ⟨S8x2x4096x64, .f32⟩
  | 38 => ⟨S8x2x4096x32, .f32⟩
  | 39 => ⟨S8x2x4096x16, .f32⟩
  | 40 => ⟨S8x2x4096x16, .f32⟩
  | 41 => ⟨S4096x16, .f32⟩
  | 42 => ⟨S4096x16, .f32⟩
  | 43 => ⟨S1x1x4096x16, .f32⟩
  | 44 => ⟨S8x2x4096x16, .f32⟩
  | 45 => ⟨S8x2x4096x16, .f32⟩
  | 46 => ⟨S1x1x4096x16, .f32⟩
  | 47 => ⟨S8x2x4096x16, .f32⟩
  | 48 => ⟨S8x2x4096x16, .f32⟩
  | 49 => ⟨S8x2x4096x16, .f32⟩
  | 50 => ⟨S1x1x4096x16, .f32⟩
  | 51 => ⟨S8x2x4096x16, .f32⟩
  | 52 => ⟨S8x2x4096x16, .f32⟩
  | 53 => ⟨S1x1x4096x16, .f32⟩
  | 54 => ⟨S8x2x4096x16, .f32⟩
  | 55 => ⟨S8x2x4096x16, .f32⟩
  | 56 => ⟨S8x2x4096x16, .f32⟩
  | 57 => ⟨S8x2x4096x32, .f32⟩
  | 58 => ⟨S8x2x4096x32, .f32⟩
  | 59 => ⟨S8x2x4096x16, .f32⟩
  | 60 => ⟨S8x2x4096x16, .f32⟩
  | 61 => ⟨S4096x16, .f32⟩
  | 62 => ⟨S4096x16, .f32⟩
  | 63 => ⟨S1x1x4096x16, .f32⟩
  | 64 => ⟨S8x2x4096x16, .f32⟩
  | 65 => ⟨S8x2x4096x16, .f32⟩
  | 66 => ⟨S1x1x4096x16, .f32⟩
  | 67 => ⟨S8x2x4096x16, .f32⟩
  | 68 => ⟨S8x2x4096x16, .f32⟩
  | 69 => ⟨S8x2x4096x16, .f32⟩
  | 70 => ⟨S1x1x4096x16, .f32⟩
  | 71 => ⟨S8x2x4096x16, .f32⟩
  | 72 => ⟨S8x2x4096x16, .f32⟩
  | 73 => ⟨S1x1x4096x16, .f32⟩
  | 74 => ⟨S8x2x4096x16, .f32⟩
  | 75 => ⟨S8x2x4096x16, .f32⟩
  | 76 => ⟨S8x2x4096x16, .f32⟩
  | 77 => ⟨S8x2x4096x32, .f32⟩
  | 78 => ⟨S8x2x4096x64, .f32⟩
  | 79 => ⟨S8x4096x8x64, .f32⟩
  | 80 => ⟨S8x4096x512, .f32⟩
  | 81 => ⟨S8x32x128x512, .f32⟩
  | 82 => ⟨S8x32x512x128, .f32⟩
  | 83 => ⟨S8x4096x512, .f32⟩
  | 84 => ⟨S32768x512, .f32⟩
  | 85 => ⟨S32768x512, .bf16⟩
  | 86 => ⟨S32768x512, .f32⟩
  | 87 => ⟨S32768x512, .bf16⟩
  | 88 => ⟨S32768x512, .f32⟩
  | 89 => ⟨S8x32x512x128, .bf16⟩
  | 90 => ⟨S8x2x2x4096x64, .f32⟩
  | 91 => ⟨S8x4x4096x64, .f32⟩
  | 92 => ⟨S8x4096x4x64, .f32⟩
  | 93 => ⟨S8x4096x256, .f32⟩
  | 94 => ⟨S32768x256, .f32⟩
  | 95 => ⟨S32768x256, .bf16⟩
  | 96 => ⟨S8x128x4096, .f32⟩
  | 97 => ⟨S8x128x4096, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_3 : Ref sig .tc := ⟨.hbm, 60, rfl⟩
abbrev main_v49 : Ref sig .tc := ⟨.hbm, 61, rfl⟩
abbrev main_v50 : Ref sig .tc := ⟨.hbm, 62, rfl⟩
abbrev main_cst_4 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_cst_7 : Ref sig .tc := ⟨.hbm, 90, rfl⟩
abbrev main_v75 : Ref sig .tc := ⟨.hbm, 91, rfl⟩
abbrev main_v76 : Ref sig .tc := ⟨.hbm, 92, rfl⟩
abbrev main_cst_8 : Ref sig .tc := ⟨.hbm, 93, rfl⟩
abbrev main_v77 : Ref sig .tc := ⟨.hbm, 94, rfl⟩
abbrev main_v78 : Ref sig .tc := ⟨.hbm, 95, rfl⟩
abbrev main_cst_9 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_cst_10 : Ref sig .tc := ⟨.hbm, 151, rfl⟩
abbrev main_v133 : Ref sig .tc := ⟨.hbm, 152, rfl⟩
abbrev main_v134 : Ref sig .tc := ⟨.hbm, 153, rfl⟩
abbrev main_cst_11 : Ref sig .tc := ⟨.hbm, 154, rfl⟩
abbrev main_v135 : Ref sig .tc := ⟨.hbm, 155, rfl⟩
abbrev main_v136 : Ref sig .tc := ⟨.hbm, 156, rfl⟩
abbrev main_cst_12 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩

abbrev nD : Nat := 1
abbrev τ : Topo := Topo.v7x

variable {F : FTy → Type} [FloatOps F]
-- ==== Proof.Tile.lean ====
/- One trip of the attention's counted loop, read as mathematics on vectors.

   A trip takes four tiles of 128 queries. For each it forms the masked queries (two heads side by side), walks
   nine groups of keys (the context, then eight groups of latent keys), carries a running maximum and a running
   weighted sum with the total weight in row 64, and divides. The definitions below say this once, for one tile;
   `trip_tiles` says that what the trip stores is these definitions at the trip's own loads. -/
module

public import proofs.«01_k».proof.Proof.Gen.KernelIdeal.Value

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F]

/-- The masked queries of one tile: head A's rows in the left half, head B's in the right. -/
def masked (q : Vec F S1x1x128x128 .bf16) : FVec F S128x256 .bf16 := k0_pay12 k0_pay1 q

/-- The scores of one block of 128 keys against the masked queries. -/
def score (w : FVec F S128x256 .bf16) (k : Vec F S1x128x128 .bf16) : FVec F S128x256 .f32 := k0_pay24 w k

/-- The running maximum and the running sums. -/
structure St (F : FTy → Type) where
  m : FVec F S1x256 .f32
  acc : FVec F S80x256 .f32

/-- The weights of one block: two to the power of the score less the maximum. -/
def weight (m : FVec F S1x256 .f32) (s : FVec F S128x256 .f32) : FVec F S128x256 .bf16 :=
  truncf .bf16 (exp2 (subf s (broadcastTo S128x256 m broadcasts_S1x256_S128x256))) bitsLt_bf16_f32

/-- The state after the context keys. -/
def ctxSt (w : FVec F S128x256 .bf16) (k : Fin 2 → Vec F S1x128x128 .bf16) (v : Vec F S1x64x256 .bf16) : St F where
  m := k0_pay49 k0_pay16 (score w (k 0)) (score w (k 1))
  acc := k0_pay79 (k0_pay2 v) k0_pay16 k0_pay20 (k0_pay49 k0_pay16 (score w (k 0)) (score w (k 1)))
    (weight (k0_pay49 k0_pay16 (score w (k 0)) (score w (k 1))) (score w (k 0)))
    (weight (k0_pay49 k0_pay16 (score w (k 0)) (score w (k 1))) (score w (k 1)))

/-- The running maximum after one group of latent keys. -/
def latM (w : FVec F S128x256 .bf16) (k : Fin 4 → Vec F S1x128x128 .bf16) (m : FVec F S1x256 .f32) : FVec F S1x256 .f32 :=
  k0_pay83 (score w (k 0)) (score w (k 1)) (score w (k 2)) (score w (k 3)) m

/-- The state after one group of latent keys. -/
def latSt (w : FVec F S128x256 .bf16) (k : Fin 4 → Vec F S1x128x128 .bf16) (v : Vec F S1x64x512 .bf16) (s : St F) : St F where
  m := latM w k s.m
  acc := k0_pay121 (k0_pay3 v) s.m s.acc (latM w k s.m) (weight (latM w k s.m) (score w (k 0)))
    (weight (latM w k s.m) (score w (k 1))) (weight (latM w k s.m) (score w (k 2))) (weight (latM w k s.m) (score w (k 3)))

/-- The state after the context and the first `n` groups of latent keys. -/
def stAt (w : FVec F S128x256 .bf16) (kc : Fin 2 → Vec F S1x128x128 .bf16) (vc : Vec F S1x64x256 .bf16)
    (kl : ℕ → Fin 4 → Vec F S1x128x128 .bf16) (vl : ℕ → Vec F S1x64x512 .bf16) : ℕ → St F
  | 0 => ctxSt w kc vc
  | n + 1 => latSt w (kl n) (vl n) (stAt w kc vc kl vl n)

/-- What one tile stores: the sums over the total weight, transposed back to rows of queries. -/
def tileOut (q : Vec F S1x1x128x128 .bf16) (kc : Fin 2 → Vec F S1x128x128 .bf16) (vc : Vec F S1x64x256 .bf16)
    (kl : ℕ → Fin 4 → Vec F S1x128x128 .bf16) (vl : ℕ → Vec F S1x64x512 .bf16) : FVec F S1x128x128 .bf16 :=
  k0_pay387 (stAt (masked q) kc vc kl vl 8).acc

/-- The rows `128 i …` of the context keys, as the trip loads them. -/
def rdKc (arg3 : Memref sig .tc .vmem S1x256x128 .bf16) (X : BufTy.Contents (Elt F) arg3.view.ty) (i : Fin 2) : Vec F S1x128x128 .bf16 :=
  View.readAt (Elt F) arg3.view (Rect.unit (s := S1x256x128) ![0, 128 * i.val, 0] S1x128x128.size
    (by intro a; have := i.isLt; match a with | ⟨0, _⟩ => exact Nat.le_refl 1 | ⟨1, _⟩ => show 128 * i.val + 128 ≤ 256; omega | ⟨2, _⟩ => exact Nat.le_refl 128)).toLoadRect X

/-- The rows `512 g + 128 i …` of the latent keys, as the trip loads them. -/
def rdKl (arg5 : Memref sig .tc .vmem S1x4096x128 .bf16) (X : BufTy.Contents (Elt F) arg5.view.ty) (g : ℕ) (i : Fin 4) : Vec F S1x128x128 .bf16 :=
  View.readAt (Elt F) arg5.view (Rect.unit (s := S1x4096x128) ![0, 512 * (g % 8) + 128 * i.val, 0] S1x128x128.size
    (by intro a; have := i.isLt; match a with | ⟨0, _⟩ => exact Nat.le_refl 1 | ⟨1, _⟩ => show 512 * (g % 8) + 128 * i.val + 128 ≤ 4096; omega | ⟨2, _⟩ => exact Nat.le_refl 128)).toLoadRect X

/-- The tile of queries `r` of trip `k`, as the trip loads it. -/
def rdQ (arg2 : Memref sig .tc .vmem S1x32x128x128 .bf16) (X : BufTy.Contents (Elt F) arg2.view.ty) (k : Fin k0_t1_loop.trips) (r : Fin 4) :
    Vec F S1x1x128x128 .bf16 :=
  View.readAt (Elt F) arg2.view (Rect.unit (s := S1x32x128x128) (k0_off1 k (BitVec.ofNat 32 r.val)) S1x1x128x128.size (k0_off1_inb k r)).toLoadRect X

/-- Entry `g` of eight vectors. -/
def pick8 {α : Type} (a b c d e f g h : α) : ℕ → α
  | 0 => a | 1 => b | 2 => c | 3 => d | 4 => e | 5 => f | 6 => g | _ => h

/-- The piece that tile `r` of trip `k` stores. -/
def tilePiece (k : Fin k0_t1_loop.trips) (r : Fin 4) (o : FVec F S1x128x128 .bf16) : View.Piece (Elt F) S1x4096x128 .bf16 :=
  ⟨Rect.unit (s := S1x4096x128) (k0_off2 k (BitVec.ofNat 32 r.val)) S1x128x128.size (k0_off2_inb k r), o⟩

/-- ONE TRIP STORES its four tiles, each as `tileOut` of the trip's loads. -/
theorem trip_tiles (𝒱 : Variants) (c : Dev nD) (bd : Option 𝒱.V) (i : grid0.Coords) (arg2 : Memref sig .tc .vmem S1x32x128x128 .bf16) (harg2 : arg2.IsWhole) (arg3 : Memref sig .tc .vmem S1x256x128 .bf16) (harg3 : arg3.IsWhole) (arg4 : Memref sig .tc .vmem S1x64x256 .bf16) (harg4 : arg4.IsWhole) (arg5 : Memref sig .tc .vmem S1x4096x128 .bf16) (harg5 : arg5.IsWhole) (arg6 : Memref sig .tc .vmem S1x64x4096 .bf16) (harg6 : arg6.IsWhole) (arg7 : Memref sig .tc .vmem S1x4096x128 .bf16) (harg7 : arg7.IsWhole)
    (v3 : Vec F S1x64x256 .bf16) (v5 v7 v9 v11 v13 v15 v17 v19 : Vec F S1x64x512 .bf16)
    (X2 : BufTy.Contents (Elt F) arg2.view.ty) (X3 : BufTy.Contents (Elt F) arg3.view.ty) (X5 : BufTy.Contents (Elt F) arg5.view.ty)
    (k : Fin k0_t1_loop.trips) :
    tripL_k0_t1 (F := F) 𝒱 c bd i arg2 harg2 arg3 harg3 arg4 harg4 arg5 harg5 arg6 harg6 arg7 harg7 v3 v5 v7 v9 v11 v13 v15 v17 v19 X2 X3 X5 k
      = [tilePiece k 3 (tileOut (rdQ arg2 X2 k 3) (rdKc arg3 X3) v3 (rdKl arg5 X5) (pick8 v5 v7 v9 v11 v13 v15 v17 v19)),
         tilePiece k 2 (tileOut (rdQ arg2 X2 k 2) (rdKc arg3 X3) v3 (rdKl arg5 X5) (pick8 v5 v7 v9 v11 v13 v15 v17 v19)),
         tilePiece k 1 (tileOut (rdQ arg2 X2 k 1) (rdKc arg3 X3) v3 (rdKl arg5 X5) (pick8 v5 v7 v9 v11 v13 v15 v17 v19)),
         tilePiece k 0 (tileOut (rdQ arg2 X2 k 0) (rdKc arg3 X3) v3 (rdKl arg5 X5) (pick8 v5 v7 v9 v11 v13 v15 v17 v19))] := by
  unfold tripL_k0_t1 trip_k0_t1
  sl_kernel_rfl

end Cert.KernelIdeal.Attn

end
-- ==== Proof.Block.lean ====
/- What one grid point leaves in the output block, at an index: the tile that holds the index, computed from the
   point's five input blocks. -/
module

public import proofs.«01_k».proof.Proof.Tile
public import Idealize.ShloMosaic.Lib.Pointwise
public import Idealize.ShloMosaic.Lib.Pipeline.ValueKit.Tiles

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F]

/-- Tile `n` of the queries' block. -/
def qTile (x : Vec F S1x32x128x128 .bf16) (n : Fin 32) : Vec F S1x1x128x128 .bf16 :=
  fun j => x (ix4 0 n (j 2) (j 3))

/-- Rows `128 i …` of the context keys' block. -/
def kcTile (x : Vec F S1x256x128 .bf16) (i : Fin 2) : Vec F S1x128x128 .bf16 :=
  fun j => x (ix3 0 ⟨128 * i.val + (j 1).val, by have := i.isLt; have : (j 1).val < 128 := (j 1).isLt; omega⟩ (j 2))

/-- Rows `512 g + 128 i …` of the latent keys' block. -/
def klTile (x : Vec F S1x4096x128 .bf16) (g : ℕ) (i : Fin 4) : Vec F S1x128x128 .bf16 :=
  fun j => x (ix3 0 ⟨512 * (g % 8) + 128 * i.val + (j 1).val, by have := i.isLt; have : (j 1).val < 128 := (j 1).isLt; omega⟩ (j 2))

/-- Columns `512 g …` of the latent values' block. -/
def vlTile (x : Vec F S1x64x4096 .bf16) (g : ℕ) : Vec F S1x64x512 .bf16 :=
  fun j => x (ix3 0 (j 1) ⟨512 * (g % 8) + (j 2).val, by have : (j 2).val < 512 := (j 2).isLt; omega⟩)

/-- The output block as one function of the five input blocks. -/
def outFn (x0 : Vec F S1x32x128x128 .bf16) (x1 : Vec F S1x256x128 .bf16) (x2 : Vec F S1x64x256 .bf16)
    (x3 : Vec F S1x4096x128 .bf16) (x4 : Vec F S1x64x4096 .bf16) : Vec F S1x4096x128 .bf16 :=
  fun y => tileOut (qTile x0 ⟨(y 1).val / 128, by have : (y 1).val < 4096 := (y 1).isLt; omega⟩) (kcTile x1) x2 (klTile x3) (vlTile x4)
    (ix3 0 ⟨(y 1).val % 128, Nat.mod_lt _ (by decide)⟩ (y 2))

theorem rdQ_eq (arg2 : Memref sig .tc .vmem S1x32x128x128 .bf16) (h : arg2.IsWhole) (x : Vec F S1x32x128x128 .bf16)
    (k : Fin k0_t1_loop.trips) (r : Fin 4) :
    rdQ arg2 (h.unread x) k r = qTile x ⟨4 * k.val + r.val, by have : k.val < 8 := k.isLt; omega⟩ := by
  unfold rdQ
  rw [View.readAt_eq_ld, h.read_unread]
  funext j
  refine View.ld_unit_apply_of _ _ _ _ _ _ fun a => ?_
  refine Eq.trans ?_ (congrArg (· + (j a).val) (congrFun (k0_off1_eq k r) a).symm)
  match a with
  | ⟨0, _⟩ => have : (j 0).val < 1 := (j 0).isLt; show 0 = 0 + (j 0).val; omega
  | ⟨1, _⟩ => have : (j 1).val < 1 := (j 1).isLt; show 4 * k.val + r.val = 4 * k.val + r.val + (j 1).val; omega
  | ⟨2, _⟩ => show (j 2).val = 0 + (j 2).val; omega
  | ⟨3, _⟩ => show (j 3).val = 0 + (j 3).val; omega

theorem rdKc_eq (arg3 : Memref sig .tc .vmem S1x256x128 .bf16) (h : arg3.IsWhole) (x : Vec F S1x256x128 .bf16) :
    rdKc arg3 (h.unread x) = kcTile x := by
  funext i
  unfold rdKc
  rw [View.readAt_eq_ld, h.read_unread]
  funext j
  refine View.ld_unit_apply_of _ _ _ _ _ _ fun a => ?_
  match a with
  | ⟨0, _⟩ => have : (j 0).val < 1 := (j 0).isLt; show 0 = 0 + (j 0).val; omega
  | ⟨1, _⟩ => rfl
  | ⟨2, _⟩ => show (j 2).val = 0 + (j 2).val; omega

theorem rdKl_eq (arg5 : Memref sig .tc .vmem S1x4096x128 .bf16) (h : arg5.IsWhole) (x : Vec F S1x4096x128 .bf16) :
    rdKl arg5 (h.unread x) = klTile x := by
  funext g i
  unfold rdKl
  rw [View.readAt_eq_ld, h.read_unread]
  funext j
  refine View.ld_unit_apply_of _ _ _ _ _ _ fun a => ?_
  match a with
  | ⟨0, _⟩ => have : (j 0).val < 1 := (j 0).isLt; show 0 = 0 + (j 0).val; omega
  | ⟨1, _⟩ => rfl
  | ⟨2, _⟩ => show (j 2).val = 0 + (j 2).val; omega

/-- A load of 512 columns of the latent values. -/
theorem rdVl_eq (arg6 : Memref sig .tc .vmem S1x64x4096 .bf16) (h : arg6.IsWhole) (x : Vec F S1x64x4096 .bf16) (g : ℕ) (hg : g < 8)
    (inb : ∀ a, (![0, 0, 512 * g] : Fin 3 → ℕ) a + S1x64x512.size a ≤ S1x64x4096.size a) :
    View.readAt (Elt F) arg6.view (Rect.unit (s := S1x64x4096) ![0, 0, 512 * g] S1x64x512.size inb).toLoadRect (h.unread x) = vlTile x g := by
  rw [View.readAt_eq_ld, h.read_unread]
  funext j
  refine View.ld_unit_apply_of _ _ _ _ _ _ fun a => ?_
  match a with
  | ⟨0, _⟩ => have : (j 0).val < 1 := (j 0).isLt; show 0 = 0 + (j 0).val; omega
  | ⟨1, _⟩ => show (j 1).val = 0 + (j 1).val; omega
  | ⟨2, _⟩ => show 512 * (g % 8) + (j 2).val = 512 * g + (j 2).val; omega

/-- The load of all the context values. -/
theorem rdVc_eq (arg4 : Memref sig .tc .vmem S1x64x256 .bf16) (h : arg4.IsWhole) (x : Vec F S1x64x256 .bf16)
    (inb : ∀ a, (![0, 0, 0] : Fin 3 → ℕ) a + S1x64x256.size a ≤ S1x64x256.size a) :
    View.readAt (Elt F) arg4.view (Rect.unit (s := S1x64x256) ![0, 0, 0] S1x64x256.size inb).toLoadRect (h.unread x) = x := by
  rw [View.readAt_eq_ld, h.read_unread]
  exact View.ld_unit_zero (by funext a; fin_cases a <;> rfl) inb x

/-- Only the first eight groups of values count. -/
theorem stAt_congr (w : FVec F S128x256 .bf16) (kc : Fin 2 → Vec F S1x128x128 .bf16) (vc : Vec F S1x64x256 .bf16)
    (kl : ℕ → Fin 4 → Vec F S1x128x128 .bf16) (vl vl' : ℕ → Vec F S1x64x512 .bf16) :
    ∀ n : ℕ, (∀ g, g < n → vl g = vl' g) → stAt w kc vc kl vl n = stAt w kc vc kl vl' n
  | 0, _ => rfl
  | n + 1, h => by
    show latSt w (kl n) (vl n) _ = latSt w (kl n) (vl' n) _
    rw [h n (Nat.lt_succ_self n), stAt_congr w kc vc kl vl vl' n fun g hg => h g (Nat.lt_succ_of_lt hg)]

/-- Every piece of the first `n` trips is a tile of some trip. -/
theorem mem_pb (𝒱 : Variants) (c : Dev nD) (bd : Option 𝒱.V) (i : grid0.Coords) (arg2 : Memref sig .tc .vmem S1x32x128x128 .bf16) (harg2 : arg2.IsWhole) (arg3 : Memref sig .tc .vmem S1x256x128 .bf16) (harg3 : arg3.IsWhole) (arg4 : Memref sig .tc .vmem S1x64x256 .bf16) (harg4 : arg4.IsWhole) (arg5 : Memref sig .tc .vmem S1x4096x128 .bf16) (harg5 : arg5.IsWhole) (arg6 : Memref sig .tc .vmem S1x64x4096 .bf16) (harg6 : arg6.IsWhole) (arg7 : Memref sig .tc .vmem S1x4096x128 .bf16) (harg7 : arg7.IsWhole)
    (v3 : Vec F S1x64x256 .bf16) (v5 v7 v9 v11 v13 v15 v17 v19 : Vec F S1x64x512 .bf16)
    (X2 : BufTy.Contents (Elt F) arg2.view.ty) (X3 : BufTy.Contents (Elt F) arg3.view.ty) (X5 : BufTy.Contents (Elt F) arg5.view.ty)
    (n : ℕ) (hn : n ≤ 8) (p : View.Piece (Elt F) S1x4096x128 .bf16)
    (hp : p ∈ pb_k0_t1 (F := F) 𝒱 c bd i arg2 harg2 arg3 harg3 arg4 harg4 arg5 harg5 arg6 harg6 arg7 harg7 v3 v5 v7 v9 v11 v13 v15 v17 v19 X2 X3 X5 n) :
    ∃ (k : Fin k0_t1_loop.trips) (r : Fin 4),
      p = tilePiece k r (tileOut (rdQ arg2 X2 k r) (rdKc arg3 X3) v3 (rdKl arg5 X5) (pick8 v5 v7 v9 v11 v13 v15 v17 v19)) := by
  induction n with
  | zero => exact absurd hp List.not_mem_nil
  | succ n ih =>
    have hs := pb_k0_t1_succ (F := F) 𝒱 c bd i arg2 harg2 arg3 harg3 arg4 harg4 arg5 harg5 arg6 harg6 arg7 harg7 v3 v5 v7 v9 v11 v13 v15 v17 v19 X2 X3 X5 (⟨n, hn⟩ : Fin k0_t1_loop.trips)
    rw [show n + 1 = (⟨n, hn⟩ : Fin k0_t1_loop.trips).val + 1 from rfl, hs, trip_tiles] at hp
    rcases List.mem_append.mp hp with hp | hp
    · simp only [List.mem_cons, List.not_mem_nil, or_false] at hp
      rcases hp with hp | hp | hp | hp
      · exact ⟨_, _, hp⟩
      · exact ⟨_, _, hp⟩
      · exact ⟨_, _, hp⟩
      · exact ⟨_, _, hp⟩
    · exact ih (by omega) hp

/-- A tile's piece holds the output function's values at the places it stores to. -/
theorem piece_outFn (x0 : Vec F S1x32x128x128 .bf16) (x1 : Vec F S1x256x128 .bf16) (x2 : Vec F S1x64x256 .bf16)
    (x3 : Vec F S1x4096x128 .bf16) (x4 : Vec F S1x64x4096 .bf16) (k : Fin k0_t1_loop.trips) (r : Fin 4)
    (x : S1x128x128.Idx) :
    tileOut (qTile x0 ⟨4 * k.val + r.val, by have : k.val < 8 := k.isLt; omega⟩) (kcTile x1) x2 (klTile x3) (vlTile x4) x
      = outFn x0 x1 x2 x3 x4 ((Rect.unit (s := S1x4096x128) (k0_off2 k (BitVec.ofNat 32 r.val)) S1x128x128.size (k0_off2_inb k r)).emb x) := by
  have h1 : ((Rect.unit (s := S1x4096x128) (k0_off2 k (BitVec.ofNat 32 r.val)) S1x128x128.size (k0_off2_inb k r)).emb x 1).val
      = 512 * k.val + 128 * r.val + (x 1).val := by
    rw [Rect.emb_apply]
    show k0_off2 k (BitVec.ofNat 32 r.val) 1 + 1 * (x 1).val = _
    rw [k0_off2_eq]; show 512 * k.val + 128 * r.val + 1 * (x 1).val = _; omega
  have h2 : ((Rect.unit (s := S1x4096x128) (k0_off2 k (BitVec.ofNat 32 r.val)) S1x128x128.size (k0_off2_inb k r)).emb x 2).val
      = (x 2).val := by
    rw [Rect.emb_apply]
    show k0_off2 k (BitVec.ofNat 32 r.val) 2 + 1 * (x 2).val = _
    rw [k0_off2_eq]; show 0 + 1 * (x 2).val = _; omega
  have hx : (x 1).val < 128 := (x 1).isLt
  have hx0 : (x 0).val < 1 := (x 0).isLt
  unfold outFn
  have e1 : (⟨4 * k.val + r.val, by have : k.val < 8 := k.isLt; omega⟩ : Fin 32)
      = ⟨((Rect.unit (s := S1x4096x128) (k0_off2 k (BitVec.ofNat 32 r.val)) S1x128x128.size (k0_off2_inb k r)).emb x 1).val / 128,
        by rw [h1]; have : k.val < 8 := k.isLt; omega⟩ := Fin.ext (by show 4 * k.val + r.val = _ / 128; rw [h1]; omega)
  rw [e1]
  congr 1
  funext a
  match a with
  | ⟨0, _⟩ => exact Fin.ext (by show (x 0).val = 0; omega)
  | ⟨1, _⟩ => exact Fin.ext (by show (x 1).val = _ % 128; rw [h1]; omega)
  | ⟨2, _⟩ => exact Fin.ext h2.symm

/-- THE OUTPUT BLOCK of one grid point is `outFn` of its input blocks. -/
theorem out_block (c : Dev nD) (i : grid0.Coords) (arg2 : Memref sig .tc .vmem S1x32x128x128 .bf16) (harg2 : arg2.IsWhole) (arg3 : Memref sig .tc .vmem S1x256x128 .bf16) (harg3 : arg3.IsWhole) (arg4 : Memref sig .tc .vmem S1x64x256 .bf16) (harg4 : arg4.IsWhole) (arg5 : Memref sig .tc .vmem S1x4096x128 .bf16) (harg5 : arg5.IsWhole) (arg6 : Memref sig .tc .vmem S1x64x4096 .bf16) (harg6 : arg6.IsWhole) (arg7 : Memref sig .tc .vmem S1x4096x128 .bf16) (harg7 : arg7.IsWhole)
    (x0 : Vec F S1x32x128x128 .bf16) (x1 : Vec F S1x256x128 .bf16) (x2 : Vec F S1x64x256 .bf16) (x3 : Vec F S1x4096x128 .bf16) (x4 : Vec F S1x64x4096 .bf16) :
    out0_A_5 c i arg2 harg2 arg3 harg3 arg4 harg4 arg5 harg5 arg6 harg6 arg7 harg7 x0 x1 x2 x3 x4 = outFn x0 x1 x2 x3 x4 := by
  funext y
  unfold out0_A_5
  refine View.read_writes_apply_of_pieces _ _ (outFn x0 x1 x2 x3 x4) _ (fun p hp x => ?_) y (cover0_A_5 c i arg2 harg2 arg3 harg3 arg4 harg4 arg5 harg5 arg6 harg6 arg7 harg7 x0 x1 x2 x3 x4 y)
  obtain ⟨k, r, rfl⟩ := mem_pb Variants.none c none i arg2 harg2 arg3 harg3 arg4 harg4 arg5 harg5 arg6 harg6 arg7 harg7 _ _ _ _ _ _ _ _ _ _ _ _ 8 (le_refl 8) p hp
  refine Eq.trans ?_ (piece_outFn x0 x1 x2 x3 x4 k r x)
  show tileOut _ _ _ _ _ x = _
  rw [rdQ_eq, rdKc_eq, rdKl_eq, rdVc_eq]
  unfold tileOut
  rw [stAt_congr _ _ _ _ _ (vlTile x4) 8 ?_]
  intro g hg
  match g, hg with
  | 0, _ => exact rdVl_eq arg6 harg6 x4 0 (by decide) _
  | 1, _ => exact rdVl_eq arg6 harg6 x4 1 (by decide) _
  | 2, _ => exact rdVl_eq arg6 harg6 x4 2 (by decide) _
  | 3, _ => exact rdVl_eq arg6 harg6 x4 3 (by decide) _
  | 4, _ => exact rdVl_eq arg6 harg6 x4 4 (by decide) _
  | 5, _ => exact rdVl_eq arg6 harg6 x4 5 (by decide) _
  | 6, _ => exact rdVl_eq arg6 harg6 x4 6 (by decide) _
  | 7, _ => exact rdVl_eq arg6 harg6 x4 7 (by decide) _

end Cert.KernelIdeal.Attn

end
-- ==== Proof.Online.lean ====
/- The attention's tile over the reals: the running maximum cancels.

   With real scores `σ` the running sums after any number of groups are the plain sums `Σ v · 2^σ` times one common
   factor `2^(-m)`, `m` the running maximum; in the quotient by row 64 (the sum of the weights) the factor cancels. -/
module

public import proofs.«01_k».proof.Proof.Block

@[expose] public section

set_option maxRecDepth 16384

noncomputable section

namespace Cert.KernelIdeal.Attn

open Cert.KernelIdeal Cert.KernelIdeal.Gen Idealize.ShloMosaic Idealize.ShloMosaic.TcCoe

/-! ## Extended reals that are reals -/

/-- A finite sum of reals, taken in the extended reals. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two reals, taken in the extended reals. -/
theorem coe_max_real (a b : ℝ) : ((max a b : ℝ) : EReal) = max (a : EReal) (b : EReal) :=
  EReal.coe_strictMono.monotone.map_max

/-- The maximum of an extended real below `⊤` and of finitely many, at least one, reals is a real. -/
theorem max_fold_real {n : ℕ} (a b : EReal) (ha : a ≠ ⊤) (hb : b ≠ ⊤) (f : Fin (n + 1) → EReal) (hf : ∀ x, ∃ y : ℝ, f x = y) :
    ∃ μ : ℝ, max a (Finset.univ.fold max b f) = μ := by
  have h1 : max a (Finset.univ.fold max b f) ≠ ⊤ := by
    apply ne_of_lt
    apply max_lt (lt_top_iff_ne_top.mpr ha)
    rw [Finset.fold_max_lt]
    refine ⟨lt_top_iff_ne_top.mpr hb, fun x _ => ?_⟩
    obtain ⟨y, hy⟩ := hf x
    rw [hy]; exact EReal.coe_lt_top y
  have h2 : max a (Finset.univ.fold max b f) ≠ ⊥ := by
    apply ne_of_gt
    apply lt_max_of_lt_right
    obtain ⟨y, hy⟩ := hf 0
    exact lt_of_lt_of_le (by rw [hy]; exact EReal.bot_lt_coe y) ((Finset.le_fold_max _).mpr (Or.inr ⟨0, Finset.mem_univ _, le_refl _⟩))
  exact ⟨_, (EReal.coe_toReal h1 h2).symm⟩

/-- Two to the power of a difference of reals. -/
theorem exp2_sub_coe (a b : ℝ) : Ideal.exp2 ((a : EReal) - (b : EReal)) = ((2 : ℝ) ^ a * (2 : ℝ) ^ (-b) : ℝ) := by
  rw [← EReal.coe_sub, Ideal.exp2_coe]
  show (((2 : ℝ) ^ (a - b) : ℝ) : EReal) = _
  rw [sub_eq_add_neg, Real.rpow_add (by norm_num)]

/-- A group's contribution, with its common factor outside. -/
theorem group_sum {n : ℕ} (v σ : Fin n → ℝ) (μ : ℝ) :
    ∑ x, ((v x : EReal) * Ideal.exp2 ((σ x : EReal) - (μ : EReal))) = (((∑ x, v x * (2 : ℝ) ^ σ x) * (2 : ℝ) ^ (-μ) : ℝ) : EReal) := by
  rw [Finset.sum_mul, coe_sum_real]
  refine Finset.sum_congr rfl fun x _ => ?_
  rw [exp2_sub_coe, ← EReal.coe_mul, mul_assoc]

/-- Rescaling the running sum to a new maximum. -/
theorem rescale (A μ μ' : ℝ) :
    ((A * (2 : ℝ) ^ (-μ) : ℝ) : EReal) * Ideal.exp2 ((μ : EReal) - (μ' : EReal)) = ((A * (2 : ℝ) ^ (-μ') : ℝ) : EReal) := by
  rw [exp2_sub_coe, ← EReal.coe_mul]
  congr 1
  rw [show A * (2 : ℝ) ^ (-μ) * ((2 : ℝ) ^ μ * (2 : ℝ) ^ (-μ')) = A * ((2 : ℝ) ^ (-μ) * (2 : ℝ) ^ μ) * (2 : ℝ) ^ (-μ') by ring,
    ← Real.rpow_add (by norm_num), neg_add_cancel, Real.rpow_zero, mul_one]

/-! ## The stages at an index -/

/-- The score of a block's key `r` for column `j`. -/
theorem score_at (w : FVec Ideal S128x256 .bf16) (k : Vec Ideal S1x128x128 .bf16) (r : Fin 128) (j : Fin 256) :
    score w k (ix2 r j) = ∑ d : Fin 128, (k (ix3 0 r d) * w (ix2 d j) : EReal) := by
  pointwise [score, k0_pay24]

/-- A weight at an index. -/
theorem weight_at (m : FVec Ideal S1x256 .f32) (s : FVec Ideal S128x256 .f32) (r : Fin 128) (j : Fin 256) :
    weight m s (ix2 r j) = Ideal.exp2 (s (ix2 r j) - m (ix2 0 j) : EReal) := by
  pointwise [weight]
  rfl

/-- The masked queries at an index: head A's in the left half where the feature is below 64, head B's in the right half
    where it is not, zero elsewhere. -/
theorem masked_at (q : Vec Ideal S1x1x128x128 .bf16) (d : Fin 128) (j : Fin 256) :
    masked q (ix2 d j) = if (d.val < 64 ↔ j.val < 128) then (q (ix4 0 0 d ⟨j.val % 128, Nat.mod_lt _ (by decide)⟩) : EReal) else 0 := by
  have hc : ∀ a b : EReal, Scalar.select (IntOp.cmpi .slt (BitVec.ofNat 32 d.val) 64#32) a b = if d.val < 64 then a else b := by
    intro a b
    have : IntOp.cmpi .slt (BitVec.ofNat 32 d.val) 64#32 = if d.val < 64 then 1#1 else 0#1 := by revert d; decide +kernel
    rw [this]
    by_cases h : d.val < 64
    · rw [if_pos h, if_pos h]; rfl
    · rw [if_neg h, if_neg h]; rfl
  pointwise [masked, k0_pay12, k0_pay1]
  have hj := j.isLt
  by_cases h1 : j.val < 128
  · rw [dif_pos h1]
    refine (hc _ _).trans ?_
    by_cases h2 : d.val < 64
    · rw [if_pos h2, if_pos (by tauto)]
      congr 2; exact Fin.ext (Nat.mod_eq_of_lt h1).symm
    · rw [if_neg h2, if_neg (by tauto)]
  · rw [dif_neg h1]
    refine (hc _ _).trans ?_
    by_cases h2 : d.val < 64
    · rw [if_pos h2, if_neg (by tauto)]
    · rw [if_neg h2]
      refine Eq.trans ?_ (if_pos (by tauto)).symm
      congr 2; exact Fin.ext (by show j.val - 128 = j.val % 128; omega)

/-- The context keys' score `r` for column `j`. -/
def scC (w : FVec Ideal S128x256 .bf16) (x : Vec Ideal S1x256x128 .bf16) (j : Fin 256) (r : Fin 256) : EReal :=
  ∑ d : Fin 128, (x (ix3 0 r d) * w (ix2 d j) : EReal)

/-- The latent keys' score `r` for column `j`. -/
def scL (w : FVec Ideal S128x256 .bf16) (x : Vec Ideal S1x4096x128 .bf16) (j : Fin 256) (r : Fin 4096) : EReal :=
  ∑ d : Fin 128, (x (ix3 0 r d) * w (ix2 d j) : EReal)

/-- The context values with ones below. -/
def vaC (x : Vec Ideal S1x64x256 .bf16) (e : Fin 80) (r : Fin 256) : EReal :=
  if h : e.val < 64 then x (ix3 0 ⟨e.val, h⟩ r) else 1

/-- The latent values with ones below. -/
def vaL (x : Vec Ideal S1x64x4096 .bf16) (e : Fin 80) (r : Fin 4096) : EReal :=
  if h : e.val < 64 then x (ix3 0 ⟨e.val, h⟩ r) else 1

/-- Row `x` of group `g` of the latent keys. -/
def row (g : ℕ) (x : Fin 512) : Fin 4096 := ⟨512 * (g % 8) + x.val, by omega⟩

theorem score_kcTile (w : FVec Ideal S128x256 .bf16) (x : Vec Ideal S1x256x128 .bf16) (i : Fin 2) (r : Fin 128) (j : Fin 256)
    (y : Fin 256) (hy : y.val = 128 * i.val + r.val) : score w (kcTile x i) (ix2 r j) = scC w x j y := by
  rw [score_at]
  refine Finset.sum_congr rfl fun d _ => ?_
  rw [show y = ⟨128 * i.val + r.val, by omega⟩ from Fin.ext hy]
  rfl

theorem score_klTile (w : FVec Ideal S128x256 .bf16) (x : Vec Ideal S1x4096x128 .bf16) (g : ℕ) (i : Fin 4) (r : Fin 128) (j : Fin 256)
    (y : Fin 4096) (hy : y.val = 512 * (g % 8) + 128 * i.val + r.val) : score w (klTile x g i) (ix2 r j) = scL w x j y := by
  rw [score_at]
  refine Finset.sum_congr rfl fun d _ => ?_
  rw [show y = ⟨512 * (g % 8) + 128 * i.val + r.val, by omega⟩ from Fin.ext hy]
  rfl

theorem vaug_ctx (x : Vec Ideal S1x64x256 .bf16) (e : Fin 80) (r : Fin 256) :
    k0_pay78 (k0_pay2 x) (ix2 e r) = vaC x e r := by
  pointwise [k0_pay78, k0_pay2, vaC]

theorem vaug_lat (x : Vec Ideal S1x64x4096 .bf16) (g : ℕ) (e : Fin 80) (r : Fin 512) :
    k0_pay120 (k0_pay3 (vlTile x g)) (ix2 e r) = vaL x e (row g r) := by
  pointwise [k0_pay120, k0_pay3, vaL, vlTile, row]

/-- The sums after the context. -/
theorem ctx_acc (w : FVec Ideal S128x256 .bf16) (x1 : Vec Ideal S1x256x128 .bf16) (x2 : Vec Ideal S1x64x256 .bf16) (e : Fin 80) (j : Fin 256) :
    (ctxSt w (kcTile x1) x2).acc (ix2 e j)
      = 0 * Ideal.exp2 (k0_pay16 (F := Ideal) (ix2 0 j) - (ctxSt w (kcTile x1) x2).m (ix2 0 j) : EReal)
        + ∑ y : Fin 256, vaC x2 e y * Ideal.exp2 (scC w x1 j y - (ctxSt w (kcTile x1) x2).m (ix2 0 j) : EReal) := by
  unfold ctxSt
  dsimp only
  generalize hM : k0_pay49 k0_pay16 (score w (kcTile x1 0)) (score w (kcTile x1 1)) = M
  pointwise [k0_pay79, k0_pay20]
  refine congrArg₂ (fun a b : EReal => a + b) rfl ?_
  have hs : ∀ f : Fin 256 → EReal, ∑ y, f y = ∑ x : Fin 128, f ⟨x.val, by omega⟩ + ∑ x : Fin 128, f ⟨128 + x.val, by omega⟩ := fun f =>
    Fin.sum_univ_add (a := 128) (b := 128) f
  rw [hs]
  refine congrArg₂ (fun a b : EReal => a + b) (Finset.sum_congr rfl fun x _ => ?_) (Finset.sum_congr rfl fun x _ => ?_)
  · refine congrArg₂ (fun a b : EReal => a * b) (vaug_ctx x2 e _) ((weight_at _ _ _ _).trans ?_)
    rw [score_kcTile w x1 0 _ j ⟨x.val, by omega⟩ (by show x.val = 128 * 0 + x.val; omega)]
  · refine congrArg₂ (fun a b : EReal => a * b) (vaug_ctx x2 e _) ((weight_at _ _ _ _).trans ?_)
    rw [score_kcTile w x1 1 _ j ⟨128 + x.val, by omega⟩ (by show 128 + x.val = 128 * 1 + x.val; omega)]

/-- The sums after one more group of latent keys. -/
theorem lat_acc (w : FVec Ideal S128x256 .bf16) (x3 : Vec Ideal S1x4096x128 .bf16) (x4 : Vec Ideal S1x64x4096 .bf16) (g : ℕ) (s : St Ideal)
    (e : Fin 80) (j : Fin 256) :
    (latSt w (klTile x3 g) (vlTile x4 g) s).acc (ix2 e j)
      = s.acc (ix2 e j) * Ideal.exp2 (s.m (ix2 0 j) - (latSt w (klTile x3 g) (vlTile x4 g) s).m (ix2 0 j) : EReal)
        + ∑ y : Fin 512, vaL x4 e (row g y) * Ideal.exp2 (scL w x3 j (row g y) - (latSt w (klTile x3 g) (vlTile x4 g) s).m (ix2 0 j) : EReal) := by
  unfold latSt
  dsimp only
  generalize latM w (klTile x3 g) s.m = M
  pointwise [k0_pay121]
  refine congrArg₂ (fun a b : EReal => a + b) rfl (Finset.sum_congr rfl fun y _ => ?_)
  refine congrArg₂ (fun a b : EReal => a * b) (vaug_lat x4 g e y) ?_
  have hy := y.isLt
  by_cases h0 : y.val < 128
  · rw [dif_pos h0]
    refine (weight_at _ _ _ _).trans ?_
    rw [score_klTile w x3 g 0 _ j (row g y) (by show 512 * (g % 8) + y.val = 512 * (g % 8) + 128 * 0 + y.val; omega)]
  rw [dif_neg h0]
  by_cases h1 : y.val - 128 < 128
  · rw [dif_pos h1]
    refine (weight_at _ _ _ _).trans ?_
    rw [score_klTile w x3 g 1 _ j (row g y) (by show 512 * (g % 8) + y.val = 512 * (g % 8) + 128 * 1 + (y.val - 128); omega)]
  rw [dif_neg h1]
  by_cases h2 : y.val - 128 - 128 < 128
  · rw [dif_pos h2]
    refine (weight_at _ _ _ _).trans ?_
    rw [score_klTile w x3 g 2 _ j (row g y) (by show 512 * (g % 8) + y.val = 512 * (g % 8) + 128 * 2 + (y.val - 128 - 128); omega)]
  rw [dif_neg h2]
  refine (weight_at _ _ _ _).trans ?_
  rw [score_klTile w x3 g 3 _ j (row g y) (by show 512 * (g % 8) + y.val = 512 * (g % 8) + 128 * 3 + (y.val - 128 - 128 - 128); omega)]

/-- The word of minus infinity. -/
theorem neg_inf_word : Ideal.ofBits .f32 0xFF800000#32 = ⊥ := by
  simp [Ideal.ofBits, Ideal.ieee]

/-- The maximum after the context is a real. -/
theorem ctx_m (w : FVec Ideal S128x256 .bf16) (x1 : Vec Ideal S1x256x128 .bf16) (x2 : Vec Ideal S1x64x256 .bf16) (j : Fin 256)
    (hσ : ∀ y, ∃ a : ℝ, scC w x1 j y = a) : ∃ μ : ℝ, (ctxSt w (kcTile x1) x2).m (ix2 0 j) = (μ : EReal) := by
  have h : (ctxSt w (kcTile x1) x2).m (ix2 0 j) = max (⊥ : EReal) (Finset.univ.fold max ⊥ fun r : Fin (127 + 1) =>
      max (scC w x1 j ⟨r.val, by omega⟩) (scC w x1 j ⟨128 + r.val, by omega⟩)) := by
    unfold ctxSt
    pointwise [k0_pay49, k0_pay16]
    rw [neg_inf_word]
    congr 2
    funext r
    rw [score_kcTile w x1 0 _ j ⟨r.val, by omega⟩ (by show r.val = 128 * 0 + r.val; omega),
      score_kcTile w x1 1 _ j ⟨128 + r.val, by omega⟩ (by show 128 + r.val = 128 * 1 + r.val; omega)]
  rw [h]
  refine max_fold_real _ _ bot_ne_top bot_ne_top _ fun r => ?_
  obtain ⟨a, ha⟩ := hσ ⟨r.val, by omega⟩
  obtain ⟨b, hb⟩ := hσ ⟨128 + r.val, by omega⟩
  exact ⟨max a b, by rw [ha, hb, coe_max_real]⟩

/-- The maximum after one more group of latent keys is a real. -/
theorem lat_m (w : FVec Ideal S128x256 .bf16) (x3 : Vec Ideal S1x4096x128 .bf16) (vl : Vec Ideal S1x64x512 .bf16) (g : ℕ) (s : St Ideal) (j : Fin 256)
    (hσ : ∀ y, ∃ a : ℝ, scL w x3 j y = a) (μ : ℝ) (hs : s.m (ix2 0 j) = (μ : EReal)) :
    ∃ μ' : ℝ, (latSt w (klTile x3 g) vl s).m (ix2 0 j) = (μ' : EReal) := by
  have h : (latSt w (klTile x3 g) vl s).m (ix2 0 j) = max (s.m (ix2 0 j) : EReal) (Finset.univ.fold max ⊥ fun r : Fin (127 + 1) =>
      max (max (max (scL w x3 j (row g ⟨r.val, by omega⟩)) (scL w x3 j (row g ⟨128 + r.val, by omega⟩))) (scL w x3 j (row g ⟨256 + r.val, by omega⟩)))
        (scL w x3 j (row g ⟨384 + r.val, by omega⟩))) := by
    unfold latSt latM
    pointwise [k0_pay83]
    rw [neg_inf_word]
    congr 2
    funext r
    rw [score_klTile w x3 g 0 _ j (row g ⟨r.val, by omega⟩) (by show 512 * (g % 8) + r.val = 512 * (g % 8) + 128 * 0 + r.val; omega),
      score_klTile w x3 g 1 _ j (row g ⟨128 + r.val, by omega⟩) (by show 512 * (g % 8) + (128 + r.val) = 512 * (g % 8) + 128 * 1 + r.val; omega),
      score_klTile w x3 g 2 _ j (row g ⟨256 + r.val, by omega⟩) (by show 512 * (g % 8) + (256 + r.val) = 512 * (g % 8) + 128 * 2 + r.val; omega),
      score_klTile w x3 g 3 _ j (row g ⟨384 + r.val, by omega⟩) (by show 512 * (g % 8) + (384 + r.val) = 512 * (g % 8) + 128 * 3 + r.val; omega)]
  rw [h, hs]
  refine max_fold_real _ _ (EReal.coe_ne_top μ) bot_ne_top _ fun r => ?_
  obtain ⟨a, ha⟩ := hσ (row g ⟨r.val, by omega⟩)
  obtain ⟨b, hb⟩ := hσ (row g ⟨128 + r.val, by omega⟩)
  obtain ⟨c, hc⟩ := hσ (row g ⟨256 + r.val, by omega⟩)
  obtain ⟨d, hd⟩ := hσ (row g ⟨384 + r.val, by omega⟩)
  exact ⟨max (max (max a b) c) d, by rw [ha, hb, hc, hd, coe_max_real, coe_max_real, coe_max_real]⟩

/-- What a tile stores at an index, from its last sums: head `l / 64`'s feature `l % 64` over the total weight. -/
theorem finish_at (acc : FVec Ideal S80x256 .f32) (x l : Fin 128) :
    k0_pay387 acc (ix3 0 x l)
      = Ideal.div (acc (ix2 ⟨l.val % 64, by omega⟩ ⟨128 * (l.val / 64) + x.val, by omega⟩)) (acc (ix2 64 ⟨128 * (l.val / 64) + x.val, by omega⟩)) := by
  pointwise [k0_pay387]
  have hl := l.isLt
  by_cases h : l.val < 64
  · rw [dif_pos h]
    have e1 : l.val % 64 = l.val := by omega
    have e2 : 128 * (l.val / 64) + x.val = x.val := by omega
    simp only [e1, e2]
  · rw [dif_neg h]
    have e1 : l.val % 64 = l.val - 64 := by omega
    have e2 : 128 * (l.val / 64) + x.val = 128 + x.val := by omega
    simp only [e1, e2]

/-! ## The recurrence -/

/-- The plain weighted sum after the context and the first `n` groups. -/
def plain (σc : Fin 256 → ℝ) (vc : Fin 256 → ℝ) (σl : Fin 4096 → ℝ) (vl : Fin 4096 → ℝ) : ℕ → ℝ
  | 0 => ∑ y, vc y * (2 : ℝ) ^ σc y
  | n + 1 => plain σc vc σl vl n + ∑ y, vl (row n y) * (2 : ℝ) ^ σl (row n y)

/-- THE INVARIANT: after any number of groups the running sums are the plain ones times one common factor. -/
theorem stAt_plain (w : FVec Ideal S128x256 .bf16) (x1 : Vec Ideal S1x256x128 .bf16) (x2 : Vec Ideal S1x64x256 .bf16)
    (x3 : Vec Ideal S1x4096x128 .bf16) (x4 : Vec Ideal S1x64x4096 .bf16) (j : Fin 256)
    (σc : Fin 256 → ℝ) (σl : Fin 4096 → ℝ) (vc : Fin 80 → Fin 256 → ℝ) (vl : Fin 80 → Fin 4096 → ℝ)
    (hσc : ∀ y, scC w x1 j y = σc y) (hσl : ∀ y, scL w x3 j y = σl y)
    (hvc : ∀ e y, vaC x2 e y = vc e y) (hvl : ∀ e y, vaL x4 e y = vl e y) (n : ℕ) :
    ∃ μ : ℝ, (stAt w (kcTile x1) x2 (klTile x3) (vlTile x4) n).m (ix2 0 j) = (μ : EReal)
      ∧ ∀ e, (stAt w (kcTile x1) x2 (klTile x3) (vlTile x4) n).acc (ix2 e j) = ((plain σc (vc e) σl (vl e) n * (2 : ℝ) ^ (-μ) : ℝ) : EReal) := by
  induction n with
  | zero =>
    obtain ⟨μ, hμ⟩ := ctx_m w x1 x2 j fun y => ⟨_, hσc y⟩
    refine ⟨μ, hμ, fun e => ?_⟩
    show (ctxSt w (kcTile x1) x2).acc (ix2 e j) = _
    rw [ctx_acc, hμ, zero_mul, zero_add, show plain σc (vc e) σl (vl e) 0 = ∑ y, vc e y * (2 : ℝ) ^ σc y from rfl, ← group_sum]
    exact Finset.sum_congr rfl fun y _ => by rw [hvc, hσc]
  | succ n ih =>
    obtain ⟨μ, hμ, hacc⟩ := ih
    obtain ⟨μ', hμ'⟩ := lat_m w x3 (vlTile x4 n) n (stAt w (kcTile x1) x2 (klTile x3) (vlTile x4) n) j (fun y => ⟨_, hσl y⟩) μ hμ
    refine ⟨μ', hμ', fun e => ?_⟩
    show (latSt w (klTile x3 n) (vlTile x4 n) (stAt w (kcTile x1) x2 (klTile x3) (vlTile x4) n)).acc (ix2 e j) = _
    rw [lat_acc, hμ', hμ, hacc, rescale]
    rw [show plain σc (vc e) σl (vl e) (n + 1) = plain σc (vc e) σl (vl e) n + ∑ y, vl e (row n y) * (2 : ℝ) ^ σl (row n y) from rfl,
      add_mul, EReal.coe_add, ← group_sum]
    congr 1
    exact Finset.sum_congr rfl fun y _ => by rw [hvl, hσl]

/-- All the latent rows, group by group. -/
theorem sum_rows (f : Fin 4096 → ℝ) :
    ∑ r, f r = ∑ y, f (row 0 y) + ∑ y, f (row 1 y) + ∑ y, f (row 2 y) + ∑ y, f (row 3 y) + ∑ y, f (row 4 y) + ∑ y, f (row 5 y)
      + ∑ y, f (row 6 y) + ∑ y, f (row 7 y) := by
  have h : ∑ r, f r = ∑ p : Fin 8 × Fin 512, f (row p.1.val p.2) := by
    refine (Fintype.sum_equiv (finProdFinEquiv (m := 8) (n := 512)) _ _ fun p => ?_).symm
    congr 1
    refine Fin.ext ?_
    have := p.1.isLt
    show 512 * (p.1.val % 8) + p.2.val = p.2.val + 512 * p.1.val
    omega
  rw [h, Fintype.sum_prod_type]
  simp only [Fin.sum_univ_eight]
  rfl

theorem plain_eight (σc vc : Fin 256 → ℝ) (σl vl : Fin 4096 → ℝ) :
    plain σc vc σl vl 8 = ∑ y, vc y * (2 : ℝ) ^ σc y + ∑ y, vl y * (2 : ℝ) ^ σl y := by
  rw [sum_rows fun y => vl y * (2 : ℝ) ^ σl y]
  simp only [plain]
  ring

/-- THE TILE AT AN INDEX: the weighted sum of the values over the sum of the weights, the weights `2^σ`. -/
theorem tile_at (q : Vec Ideal S1x1x128x128 .bf16) (x1 : Vec Ideal S1x256x128 .bf16) (x2 : Vec Ideal S1x64x256 .bf16)
    (x3 : Vec Ideal S1x4096x128 .bf16) (x4 : Vec Ideal S1x64x4096 .bf16) (x l : Fin 128)
    (σc : Fin 256 → ℝ) (σl : Fin 4096 → ℝ) (vc : Fin 256 → ℝ) (vl : Fin 4096 → ℝ)
    (hσc : ∀ y, scC (masked q) x1 ⟨128 * (l.val / 64) + x.val, by omega⟩ y = σc y)
    (hσl : ∀ y, scL (masked q) x3 ⟨128 * (l.val / 64) + x.val, by omega⟩ y = σl y)
    (hc : ∀ i, ∃ a : ℝ, x2 i = (a : EReal)) (hl : ∀ i, ∃ a : ℝ, x4 i = (a : EReal))
    (hvc : ∀ y, x2 (ix3 0 ⟨l.val % 64, by omega⟩ y) = (vc y : EReal)) (hvl : ∀ y, x4 (ix3 0 ⟨l.val % 64, by omega⟩ y) = (vl y : EReal)) :
    tileOut q (kcTile x1) x2 (klTile x3) (vlTile x4) (ix3 0 x l)
      = (((∑ y, vc y * (2 : ℝ) ^ σc y + ∑ y, vl y * (2 : ℝ) ^ σl y) / (∑ y, (2 : ℝ) ^ σc y + ∑ y, (2 : ℝ) ^ σl y) : ℝ) : EReal) := by
  choose ac hac using hc
  choose al hal using hl
  obtain ⟨μ, -, h⟩ := stAt_plain (masked q) x1 x2 x3 x4 ⟨128 * (l.val / 64) + x.val, by omega⟩ σc σl
    (fun e y => if h : e.val < 64 then ac (ix3 0 ⟨e.val, h⟩ y) else 1) (fun e y => if h : e.val < 64 then al (ix3 0 ⟨e.val, h⟩ y) else 1)
    hσc hσl
    (fun e y => by
      unfold vaC
      by_cases h : e.val < 64
      · rw [dif_pos h, dif_pos h]; exact hac _
      · rw [dif_neg h, dif_neg h]; rfl)
    (fun e y => by
      unfold vaL
      by_cases h : e.val < 64
      · rw [dif_pos h, dif_pos h]; exact hal _
      · rw [dif_neg h, dif_neg h]; rfl) 8
  unfold tileOut
  rw [finish_at, h, h, plain_eight, plain_eight]
  have e1 : ∀ y, (if h : l.val % 64 < 64 then ac (ix3 0 ⟨l.val % 64, h⟩ y) else 1) = vc y := fun y => by
    rw [dif_pos (Nat.mod_lt _ (by decide))]
    exact EReal.coe_injective ((hac _).symm.trans (hvc y))
  have e2 : ∀ y, (if h : l.val % 64 < 64 then al (ix3 0 ⟨l.val % 64, h⟩ y) else 1) = vl y := fun y => by
    rw [dif_pos (Nat.mod_lt _ (by decide))]
    exact EReal.coe_injective ((hal _).symm.trans (hvl y))
  have e3 : ¬ ((64 : Fin 80).val < 64) := by decide
  simp only [e1, e2, dif_neg e3, one_mul]
  have hD : 0 < ∑ y, (2 : ℝ) ^ σc y + ∑ y, (2 : ℝ) ^ σl y :=
    add_pos (Finset.sum_pos (fun y _ => Real.rpow_pos_of_pos (by norm_num) _) ⟨0, Finset.mem_univ _⟩)
      (Finset.sum_pos (fun y _ => Real.rpow_pos_of_pos (by norm_num) _) ⟨0, Finset.mem_univ _⟩)
  have hP : 0 < (2 : ℝ) ^ (-μ) := Real.rpow_pos_of_pos (by norm_num) _
  rw [Ideal.div_coe (mul_pos hD hP).ne', ← EReal.coe_mul]
  congr 1
  field_simp

end Cert.KernelIdeal.Attn

end
-- ==== Proof.Host.lean ====
/- The arrays that the attention's kernel is launched on, from the call's arguments. -/
module

public import proofs.«01_k».proof.Proof.Online
public import proofs.«01_k».proof.Proof.Gen.KernelIdeal.Value
public import Idealize.ShloMosaic.Lib.Pipeline.ValueKit.Point
public import Idealize.ShloMosaic.Lib.Claim

@[expose] public section

set_option maxRecDepth 16384

noncomputable section

namespace Cert.KernelIdeal.Attn

open Cert.KernelIdeal Cert.KernelIdeal.Gen Idealize.ShloMosaic Idealize.ShloMosaic.TcCoe
open Idealize.ShloMosaic.Pipeline (Dat)

/-- The queries' factor: an eighth, over the logarithm of two. -/
def κ : ℝ := (1 / 8) * (1 / Real.log 2)

section Arrays

/-- The two key heads of the latent keys, each twice, side by side. -/
def twiceL (x : FVec Ideal S8x2x4096x64 .f32) : FVec Ideal S8x4096x256 .bf16 :=
  truncf .bf16 (concatenate S8x4096x256 2 [
    ⟨S8x4096x64, shapeCast S8x4096x64 (extractStridedSlice S8x1x4096x64 ![0, 0, 0, 0] x slices_S8x2x4096x64_S8x1x4096x64_0_0_0_0) shapeCasts_S8x1x4096x64_S8x4096x64⟩,
    ⟨S8x4096x64, shapeCast S8x4096x64 (extractStridedSlice S8x1x4096x64 ![0, 0, 0, 0] x slices_S8x2x4096x64_S8x1x4096x64_0_0_0_0) shapeCasts_S8x1x4096x64_S8x4096x64⟩,
    ⟨S8x4096x64, shapeCast S8x4096x64 (extractStridedSlice S8x1x4096x64 ![0, 1, 0, 0] x slices_S8x2x4096x64_S8x1x4096x64_0_1_0_0) shapeCasts_S8x1x4096x64_S8x4096x64⟩,
    ⟨S8x4096x64, shapeCast S8x4096x64 (extractStridedSlice S8x1x4096x64 ![0, 1, 0, 0] x slices_S8x2x4096x64_S8x1x4096x64_0_1_0_0) shapeCasts_S8x1x4096x64_S8x4096x64⟩]
    concatenates_S8x4096x64_S8x4096x64_S8x4096x64_S8x4096x64_S8x4096x256_d2) bitsLt_bf16_f32

/-- The two key heads of the context keys, each twice, side by side. -/
def twiceC (x : FVec Ideal S8x2x256x64 .f32) : FVec Ideal S8x256x256 .bf16 :=
  truncf .bf16 (concatenate S8x256x256 2 [
    ⟨S8x256x64, shapeCast S8x256x64 (extractStridedSlice S8x1x256x64 ![0, 0, 0, 0] x slices_S8x2x256x64_S8x1x256x64_0_0_0_0) shapeCasts_S8x1x256x64_S8x256x64⟩,
    ⟨S8x256x64, shapeCast S8x256x64 (extractStridedSlice S8x1x256x64 ![0, 0, 0, 0] x slices_S8x2x256x64_S8x1x256x64_0_0_0_0) shapeCasts_S8x1x256x64_S8x256x64⟩,
    ⟨S8x256x64, shapeCast S8x256x64 (extractStridedSlice S8x1x256x64 ![0, 1, 0, 0] x slices_S8x2x256x64_S8x1x256x64_0_1_0_0) shapeCasts_S8x1x256x64_S8x256x64⟩,
    ⟨S8x256x64, shapeCast S8x256x64 (extractStridedSlice S8x1x256x64 ![0, 1, 0, 0] x slices_S8x2x256x64_S8x1x256x64_0_1_0_0) shapeCasts_S8x1x256x64_S8x256x64⟩]
    concatenates_S8x256x64_S8x256x64_S8x256x64_S8x256x64_S8x256x256_d2) bitsLt_bf16_f32

/-- Column `d` of the doubled latent keys is column `d % 64` of key head `d / 128`. -/
theorem twiceL_at (x : FVec Ideal S8x2x4096x64 .f32) (b : Fin 8) (n : Fin 4096) (d : Fin 256) :
    twiceL x (ix3 b n d) = x (ix4 b ⟨d.val / 128, by omega⟩ n ⟨d.val % 64, by omega⟩) := by
  pointwise [twiceL]
  have hd := d.isLt
  by_cases h1 : d.val < 64
  · rw [dif_pos h1]; congr 2 <;> exact Fin.ext (by simp; omega)
  rw [dif_neg h1]
  by_cases h2 : d.val - 64 < 64
  · rw [dif_pos h2]; congr 2 <;> exact Fin.ext (by simp; omega)
  rw [dif_neg h2]
  by_cases h3 : d.val - 64 - 64 < 64
  · rw [dif_pos h3]; congr 2 <;> exact Fin.ext (by simp; omega)
  rw [dif_neg h3]; congr 2 <;> exact Fin.ext (by simp; omega)

/-- Column `d` of the doubled context keys is column `d % 64` of key head `d / 128`. -/
theorem twiceC_at (x : FVec Ideal S8x2x256x64 .f32) (b : Fin 8) (n : Fin 256) (d : Fin 256) :
    twiceC x (ix3 b n d) = x (ix4 b ⟨d.val / 128, by omega⟩ n ⟨d.val % 64, by omega⟩) := by
  pointwise [twiceC]
  have hd := d.isLt
  by_cases h1 : d.val < 64
  · rw [dif_pos h1]; congr 2 <;> exact Fin.ext (by simp; omega)
  rw [dif_neg h1]
  by_cases h2 : d.val - 64 < 64
  · rw [dif_pos h2]; congr 2 <;> exact Fin.ext (by simp; omega)
  rw [dif_neg h2]
  by_cases h3 : d.val - 64 - 64 < 64
  · rw [dif_pos h3]; congr 2 <;> exact Fin.ext (by simp; omega)
  rw [dif_neg h3]; congr 2 <;> exact Fin.ext (by simp; omega)

end Arrays

variable (m : (ℓ : Loc nD τ sig) → Buf (Elt Ideal) ℓ) (c : Dev nD)

/-- The call's five arguments: queries, context keys and values, latent keys and values. -/
abbrev aQ : FVec Ideal S8x8x4096x64 .f32 := m (c, Proc.tc.devRef main_arg0)
abbrev aKc : FVec Ideal S8x2x256x64 .f32 := m (c, Proc.tc.devRef main_arg1)
abbrev aVc : FVec Ideal S8x2x256x64 .f32 := m (c, Proc.tc.devRef main_arg2)
abbrev aKl : FVec Ideal S8x2x4096x64 .f32 := m (c, Proc.tc.devRef main_arg3)
abbrev aVl : FVec Ideal S8x2x4096x64 .f32 := m (c, Proc.tc.devRef main_arg4)

/-- The launch's keys are the arguments' keys, doubled. -/
theorem V_kl : V m c main_v30 = twiceL (aKl m c) := rfl
/-- The same of the context's keys. -/
theorem V_kc : V m c main_v17 = twiceC (aKc m c) := rfl

/-- The launch's queries at an index. -/
theorem host_q (b : Fin 8) (n : Fin 32) (d : Fin 512) (x : Fin 128) :
    V m c main_v7 (ix4 b n d x) =
      aQ m c (ix4 b ⟨d.val / 64, by omega⟩ ⟨n.val * 128 + x.val, by omega⟩ ⟨d.val % 64, by omega⟩) * (κ : EReal) := by
  entry_read
  pointwise
  congr 1
  have h1 : Ideal.ofBits FTy.f32 1040187392#32 = ((1 / 8 : ℝ) : EReal) := by
    simp [Ideal.ofBits, Ideal.ieee, -EReal.coe_mul]; norm_num
  have h2 : Ideal.ofBits FTy.f32 1073741824#32 = ((2 : ℝ) : EReal) := by
    simp [Ideal.ofBits, Ideal.ieee, -EReal.coe_mul]; norm_num
  have h3 : Ideal.log ((2 : ℝ) : EReal) = ((Real.log 2 : ℝ) : EReal) := by
    show (if (2 : ℝ) ≤ 0 then ⊥ else ((Real.log 2 : ℝ) : EReal)) = _
    rw [if_neg (by norm_num)]
  rw [h1, h2, h3, Ideal.div_coe (Real.log_pos one_lt_two).ne', ← EReal.coe_mul]
  rfl

/-- The launch's latent values at an index. -/
theorem host_vl (b : Fin 8) (d : Fin 128) (n : Fin 4096) :
    V m c main_v33 (ix3 b d n) =
      aVl m c (ix4 b ⟨d.val / 64, by omega⟩ n ⟨d.val % 64, by omega⟩) := by
  entry_read
  pointwise

/-- The launch's context values at an index. -/
theorem host_vc (b : Fin 8) (d : Fin 128) (n : Fin 256) :
    V m c main_v20 (ix3 b d n) =
      aVc m c (ix4 b ⟨d.val / 64, by omega⟩ n ⟨d.val % 64, by omega⟩) := by
  entry_read
  pointwise

/-! ## The blocks of a grid point -/

/-- The batch and the pair of heads of a grid point. -/
def bOf (t : Fin cfg0.N) : Fin 8 := ⟨(grid0.coords t 0).val, (grid0.coords t 0).isLt⟩
def pOf (t : Fin cfg0.N) : Fin 4 := ⟨(grid0.coords t 1).val, (grid0.coords t 1).isLt⟩

/-- The batch and head pair of a grid point, and the block of every window there. -/
theorem idx_all : ∀ t : Fin cfg0.N,
    win0_0.index t = ![(bOf t).val, 0, (pOf t).val, 0] ∧
    win0_1.index t = ![(bOf t).val, 0, (pOf t).val / 2] ∧
    win0_2.index t = ![(bOf t).val, (pOf t).val / 2, 0] ∧
    win0_3.index t = ![(bOf t).val, 0, (pOf t).val / 2] ∧
    win0_4.index t = ![(bOf t).val, (pOf t).val / 2, 0] ∧
    win0_5.index t = ![(bOf t).val, 0, (pOf t).val] := by
  decide +kernel

/-- Each window's block at an index, from the arguments. -/
theorem blk_q (t : Fin cfg0.N) (n : Fin 32) (d x : Fin 128) :
    iblk m c 0 t (ix4 0 n d x) = aQ m c (ix4 (bOf t) ⟨2 * (pOf t).val + d.val / 64,
      by have := (pOf t).isLt; omega⟩ ⟨n.val * 128 + x.val, by omega⟩ ⟨d.val % 64, by omega⟩) * (κ : EReal) := by
  have h := idx_all t
  have hp := (pOf t).isLt
  have e : iblk m c 0 t (ix4 0 n d x) = V m c main_v7 (ix4 (bOf t) n ⟨128 * (pOf t).val + d.val, by omega⟩ x) := by
    blk_ext [iblk, h]
  rw [e, host_q]
  congr 3 <;> exact Fin.ext (by simp; omega)

/-- The latent keys' block at an index. -/
theorem blk_kl (t : Fin cfg0.N) (n : Fin 4096) (d : Fin 128) :
    iblk m c 3 t (ix3 0 n d) = aKl m c (ix4 (bOf t) ⟨(pOf t).val / 2,
      by have := (pOf t).isLt; omega⟩ n ⟨d.val % 64, by omega⟩) := by
  have h := idx_all t
  have hp := (pOf t).isLt
  have e : iblk m c 3 t (ix3 0 n d) = V m c main_v30 (ix3 (bOf t) n ⟨128 * ((pOf t).val / 2) + d.val, by omega⟩) := by
    blk_ext [iblk, h]
  rw [e, V_kl, twiceL_at]
  congr 2 <;> exact Fin.ext (by simp; omega)

/-- The context keys' block at an index. -/
theorem blk_kc (t : Fin cfg0.N) (n : Fin 256) (d : Fin 128) :
    iblk m c 1 t (ix3 0 n d) = aKc m c (ix4 (bOf t) ⟨(pOf t).val / 2,
      by have := (pOf t).isLt; omega⟩ n ⟨d.val % 64, by omega⟩) := by
  have h := idx_all t
  have hp := (pOf t).isLt
  have e : iblk m c 1 t (ix3 0 n d) = V m c main_v17 (ix3 (bOf t) n ⟨128 * ((pOf t).val / 2) + d.val, by omega⟩) := by
    blk_ext [iblk, h]
  rw [e, V_kc, twiceC_at]
  congr 2 <;> exact Fin.ext (by simp; omega)

/-- The latent values' block at an index. -/
theorem blk_vl (t : Fin cfg0.N) (d : Fin 64) (n : Fin 4096) :
    iblk m c 4 t (ix3 0 d n) = aVl m c (ix4 (bOf t) ⟨(pOf t).val / 2,
      by have := (pOf t).isLt; omega⟩ n d) := by
  have h := idx_all t
  have hp := (pOf t).isLt
  have e : iblk m c 4 t (ix3 0 d n) = V m c main_v33 (ix3 (bOf t) ⟨64 * ((pOf t).val / 2) + d.val, by omega⟩ n) := by
    blk_ext [iblk, h]
  rw [e, host_vl]
  congr 2 <;> exact Fin.ext (by first | (simp; done) | (simp; omega))

/-- The context values' block at an index. -/
theorem blk_vc (t : Fin cfg0.N) (d : Fin 64) (n : Fin 256) :
    iblk m c 2 t (ix3 0 d n) = aVc m c (ix4 (bOf t) ⟨(pOf t).val / 2,
      by have := (pOf t).isLt; omega⟩ n d) := by
  have h := idx_all t
  have hp := (pOf t).isLt
  have e : iblk m c 2 t (ix3 0 d n) = V m c main_v20 (ix3 (bOf t) ⟨64 * ((pOf t).val / 2) + d.val, by omega⟩ n) := by
    blk_ext [iblk, h]
  rw [e, host_vc]
  congr 2 <;> exact Fin.ext (by first | (simp; done) | (simp; omega))

/-! ## The attention over the reals -/

/-- The score of query row `r` of head `h` and context key `n`, and the same for a latent key. -/
def scoreC (Q : S8x8x4096x64.Idx → ℝ) (K : S8x2x256x64.Idx → ℝ) (b h : Fin 8) (r : Fin 4096) (n : Fin 256) : ℝ :=
  (∑ d : Fin 64, Q (ix4 b h r d) * K (ix4 b ⟨h.val / 4, by omega⟩ n d)) * (1 / 8)
def scoreL (Q : S8x8x4096x64.Idx → ℝ) (K : S8x2x4096x64.Idx → ℝ) (b h : Fin 8) (r : Fin 4096) (n : Fin 4096) : ℝ :=
  (∑ d : Fin 64, Q (ix4 b h r d) * K (ix4 b ⟨h.val / 4, by omega⟩ n d)) * (1 / 8)

/-- The attention of head `h` at query row `r` and feature `e`: the values' mean under the weights `exp score`. -/
def att (Q : S8x8x4096x64.Idx → ℝ) (Kc Vc : S8x2x256x64.Idx → ℝ) (Kl Vl : S8x2x4096x64.Idx → ℝ) (b h : Fin 8) (r : Fin 4096) (e : Fin 64) : ℝ :=
  ((∑ n, Vc (ix4 b ⟨h.val / 4, by omega⟩ n e) * Real.exp (scoreC Q Kc b h r n)) + ∑ n, Vl (ix4 b ⟨h.val / 4, by omega⟩ n e) * Real.exp (scoreL Q Kl b h r n)) /
    ((∑ n, Real.exp (scoreC Q Kc b h r n)) + ∑ n, Real.exp (scoreL Q Kl b h r n))

/-- The attention depends on its indices' numbers only. -/
theorem att_congr (Q : S8x8x4096x64.Idx → ℝ) (Kc Vc : S8x2x256x64.Idx → ℝ) (Kl Vl : S8x2x4096x64.Idx → ℝ) {b b' h h' : Fin 8} {r r' : Fin 4096}
    {e e' : Fin 64} (hb : b.val = b'.val) (hh : h.val = h'.val) (hr : r.val = r'.val) (he : e.val = e'.val) :
    (att Q Kc Vc Kl Vl b h r e : EReal) = att Q Kc Vc Kl Vl b' h' r' e' := by
  rw [Fin.ext hb, Fin.ext hh, Fin.ext hr, Fin.ext he]

/-- The kernel's power of two is the exponential of an eighth. -/
theorem pow_two (x : ℝ) : (2 : ℝ) ^ (x * κ) = Real.exp (x * (1 / 8)) := by
  have := (Real.log_pos one_lt_two).ne'
  rw [Real.rpow_def_of_pos two_pos, κ]
  congr 1
  field_simp

/-- A sum over the 128 columns of a doubled key, of which the mask keeps one half. -/
theorem half_sum (u : ℕ) (hu : u < 2) (f : Fin 64 → ℝ) (g : Fin 128 → EReal)
    (h1 : ∀ d : Fin 128, (d.val < 64 ↔ u = 0) → g d = (f ⟨d.val % 64, by omega⟩ : EReal))
    (h0 : ∀ d : Fin 128, ¬ (d.val < 64 ↔ u = 0) → g d = 0) : ∑ d, g d = ((∑ d, f d : ℝ) : EReal) := by
  rw [Fin.sum_univ_add (a := 64) (b := 64) g, coe_sum_real]
  rcases Nat.lt_or_ge u 1 with hu' | hu'
  · have e1 : ∀ d : Fin 64, g (Fin.castAdd 64 d) = (f d : EReal) := fun d => by
      rw [h1 _ (by simp [d.isLt]; omega)]; congr 2; exact Fin.ext (by simp)
    have e2 : ∀ d : Fin 64, g (Fin.natAdd 64 d) = 0 := fun d => h0 _ (by simp; omega)
    simp only [e1, e2, Finset.sum_const_zero, add_zero, zero_add]
  · have e1 : ∀ d : Fin 64, g (Fin.castAdd 64 d) = 0 := fun d => h0 _ (by simp [d.isLt]; omega)
    have e2 : ∀ d : Fin 64, g (Fin.natAdd 64 d) = (f d : EReal) := fun d => by
      rw [h1 _ (by simp; omega)]; congr 2; exact Fin.ext (by simp)
    simp only [e1, e2, Finset.sum_const_zero, add_zero, zero_add]

/-! ## The result array -/

section Result

variable (Q : S8x8x4096x64.Idx → ℝ) (Kc Vc : S8x2x256x64.Idx → ℝ) (Kl Vl : S8x2x4096x64.Idx → ℝ)
  (hQ : ∀ i, aQ m c i = (Q i : EReal)) (hKc : ∀ i, aKc m c i = (Kc i : EReal)) (hVc : ∀ i, aVc m c i = (Vc i : EReal))
  (hKl : ∀ i, aKl m c i = (Kl i : EReal)) (hVl : ∀ i, aVl m c i = (Vl i : EReal))

include hQ hKc hVc hKl hVl in
/-- What a grid point computes at row `r` and lane `l` of its block: the attention of head `2 p + l / 64`. -/
theorem point_at (t : Fin cfg0.N) (r : Fin 4096) (l : Fin 128) :
    outFn (iblk m c 0 t) (iblk m c 1 t) (iblk m c 2 t) (iblk m c 3 t) (iblk m c 4 t) (ix3 0 r l) =
      (att Q Kc Vc Kl Vl (bOf t) ⟨2 * (pOf t).val + l.val / 64, by have := (pOf t).isLt; omega⟩ r ⟨l.val % 64, by omega⟩ : EReal) := by
  have hp := (pOf t).isLt
  have hr := r.isLt
  have hl := l.isLt
  have hh : (2 * (pOf t).val + l.val / 64) / 4 = (pOf t).val / 2 := by omega
  have hj : (128 * (l.val / 64) + r.val % 128) / 128 = l.val / 64 := by omega
  have hq : ∀ d : Fin 128, (d.val < 64 ↔ l.val / 64 = 0) →
      masked (qTile (iblk m c 0 t) ⟨r.val / 128, by omega⟩) (ix2 d ⟨128 * (l.val / 64) + r.val % 128, by omega⟩) =
        ((Q (ix4 (bOf t) ⟨2 * (pOf t).val + l.val / 64, by omega⟩ r ⟨d.val % 64, by omega⟩) * κ : ℝ) : EReal) := by
    intro d hd
    have hd' := d.isLt
    rw [masked_at, if_pos (show (d.val < 64 ↔ 128 * (l.val / 64) + r.val % 128 < 128) by omega), EReal.coe_mul, ← hQ]
    refine (blk_q m c t ⟨r.val / 128, by omega⟩ d ⟨(128 * (l.val / 64) + r.val % 128) % 128, by omega⟩).trans ?_
    congr 3 <;> exact Fin.ext (by simp; omega)
  have hz : ∀ d : Fin 128, ¬ (d.val < 64 ↔ l.val / 64 = 0) →
      masked (qTile (iblk m c 0 t) ⟨r.val / 128, by omega⟩) (ix2 d ⟨128 * (l.val / 64) + r.val % 128, by omega⟩) = (0 : EReal) := by
    intro d hd
    rw [masked_at, if_neg (show ¬ (d.val < 64 ↔ 128 * (l.val / 64) + r.val % 128 < 128) by omega)]
  refine (tile_at (qTile (iblk m c 0 t) ⟨r.val / 128, by omega⟩) (iblk m c 1 t) (iblk m c 2 t) (iblk m c 3 t) (iblk m c 4 t)
    ⟨r.val % 128, by omega⟩ l
    (fun n => (∑ d : Fin 64, Q (ix4 (bOf t) ⟨2 * (pOf t).val + l.val / 64, by omega⟩ r d) * Kc (ix4 (bOf t) ⟨(pOf t).val / 2, by omega⟩ n d)) * κ)
    (fun n => (∑ d : Fin 64, Q (ix4 (bOf t) ⟨2 * (pOf t).val + l.val / 64, by omega⟩ r d) * Kl (ix4 (bOf t) ⟨(pOf t).val / 2, by omega⟩ n d)) * κ)
    (fun n => Vc (ix4 (bOf t) ⟨(pOf t).val / 2, by omega⟩ n ⟨l.val % 64, by omega⟩))
    (fun n => Vl (ix4 (bOf t) ⟨(pOf t).val / 2, by omega⟩ n ⟨l.val % 64, by omega⟩)) ?_ ?_ ?_ ?_ ?_ ?_).trans ?_
  · intro n
    rw [scC, Finset.sum_mul]
    refine half_sum (l.val / 64) (by omega) _ _ (fun d hd => ?_) (fun d hd => ?_)
    · rw [hq d hd, blk_kc, hKc, ← EReal.coe_mul]
      exact congrArg _ (by ring)
    · rw [hz d hd, mul_zero]
  · intro n
    rw [scL, Finset.sum_mul]
    refine half_sum (l.val / 64) (by omega) _ _ (fun d hd => ?_) (fun d hd => ?_)
    · rw [hq d hd, blk_kl, hKl, ← EReal.coe_mul]
      exact congrArg _ (by ring)
    · rw [hz d hd, mul_zero]
  · intro i
    have e : i = ix3 (n0 := 1) (n1 := 64) (n2 := 256) 0 (i 1) (i 2) := by
      refine (eq_ix3 i).trans ?_
      exact congrArg (fun a => ix3 (n0 := 1) (n1 := 64) (n2 := 256) a (i 1) (i 2)) (Subsingleton.elim (α := Fin 1) _ _)
    exact ⟨_, (congrArg (iblk m c 2 t) e).trans ((blk_vc m c t (i 1) (i 2)).trans (hVc _))⟩
  · intro i
    have e : i = ix3 (n0 := 1) (n1 := 64) (n2 := 4096) 0 (i 1) (i 2) := by
      refine (eq_ix3 i).trans ?_
      exact congrArg (fun a => ix3 (n0 := 1) (n1 := 64) (n2 := 4096) a (i 1) (i 2)) (Subsingleton.elim (α := Fin 1) _ _)
    exact ⟨_, (congrArg (iblk m c 4 t) e).trans ((blk_vl m c t (i 1) (i 2)).trans (hVl _))⟩
  · intro n
    rw [blk_vc, hVc]
  · intro n
    rw [blk_vl, hVl]
  · simp only [pow_two, att, scoreC, scoreL, hh]

include hQ hKc hVc hKl hVl in
/-- The result array after the run: the attention of head `x / 64`, feature `x % 64`. -/
theorem result_eq : (dats m 0 c).arrAt 5 cfg0.N =
    fun i : S8x4096x512.Idx => (att Q Kc Vc Kl Vl (i 0) ⟨(i 2).val / 64, by have : (i 2).val < 512 := (i 2).isLt; omega⟩ (i 1)
      ⟨(i 2).val % 64, by omega⟩ : EReal) := by
  refine (dats m 0 c).arrAt_eq_of_covers 5 _ (by decide +kernel) fun t hf y => ?_
  refine Eq.trans (b := (dats m 0 c).flushed 5 t y) rfl ?_
  refine (congrFun (Value.flushed5_A m c t) y).trans ?_
  rw [out_block]
  have h := idx_all t
  have hy : y = ix3 (n0 := 1) (n1 := 4096) (n2 := 128) 0 (y 1) (y 2) := by
    refine (eq_ix3 y).trans ?_
    exact congrArg (fun a => ix3 (n0 := 1) (n1 := 4096) (n2 := 128) a (y 1) (y 2)) (Subsingleton.elim (α := Fin 1) _ _)
  have hy2 : (y 2).val < 128 := (y 2).isLt
  have hp := (pOf t).isLt
  have e0 : (((cfg0.win 5).blk t).view.emb y 0).val = (bOf t).val := by
    have : (y 0).val < 1 := (y 0).isLt
    blk_simp [h]
  have e1 : (((cfg0.win 5).blk t).view.emb y 1).val = (y 1).val := by
    blk_simp [h]
  have e2 : (((cfg0.win 5).blk t).view.emb y 2).val = 128 * (pOf t).val + (y 2).val := by
    blk_simp [h]; exact congrArg (· + (y 2).val) (Nat.mul_comm _ _)
  have hg : ∀ g : Vec Ideal S1x4096x128 .bf16, (cfg0.win 5).cut (grid0.coords t) g y = g (ix3 0 (y 1) (y 2)) :=
    fun g => congrArg g hy
  refine (hg _).trans ((point_at m c Q Kc Vc Kl Vl hQ hKc hVc hKl hVl t (y 1) (y 2)).trans ?_)
  exact att_congr Q Kc Vc Kl Vl e0.symm
    (by show 2 * (pOf t).val + (y 2).val / 64 = (((cfg0.win 5).blk t).view.emb y 2).val / 64; rw [e2]; omega) e1.symm
    (by show (y 2).val % 64 = (((cfg0.win 5).blk t).view.emb y 2).val % 64; rw [e2]; omega)

end Result

end Cert.KernelIdeal.Attn
-- ==== Proof.Ref.lean ====
/- The reference's result at an index: over the reals its stabilised softmax is the plain quotient. -/
module

public import proofs.«01_k».proof.Proof.Host
public import proofs.«01_k».proof.Proof.Gen.ReferenceIdeal.Run
public import proofs.«01_k».proof.Proof.Gen.ReferenceIdeal.Read
public import proofs.«01_k».proof.Defs
public import proofs.«01_k».proof.Proof.Gen.Pre_finite
public import Idealize.ShloMosaic.Lib.Pointwise
public import Idealize.ShloMosaic.Lib.Claim
public import Idealize.ShloMosaic.Lib.ReduceAll
public import Idealize.ShloMosaic.Lib.Affine

@[expose] public section

set_option maxRecDepth 16384

noncomputable section

namespace Cert.ReferenceIdeal.Attn

open Cert.ReferenceIdeal Cert.ReferenceIdeal.Gen Idealize.ShloMosaic Idealize.ShloMosaic.TcCoe Cert.ReferenceIdeal.Read
open Cert.KernelIdeal.Attn (att scoreC scoreL coe_sum_real coe_max_real max_fold_real neg_inf_word)

/-- The context's array followed by the latent one, along the keys. -/
def cat {α : Type} (c : S8x2x256x64.Idx → α) (l : S8x2x4096x64.Idx → α) (b : Fin 8) (g : Fin 2) (n : Fin 4352) (e : Fin 64) : α :=
  if h : n.val < 256 then c (ix4 b g ⟨n.val, h⟩ e) else l (ix4 b g ⟨n.val - 256, by omega⟩ e)

/-- The joined keys at an index. -/
theorem k_at (x1 : FVec Ideal S8x2x256x64 .f32) (x3 : FVec Ideal S8x2x4096x64 .f32) (b : Fin 8) (g : Fin 2) (n : Fin 4352) (e : Fin 64) :
    val_main_v0 (F := Ideal) x1 x3 (ix4 b g n e) = (cat x1 x3 b g n e : EReal) := by
  pointwise [val_main_v0, cat]

/-- The joined values at an index. -/
theorem v_at (x2 : FVec Ideal S8x2x256x64 .f32) (x4 : FVec Ideal S8x2x4096x64 .f32) (b : Fin 8) (g : Fin 2) (n : Fin 4352) (e : Fin 64) :
    val_main_v1 (F := Ideal) x2 x4 (ix4 b g n e) = (cat x2 x4 b g n e : EReal) := by
  pointwise [val_main_v1, cat]

/-- Joined arrays of reals are reals. -/
theorem cat_real {x : FVec Ideal S8x2x256x64 .f32} {y : FVec Ideal S8x2x4096x64 .f32} {X : S8x2x256x64.Idx → ℝ} {Y : S8x2x4096x64.Idx → ℝ}
    (hx : ∀ i, x i = (X i : EReal)) (hy : ∀ i, y i = (Y i : EReal)) (b : Fin 8) (g : Fin 2) (n : Fin 4352) (e : Fin 64) :
    (cat x y b g n e : EReal) = (cat X Y b g n e : ℝ) := by
  unfold cat
  by_cases h : n.val < 256
  · rw [dif_pos h, dif_pos h, hx]
  · rw [dif_neg h, dif_neg h, hy]

variable (x0 : FVec Ideal S8x8x4096x64 .f32) (x1 x2 : FVec Ideal S8x2x256x64 .f32) (x3 x4 : FVec Ideal S8x2x4096x64 .f32)

/-- The scaled score at an index. -/
theorem sc_at (b : Fin 8) (g : Fin 2) (k : Fin 4) (r : Fin 4096) (n : Fin 4352) :
    val_main_v5 (F := Ideal) x0 x1 x3 (ix5 b g k r n) =
      ((∑ d : Fin 64, x0 (ix4 b ⟨g.val * 4 + k.val, by omega⟩ r d) * cat x1 x3 b g n d) * ((1 / 8 : ℝ) : EReal) : EReal) := by
  have h1 : Ideal.ofBits FTy.f32 1040187392#32 = ((1 / 8 : ℝ) : EReal) := by
    simp [Ideal.ofBits, Ideal.ieee, -EReal.coe_mul]; norm_num
  rw [← h1]
  simp only [← k_at]
  pointwise [val_main_v5, val_main_v4, val_main_v3, val_main_v2, val_main_cst]

/-- The maximum that the softmax subtracts, of the scores `f`. -/
def mx (f : Fin 4352 → EReal) : EReal :=
  max (Ideal.ofBits .f32 0xFF800000#32) (Finset.univ.fold max (Ideal.ofBits .f32 0xFF800000#32) f)

/-- The scores' maximum over the keys. -/
theorem fold_at (b : Fin 8) (g : Fin 2) (k : Fin 4) (r : Fin 4096) :
    val_main_v6 (F := Ideal) x0 x1 x3 (ix4 b g k r) =
      (Finset.univ.fold max (Ideal.ofBits .f32 0xFF800000#32) fun n : Fin 4352 => val_main_v5 (F := Ideal) x0 x1 x3 (ix5 b g k r n) : EReal) := by
  unfold val_main_v6
  generalize val_main_v5 (F := Ideal) x0 x1 x3 = y
  pointwise [val_main_cst_0]

/-- The maximum's lower bound, minus infinity. -/
theorem low_at (b : Fin 8) (g : Fin 2) (k : Fin 4) (r : Fin 4096) :
    val_main_v7 (F := Ideal) (ix4 b g k r) = (Ideal.ofBits .f32 0xFF800000#32 : EReal) := by
  pointwise [val_main_v7, val_main_cst_1]

/-- What the softmax subtracts, at an index. -/
theorem max_at (b : Fin 8) (g : Fin 2) (k : Fin 4) (r : Fin 4096) :
    val_main_v8 (F := Ideal) x0 x1 x3 (ix4 b g k r) = mx (fun n => val_main_v5 (F := Ideal) x0 x1 x3 (ix5 b g k r n)) := by
  rw [val_main_v8_apply, fold_at, low_at]
  generalize (fun n : Fin 4352 => val_main_v5 (F := Ideal) x0 x1 x3 (ix5 b g k r n)) = f
  rfl

/-- The softmax's weight at an index. -/
theorem exp_at (b : Fin 8) (g : Fin 2) (k : Fin 4) (r : Fin 4096) (n : Fin 4352) :
    val_main_v12 (F := Ideal) x0 x1 x3 (ix5 b g k r n) =
      Ideal.exp (val_main_v5 (F := Ideal) x0 x1 x3 (ix5 b g k r n) - mx (fun n => val_main_v5 (F := Ideal) x0 x1 x3 (ix5 b g k r n))) := by
  rw [← max_at]
  unfold val_main_v12 val_main_v11 val_main_v10 val_main_v9
  generalize val_main_v8 (F := Ideal) x0 x1 x3 = z
  generalize val_main_v5 (F := Ideal) x0 x1 x3 = y
  pointwise

/-- The normalised weight at an index. -/
theorem prob_at (b : Fin 8) (g : Fin 2) (k : Fin 4) (r : Fin 4096) (n : Fin 4352) :
    val_main_v16 (F := Ideal) x0 x1 x3 (ix5 b g k r n) =
      Ideal.div (val_main_v12 (F := Ideal) x0 x1 x3 (ix5 b g k r n)) (∑ n', val_main_v12 (F := Ideal) x0 x1 x3 (ix5 b g k r n')) := by
  unfold val_main_v16 val_main_v15 val_main_v14 val_main_v13
  generalize val_main_v12 (F := Ideal) x0 x1 x3 = y
  pointwise [val_main_cst_2]

/-- The mean of the values at an index. -/
theorem mean_at (b : Fin 8) (g : Fin 2) (k : Fin 4) (r : Fin 4096) (e : Fin 64) :
    val_main_v17 (F := Ideal) x0 x1 x2 x3 x4 (ix5 b g k r e) =
      (∑ n, val_main_v16 (F := Ideal) x0 x1 x3 (ix5 b g k r n) * cat x2 x4 b g n e : EReal) := by
  simp only [← v_at]
  unfold val_main_v17
  generalize val_main_v16 (F := Ideal) x0 x1 x3 = y
  generalize val_main_v1 (F := Ideal) x2 x4 = z
  pointwise

/-- The result merges the heads. -/
theorem res_at (b : Fin 8) (r : Fin 4096) (x : Fin 512) :
    val_main_v21 (F := Ideal) x0 x1 x2 x3 x4 (ix3 b r x) =
      val_main_v17 (F := Ideal) x0 x1 x2 x3 x4 (ix5 b ⟨x.val / 64 / 4, by omega⟩ ⟨x.val / 64 % 4, by omega⟩ r ⟨x.val % 64, by omega⟩) := by
  unfold val_main_v21 val_main_v20 val_main_v19 val_main_v18
  generalize val_main_v17 (F := Ideal) x0 x1 x2 x3 x4 = y
  pointwise

/-- The scores over the reals, context before latent. -/
def sAll (Q : S8x8x4096x64.Idx → ℝ) (Kc : S8x2x256x64.Idx → ℝ) (Kl : S8x2x4096x64.Idx → ℝ) (b : Fin 8) (g : Fin 2) (k : Fin 4) (r : Fin 4096)
    (n : Fin 4352) : ℝ :=
  (∑ d : Fin 64, Q (ix4 b ⟨g.val * 4 + k.val, by omega⟩ r d) * cat Kc Kl b g n d) * (1 / 8)

/-- The softmax's mean of real values: the maximum subtracted from every score cancels. -/
theorem softmax_real {N : ℕ} (s v : Fin (N + 1) → ℝ) (μ : ℝ) :
    ∑ n, Ideal.div (Ideal.exp ((s n : EReal) - (μ : EReal))) (∑ n', Ideal.exp ((s n' : EReal) - (μ : EReal))) * (v n : EReal) =
      (((∑ n, v n * Real.exp (s n)) / ∑ n, Real.exp (s n) : ℝ) : EReal) := by
  have e : ∀ n, Ideal.exp ((s n : EReal) - (μ : EReal)) = ((Real.exp (s n - μ) : ℝ) : EReal) := fun n => by
    rw [← EReal.coe_sub]; rfl
  have hpos : 0 < ∑ n, Real.exp (s n - μ) := Finset.sum_pos (fun _ _ => Real.exp_pos _) Finset.univ_nonempty
  have hpos' : 0 < ∑ n, Real.exp (s n) := Finset.sum_pos (fun _ _ => Real.exp_pos _) Finset.univ_nonempty
  have hs : ∑ n, Real.exp (s n - μ) = (∑ n, Real.exp (s n)) * Real.exp (-μ) := by
    rw [Finset.sum_mul]; exact Finset.sum_congr rfl fun n _ => by rw [← Real.exp_add]; rfl
  simp only [e, ← coe_sum_real, Ideal.div_coe hpos.ne', ← EReal.coe_mul]
  refine congrArg Real.toEReal ?_
  rw [hs, Finset.sum_div]
  refine Finset.sum_congr rfl fun n _ => ?_
  rw [sub_eq_add_neg, Real.exp_add]
  have := (Real.exp_pos (-μ)).ne'
  have := hpos'.ne'
  field_simp

/-- The reference's result over real arguments. -/
theorem ref_at (Q : S8x8x4096x64.Idx → ℝ) (Kc Vc : S8x2x256x64.Idx → ℝ) (Kl Vl : S8x2x4096x64.Idx → ℝ)
    (h0 : ∀ i, x0 i = (Q i : EReal)) (h1 : ∀ i, x1 i = (Kc i : EReal)) (h2 : ∀ i, x2 i = (Vc i : EReal))
    (h3 : ∀ i, x3 i = (Kl i : EReal)) (h4 : ∀ i, x4 i = (Vl i : EReal)) (b : Fin 8) (r : Fin 4096) (x : Fin 512) :
    val_main_v21 (F := Ideal) x0 x1 x2 x3 x4 (ix3 b r x) =
      (att Q Kc Vc Kl Vl b ⟨x.val / 64, by omega⟩ r ⟨x.val % 64, by omega⟩ : EReal) := by
  have hx := x.isLt
  have hs : ∀ (g : Fin 2) (k : Fin 4) (n : Fin 4352), val_main_v5 (F := Ideal) x0 x1 x3 (ix5 b g k r n) = (sAll Q Kc Kl b g k r n : EReal) := by
    intro g k n
    rw [sc_at]
    simp only [h0, cat_real h1 h3, ← EReal.coe_mul, ← coe_sum_real]
    rfl
  rw [res_at, mean_at]
  generalize hg : (⟨x.val / 64 / 4, by omega⟩ : Fin 2) = g
  generalize hk : (⟨x.val / 64 % 4, by omega⟩ : Fin 4) = k
  have hgk : g.val * 4 + k.val = x.val / 64 := by rw [← hg, ← hk]; show x.val / 64 / 4 * 4 + x.val / 64 % 4 = _; omega
  have hg' : g.val = x.val / 64 / 4 := by rw [← hg]
  obtain ⟨μ, hμ⟩ : ∃ μ : ℝ, mx (fun n => val_main_v5 (F := Ideal) x0 x1 x3 (ix5 b g k r n)) = (μ : EReal) :=
    max_fold_real _ _ (by rw [neg_inf_word]; simp) (by rw [neg_inf_word]; simp) _ fun n => ⟨_, hs g k n⟩
  simp only [hs] at hμ
  simp only [prob_at, exp_at, hs, hμ, cat_real h2 h4]
  rw [softmax_real]
  refine congrArg Real.toEReal ?_
  rw [Fin.sum_univ_add (a := 256) (b := 4096), Fin.sum_univ_add (a := 256) (b := 4096) fun n => Real.exp (sAll Q Kc Kl b g k r n)]
  have hv : (⟨g.val * 4 + k.val, by omega⟩ : Fin 8) = ⟨x.val / 64, by omega⟩ := Fin.ext hgk
  have hgg : (⟨x.val / 64 / 4, by omega⟩ : Fin 2) = g := hg
  have c1 : ∀ n : Fin 256, sAll Q Kc Kl b g k r (Fin.castAdd 4096 n) = scoreC Q Kc b ⟨x.val / 64, by omega⟩ r n := by
    intro n
    simp only [sAll, scoreC, cat, Fin.val_castAdd, n.isLt, dif_pos, hv, hgg]
  have c2 : ∀ n : Fin 4096, sAll Q Kc Kl b g k r (Fin.natAdd 256 n) = scoreL Q Kl b ⟨x.val / 64, by omega⟩ r n := by
    intro n
    simp only [sAll, scoreL, cat, Fin.val_natAdd, hv, hgg, dif_neg (show ¬ 256 + n.val < 256 by omega), Nat.add_sub_cancel_left]
  have c3 : ∀ (n : Fin 256) e, cat Vc Vl b g (Fin.castAdd 4096 n) e = Vc (ix4 b g n e) := by
    intro n e
    simp only [cat, Fin.val_castAdd, n.isLt, dif_pos]
  have c4 : ∀ (n : Fin 4096) e, cat Vc Vl b g (Fin.natAdd 256 n) e = Vl (ix4 b g n e) := by
    intro n e
    simp only [cat, Fin.val_natAdd, dif_neg (show ¬ 256 + n.val < 256 by omega), Nat.add_sub_cancel_left]
  simp only [c1, c2, c3, c4, att, hgg]

/-- An extended real whose absolute value is below the positive infinity is a real. -/
theorem real_of_abs (x : EReal) (h : Ideal.cmp .olt (max x (-x)) (Ideal.ofBits .f32 2139095040#32) = 1#1) : ∃ y : ℝ, x = (y : EReal) := by
  have ht : Ideal.ofBits FTy.f32 2139095040#32 = (⊤ : EReal) := by
    simp [Ideal.ofBits, Ideal.ieee]
  rw [ht] at h
  have h' : max x (-x) < ⊤ := by
    by_contra hc
    simp [Ideal.cmp, hc] at h
  induction x with
  | bot => simp at h'
  | top => simp at h'
  | coe y => exact ⟨y, rfl⟩

/-- Where every argument's absolute value is below infinity, the arguments are reals. -/
theorem finite_args (a0 : FVec Ideal S8x8x4096x64 .f32) (a1 a2 : FVec Ideal S8x2x256x64 .f32) (a3 a4 : FVec Ideal S8x2x4096x64 .f32)
    (h : Cert.Pre_finite.fn (F := Ideal) a0 a1 a2 a3 a4 = fun _ => 1#1) :
    (∀ i, ∃ x : ℝ, a0 i = (x : EReal)) ∧ (∀ i, ∃ x : ℝ, a1 i = (x : EReal)) ∧ (∀ i, ∃ x : ℝ, a2 i = (x : EReal)) ∧
      (∀ i, ∃ x : ℝ, a3 i = (x : EReal)) ∧ ∀ i, ∃ x : ℝ, a4 i = (x : EReal) := by
  have h := congrFun h ix0
  dsimp only [Cert.Pre_finite.fn, Cert.Pre_finite.fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  haveI : Subsingleton Cert.Pre_finite.S_.Idx := ⟨fun a b => funext fun k => k.elim0⟩
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i), fun i => real_of_abs _ (Host.reduce_andi_all _ _ _ _ _ h3 i),
    fun i => real_of_abs _ (Host.reduce_andi_all _ _ _ _ _ h4 i)⟩

end Cert.ReferenceIdeal.Attn
-- ==== Proof.Claims.lean ====
/- The attention's claims: the frames, the preservation and the equation with the reference. -/
module

public import proofs.«01_k».proof.Proof.Ref
public import proofs.«01_k».proof.Proof.Gen.Kernel
public import proofs.«01_k».proof.Proof.Gen.Kernel.Frame
public import proofs.«01_k».proof.Proof.Gen.KernelIdeal
public import proofs.«01_k».proof.Proof.Gen.ReferenceIdeal
public import Idealize.ShloMosaic.Adequacy
public import Idealize.ShloMosaic.Init

@[expose] public section

set_option maxRecDepth 16384

noncomputable section

namespace Cert.AttnClaims

open Idealize.ShloMosaic Idealize.ShloMosaic.TcCoe Idealize.SL.Sem

/-- The kernel runs, leaves its arguments unchanged and every semaphore at zero. -/
theorem frame_p : Cert.quiescent_Kernel := fun m ρ _ => Cert.Kernel.Gen.frame m ρ
/-- The same of the idealized kernel. -/
theorem frame_pi : Cert.quiescent_KernelIdeal := fun m ρ _ => Cert.KernelIdeal.Gen.frame m ρ
/-- The same under the precondition. -/
theorem frame_pi_pre : Cert.quiescent_KernelIdeal_pre_finite := fun m ρ _ => Cert.KernelIdeal.Gen.frame m ρ
/-- The reference runs and leaves its arguments unchanged. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The same under the precondition. -/
theorem frame_ri_pre : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The idealization rewrote nothing. -/
theorem preserves : Cert.preserves_Kernel_KernelIdeal := trivial

/-- From finite arguments the attention's kernel and its reference end with the same array of extended reals. -/
theorem algebraic : Cert.algebraic_KernelIdeal_ReferenceIdeal_pre_finite := by
  intro m g m' g' hpre hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4⟩ := hagree c
  obtain ⟨f0, f1, f2, f3, f4⟩ := Cert.ReferenceIdeal.Attn.finite_args _ _ _ _ _ (hpre c)
  choose Q hQ using f0
  choose Kc hKc using f1
  choose Vc hVc using f2
  choose Kl hKl using f3
  choose Vl hVl using f4
  refine Eq.trans ?_ (Cert.KernelIdeal.Attn.result_eq m c Q Kc Vc Kl Vl hQ hKc hVc hKl hVl).symm
  refine (Cert.ReferenceIdeal.Read.val_main_v21_eq _ _ _ _ _).trans ?_
  funext i
  refine (congrArg _ (eq_ix3 (n0 := 8) (n1 := 4096) (n2 := 512) i)).trans ?_
  exact Cert.ReferenceIdeal.Attn.ref_at _ _ _ _ _ Q Kc Vc Kl Vl (fun i => (congrFun h0 i).trans (hQ i)) (fun i => (congrFun h1 i).trans (hKc i))
    (fun i => (congrFun h2 i).trans (hVc i)) (fun i => (congrFun h3 i).trans (hKl i)) (fun i => (congrFun h4 i).trans (hVl i)) (i 0) (i 1) (i 2)

end Cert.AttnClaims

end
-- ==== Proof.Row.lean ====
/- One row of the output projection and feed-forward half layer, over the extended reals. -/
module

public import Idealize.ShloMosaic.PureOps.Ideal
public import Idealize.ShloMosaic.Lib.Pointwise

@[expose] public section

noncomputable section

namespace Cert.OutRow

open Idealize.ShloMosaic

/-- The norms' epsilon and their two lengths, as the programs' words read. -/
def eps : EReal := Ideal.ofBits .f32 0x358637BD#32
def w64 : EReal := Ideal.ofBits .f32 0x42800000#32
def w1024 : EReal := Ideal.ofBits .f32 0x44800000#32

/-- Column `d` of the head of column `j`. -/
def headCol (j : Fin 512) (d : Fin 64) : Fin 512 := ⟨j.val / 64 * 64 + d.val, by omega⟩

/-- The root mean square norm of each head of 64 columns, with one scale per column of a head. -/
def headNorm (f : Fin 512 → EReal) (g : Fin 64 → EReal) (j : Fin 512) : EReal :=
  f j * Ideal.rsqrt (Ideal.div (∑ d, f (headCol j d) * f (headCol j d)) w64 + eps) * g ⟨j.val % 64, by omega⟩

/-- A number times its logistic function. -/
def silu (z : EReal) : EReal := z * Ideal.div 1 (1 + Ideal.exp (0 - z))

/-- The first mixer's output: the two directions' sum normalised, the skip connection, the gate. -/
def gateA (hf hb : Fin 512 → EReal) (g : Fin 64 → EReal) (s xc z : Fin 512 → EReal) (j : Fin 512) : EReal :=
  (headNorm (fun x => hf x + hb x) g j + s j * xc j) * silu (z j)

/-- The second mixer's output: the two directions' sum normalised, the gate. -/
def gateB (rf rb : Fin 512 → EReal) (g : Fin 64 → EReal) (z : Fin 512 → EReal) (j : Fin 512) : EReal :=
  headNorm (fun x => rf x + rb x) g j * silu (z j)

/-- Two half rows side by side. -/
def cat (a b : Fin 512 → EReal) (x : Fin 1024) : EReal :=
  if h : x.val < 512 then a ⟨x.val, h⟩ else b ⟨x.val - 512, by omega⟩

/-- The output projection of two half rows. -/
def proj (a b : Fin 512 → EReal) (w : Fin 1024 → Fin 1024 → EReal) (j : Fin 1024) : EReal := ∑ x, cat a b x * w x j

/-- The root mean square norm of a row. -/
def rowNorm (t g : Fin 1024 → EReal) (j : Fin 1024) : EReal :=
  t j * Ideal.rsqrt (Ideal.div (∑ x, t x * t x) w1024 + eps) * g j

/-- A residual connection: the row plus the gated norm of `t`. -/
def addGated (x gate t g : Fin 1024 → EReal) (j : Fin 1024) : EReal := x j + gate j * rowNorm t g j

/-- The norm of a row, scaled and shifted. -/
def modulated (x g scale shift : Fin 1024 → EReal) (j : Fin 1024) : EReal := rowNorm x g j * (1 + scale j) + shift j

/-- The hidden row of the feed-forward layer, and the layer. -/
def hiddenRow (u : Fin 1024 → EReal) (w1 : Fin 1024 → Fin 4096 → EReal) (k : Fin 4096) : EReal := max (∑ x, u x * w1 x k) 0
def mlp (u : Fin 1024 → EReal) (w1 : Fin 1024 → Fin 4096 → EReal) (w2 : Fin 4096 → Fin 1024 → EReal) (j : Fin 1024) : EReal :=
  ∑ k, hiddenRow u w1 k * hiddenRow u w1 k * w2 k j

/-- The row after the mixers' residual connection. -/
def midRow (x : Fin 1024 → EReal) (hf hb z xc rf rb rg : Fin 512 → EReal) (gm : Fin 64 → EReal) (sk : Fin 512 → EReal) (gr : Fin 64 → EReal) (wo : Fin 1024 → Fin 1024 → EReal)
    (gate g1 : Fin 1024 → EReal) : Fin 1024 → EReal :=
  addGated x gate (proj (gateA hf hb gm sk xc z) (gateB rf rb gr rg) wo) g1

/-- The row after the feed-forward layer's residual connection. -/
def lastRow (y shift scale gate g2 g3 : Fin 1024 → EReal) (w1 : Fin 1024 → Fin 4096 → EReal) (w2 : Fin 4096 → Fin 1024 → EReal) : Fin 1024 → EReal :=
  addGated y gate (mlp (modulated y g2 scale shift) w1 w2) g3

/-- A sum over 512 columns of which the mask keeps one head. -/
theorem head_sum (f : Fin 512 → EReal) (j : Fin 512) :
    ∑ x : Fin 512, f x * (if x.val / 64 = j.val / 64 then 1 else 0 : EReal) = ∑ d, f (headCol j d) := by
  rw [← Equiv.sum_comp (finProdFinEquiv : Fin 8 × Fin 64 ≃ Fin 512), Fintype.sum_prod_type]
  refine (Finset.sum_eq_single (⟨j.val / 64, by omega⟩ : Fin 8) (fun h _ hh => ?_) (fun h => absurd (Finset.mem_univ _) h)).trans ?_
  · refine Finset.sum_eq_zero fun d _ => ?_
    have hv : (finProdFinEquiv (h, d) : Fin (8 * 64)).val = d.val + 64 * h.val := rfl
    have hne : h.val ≠ j.val / 64 := fun e => hh (Fin.ext e)
    rw [if_neg (by rw [hv]; omega), mul_zero]
  · refine Finset.sum_congr rfl fun d _ => ?_
    have hv : (finProdFinEquiv ((⟨j.val / 64, by omega⟩ : Fin 8), d) : Fin (8 * 64)).val = d.val + 64 * (j.val / 64) := rfl
    rw [if_pos (by rw [hv]; omega), mul_one]
    exact congrArg f (Fin.ext (by rw [hv]; show _ = j.val / 64 * 64 + d.val; omega))

/-- A sum over 1024 columns in two halves, and one over 4096 in four quarters. -/
theorem sum_halves (f : Fin 1024 → EReal) :
    ∑ x, f x = (∑ x : Fin 512, f ⟨x.val, by omega⟩) + ∑ x : Fin 512, f ⟨512 + x.val, by omega⟩ := by
  rw [← Equiv.sum_comp (finProdFinEquiv : Fin 2 × Fin 512 ≃ Fin 1024), Fintype.sum_prod_type, Fin.sum_univ_two]
  refine congrArg₂ (· + ·) ?_ ?_ <;> refine Finset.sum_congr rfl fun x _ => congrArg f (Fin.ext ?_)
  · show x.val + 512 * 0 = x.val; omega
  · show x.val + 512 * 1 = 512 + x.val; omega

/-- A sum over 4096 columns in four quarters. -/
theorem sum_quarters (f : Fin 4096 → EReal) :
    ∑ x, f x = (∑ x : Fin 1024, f ⟨x.val, by omega⟩) + (∑ x : Fin 1024, f ⟨1024 + x.val, by omega⟩) +
      (∑ x : Fin 1024, f ⟨2048 + x.val, by omega⟩) + ∑ x : Fin 1024, f ⟨3072 + x.val, by omega⟩ := by
  rw [← Equiv.sum_comp (finProdFinEquiv : Fin 4 × Fin 1024 ≃ Fin 4096), Fintype.sum_prod_type, Fin.sum_univ_four]
  refine congrArg₂ (· + ·) (congrArg₂ (· + ·) (congrArg₂ (· + ·) ?_ ?_) ?_) ?_ <;>
    refine Finset.sum_congr rfl fun x _ => congrArg f (Fin.ext ?_)
  · show x.val + 1024 * 0 = x.val; omega
  · show x.val + 1024 * 1 = 1024 + x.val; omega
  · show x.val + 1024 * 2 = 2048 + x.val; omega
  · show x.val + 1024 * 3 = 3072 + x.val; omega

/-- Dividing by the word of 64 is multiplying by the word of its reciprocal. -/
theorem div_w64 (x : EReal) : Ideal.div x w64 = x * Ideal.ofBits .f32 0x3C800000#32 := by
  have h1 : w64 = ((64 : ℝ) : EReal) := by
    simp [w64, Ideal.ofBits, Ideal.ieee, -EReal.coe_mul]; norm_num
  have h2 : Ideal.ofBits .f32 0x3C800000#32 = ((1 / 64 : ℝ) : EReal) := by
    simp [Ideal.ofBits, Ideal.ieee, -EReal.coe_mul]; norm_num
  rw [h1, h2, Ideal.div_coe (by norm_num)]

/-- The norm of the heads, its sums taken over all columns under a mask. -/
theorem headNorm_eq (f : Fin 512 → EReal) (g : Fin 64 → EReal) (j : Fin 512) :
    headNorm f g j = f j * Ideal.rsqrt ((∑ x : Fin 512, f x * f x * (if x.val / 64 = j.val / 64 then 1 else 0 : EReal)) *
      Ideal.ofBits .f32 0x3C800000#32 + eps) * g ⟨j.val % 64, by omega⟩ := by
  rw [head_sum (fun x => f x * f x), ← div_w64]; rfl

end Cert.OutRow

end
-- ==== Proof.OutRun.lean ====
/- The run of the output projection and feed-forward call: what each output block holds after the body, the body's triple,
   the launch, and the frame of the whole program, over any float values. -/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel2Ideal.OutRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1440000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-! ## The body's accesses -/

abbrev r0_0 : Rect S512x512 := Rect.unit (s := S512x512) ![0, 0] S512x512.size inb_S512x512_S512x512_0_0
abbrev r0_1 : Rect S512x512 := Rect.unit (s := S512x512) ![0, 0] S256x512.size inb_S512x512_S256x512_0_0
abbrev r0_2 : Rect S1x512 := Rect.unit (s := S1x512) ![0, 0] S1x512.size inb_S1x512_S1x512_0_0
abbrev r0_3 : Rect S512x512 := Rect.unit (s := S512x512) ![256, 0] S256x512.size inb_S512x512_S256x512_256_0
abbrev r0_4 : Rect S512x1024 := Rect.unit (s := S512x1024) ![0, 0] S512x1024.size inb_S512x1024_S512x1024_0_0
abbrev r0_5 : Rect S512x1024 := Rect.unit (s := S512x1024) ![0, 0] S256x1024.size inb_S512x1024_S256x1024_0_0
abbrev r0_6 : Rect S1x1x1x1024 := Rect.unit (s := S1x1x1x1024) ![0, 0, 0, 0] S1x1x1x1024.size inb_S1x1x1x1024_S1x1x1x1024_0_0_0_0
abbrev r0_7 : Rect S512x1024 := Rect.unit (s := S512x1024) ![256, 0] S256x1024.size inb_S512x1024_S256x1024_256_0
abbrev r0_8 : Rect S1024x4096 := Rect.unit (s := S1024x4096) ![0, 0] S1024x1024.size inb_S1024x4096_S1024x1024_0_0
abbrev r0_9 : Rect S4096x1024 := Rect.unit (s := S4096x1024) ![0, 0] S1024x1024.size inb_S4096x1024_S1024x1024_0_0
abbrev r0_10 : Rect S1024x4096 := Rect.unit (s := S1024x4096) ![0, 1024] S1024x1024.size inb_S1024x4096_S1024x1024_0_1024
abbrev r0_11 : Rect S4096x1024 := Rect.unit (s := S4096x1024) ![1024, 0] S1024x1024.size inb_S4096x1024_S1024x1024_1024_0
abbrev r0_12 : Rect S1024x4096 := Rect.unit (s := S1024x4096) ![0, 2048] S1024x1024.size inb_S1024x4096_S1024x1024_0_2048
abbrev r0_13 : Rect S4096x1024 := Rect.unit (s := S4096x1024) ![2048, 0] S1024x1024.size inb_S4096x1024_S1024x1024_2048_0
abbrev r0_14 : Rect S1024x4096 := Rect.unit (s := S1024x4096) ![0, 3072] S1024x1024.size inb_S1024x4096_S1024x1024_0_3072
abbrev r0_15 : Rect S4096x1024 := Rect.unit (s := S4096x1024) ![3072, 0] S1024x1024.size inb_S4096x1024_S1024x1024_3072_0

/-! ## What the body leaves in each output window's buffer -/

/-! ### Values of the body that the stores' payloads, spelt out, would write more than once

    Each is a vector the body binds (often a part call's result), stated over the input windows' blocks and
    numbered on from the skeleton's payload functions (`k0_pay28` …, after `k0_pay27`), so that
    `out0_W` and the values after it name it instead of spelling it out (`unfold_out out0_W` opens a canon
    with them, `unfold_payloads` opens them with the payloads); the comment after each is the printed function's
    name for the value (a count appended where that name is bound again). -/

def k0_pay28 (x0 : Vec F S512x1024 .f32) (x1 : Vec F S512x512 .bf16) (x2 : Vec F S512x512 .f32) (x3 : Vec F S512x512 .f32) (x4 : Vec F S512x512 .f32) (x5 : Vec F S1x512 .f32) (x6 : Vec F S1x512 .f32) (x7 : Vec F S512x512 .f32) (x8 : Vec F S512x512 .f32) (x9 : Vec F S512x512 .f32) (x10 : Vec F S512x512 .f32) (x11 : Vec F S1x512 .f32) (x12 : Vec F S1x1x1x1024 .f32) (x13 : Vec F S1x1x1x1024 .f32) (x14 : Vec F S1x1x1x1024 .f32) (x15 : Vec F S1x1x1x1024 .f32) (x16 : Vec F S1x1x1x1024 .f32) (x17 : Vec F S1x1x1x1024 .f32) (x18 : Vec F S1x1x1x1024 .f32) (x19 : Vec F S512x1024 .bf16) (x20 : Vec F S512x1024 .bf16) (x21 : Vec F S1024x4096 .bf16) (x22 : Vec F S4096x1024 .bf16) : FVec F S256x1024 .f32 :=
  k0_pay6 (k0_pay1 (View.ld x1 r0_0) (View.ld x2 r0_1) (View.ld x3 r0_1) (View.ld x5 r0_2) (View.ld x6 r0_2) (View.ld x7 r0_1) (View.ld x4 r0_1)) (k0_pay3 (View.ld x1 r0_0) (View.ld x8 r0_1) (View.ld x9 r0_1) (View.ld x11 r0_2) (View.ld x10 r0_1)) (View.ld x19 r0_4) (View.ld x20 r0_4) -- `v148`
def k0_pay29 (x0 : Vec F S512x1024 .f32) (x1 : Vec F S512x512 .bf16) (x2 : Vec F S512x512 .f32) (x3 : Vec F S512x512 .f32) (x4 : Vec F S512x512 .f32) (x5 : Vec F S1x512 .f32) (x6 : Vec F S1x512 .f32) (x7 : Vec F S512x512 .f32) (x8 : Vec F S512x512 .f32) (x9 : Vec F S512x512 .f32) (x10 : Vec F S512x512 .f32) (x11 : Vec F S1x512 .f32) (x12 : Vec F S1x1x1x1024 .f32) (x13 : Vec F S1x1x1x1024 .f32) (x14 : Vec F S1x1x1x1024 .f32) (x15 : Vec F S1x1x1x1024 .f32) (x16 : Vec F S1x1x1x1024 .f32) (x17 : Vec F S1x1x1x1024 .f32) (x18 : Vec F S1x1x1x1024 .f32) (x19 : Vec F S512x1024 .bf16) (x20 : Vec F S512x1024 .bf16) (x21 : Vec F S1024x4096 .bf16) (x22 : Vec F S4096x1024 .bf16) : FVec F S256x1024 .f32 :=
  k0_pay9 (k0_pay7 (k0_pay2 (View.ld x1 r0_0) (View.ld x2 r0_3) (View.ld x3 r0_3) (View.ld x5 r0_2) (View.ld x6 r0_2) (View.ld x7 r0_3) (View.ld x4 r0_3)) (View.ld x19 r0_4)) (k0_pay8 (k0_pay4 (View.ld x1 r0_0)) (k0_pay5 (View.ld x8 r0_3) (View.ld x9 r0_3)) (View.ld x11 r0_2) (View.ld x10 r0_3) (View.ld x20 r0_4)) -- `v155`
def k0_pay30 (x0 : Vec F S512x1024 .f32) (x1 : Vec F S512x512 .bf16) (x2 : Vec F S512x512 .f32) (x3 : Vec F S512x512 .f32) (x4 : Vec F S512x512 .f32) (x5 : Vec F S1x512 .f32) (x6 : Vec F S1x512 .f32) (x7 : Vec F S512x512 .f32) (x8 : Vec F S512x512 .f32) (x9 : Vec F S512x512 .f32) (x10 : Vec F S512x512 .f32) (x11 : Vec F S1x512 .f32) (x12 : Vec F S1x1x1x1024 .f32) (x13 : Vec F S1x1x1x1024 .f32) (x14 : Vec F S1x1x1x1024 .f32) (x15 : Vec F S1x1x1x1024 .f32) (x16 : Vec F S1x1x1x1024 .f32) (x17 : Vec F S1x1x1x1024 .f32) (x18 : Vec F S1x1x1x1024 .f32) (x19 : Vec F S512x1024 .bf16) (x20 : Vec F S512x1024 .bf16) (x21 : Vec F S1024x4096 .bf16) (x22 : Vec F S4096x1024 .bf16) : FVec F S256x1024 .bf16 :=
  k0_pay12 (k0_pay11 (k0_pay28 x0 x1 x2 x3 x4 x5 x6 x7 x8 x9 x10 x11 x12 x13 x14 x15 x16 x17 x18 x19 x20 x21 x22) (View.ld x0 r0_5) (View.ld x12 r0_6) (View.ld x16 r0_6) (View.ld x17 r0_6)) (View.ld x14 r0_6) (View.ld x13 r0_6) -- `v201`
def k0_pay31 (x0 : Vec F S512x1024 .f32) (x1 : Vec F S512x512 .bf16) (x2 : Vec F S512x512 .f32) (x3 : Vec F S512x512 .f32) (x4 : Vec F S512x512 .f32) (x5 : Vec F S1x512 .f32) (x6 : Vec F S1x512 .f32) (x7 : Vec F S512x512 .f32) (x8 : Vec F S512x512 .f32) (x9 : Vec F S512x512 .f32) (x10 : Vec F S512x512 .f32) (x11 : Vec F S1x512 .f32) (x12 : Vec F S1x1x1x1024 .f32) (x13 : Vec F S1x1x1x1024 .f32) (x14 : Vec F S1x1x1x1024 .f32) (x15 : Vec F S1x1x1x1024 .f32) (x16 : Vec F S1x1x1x1024 .f32) (x17 : Vec F S1x1x1x1024 .f32) (x18 : Vec F S1x1x1x1024 .f32) (x19 : Vec F S512x1024 .bf16) (x20 : Vec F S512x1024 .bf16) (x21 : Vec F S1024x4096 .bf16) (x22 : Vec F S4096x1024 .bf16) : FVec F S256x1024 .f32 :=
  k0_pay13 (k0_pay29 x0 x1 x2 x3 x4 x5 x6 x7 x8 x9 x10 x11 x12 x13 x14 x15 x16 x17 x18 x19 x20 x21 x22) (View.ld x0 r0_7) (View.ld x12 r0_6) (View.ld x16 r0_6) -- `v222`
def k0_pay32 (x0 : Vec F S512x1024 .f32) (x1 : Vec F S512x512 .bf16) (x2 : Vec F S512x512 .f32) (x3 : Vec F S512x512 .f32) (x4 : Vec F S512x512 .f32) (x5 : Vec F S1x512 .f32) (x6 : Vec F S1x512 .f32) (x7 : Vec F S512x512 .f32) (x8 : Vec F S512x512 .f32) (x9 : Vec F S512x512 .f32) (x10 : Vec F S512x512 .f32) (x11 : Vec F S1x512 .f32) (x12 : Vec F S1x1x1x1024 .f32) (x13 : Vec F S1x1x1x1024 .f32) (x14 : Vec F S1x1x1x1024 .f32) (x15 : Vec F S1x1x1x1024 .f32) (x16 : Vec F S1x1x1x1024 .f32) (x17 : Vec F S1x1x1x1024 .f32) (x18 : Vec F S1x1x1x1024 .f32) (x19 : Vec F S512x1024 .bf16) (x20 : Vec F S512x1024 .bf16) (x21 : Vec F S1024x4096 .bf16) (x22 : Vec F S4096x1024 .bf16) : FVec F S256x1 .f32 :=
  k0_pay14 (k0_pay29 x0 x1 x2 x3 x4 x5 x6 x7 x8 x9 x10 x11 x12 x13 x14 x15 x16 x17 x18 x19 x20 x21 x22) (View.ld x0 r0_7) (View.ld x12 r0_6) (View.ld x16 r0_6) -- `v229`
def k0_pay33 (x0 : Vec F S512x1024 .f32) (x1 : Vec F S512x512 .bf16) (x2 : Vec F S512x512 .f32) (x3 : Vec F S512x512 .f32) (x4 : Vec F S512x512 .f32) (x5 : Vec F S1x512 .f32) (x6 : Vec F S1x512 .f32) (x7 : Vec F S512x512 .f32) (x8 : Vec F S512x512 .f32) (x9 : Vec F S512x512 .f32) (x10 : Vec F S512x512 .f32) (x11 : Vec F S1x512 .f32) (x12 : Vec F S1x1x1x1024 .f32) (x13 : Vec F S1x1x1x1024 .f32) (x14 : Vec F S1x1x1x1024 .f32) (x15 : Vec F S1x1x1x1024 .f32) (x16 : Vec F S1x1x1x1024 .f32) (x17 : Vec F S1x1x1x1024 .f32) (x18 : Vec F S1x1x1x1024 .f32) (x19 : Vec F S512x1024 .bf16) (x20 : Vec F S512x1024 .bf16) (x21 : Vec F S1024x4096 .bf16) (x22 : Vec F S4096x1024 .bf16) : FVec F S256x1024 .bf16 :=
  k0_pay15 (k0_pay31 x0 x1 x2 x3 x4 x5 x6 x7 x8 x9 x10 x11 x12 x13 x14 x15 x16 x17 x18 x19 x20 x21 x22) (k0_pay32 x0 x1 x2 x3 x4 x5 x6 x7 x8 x9 x10 x11 x12 x13 x14 x15 x16 x17 x18 x19 x20 x21 x22) (View.ld x17 r0_6) (View.ld x14 r0_6) (View.ld x13 r0_6) -- `v247`
def k0_pay34 (x0 : Vec F S512x1024 .f32) (x1 : Vec F S512x512 .bf16) (x2 : Vec F S512x512 .f32) (x3 : Vec F S512x512 .f32) (x4 : Vec F S512x512 .f32) (x5 : Vec F S1x512 .f32) (x6 : Vec F S1x512 .f32) (x7 : Vec F S512x512 .f32) (x8 : Vec F S512x512 .f32) (x9 : Vec F S512x512 .f32) (x10 : Vec F S512x512 .f32) (x11 : Vec F S1x512 .f32) (x12 : Vec F S1x1x1x1024 .f32) (x13 : Vec F S1x1x1x1024 .f32) (x14 : Vec F S1x1x1x1024 .f32) (x15 : Vec F S1x1x1x1024 .f32) (x16 : Vec F S1x1x1x1024 .f32) (x17 : Vec F S1x1x1x1024 .f32) (x18 : Vec F S1x1x1x1024 .f32) (x19 : Vec F S512x1024 .bf16) (x20 : Vec F S512x1024 .bf16) (x21 : Vec F S1024x4096 .bf16) (x22 : Vec F S4096x1024 .bf16) : FVec F S256x1024 .f32 :=
  k0_pay18 (k0_pay30 x0 x1 x2 x3 x4 x5 x6 x7 x8 x9 x10 x11 x12 x13 x14 x15 x16 x17 x18 x19 x20 x21 x22) (k0_pay16 (k0_pay30 x0 x1 x2 x3 x4 x5 x6 x7 x8 x9 x10 x11 x12 x13 x14 x15 x16 x17 x18 x19 x20 x21 x22) (View.ld x21 r0_8) (View.ld x22 r0_9)) (View.ld x21 r0_10) (View.ld x22 r0_11) -- `v281`
def k0_pay35 (x0 : Vec F S512x1024 .f32) (x1 : Vec F S512x512 .bf16) (x2 : Vec F S512x512 .f32) (x3 : Vec F S512x512 .f32) (x4 : Vec F S512x512 .f32) (x5 : Vec F S1x512 .f32) (x6 : Vec F S1x512 .f32) (x7 : Vec F S512x512 .f32) (x8 : Vec F S512x512 .f32) (x9 : Vec F S512x512 .f32) (x10 : Vec F S512x512 .f32) (x11 : Vec F S1x512 .f32) (x12 : Vec F S1x1x1x1024 .f32) (x13 : Vec F S1x1x1x1024 .f32) (x14 : Vec F S1x1x1x1024 .f32) (x15 : Vec F S1x1x1x1024 .f32) (x16 : Vec F S1x1x1x1024 .f32) (x17 : Vec F S1x1x1x1024 .f32) (x18 : Vec F S1x1x1x1024 .f32) (x19 : Vec F S512x1024 .bf16) (x20 : Vec F S512x1024 .bf16) (x21 : Vec F S1024x4096 .bf16) (x22 : Vec F S4096x1024 .bf16) : FVec F S256x1024 .bf16 :=
  k0_pay21 (k0_pay30 x0 x1 x2 x3 x4 x5 x6 x7 x8 x9 x10 x11 x12 x13 x14 x15 x16 x17 x18 x19 x20 x21 x22) (View.ld x21 r0_12) -- `v299`

/-- Window 23's staging buffer after the body, from the input windows' blocks: its 2 stores as pieces, LAST
    FIRST (Lib/Pipeline/FrameBody.lean `View.canon`; the payloads are the skeleton's and the values stated above). -/
def out0_23 (x0 : Vec F S512x1024 .f32) (x1 : Vec F S512x512 .bf16) (x2 : Vec F S512x512 .f32) (x3 : Vec F S512x512 .f32) (x4 : Vec F S512x512 .f32) (x5 : Vec F S1x512 .f32) (x6 : Vec F S1x512 .f32) (x7 : Vec F S512x512 .f32) (x8 : Vec F S512x512 .f32) (x9 : Vec F S512x512 .f32) (x10 : Vec F S512x512 .f32) (x11 : Vec F S1x512 .f32) (x12 : Vec F S1x1x1x1024 .f32) (x13 : Vec F S1x1x1x1024 .f32) (x14 : Vec F S1x1x1x1024 .f32) (x15 : Vec F S1x1x1x1024 .f32) (x16 : Vec F S1x1x1x1024 .f32) (x17 : Vec F S1x1x1x1024 .f32) (x18 : Vec F S1x1x1x1024 .f32) (x19 : Vec F S512x1024 .bf16) (x20 : Vec F S512x1024 .bf16) (x21 : Vec F S1024x4096 .bf16) (x22 : Vec F S4096x1024 .bf16) : Vec F S512x1024 .f32 :=
  View.canon [⟨r0_7, k0_pay27 (k0_pay31 x0 x1 x2 x3 x4 x5 x6 x7 x8 x9 x10 x11 x12 x13 x14 x15 x16 x17 x18 x19 x20 x21 x22) (k0_pay23 (k0_pay33 x0 x1 x2 x3 x4 x5 x6 x7 x8 x9 x10 x11 x12 x13 x14 x15 x16 x17 x18 x19 x20 x21 x22) (k0_pay19 (k0_pay33 x0 x1 x2 x3 x4 x5 x6 x7 x8 x9 x10 x11 x12 x13 x14 x15 x16 x17 x18 x19 x20 x21 x22) (k0_pay17 (k0_pay31 x0 x1 x2 x3 x4 x5 x6 x7 x8 x9 x10 x11 x12 x13 x14 x15 x16 x17 x18 x19 x20 x21 x22) (k0_pay32 x0 x1 x2 x3 x4 x5 x6 x7 x8 x9 x10 x11 x12 x13 x14 x15 x16 x17 x18 x19 x20 x21 x22) (View.ld x17 r0_6) (View.ld x14 r0_6) (View.ld x13 r0_6) (View.ld x21 r0_8)) (View.ld x22 r0_9) (View.ld x21 r0_10) (View.ld x22 r0_11)) (k0_pay20 (k0_pay33 x0 x1 x2 x3 x4 x5 x6 x7 x8 x9 x10 x11 x12 x13 x14 x15 x16 x17 x18 x19 x20 x21 x22) (View.ld x21 r0_12)) (View.ld x22 r0_13) (View.ld x21 r0_14) (View.ld x22 r0_15)) (View.ld x15 r0_6) (View.ld x18 r0_6)⟩,
    ⟨r0_5, k0_pay26 (k0_pay10 (k0_pay28 x0 x1 x2 x3 x4 x5 x6 x7 x8 x9 x10 x11 x12 x13 x14 x15 x16 x17 x18 x19 x20 x21 x22) (View.ld x0 r0_5) (View.ld x12 r0_6) (View.ld x16 r0_6)) (k0_pay22 (k0_pay30 x0 x1 x2 x3 x4 x5 x6 x7 x8 x9 x10 x11 x12 x13 x14 x15 x16 x17 x18 x19 x20 x21 x22) (k0_pay34 x0 x1 x2 x3 x4 x5 x6 x7 x8 x9 x10 x11 x12 x13 x14 x15 x16 x17 x18 x19 x20 x21 x22) (k0_pay35 x0 x1 x2 x3 x4 x5 x6 x7 x8 x9 x10 x11 x12 x13 x14 x15 x16 x17 x18 x19 x20 x21 x22) (View.ld x22 r0_13) (View.ld x21 r0_14) (View.ld x22 r0_15)) (k0_pay24 (View.ld x15 r0_6)) (k0_pay25 (k0_pay30 x0 x1 x2 x3 x4 x5 x6 x7 x8 x9 x10 x11 x12 x13 x14 x15 x16 x17 x18 x19 x20 x21 x22) (k0_pay34 x0 x1 x2 x3 x4 x5 x6 x7 x8 x9 x10 x11 x12 x13 x14 x15 x16 x17 x18 x19 x20 x21 x22) (k0_pay35 x0 x1 x2 x3 x4 x5 x6 x7 x8 x9 x10 x11 x12 x13 x14 x15 x16 x17 x18 x19 x20 x21 x22) (View.ld x22 r0_13) (View.ld x21 r0_14) (View.ld x22 r0_15)) (View.ld x18 r0_6)⟩]

/-- Its two stores tile the buffer, so they cover it. -/
theorem cover0_23 (p0 : Vec F S256x1024 .f32) (p1 : Vec F S256x1024 .f32) (y : S512x1024.Idx) :
    ∃ pc ∈ ([⟨r0_7, p0⟩, ⟨r0_5, p1⟩] : List (View.Piece (Elt F) S512x1024 .f32)), y ∈ pc.1.set :=
  View.cover_of_tiled [⟨r0_7, p0⟩, ⟨r0_5, p1⟩] S256x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S512x512 .bf16) (harg2 : arg2.IsWhole) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S1x512 .f32) (harg12 : arg12.IsWhole) (arg13 : Memref sig .tc .vmem S1x1x1x1024 .f32) (harg13 : arg13.IsWhole) (arg14 : Memref sig .tc .vmem S1x1x1x1024 .f32) (harg14 : arg14.IsWhole) (arg15 : Memref sig .tc .vmem S1x1x1x1024 .f32) (harg15 : arg15.IsWhole) (arg16 : Memref sig .tc .vmem S1x1x1x1024 .f32) (harg16 : arg16.IsWhole) (arg17 : Memref sig .tc .vmem S1x1x1x1024 .f32) (harg17 : arg17.IsWhole) (arg18 : Memref sig .tc .vmem S1x1x1x1024 .f32) (harg18 : arg18.IsWhole) (arg19 : Memref sig .tc .vmem S1x1x1x1024 .f32) (harg19 : arg19.IsWhole) (arg20 : Memref sig .tc .vmem S512x1024 .bf16) (harg20 : arg20.IsWhole) (arg21 : Memref sig .tc .vmem S512x1024 .bf16) (harg21 : arg21.IsWhole) (arg22 : Memref sig .tc .vmem S1024x4096 .bf16) (harg22 : arg22.IsWhole) (arg23 : Memref sig .tc .vmem S4096x1024 .bf16) (harg23 : arg23.IsWhole) (arg24 : Memref sig .tc .vmem S512x1024 .f32) (harg24 : arg24.IsWhole)
    (x0 : Vec F S512x1024 .f32) (x1 : Vec F S512x512 .bf16) (x2 : Vec F S512x512 .f32) (x3 : Vec F S512x512 .f32) (x4 : Vec F S512x512 .f32) (x5 : Vec F S1x512 .f32) (x6 : Vec F S1x512 .f32) (x7 : Vec F S512x512 .f32) (x8 : Vec F S512x512 .f32) (x9 : Vec F S512x512 .f32) (x10 : Vec F S512x512 .f32) (x11 : Vec F S1x512 .f32) (x12 : Vec F S1x1x1x1024 .f32) (x13 : Vec F S1x1x1x1024 .f32) (x14 : Vec F S1x1x1x1024 .f32) (x15 : Vec F S1x1x1x1024 .f32) (x16 : Vec F S1x1x1x1024 .f32) (x17 : Vec F S1x1x1x1024 .f32) (x18 : Vec F S1x1x1x1024 .f32) (x19 : Vec F S512x1024 .bf16) (x20 : Vec F S512x1024 .bf16) (x21 : Vec F S1024x4096 .bf16) (x22 : Vec F S4096x1024 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (out0_23 x0 x1 x2 x3 x4 x5 x6 x7 x8 x9 x10 x11 x12 x13 x14 x15 x16 x17 x18 x19 x20 x21 x22)) -∗ K ⟨⟩))
      ⊢ wp frame (wpE (defs₀ (F := F)) Variants.none c none) E (cc0_out_mlp1_lat i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_out_mlp1_lat_eq_skeleton]; unfold cc0_out_mlp1_lat_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, Hk⟩
  subst hf0 hf1 hf2 hf3 hf4 hf5 hf6 hf7 hf8 hf9 hf10 hf11 hf12 hf13 hf14 hf15 hf16 hf17 hf18 hf19 hf20 hf21 hf22
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  iexists _; isplitr
  swap; · iexact H23
  ipureintro
  refine (View.read_writes_eq_canon _ _ _ (cover0_23 _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
    | ⟨_ + 24, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_Kernel2Ideal`'s statement (Defs.lean) at any `F` — Proof.lean cites it at `Bits`:
    `theorem Cert.Proof.claim : Cert.Claim := ⟨Cert.Kernel2Ideal.Gen.facts, fun m ρ _ => Cert.Kernel2Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

section Blocks

variable (m : (ℓ : Loc nD τ sig) → Buf (Elt F) ℓ) (ρ : Dev nD → PrngReg)

/-- WHAT POINT `t` WRITES BACK to output window 23's array: the body's result for that window (`Gen.out0_23`: its stores
    as pieces over the input windows' blocks), read through the window's block. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) := by
  show (cfg0.win 23).cut (grid0.coords t) ((dats m 0 c).after 23 t) = _
  rw [after0_23]

/-- After the frame run, output window 23's array is `(dats m 0 c).arrAt 23 N`. -/
theorem post23 (r : PUnit × MemSt nD τ sig (Elt F)) (h : Pipeline.FramePost cfgs (dats m) 0 (V m) r) (c : Dev nD) :
    r.2.mem ((c : Thread nD τ).loc main_v41) = (dats m 0 c).arrAt 23 cfg0.N :=
  (h c).1 23

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v41) = (dats m 0 c).arrAt 23 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨post23 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c⟩)
    (run_main m ρ)

end Blocks

end Cert.Kernel2Ideal.OutRun

end
-- ==== Proof.OutBlock.lean ====
/- What the output projection and feed-forward kernel computes of one half of a block of rows. -/
module

public import proofs.«01_k».proof.Proof.Row
public import proofs.«01_k».proof.Proof.OutRun
public import Idealize.ShloMosaic.Lib.Pipeline.Value
public import Idealize.ShloMosaic.Lib.Pipeline.ValueKit.Tiles

@[expose] public section

set_option maxRecDepth 16384

noncomputable section

namespace Cert.Kernel2Ideal.OutMlp

open Cert.Kernel2Ideal Cert.Kernel2Ideal.Gen Idealize.ShloMosaic Idealize.ShloMosaic.TcCoe Cert.OutRow

variable (o : Vec Ideal S512x512 .bf16) (hf hb : Vec Ideal S256x512 .f32) (gn sk : Vec Ideal S1x512 .f32) (xc z rf rb : Vec Ideal S256x512 .f32)
  (gr : Vec Ideal S1x512 .f32) (rg : Vec Ideal S256x512 .f32) (wa wb : Vec Ideal S512x1024 .bf16) (x : Vec Ideal S256x1024 .f32)
  (gate g1 g2 scale shift gate2 g3 : Vec Ideal S1x1x1x1024 .f32) (wA vA wB vB wC vC wD vD : Vec Ideal S1024x1024 .bf16)

/-- The kernel's projected mixers, its row after them, its feed-forward layer's input and output, for 256 rows. -/
def mixed : FVec Ideal S256x1024 .f32 := k0_pay6 (k0_pay1 o hf hb gn sk xc z) (k0_pay3 o rf rb gr rg) wa wb
def ffIn (t : FVec Ideal S256x1024 .f32) : FVec Ideal S256x1024 .bf16 := k0_pay12 (k0_pay11 t x gate g1 g2) scale shift
def ffOut (u : FVec Ideal S256x1024 .bf16) : FVec Ideal S256x1024 .f32 :=
  k0_pay22 u (k0_pay18 u (k0_pay16 u wA vA) wB vB) (k0_pay21 u wC) vC wD vD
def after (y h : FVec Ideal S256x1024 .f32) : FVec Ideal S256x1024 .f32 := k0_pay26 y h (k0_pay24 gate2) (mulf h h) g3

/-- All that the kernel computes for 256 rows. -/
def half : FVec Ideal S256x1024 .f32 :=
  after gate2 g3 (k0_pay10 (F := Ideal) (mixed o hf hb gn sk xc z rf rb gr rg wa wb) x gate g1)
    (ffOut wA vA wB vB wC vC wD vD (ffIn x gate g1 g2 scale shift (mixed o hf hb gn sk xc z rf rb gr rg wa wb)))

/-- The first mixer's half of the projection's operand, at an index. -/
theorem pay1_at (ho : ∀ x j : Fin 512, o (ix2 x j) = (if x.val / 64 = j.val / 64 then 1 else 0 : EReal)) (g : Fin 64 → EReal)
    (hg : ∀ j : Fin 512, gn (ix2 0 j) = g ⟨j.val % 64, by omega⟩) (r : Fin 256) (j : Fin 512) :
    k0_pay1 (F := Ideal) o hf hb gn sk xc z (ix2 r j) =
      gateA (fun x => hf (ix2 r x)) (fun x => hb (ix2 r x)) g (fun x => sk (ix2 0 x)) (fun x => xc (ix2 r x)) (fun x => z (ix2 r x)) j := by
  unfold gateA silu
  rw [headNorm_eq, ← hg]
  simp only [← ho, eps]
  pointwise [k0_pay1]

/-- The second mixer's half. -/
theorem pay3_at (ho : ∀ x j : Fin 512, o (ix2 x j) = (if x.val / 64 = j.val / 64 then 1 else 0 : EReal)) (g : Fin 64 → EReal)
    (hg : ∀ j : Fin 512, gr (ix2 0 j) = g ⟨j.val % 64, by omega⟩) (r : Fin 256) (j : Fin 512) :
    k0_pay3 (F := Ideal) o rf rb gr rg (ix2 r j) =
      gateB (fun x => rf (ix2 r x)) (fun x => rb (ix2 r x)) g (fun x => rg (ix2 r x)) j := by
  unfold gateB silu
  rw [headNorm_eq, ← hg]
  simp only [← ho, eps]
  pointwise [k0_pay3]

/-- The projected mixers. -/
theorem mixed_at (ho : ∀ x j : Fin 512, o (ix2 x j) = (if x.val / 64 = j.val / 64 then 1 else 0 : EReal)) (gm gs : Fin 64 → EReal)
    (hg : ∀ j : Fin 512, gn (ix2 0 j) = gm ⟨j.val % 64, by omega⟩) (hs : ∀ j : Fin 512, gr (ix2 0 j) = gs ⟨j.val % 64, by omega⟩)
    (wo : Fin 1024 → Fin 1024 → EReal) (hwa : ∀ (i : Fin 512) j, wa (ix2 i j) = wo ⟨i.val, by omega⟩ j)
    (hwb : ∀ (i : Fin 512) j, wb (ix2 i j) = wo ⟨512 + i.val, by omega⟩ j) (r : Fin 256) (j : Fin 1024) :
    mixed o hf hb gn sk xc z rf rb gr rg wa wb (ix2 r j) =
      proj (gateA (fun x => hf (ix2 r x)) (fun x => hb (ix2 r x)) gm (fun x => sk (ix2 0 x)) (fun x => xc (ix2 r x)) (fun x => z (ix2 r x)))
        (gateB (fun x => rf (ix2 r x)) (fun x => rb (ix2 r x)) gs (fun x => rg (ix2 r x))) wo j := by
  unfold proj
  rw [sum_halves]
  have e1 : ∀ (a b : Fin 512 → EReal) (i : Fin 512), cat a b ⟨i.val, by omega⟩ = a i := fun a b i => dif_pos i.isLt
  have e2 : ∀ (a b : Fin 512 → EReal) (i : Fin 512), cat a b ⟨512 + i.val, by omega⟩ = b i := fun a b i => by
    unfold cat; rw [dif_neg (by simp)]; congr 1; exact Fin.ext (by simp)
  simp only [e1, e2, ← hwa, ← hwb, ← pay1_at o hf hb gn sk xc z ho gm hg r, ← pay3_at o rf rb gr rg ho gs hs r]
  unfold mixed
  generalize k0_pay1 (F := Ideal) o hf hb gn sk xc z = a
  generalize k0_pay3 (F := Ideal) o rf rb gr rg = b
  pointwise [k0_pay6]

/-- The row after the first residual connection. -/
theorem lat_at (t : FVec Ideal S256x1024 .f32) (r : Fin 256) (j : Fin 1024) :
    k0_pay10 (F := Ideal) t x gate g1 (ix2 r j) =
      addGated (fun j => x (ix2 r j)) (fun j => gate (ix4 0 0 0 j)) (fun j => t (ix2 r j)) (fun j => g1 (ix4 0 0 0 j)) j := by
  unfold addGated rowNorm eps w1024
  pointwise [k0_pay10]

/-- The feed-forward layer's input. -/
theorem ffIn_at (t : FVec Ideal S256x1024 .f32) (r : Fin 256) (j : Fin 1024) :
    ffIn x gate g1 g2 scale shift t (ix2 r j) =
      modulated (fun j => k0_pay10 (F := Ideal) t x gate g1 (ix2 r j)) (fun j => g2 (ix4 0 0 0 j)) (fun j => scale (ix4 0 0 0 j))
        (fun j => shift (ix4 0 0 0 j)) j := by
  have e : ffIn x gate g1 g2 scale shift t = k0_pay12 (F := Ideal) (k0_pay11 t x gate g1 g2) scale shift := rfl
  rw [e]
  unfold modulated rowNorm eps w1024 k0_pay11
  generalize k0_pay10 (F := Ideal) t x gate g1 = y
  pointwise [k0_pay12]

/-- The feed-forward layer, its hidden columns taken in four quarters. -/
theorem ffOut_at (u : FVec Ideal S256x1024 .bf16) (w1 : Fin 1024 → Fin 4096 → EReal) (w2 : Fin 4096 → Fin 1024 → EReal)
    (hA : ∀ i (k : Fin 1024), wA (ix2 i k) = w1 i ⟨k.val, by omega⟩) (kA : ∀ (k : Fin 1024) j, vA (ix2 k j) = w2 ⟨k.val, by omega⟩ j)
    (hB : ∀ i (k : Fin 1024), wB (ix2 i k) = w1 i ⟨1024 + k.val, by omega⟩) (kB : ∀ (k : Fin 1024) j, vB (ix2 k j) = w2 ⟨1024 + k.val, by omega⟩ j)
    (hC : ∀ i (k : Fin 1024), wC (ix2 i k) = w1 i ⟨2048 + k.val, by omega⟩) (kC : ∀ (k : Fin 1024) j, vC (ix2 k j) = w2 ⟨2048 + k.val, by omega⟩ j)
    (hD : ∀ i (k : Fin 1024), wD (ix2 i k) = w1 i ⟨3072 + k.val, by omega⟩) (kD : ∀ (k : Fin 1024) j, vD (ix2 k j) = w2 ⟨3072 + k.val, by omega⟩ j)
    (r : Fin 256) (j : Fin 1024) :
    ffOut wA vA wB vB wC vC wD vD u (ix2 r j) = mlp (fun j => u (ix2 r j)) w1 w2 j := by
  unfold mlp hiddenRow
  rw [sum_quarters]
  simp only [← hA, ← kA, ← hB, ← kB, ← hC, ← kC, ← hD, ← kD]
  pointwise [ffOut, k0_pay22, k0_pay18, k0_pay16, k0_pay21]

/-- The row after the second residual connection. -/
theorem after_at (y h : FVec Ideal S256x1024 .f32) (r : Fin 256) (j : Fin 1024) :
    after gate2 g3 y h (ix2 r j) =
      addGated (fun j => y (ix2 r j)) (fun j => gate2 (ix4 0 0 0 j)) (fun j => h (ix2 r j)) (fun j => g3 (ix4 0 0 0 j)) j := by
  unfold addGated rowNorm eps w1024
  pointwise [after, k0_pay26, k0_pay24]

/-- What the kernel computes for 256 rows, row by row. -/
theorem half_at (ho : ∀ x j : Fin 512, o (ix2 x j) = (if x.val / 64 = j.val / 64 then 1 else 0 : EReal)) (gm gs : Fin 64 → EReal)
    (hg : ∀ j : Fin 512, gn (ix2 0 j) = gm ⟨j.val % 64, by omega⟩) (hs : ∀ j : Fin 512, gr (ix2 0 j) = gs ⟨j.val % 64, by omega⟩)
    (wo : Fin 1024 → Fin 1024 → EReal) (hwa : ∀ (i : Fin 512) j, wa (ix2 i j) = wo ⟨i.val, by omega⟩ j)
    (hwb : ∀ (i : Fin 512) j, wb (ix2 i j) = wo ⟨512 + i.val, by omega⟩ j)
    (w1 : Fin 1024 → Fin 4096 → EReal) (w2 : Fin 4096 → Fin 1024 → EReal)
    (hA : ∀ i (k : Fin 1024), wA (ix2 i k) = w1 i ⟨k.val, by omega⟩) (kA : ∀ (k : Fin 1024) j, vA (ix2 k j) = w2 ⟨k.val, by omega⟩ j)
    (hB : ∀ i (k : Fin 1024), wB (ix2 i k) = w1 i ⟨1024 + k.val, by omega⟩) (kB : ∀ (k : Fin 1024) j, vB (ix2 k j) = w2 ⟨1024 + k.val, by omega⟩ j)
    (hC : ∀ i (k : Fin 1024), wC (ix2 i k) = w1 i ⟨2048 + k.val, by omega⟩) (kC : ∀ (k : Fin 1024) j, vC (ix2 k j) = w2 ⟨2048 + k.val, by omega⟩ j)
    (hD : ∀ i (k : Fin 1024), wD (ix2 i k) = w1 i ⟨3072 + k.val, by omega⟩) (kD : ∀ (k : Fin 1024) j, vD (ix2 k j) = w2 ⟨3072 + k.val, by omega⟩ j)
    (r : Fin 256) (j : Fin 1024) :
    half o hf hb gn sk xc z rf rb gr rg wa wb x gate g1 g2 scale shift gate2 g3 wA vA wB vB wC vC wD vD (ix2 r j) =
      lastRow (midRow (fun j => x (ix2 r j)) (fun x => hf (ix2 r x)) (fun x => hb (ix2 r x)) (fun x => z (ix2 r x)) (fun x => xc (ix2 r x))
        (fun x => rf (ix2 r x)) (fun x => rb (ix2 r x)) (fun x => rg (ix2 r x)) gm (fun x => sk (ix2 0 x)) gs wo
        (fun j => gate (ix4 0 0 0 j)) (fun j => g1 (ix4 0 0 0 j))) (fun j => shift (ix4 0 0 0 j)) (fun j => scale (ix4 0 0 0 j))
        (fun j => gate2 (ix4 0 0 0 j)) (fun j => g2 (ix4 0 0 0 j)) (fun j => g3 (ix4 0 0 0 j)) w1 w2 j := by
  unfold half
  have h1 : (fun j => mixed o hf hb gn sk xc z rf rb gr rg wa wb (ix2 r j)) = _ := funext fun j =>
    mixed_at o hf hb gn sk xc z rf rb gr rg wa wb ho gm gs hg hs wo hwa hwb r j
  generalize mixed o hf hb gn sk xc z rf rb gr rg wa wb = t at h1 ⊢
  have h2 := fun j => lat_at x gate g1 t r j
  rw [h1] at h2
  have h3 := fun j => ffIn_at x gate g1 g2 scale shift t r j
  rw [funext h2] at h3
  generalize ffIn x gate g1 g2 scale shift t = u at h3 ⊢
  have h4 := fun j => ffOut_at wA vA wB vB wC vC wD vD u w1 w2 hA kA hB kB hC kC hD kD r j
  rw [funext h3] at h4
  rw [after_at, funext h2, funext h4]
  rfl

section Block

variable (x0 : Vec Ideal S512x1024 .f32) (x1 : Vec Ideal S512x512 .bf16) (x2 x3 x4 : Vec Ideal S512x512 .f32) (x5 x6 : Vec Ideal S1x512 .f32)
  (x7 x8 x9 x10 : Vec Ideal S512x512 .f32) (x11 : Vec Ideal S1x512 .f32) (x12 x13 x14 x15 x16 x17 x18 : Vec Ideal S1x1x1x1024 .f32)
  (x19 x20 : Vec Ideal S512x1024 .bf16) (x21 : Vec Ideal S1024x4096 .bf16) (x22 : Vec Ideal S4096x1024 .bf16)

/-- A whole block's rows: each from the same row of the input blocks. -/
def blockFn (gm gs : Fin 64 → EReal) (wo : Fin 1024 → Fin 1024 → EReal) (w1 : Fin 1024 → Fin 4096 → EReal) (w2 : Fin 4096 → Fin 1024 → EReal)
    (R : Fin 512) (j : Fin 1024) : EReal :=
  lastRow (midRow (fun j => x0 (ix2 R j)) (fun x => x2 (ix2 R x)) (fun x => x3 (ix2 R x)) (fun x => x4 (ix2 R x)) (fun x => x7 (ix2 R x))
    (fun x => x8 (ix2 R x)) (fun x => x9 (ix2 R x)) (fun x => x10 (ix2 R x)) gm (fun x => x6 (ix2 0 x)) gs wo
    (fun j => x12 (ix4 0 0 0 j)) (fun j => x16 (ix4 0 0 0 j))) (fun j => x13 (ix4 0 0 0 j)) (fun j => x14 (ix4 0 0 0 j))
    (fun j => x15 (ix4 0 0 0 j)) (fun j => x17 (ix4 0 0 0 j)) (fun j => x18 (ix4 0 0 0 j)) w1 w2 j

/-- The loads of the first and the second 256 rows of a block, and of whole blocks. -/
theorem ld_lo (x : Vec Ideal S512x512 .f32) (r : Fin 256) (k : Fin 512) : (View.ld x OutRun.r0_1 : Vec Ideal S256x512 .f32) (ix2 (n0 := 256) (n1 := 512) r k) = x (ix2 ⟨r.val, by omega⟩ k) := by
  refine View.ld_unit_apply_of _ _ _ _ _ _ fun a => ?_
  match a with
  | ⟨0, _⟩ => show r.val = 0 + r.val; omega
  | ⟨1, _⟩ => show k.val = 0 + k.val; omega
theorem ld_hi (x : Vec Ideal S512x512 .f32) (r : Fin 256) (k : Fin 512) : (View.ld x OutRun.r0_3 : Vec Ideal S256x512 .f32) (ix2 (n0 := 256) (n1 := 512) r k) = x (ix2 ⟨256 + r.val, by omega⟩ k) := by
  refine View.ld_unit_apply_of _ _ _ _ _ _ fun a => ?_
  match a with
  | ⟨0, _⟩ => rfl
  | ⟨1, _⟩ => show k.val = 0 + k.val; omega
theorem ld_lo' (x : Vec Ideal S512x1024 .f32) (r : Fin 256) (k : Fin 1024) : (View.ld x OutRun.r0_5 : Vec Ideal S256x1024 .f32) (ix2 (n0 := 256) (n1 := 1024) r k) = x (ix2 ⟨r.val, by omega⟩ k) := by
  refine View.ld_unit_apply_of _ _ _ _ _ _ fun a => ?_
  match a with
  | ⟨0, _⟩ => show r.val = 0 + r.val; omega
  | ⟨1, _⟩ => show k.val = 0 + k.val; omega
theorem ld_hi' (x : Vec Ideal S512x1024 .f32) (r : Fin 256) (k : Fin 1024) : (View.ld x OutRun.r0_7 : Vec Ideal S256x1024 .f32) (ix2 (n0 := 256) (n1 := 1024) r k) = x (ix2 ⟨256 + r.val, by omega⟩ k) := by
  refine View.ld_unit_apply_of _ _ _ _ _ _ fun a => ?_
  match a with
  | ⟨0, _⟩ => rfl
  | ⟨1, _⟩ => show k.val = 0 + k.val; omega
/-- A load of a column block of the first feed-forward weight, and of a row block of the second. -/
theorem ld_w1 (x : Vec Ideal S1024x4096 .bf16) (n : ℕ) (inb : ∀ a, (![0, n] : Fin 2 → ℕ) a + S1024x1024.size a ≤ S1024x4096.size a)
    (i k : Fin 1024) (hk : n + k.val < 4096) :
    View.ld x (Rect.unit (s := S1024x4096) ![0, n] S1024x1024.size inb) (ix2 i k) = x (ix2 i ⟨n + k.val, hk⟩) := by
  refine View.ld_unit_apply_of _ _ _ _ _ _ fun a => ?_
  match a with
  | ⟨0, _⟩ => show i.val = 0 + i.val; omega
  | ⟨1, _⟩ => rfl
theorem ld_w2 (x : Vec Ideal S4096x1024 .bf16) (n : ℕ) (inb : ∀ a, (![n, 0] : Fin 2 → ℕ) a + S1024x1024.size a ≤ S4096x1024.size a)
    (i k : Fin 1024) (hk : n + i.val < 4096) :
    View.ld x (Rect.unit (s := S4096x1024) ![n, 0] S1024x1024.size inb) (ix2 i k) = x (ix2 ⟨n + i.val, hk⟩ k) := by
  refine View.ld_unit_apply_of _ _ _ _ _ _ fun a => ?_
  match a with
  | ⟨0, _⟩ => rfl
  | ⟨1, _⟩ => show k.val = 0 + k.val; omega

theorem ld_all2 (x : Vec Ideal S512x512 .bf16) : View.ld x OutRun.r0_0 = x := View.ld_unit_zero (by funext a; fin_cases a <;> rfl) _ x
theorem ld_all1 (x : Vec Ideal S1x512 .f32) : View.ld x OutRun.r0_2 = x := View.ld_unit_zero (by funext a; fin_cases a <;> rfl) _ x
theorem ld_all4 (x : Vec Ideal S512x1024 .bf16) : View.ld x OutRun.r0_4 = x := View.ld_unit_zero (by funext a; fin_cases a <;> rfl) _ x
theorem ld_all6 (x : Vec Ideal S1x1x1x1024 .f32) : View.ld x OutRun.r0_6 = x := View.ld_unit_zero (by funext a; fin_cases a <;> rfl) _ x

/-- The first 256 rows of a block. -/
theorem half_lo (ho : ∀ x j : Fin 512, x1 (ix2 x j) = (if x.val / 64 = j.val / 64 then 1 else 0 : EReal)) (gm gs : Fin 64 → EReal)
    (hg : ∀ j : Fin 512, x5 (ix2 0 j) = gm ⟨j.val % 64, by omega⟩) (hs : ∀ j : Fin 512, x11 (ix2 0 j) = gs ⟨j.val % 64, by omega⟩)
    (wo : Fin 1024 → Fin 1024 → EReal) (hwa : ∀ (i : Fin 512) j, x19 (ix2 i j) = wo ⟨i.val, by omega⟩ j)
    (hwb : ∀ (i : Fin 512) j, x20 (ix2 i j) = wo ⟨512 + i.val, by omega⟩ j) (r : Fin 256) (j : Fin 1024) :
    half (View.ld x1 OutRun.r0_0) (View.ld x2 OutRun.r0_1) (View.ld x3 OutRun.r0_1) (View.ld x5 OutRun.r0_2) (View.ld x6 OutRun.r0_2) (View.ld x7 OutRun.r0_1) (View.ld x4 OutRun.r0_1)
       (View.ld x8 OutRun.r0_1) (View.ld x9 OutRun.r0_1) (View.ld x11 OutRun.r0_2) (View.ld x10 OutRun.r0_1) (View.ld x19 OutRun.r0_4) (View.ld x20 OutRun.r0_4)
       (View.ld x0 OutRun.r0_5) (View.ld x12 OutRun.r0_6) (View.ld x16 OutRun.r0_6) (View.ld x17 OutRun.r0_6) (View.ld x14 OutRun.r0_6) (View.ld x13 OutRun.r0_6) (View.ld x15 OutRun.r0_6) (View.ld x18 OutRun.r0_6)
       (View.ld x21 OutRun.r0_8) (View.ld x22 OutRun.r0_9) (View.ld x21 OutRun.r0_10) (View.ld x22 OutRun.r0_11) (View.ld x21 OutRun.r0_12) (View.ld x22 OutRun.r0_13) (View.ld x21 OutRun.r0_14) (View.ld x22 OutRun.r0_15) (ix2 r j) =
      blockFn x0 x2 x3 x4 x6 x7 x8 x9 x10 x12 x13 x14 x15 x16 x17 x18 gm gs wo (fun i k => x21 (ix2 i k)) (fun k j => x22 (ix2 k j)) ⟨r.val, by omega⟩ j := by
  simp only [ld_all1, ld_all2, ld_all4, ld_all6]
  refine (half_at _ _ _ _ _ _ _ _ _ _ _ _ _ _ _ _ _ _ _ _ _ _ _ _ _ _ _ _ _ ho gm gs hg hs wo hwa hwb (fun i k => x21 (ix2 i k)) (fun k j => x22 (ix2 k j))
    (fun i k => (ld_w1 x21 0 _ i k (by omega)).trans ?_) (fun k j => (ld_w2 x22 0 _ k j (by omega)).trans ?_) (fun i k => ld_w1 x21 1024 _ i k (by omega))
    (fun k j => ld_w2 x22 1024 _ k j (by omega)) (fun i k => ld_w1 x21 2048 _ i k (by omega)) (fun k j => ld_w2 x22 2048 _ k j (by omega))
    (fun i k => ld_w1 x21 3072 _ i k (by omega)) (fun k j => ld_w2 x22 3072 _ k j (by omega)) r j).trans ?_
  · simp only [Nat.zero_add]
  · simp only [Nat.zero_add]
  have e : ∀ x : Vec Ideal S512x512 .f32, (fun k => x (ix2 ⟨r.val, by omega⟩ k)) = fun k => (View.ld x OutRun.r0_1 : Vec Ideal S256x512 .f32) (ix2 r k) :=
    fun x => funext fun k => (ld_lo x r k).symm
  have e' : ∀ x : Vec Ideal S512x1024 .f32, (fun k => x (ix2 ⟨r.val, by omega⟩ k)) = fun k => (View.ld x OutRun.r0_5 : Vec Ideal S256x1024 .f32) (ix2 r k) :=
    fun x => funext fun k => (ld_lo' x r k).symm
  unfold blockFn
  rw [e' x0, e x2, e x3, e x4, e x7, e x8, e x9, e x10]

/-- The second 256 rows of a block. -/
theorem half_hi (ho : ∀ x j : Fin 512, x1 (ix2 x j) = (if x.val / 64 = j.val / 64 then 1 else 0 : EReal)) (gm gs : Fin 64 → EReal)
    (hg : ∀ j : Fin 512, x5 (ix2 0 j) = gm ⟨j.val % 64, by omega⟩) (hs : ∀ j : Fin 512, x11 (ix2 0 j) = gs ⟨j.val % 64, by omega⟩)
    (wo : Fin 1024 → Fin 1024 → EReal) (hwa : ∀ (i : Fin 512) j, x19 (ix2 i j) = wo ⟨i.val, by omega⟩ j)
    (hwb : ∀ (i : Fin 512) j, x20 (ix2 i j) = wo ⟨512 + i.val, by omega⟩ j) (r : Fin 256) (j : Fin 1024) :
    half (View.ld x1 OutRun.r0_0) (View.ld x2 OutRun.r0_3) (View.ld x3 OutRun.r0_3) (View.ld x5 OutRun.r0_2) (View.ld x6 OutRun.r0_2) (View.ld x7 OutRun.r0_3) (View.ld x4 OutRun.r0_3)
       (View.ld x8 OutRun.r0_3) (View.ld x9 OutRun.r0_3) (View.ld x11 OutRun.r0_2) (View.ld x10 OutRun.r0_3) (View.ld x19 OutRun.r0_4) (View.ld x20 OutRun.r0_4)
       (View.ld x0 OutRun.r0_7) (View.ld x12 OutRun.r0_6) (View.ld x16 OutRun.r0_6) (View.ld x17 OutRun.r0_6) (View.ld x14 OutRun.r0_6) (View.ld x13 OutRun.r0_6) (View.ld x15 OutRun.r0_6) (View.ld x18 OutRun.r0_6)
       (View.ld x21 OutRun.r0_8) (View.ld x22 OutRun.r0_9) (View.ld x21 OutRun.r0_10) (View.ld x22 OutRun.r0_11) (View.ld x21 OutRun.r0_12) (View.ld x22 OutRun.r0_13) (View.ld x21 OutRun.r0_14) (View.ld x22 OutRun.r0_15) (ix2 r j) =
      blockFn x0 x2 x3 x4 x6 x7 x8 x9 x10 x12 x13 x14 x15 x16 x17 x18 gm gs wo (fun i k => x21 (ix2 i k)) (fun k j => x22 (ix2 k j)) ⟨256 + r.val, by omega⟩ j := by
  simp only [ld_all1, ld_all2, ld_all4, ld_all6]
  refine (half_at _ _ _ _ _ _ _ _ _ _ _ _ _ _ _ _ _ _ _ _ _ _ _ _ _ _ _ _ _ ho gm gs hg hs wo hwa hwb (fun i k => x21 (ix2 i k)) (fun k j => x22 (ix2 k j))
    (fun i k => (ld_w1 x21 0 _ i k (by omega)).trans ?_) (fun k j => (ld_w2 x22 0 _ k j (by omega)).trans ?_) (fun i k => ld_w1 x21 1024 _ i k (by omega))
    (fun k j => ld_w2 x22 1024 _ k j (by omega)) (fun i k => ld_w1 x21 2048 _ i k (by omega)) (fun k j => ld_w2 x22 2048 _ k j (by omega))
    (fun i k => ld_w1 x21 3072 _ i k (by omega)) (fun k j => ld_w2 x22 3072 _ k j (by omega)) r j).trans ?_
  · simp only [Nat.zero_add]
  · simp only [Nat.zero_add]
  have e : ∀ x : Vec Ideal S512x512 .f32, (fun k => x (ix2 ⟨256 + r.val, by omega⟩ k)) = fun k => (View.ld x OutRun.r0_3 : Vec Ideal S256x512 .f32) (ix2 r k) :=
    fun x => funext fun k => (ld_hi x r k).symm
  have e' : ∀ x : Vec Ideal S512x1024 .f32, (fun k => x (ix2 ⟨256 + r.val, by omega⟩ k)) = fun k => (View.ld x OutRun.r0_7 : Vec Ideal S256x1024 .f32) (ix2 r k) :=
    fun x => funext fun k => (ld_hi' x r k).symm
  unfold blockFn
  rw [e' x0, e x2, e x3, e x4, e x7, e x8, e x9, e x10]

/-- What a grid point leaves in its output block. -/
theorem block_at (ho : ∀ x j : Fin 512, x1 (ix2 x j) = (if x.val / 64 = j.val / 64 then 1 else 0 : EReal)) (gm gs : Fin 64 → EReal)
    (hg : ∀ j : Fin 512, x5 (ix2 0 j) = gm ⟨j.val % 64, by omega⟩) (hs : ∀ j : Fin 512, x11 (ix2 0 j) = gs ⟨j.val % 64, by omega⟩)
    (wo : Fin 1024 → Fin 1024 → EReal) (hwa : ∀ (i : Fin 512) j, x19 (ix2 i j) = wo ⟨i.val, by omega⟩ j)
    (hwb : ∀ (i : Fin 512) j, x20 (ix2 i j) = wo ⟨512 + i.val, by omega⟩ j) (R : Fin 512) (j : Fin 1024) :
    OutRun.out0_23 x0 x1 x2 x3 x4 x5 x6 x7 x8 x9 x10 x11 x12 x13 x14 x15 x16 x17 x18 x19 x20 x21 x22 (ix2 R j) =
      blockFn x0 x2 x3 x4 x6 x7 x8 x9 x10 x12 x13 x14 x15 x16 x17 x18 gm gs wo (fun i k => x21 (ix2 i k)) (fun k j => x22 (ix2 k j)) R j := by
  unfold OutRun.out0_23
  refine View.canon_apply_of_pieces (Val := Elt Ideal) (e := .f32) (fun y : S512x1024.Idx => blockFn x0 x2 x3 x4 x6 x7 x8 x9 x10 x12 x13 x14 x15 x16 x17 x18 gm gs wo
    (fun i k => x21 (ix2 i k)) (fun k j => x22 (ix2 k j)) (y 0) (y 1)) _ (fun p hp y => ?_) _ (OutRun.cover0_23 _ _ _)
  rcases List.mem_cons.mp hp with rfl | hp
  · refine Eq.trans (b := half (View.ld x1 OutRun.r0_0) (View.ld x2 OutRun.r0_3) (View.ld x3 OutRun.r0_3) (View.ld x5 OutRun.r0_2) (View.ld x6 OutRun.r0_2) (View.ld x7 OutRun.r0_3) (View.ld x4 OutRun.r0_3)
       (View.ld x8 OutRun.r0_3) (View.ld x9 OutRun.r0_3) (View.ld x11 OutRun.r0_2) (View.ld x10 OutRun.r0_3) (View.ld x19 OutRun.r0_4) (View.ld x20 OutRun.r0_4)
       (View.ld x0 OutRun.r0_7) (View.ld x12 OutRun.r0_6) (View.ld x16 OutRun.r0_6) (View.ld x17 OutRun.r0_6) (View.ld x14 OutRun.r0_6) (View.ld x13 OutRun.r0_6) (View.ld x15 OutRun.r0_6) (View.ld x18 OutRun.r0_6)
       (View.ld x21 OutRun.r0_8) (View.ld x22 OutRun.r0_9) (View.ld x21 OutRun.r0_10) (View.ld x22 OutRun.r0_11) (View.ld x21 OutRun.r0_12) (View.ld x22 OutRun.r0_13) (View.ld x21 OutRun.r0_14) (View.ld x22 OutRun.r0_15)
      (ix2 (n0 := 256) (n1 := 1024) (y 0) (y 1))) (congrArg _ (eq_ix2 y)) ((half_hi x0 x1 x2 x3 x4 x5 x6 x7 x8 x9 x10 x11 x12 x13 x14 x15 x16 x17 x18 x19 x20 x21 x22
        ho gm gs hg hs wo hwa hwb (y 0) (y 1)).trans ?_)
    exact congrArg₂ (blockFn x0 x2 x3 x4 x6 x7 x8 x9 x10 x12 x13 x14 x15 x16 x17 x18 gm gs wo (fun i k => x21 (ix2 i k)) (fun k j => x22 (ix2 k j)))
      (Fin.ext (show 256 + (y 0).val = 256 + 1 * (y 0).val from by rw [Nat.one_mul])) (Fin.ext (show (y 1).val = 0 + 1 * (y 1).val from by rw [Nat.one_mul, Nat.zero_add]))
  rcases List.mem_cons.mp hp with rfl | hp
  · refine Eq.trans (b := half (View.ld x1 OutRun.r0_0) (View.ld x2 OutRun.r0_1) (View.ld x3 OutRun.r0_1) (View.ld x5 OutRun.r0_2) (View.ld x6 OutRun.r0_2) (View.ld x7 OutRun.r0_1) (View.ld x4 OutRun.r0_1)
       (View.ld x8 OutRun.r0_1) (View.ld x9 OutRun.r0_1) (View.ld x11 OutRun.r0_2) (View.ld x10 OutRun.r0_1) (View.ld x19 OutRun.r0_4) (View.ld x20 OutRun.r0_4)
       (View.ld x0 OutRun.r0_5) (View.ld x12 OutRun.r0_6) (View.ld x16 OutRun.r0_6) (View.ld x17 OutRun.r0_6) (View.ld x14 OutRun.r0_6) (View.ld x13 OutRun.r0_6) (View.ld x15 OutRun.r0_6) (View.ld x18 OutRun.r0_6)
       (View.ld x21 OutRun.r0_8) (View.ld x22 OutRun.r0_9) (View.ld x21 OutRun.r0_10) (View.ld x22 OutRun.r0_11) (View.ld x21 OutRun.r0_12) (View.ld x22 OutRun.r0_13) (View.ld x21 OutRun.r0_14) (View.ld x22 OutRun.r0_15)
      (ix2 (n0 := 256) (n1 := 1024) (y 0) (y 1))) (congrArg _ (eq_ix2 y)) ((half_lo x0 x1 x2 x3 x4 x5 x6 x7 x8 x9 x10 x11 x12 x13 x14 x15 x16 x17 x18 x19 x20 x21 x22
        ho gm gs hg hs wo hwa hwb (y 0) (y 1)).trans ?_)
    exact congrArg₂ (blockFn x0 x2 x3 x4 x6 x7 x8 x9 x10 x12 x13 x14 x15 x16 x17 x18 gm gs wo (fun i k => x21 (ix2 i k)) (fun k j => x22 (ix2 k j)))
      (Fin.ext (show (y 0).val = 0 + 1 * (y 0).val from by rw [Nat.one_mul, Nat.zero_add])) (Fin.ext (show (y 1).val = 0 + 1 * (y 1).val from by rw [Nat.one_mul, Nat.zero_add]))
  exact absurd hp (List.not_mem_nil)

end Block

end Cert.Kernel2Ideal.OutMlp

end
-- ==== Proof.OutHost.lean ====
/- The arrays that the output projection and feed-forward kernel is launched on, and its result array, from the call's arguments. -/
module

public import proofs.«01_k».proof.Proof.OutBlock
public import Idealize.ShloMosaic.Lib.Pipeline.ValueKit.Point
public import Idealize.ShloMosaic.Lib.Claim

@[expose] public section

set_option maxRecDepth 16384

noncomputable section

namespace Cert.Kernel2Ideal.OutMlp

open Cert.Kernel2Ideal Cert.Kernel2Ideal.Gen Idealize.ShloMosaic Idealize.ShloMosaic.TcCoe Cert.OutRow
open Cert.Kernel2Ideal.OutRun (V iblk dats)
open Idealize.ShloMosaic.Pipeline (Dat)

variable (m : (ℓ : Loc nD τ sig) → Buf (Elt Ideal) ℓ) (c : Dev nD)

/-- The call's arguments. -/
abbrev a0 : FVec Ideal S8x4096x1024 .f32 := m (c, Proc.tc.devRef main_arg0)
abbrev a1 : FVec Ideal S8x4096x512 .f32 := m (c, Proc.tc.devRef main_arg1)
abbrev a2 : FVec Ideal S8x4096x512 .f32 := m (c, Proc.tc.devRef main_arg2)
abbrev a3 : FVec Ideal S8x4096x1024 .f32 := m (c, Proc.tc.devRef main_arg3)
abbrev a4 : FVec Ideal S8x4096x512 .f32 := m (c, Proc.tc.devRef main_arg4)
abbrev a5 : FVec Ideal S8x4096x512 .f32 := m (c, Proc.tc.devRef main_arg5)
abbrev a6 : FVec Ideal S8x4096x512 .f32 := m (c, Proc.tc.devRef main_arg6)
abbrev a7 : FVec Ideal S8x4096x512 .f32 := m (c, Proc.tc.devRef main_arg7)
abbrev a8 : FVec Ideal S2x16x6144 .f32 := m (c, Proc.tc.devRef main_arg8)
abbrev a9 : FVec Ideal S2x4x1024 .f32 := m (c, Proc.tc.devRef main_arg9)
abbrev a10 : FVec Ideal S2x1024x1024 .f32 := m (c, Proc.tc.devRef main_arg10)
abbrev a11 : FVec Ideal S2x1024x4096 .f32 := m (c, Proc.tc.devRef main_arg11)
abbrev a12 : FVec Ideal S2x4096x1024 .f32 := m (c, Proc.tc.devRef main_arg12)
abbrev a13 : FVec Ideal S1x64 .f32 := m (c, Proc.tc.devRef main_arg13)
abbrev a14 : FVec Ideal S1x512 .f32 := m (c, Proc.tc.devRef main_arg14)
abbrev a15 : FVec Ideal S1x64 .f32 := m (c, Proc.tc.devRef main_arg15)

/-- The batch and the position of a row of the flattened sequences. -/
abbrev bRow (R : Fin 32768) : Fin 8 := ⟨R.val / 4096, by omega⟩
abbrev lRow (R : Fin 32768) : Fin 4096 := ⟨R.val % 4096, by omega⟩

/-- The launch's arrays are what the host's three lines of operations leave, one line after another. -/
theorem V_line (b : Ref sig .tc) : V m c b = StableHlo.after hostOps0_2 (StableHlo.after hostOps0_1
    (StableHlo.after hostOps0 fun b => m (c, b))) b := by
  unfold V
  simp only [List.flatten_cons, List.flatten_nil, List.append_nil, StableHlo.after_append]

/-- A launch's array at an index, from the arguments. -/
theorem h_lat (R : Fin 32768) (j : Fin 1024) : V m c main_v20 (ix2 R j) = a0 m c (ix3 (bRow R) (lRow R) j) := by
  rw [V_line]
  entry_read
  pointwise
/-- A launch's array at an index, from the arguments. -/
theorem h_hf (R : Fin 32768) (j : Fin 512) : V m c main_v21 (ix2 R j) = a1 m c (ix3 (bRow R) (lRow R) j) := by
  rw [V_line]
  entry_read
  pointwise
/-- A launch's array at an index, from the arguments. -/
theorem h_hb (R : Fin 32768) (j : Fin 512) : V m c main_v22 (ix2 R j) = a2 m c (ix3 (bRow R) (lRow R) j) := by
  rw [V_line]
  entry_read
  pointwise
/-- A launch's array at an index, from the arguments. -/
theorem h_ml (R : Fin 32768) (j : Fin 1024) : V m c main_v23 (ix2 R j) = a3 m c (ix3 (bRow R) (lRow R) j) := by
  rw [V_line]
  entry_read
  pointwise
/-- A launch's array at an index, from the arguments. -/
theorem h_xc (R : Fin 32768) (j : Fin 512) : V m c main_v26 (ix2 R j) = a4 m c (ix3 (bRow R) (lRow R) j) := by
  rw [V_line]
  entry_read
  pointwise
/-- A launch's array at an index, from the arguments. -/
theorem h_rf (R : Fin 32768) (j : Fin 512) : V m c main_v27 (ix2 R j) = a5 m c (ix3 (bRow R) (lRow R) j) := by
  rw [V_line]
  entry_read
  pointwise
/-- A launch's array at an index, from the arguments. -/
theorem h_rb (R : Fin 32768) (j : Fin 512) : V m c main_v28 (ix2 R j) = a6 m c (ix3 (bRow R) (lRow R) j) := by
  rw [V_line]
  entry_read
  pointwise
/-- A launch's array at an index, from the arguments. -/
theorem h_rg (R : Fin 32768) (j : Fin 512) : V m c main_v29 (ix2 R j) = a7 m c (ix3 (bRow R) (lRow R) j) := by
  rw [V_line]
  entry_read
  pointwise
/-- A launch's array at an index, from the arguments. -/
theorem h_mod (l : Fin 2) (b : Fin 16) (j : Fin 6144) : V m c main_v0 (ix4 l b 0 j) = a8 m c (ix3 l b j) := by
  rw [V_line]
  entry_read
  pointwise
/-- A launch's array at an index, from the arguments. -/
theorem h_g (l : Fin 2) (b : Fin 4) (j : Fin 1024) : V m c main_v1 (ix4 l b 0 j) = a9 m c (ix3 l b j) := by
  rw [V_line]
  entry_read
  pointwise
/-- A launch's array at an index, from the arguments. -/
theorem h_woa (i : Fin 512) (j : Fin 1024) : V m c main_v33 (ix2 i j) = a10 m c (ix3 1 ⟨i.val, by omega⟩ j) := by
  rw [V_line]
  entry_read
  pointwise
/-- A launch's array at an index, from the arguments. -/
theorem h_wob (i : Fin 512) (j : Fin 1024) : V m c main_v34 (ix2 i j) = a10 m c (ix3 1 ⟨512 + i.val, by omega⟩ j) := by
  rw [V_line]
  entry_read
  pointwise
/-- A launch's array at an index, from the arguments. -/
theorem h_w1 (i : Fin 1024) (j : Fin 4096) : V m c main_v37 (ix2 i j) = a11 m c (ix3 1 i j) := by
  rw [V_line]
  entry_read
  pointwise
/-- A launch's array at an index, from the arguments. -/
theorem h_w2 (i : Fin 4096) (j : Fin 1024) : V m c main_v40 (ix2 i j) = a12 m c (ix3 1 i j) := by
  rw [V_line]
  entry_read
  pointwise
/-- A launch's array at an index, from the arguments. -/
theorem h_gn (j : Fin 512) : V m c main_v14 (ix2 0 j) = a13 m c (ix2 0 ⟨j.val % 64, by omega⟩) := by
  rw [V_line]
  entry_read
  pointwise
/-- A launch's array at an index, from the arguments. -/
theorem h_sk (j : Fin 512) : V m c main_v25 (ix2 0 j) = a14 m c (ix2 0 j) := by
  rw [V_line]
  entry_read
  pointwise
/-- A launch's array at an index, from the arguments. -/
theorem h_gr (j : Fin 512) : V m c main_v19 (ix2 0 j) = a15 m c (ix2 0 ⟨j.val % 64, by omega⟩) := by
  rw [V_line]
  entry_read
  pointwise
/-- The head of each column, as the host computes it: the column's number over 64, rounded down. -/
def heads : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

/-- The head of column `x` is `x / 64`. -/
theorem heads_at : ∀ x : Fin 512, heads (ix1 x) = BitVec.ofNat 32 (x.val / 64) := by
  decide +kernel

/-- The mask that sums a head's columns: one where both columns are of one head, zero elsewhere. -/
theorem h_ones (x j : Fin 512) : V m c main_v9 (ix2 x j) = (if x.val / 64 = j.val / 64 then 1 else 0 : EReal) := by
  have e : V m c main_v9 = uitofp (F := Ideal) .bf16 (cmpi .eq
      (broadcastInDim S512x512 ![0, 1] bcast_S512x1_S512x512_0_1 (broadcastInDim S512x1 ![0] bcast_S512_S512x1_0 heads))
      (broadcastInDim S512x512 ![0, 1] bcast_S1x512_S512x512_0_1 (broadcastInDim S1x512 ![1] bcast_S512_S1x512_1 heads))) := rfl
  rw [e]
  pointwise
  rw [heads_at, heads_at]
  have hx := x.isLt
  have hj := j.isLt
  by_cases hc : x.val / 64 = j.val / 64
  · rw [if_pos hc, hc]
    have h1 : IntOp.cmpi CmpIPredicate.eq (BitVec.ofNat 32 (j.val / 64)) (BitVec.ofNat 32 (j.val / 64)) = 1#1 := by simp [IntOp.cmpi]
    rw [h1]
    show (((1#1 : BitVec 1).toNat : ℝ) : EReal) = 1
    norm_num
  · rw [if_neg hc]
    have hne : BitVec.ofNat 32 (x.val / 64) ≠ BitVec.ofNat 32 (j.val / 64) := fun e => hc (by
      have := congrArg BitVec.toNat e
      simp only [BitVec.toNat_ofNat] at this
      omega)
    have h1 : IntOp.cmpi CmpIPredicate.eq (BitVec.ofNat 32 (x.val / 64)) (BitVec.ofNat 32 (j.val / 64)) = 0#1 := by
      show BitVec.ofBool (BitVec.ofNat 32 (x.val / 64) == BitVec.ofNat 32 (j.val / 64)) = 0#1
      rw [beq_eq_false_iff_ne.mpr hne]; rfl
    rw [h1]
    show (((0#1 : BitVec 1).toNat : ℝ) : EReal) = 0
    norm_num

/-! ## The blocks of a grid point -/

/-- The batch of a grid point. -/
def bT (t : Fin cfg0.N) : Fin 8 := ⟨t.val / 8, by have : t.val < 64 := t.isLt; omega⟩

/-- The block of every window at a grid point. -/
theorem idx_all : ∀ t : Fin cfg0.N,
    win0_0.index t = ![t.val, 0] ∧ win0_1.index t = ![0, 0] ∧ win0_2.index t = ![t.val, 0] ∧ win0_3.index t = ![t.val, 0] ∧
    win0_4.index t = ![t.val, 1] ∧ win0_5.index t = ![0, 0] ∧ win0_6.index t = ![0, 0] ∧ win0_7.index t = ![t.val, 0] ∧
    win0_8.index t = ![t.val, 0] ∧ win0_9.index t = ![t.val, 0] ∧ win0_10.index t = ![t.val, 0] ∧ win0_11.index t = ![0, 0] ∧
    win0_12.index t = ![1, (bT t).val, 0, 2] ∧ win0_13.index t = ![1, (bT t).val, 0, 3] ∧ win0_14.index t = ![1, (bT t).val, 0, 4] ∧
    win0_15.index t = ![1, (bT t).val, 0, 5] ∧ win0_16.index t = ![1, 1, 0, 0] ∧ win0_17.index t = ![1, 2, 0, 0] ∧
    win0_18.index t = ![1, 3, 0, 0] ∧ win0_19.index t = ![0, 0] ∧ win0_20.index t = ![0, 0] ∧ win0_21.index t = ![0, 0] ∧
    win0_22.index t = ![0, 0] ∧ win0_23.index t = ![t.val, 0] := by
  decide +kernel

/-- The row of the flattened sequences at row `R` of a grid point's block. -/
def rowT (t : Fin cfg0.N) (R : Fin 512) : Fin 32768 := ⟨t.val * 512 + R.val, by have : t.val < 64 := t.isLt; omega⟩

/-- Window 0's block at an index, from the arguments. -/
theorem b0 (t : Fin cfg0.N) (R : Fin 512) (j : Fin 1024) : iblk m c 0 t (ix2 R j) = a0 m c (ix3 (bRow (rowT t R)) (lRow (rowT t R)) j) := by
  have h := idx_all t
  have ht : t.val < 64 := t.isLt
  have e : iblk m c 0 t (ix2 R j) = V m c main_v20 (ix2 (rowT t R) j) := by
    blk_ext [iblk, h, rowT]
  rw [e, h_lat]
/-- Window 2's block at an index, from the arguments. -/
theorem b2 (t : Fin cfg0.N) (R : Fin 512) (j : Fin 512) : iblk m c 2 t (ix2 R j) = a1 m c (ix3 (bRow (rowT t R)) (lRow (rowT t R)) j) := by
  have h := idx_all t
  have ht : t.val < 64 := t.isLt
  have e : iblk m c 2 t (ix2 R j) = V m c main_v21 (ix2 (rowT t R) j) := by
    blk_ext [iblk, h, rowT]
  rw [e, h_hf]
/-- Window 3's block at an index, from the arguments. -/
theorem b3 (t : Fin cfg0.N) (R : Fin 512) (j : Fin 512) : iblk m c 3 t (ix2 R j) = a2 m c (ix3 (bRow (rowT t R)) (lRow (rowT t R)) j) := by
  have h := idx_all t
  have ht : t.val < 64 := t.isLt
  have e : iblk m c 3 t (ix2 R j) = V m c main_v22 (ix2 (rowT t R) j) := by
    blk_ext [iblk, h, rowT]
  rw [e, h_hb]
/-- Window 7's block at an index, from the arguments. -/
theorem b7 (t : Fin cfg0.N) (R : Fin 512) (j : Fin 512) : iblk m c 7 t (ix2 R j) = a4 m c (ix3 (bRow (rowT t R)) (lRow (rowT t R)) j) := by
  have h := idx_all t
  have ht : t.val < 64 := t.isLt
  have e : iblk m c 7 t (ix2 R j) = V m c main_v26 (ix2 (rowT t R) j) := by
    blk_ext [iblk, h, rowT]
  rw [e, h_xc]
/-- Window 8's block at an index, from the arguments. -/
theorem b8 (t : Fin cfg0.N) (R : Fin 512) (j : Fin 512) : iblk m c 8 t (ix2 R j) = a5 m c (ix3 (bRow (rowT t R)) (lRow (rowT t R)) j) := by
  have h := idx_all t
  have ht : t.val < 64 := t.isLt
  have e : iblk m c 8 t (ix2 R j) = V m c main_v27 (ix2 (rowT t R) j) := by
    blk_ext [iblk, h, rowT]
  rw [e, h_rf]
/-- Window 9's block at an index, from the arguments. -/
theorem b9 (t : Fin cfg0.N) (R : Fin 512) (j : Fin 512) : iblk m c 9 t (ix2 R j) = a6 m c (ix3 (bRow (rowT t R)) (lRow (rowT t R)) j) := by
  have h := idx_all t
  have ht : t.val < 64 := t.isLt
  have e : iblk m c 9 t (ix2 R j) = V m c main_v28 (ix2 (rowT t R) j) := by
    blk_ext [iblk, h, rowT]
  rw [e, h_rb]
/-- Window 10's block at an index, from the arguments. -/
theorem b10 (t : Fin cfg0.N) (R : Fin 512) (j : Fin 512) : iblk m c 10 t (ix2 R j) = a7 m c (ix3 (bRow (rowT t R)) (lRow (rowT t R)) j) := by
  have h := idx_all t
  have ht : t.val < 64 := t.isLt
  have e : iblk m c 10 t (ix2 R j) = V m c main_v29 (ix2 (rowT t R) j) := by
    blk_ext [iblk, h, rowT]
  rw [e, h_rg]
/-- Window 4's block at an index, from the arguments. -/
theorem b4 (t : Fin cfg0.N) (R : Fin 512) (j : Fin 512) : iblk m c 4 t (ix2 R j) = a3 m c (ix3 (bRow (rowT t R)) (lRow (rowT t R)) ⟨512 + j.val, by omega⟩) := by
  have h := idx_all t
  have ht : t.val < 64 := t.isLt
  have e : iblk m c 4 t (ix2 R j) = V m c main_v23 (ix2 (rowT t R) ⟨512 + j.val, by omega⟩) := by
    blk_ext [iblk, h, rowT]
  rw [e, h_ml]
/-- Window 1's block at an index, from the arguments. -/
theorem b1 (t : Fin cfg0.N) (x j : Fin 512) : iblk m c 1 t (ix2 x j) = (if x.val / 64 = j.val / 64 then 1 else 0 : EReal) := by
  have h := idx_all t
  have e : iblk m c 1 t (ix2 x j) = V m c main_v9 (ix2 x j) := by
    blk_ext [iblk, h]
  rw [e, h_ones]
/-- Window 5's block at an index, from the arguments. -/
theorem b5 (t : Fin cfg0.N) (j : Fin 512) : iblk m c 5 t (ix2 0 j) = a13 m c (ix2 0 ⟨j.val % 64, by omega⟩) := by
  have h := idx_all t
  have e : iblk m c 5 t (ix2 0 j) = V m c main_v14 (ix2 0 j) := by
    blk_ext [iblk, h]
  rw [e, h_gn]
/-- Window 6's block at an index, from the arguments. -/
theorem b6 (t : Fin cfg0.N) (j : Fin 512) : iblk m c 6 t (ix2 0 j) = a14 m c (ix2 0 j) := by
  have h := idx_all t
  have e : iblk m c 6 t (ix2 0 j) = V m c main_v25 (ix2 0 j) := by
    blk_ext [iblk, h]
  rw [e, h_sk]
/-- Window 11's block at an index, from the arguments. -/
theorem b11 (t : Fin cfg0.N) (j : Fin 512) : iblk m c 11 t (ix2 0 j) = a15 m c (ix2 0 ⟨j.val % 64, by omega⟩) := by
  have h := idx_all t
  have e : iblk m c 11 t (ix2 0 j) = V m c main_v19 (ix2 0 j) := by
    blk_ext [iblk, h]
  rw [e, h_gr]
/-- Window 19's block at an index, from the arguments. -/
theorem b19 (t : Fin cfg0.N) (i : Fin 512) (j : Fin 1024) : iblk m c 19 t (ix2 i j) = a10 m c (ix3 1 ⟨i.val, by omega⟩ j) := by
  have h := idx_all t
  have e : iblk m c 19 t (ix2 i j) = V m c main_v33 (ix2 i j) := by
    blk_ext [iblk, h]
  rw [e, h_woa]
/-- Window 20's block at an index, from the arguments. -/
theorem b20 (t : Fin cfg0.N) (i : Fin 512) (j : Fin 1024) : iblk m c 20 t (ix2 i j) = a10 m c (ix3 1 ⟨512 + i.val, by omega⟩ j) := by
  have h := idx_all t
  have e : iblk m c 20 t (ix2 i j) = V m c main_v34 (ix2 i j) := by
    blk_ext [iblk, h]
  rw [e, h_wob]
/-- Window 21's block at an index, from the arguments. -/
theorem b21 (t : Fin cfg0.N) (i : Fin 1024) (j : Fin 4096) : iblk m c 21 t (ix2 i j) = a11 m c (ix3 1 i j) := by
  have h := idx_all t
  have e : iblk m c 21 t (ix2 i j) = V m c main_v37 (ix2 i j) := by
    blk_ext [iblk, h]
  rw [e, h_w1]
/-- Window 22's block at an index, from the arguments. -/
theorem b22 (t : Fin cfg0.N) (i : Fin 4096) (j : Fin 1024) : iblk m c 22 t (ix2 i j) = a12 m c (ix3 1 i j) := by
  have h := idx_all t
  have e : iblk m c 22 t (ix2 i j) = V m c main_v40 (ix2 i j) := by
    blk_ext [iblk, h]
  rw [e, h_w2]
/-- Window 12's block at an index, from the arguments. -/
theorem b12 (t : Fin cfg0.N) (j : Fin 1024) : iblk m c 12 t (ix4 0 0 0 j) = a8 m c (ix3 1 ⟨(bT t).val, by omega⟩ ⟨2048 + j.val, by omega⟩) := by
  have h := idx_all t
  have e : iblk m c 12 t (ix4 0 0 0 j) = V m c main_v0 (ix4 1 ⟨(bT t).val, by omega⟩ 0 ⟨2048 + j.val, by omega⟩) := by
    blk_ext [iblk, h]
  rw [e, h_mod]
/-- Window 13's block at an index, from the arguments. -/
theorem b13 (t : Fin cfg0.N) (j : Fin 1024) : iblk m c 13 t (ix4 0 0 0 j) = a8 m c (ix3 1 ⟨(bT t).val, by omega⟩ ⟨3072 + j.val, by omega⟩) := by
  have h := idx_all t
  have e : iblk m c 13 t (ix4 0 0 0 j) = V m c main_v0 (ix4 1 ⟨(bT t).val, by omega⟩ 0 ⟨3072 + j.val, by omega⟩) := by
    blk_ext [iblk, h]
  rw [e, h_mod]
/-- Window 14's block at an index, from the arguments. -/
theorem b14 (t : Fin cfg0.N) (j : Fin 1024) : iblk m c 14 t (ix4 0 0 0 j) = a8 m c (ix3 1 ⟨(bT t).val, by omega⟩ ⟨4096 + j.val, by omega⟩) := by
  have h := idx_all t
  have e : iblk m c 14 t (ix4 0 0 0 j) = V m c main_v0 (ix4 1 ⟨(bT t).val, by omega⟩ 0 ⟨4096 + j.val, by omega⟩) := by
    blk_ext [iblk, h]
  rw [e, h_mod]
/-- Window 15's block at an index, from the arguments. -/
theorem b15 (t : Fin cfg0.N) (j : Fin 1024) : iblk m c 15 t (ix4 0 0 0 j) = a8 m c (ix3 1 ⟨(bT t).val, by omega⟩ ⟨5120 + j.val, by omega⟩) := by
  have h := idx_all t
  have e : iblk m c 15 t (ix4 0 0 0 j) = V m c main_v0 (ix4 1 ⟨(bT t).val, by omega⟩ 0 ⟨5120 + j.val, by omega⟩) := by
    blk_ext [iblk, h]
  rw [e, h_mod]
/-- Window 16's block at an index, from the arguments. -/
theorem b16 (t : Fin cfg0.N) (j : Fin 1024) : iblk m c 16 t (ix4 0 0 0 j) = a9 m c (ix3 1 1 j) := by
  have h := idx_all t
  have e : iblk m c 16 t (ix4 0 0 0 j) = V m c main_v1 (ix4 1 1 0 j) := by
    blk_ext [iblk, h]
  rw [e, h_g]
/-- Window 17's block at an index, from the arguments. -/
theorem b17 (t : Fin cfg0.N) (j : Fin 1024) : iblk m c 17 t (ix4 0 0 0 j) = a9 m c (ix3 1 2 j) := by
  have h := idx_all t
  have e : iblk m c 17 t (ix4 0 0 0 j) = V m c main_v1 (ix4 1 2 0 j) := by
    blk_ext [iblk, h]
  rw [e, h_g]
/-- Window 18's block at an index, from the arguments. -/
theorem b18 (t : Fin cfg0.N) (j : Fin 1024) : iblk m c 18 t (ix4 0 0 0 j) = a9 m c (ix3 1 3 j) := by
  have h := idx_all t
  have e : iblk m c 18 t (ix4 0 0 0 j) = V m c main_v1 (ix4 1 3 0 j) := by
    blk_ext [iblk, h]
  rw [e, h_g]

/-! ## The result array -/

/-- The layer's row `l` of batch `b` at column `j`: the two mixers' gated heads through the output projection, added to the
    residual stream, and the feed-forward layer added to that. -/
def outAt (a0 : FVec Ideal S8x4096x1024 .f32) (a1 a2 : FVec Ideal S8x4096x512 .f32) (a3 : FVec Ideal S8x4096x1024 .f32) (a4 a5 a6 a7 : FVec Ideal S8x4096x512 .f32)
    (a8 : FVec Ideal S2x16x6144 .f32) (a9 : FVec Ideal S2x4x1024 .f32) (a10 : FVec Ideal S2x1024x1024 .f32) (a11 : FVec Ideal S2x1024x4096 .f32)
    (a12 : FVec Ideal S2x4096x1024 .f32) (a13 : FVec Ideal S1x64 .f32) (a14 : FVec Ideal S1x512 .f32) (a15 : FVec Ideal S1x64 .f32)
    (b : Fin 8) (l : Fin 4096) (j : Fin 1024) : EReal :=
  lastRow (midRow (fun j => a0 (ix3 b l j)) (fun x => a1 (ix3 b l x)) (fun x => a2 (ix3 b l x)) (fun x => a3 (ix3 b l ⟨512 + x.val, by omega⟩))
      (fun x => a4 (ix3 b l x)) (fun x => a5 (ix3 b l x)) (fun x => a6 (ix3 b l x)) (fun x => a7 (ix3 b l x))
      (fun d => a13 (ix2 0 d)) (fun x => a14 (ix2 0 x)) (fun d => a15 (ix2 0 d)) (fun i j => a10 (ix3 1 i j))
      (fun j => a8 (ix3 1 ⟨b.val, by omega⟩ ⟨2048 + j.val, by omega⟩)) (fun j => a9 (ix3 1 1 j)))
    (fun j => a8 (ix3 1 ⟨b.val, by omega⟩ ⟨3072 + j.val, by omega⟩)) (fun j => a8 (ix3 1 ⟨b.val, by omega⟩ ⟨4096 + j.val, by omega⟩))
    (fun j => a8 (ix3 1 ⟨b.val, by omega⟩ ⟨5120 + j.val, by omega⟩)) (fun j => a9 (ix3 1 2 j)) (fun j => a9 (ix3 1 3 j))
    (fun i k => a11 (ix3 1 i k)) (fun k j => a12 (ix3 1 k j)) j

/-- The layer's row from the launch's arguments, at row `R` of the flattened sequences. -/
def outRow (R : Fin 32768) (j : Fin 1024) : EReal :=
  outAt (a0 m c) (a1 m c) (a2 m c) (a3 m c) (a4 m c) (a5 m c) (a6 m c) (a7 m c) (a8 m c) (a9 m c) (a10 m c) (a11 m c) (a12 m c) (a13 m c)
    (a14 m c) (a15 m c) (bRow R) (lRow R) j

/-- A grid point's rows lie in its batch. -/
theorem bRow_rowT (t : Fin cfg0.N) (R : Fin 512) : bRow (rowT t R) = bT t :=
  Fin.ext (by show (t.val * 512 + R.val) / 4096 = t.val / 8; omega)

/-- What a grid point computes at row `R` and column `j` of its block. -/
theorem point_at (t : Fin cfg0.N) (R : Fin 512) (j : Fin 1024) :
    OutRun.out0_23 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (iblk m c 14 t) (iblk m c 15 t)
      (iblk m c 16 t) (iblk m c 17 t) (iblk m c 18 t) (iblk m c 19 t) (iblk m c 20 t) (iblk m c 21 t) (iblk m c 22 t) (ix2 R j) =
      outRow m c (rowT t R) j := by
  refine (block_at _ _ _ _ _ _ _ _ _ _ _ _ _ _ _ _ _ _ _ _ _ _ _ (b1 m c t) (fun d => a13 m c (ix2 0 d)) (fun d => a15 m c (ix2 0 d))
    (b5 m c t) (b11 m c t) (fun i j => a10 m c (ix3 1 i j)) (b19 m c t) (b20 m c t) R j).trans ?_
  unfold blockFn outRow outAt
  rw [funext (b0 m c t R), funext (b2 m c t R), funext (b3 m c t R), funext (b4 m c t R), funext (b7 m c t R), funext (b8 m c t R),
    funext (b9 m c t R), funext (b10 m c t R), funext (b6 m c t), funext (b12 m c t), funext (b13 m c t), funext (b14 m c t),
    funext (b15 m c t), funext (b16 m c t), funext (b17 m c t), funext (b18 m c t), funext fun i => funext (b21 m c t i), funext fun i => funext (b22 m c t i),
    bRow_rowT]

/-- The result array after the run. -/
theorem result_eq : (dats m 0 c).arrAt 23 cfg0.N = fun i : S32768x1024.Idx => outRow m c (i 0) (i 1) := by
  refine (dats m 0 c).arrAt_eq_of_covers 23 _ (by decide +kernel) fun t hf y => ?_
  refine Eq.trans (b := (dats m 0 c).flushed 23 t y) rfl ?_
  refine (congrFun (OutRun.flushed23 m c t) y).trans ?_
  have h := idx_all t
  have e0 : (((cfg0.win 23).blk t).view.emb y 0).val = t.val * 512 + (y 0).val := by
    blk_simp [h]
  have e1 : (((cfg0.win 23).blk t).view.emb y 1).val = (y 1).val := by
    blk_simp [h]
  have hg : ∀ g : Vec Ideal S512x1024 .f32, (cfg0.win 23).cut (grid0.coords t) g y = g (ix2 (y 0) (y 1)) :=
    fun g => congrArg g (eq_ix2 y)
  refine (hg _).trans ((point_at m c t (y 0) (y 1)).trans ?_)
  exact congrArg₂ (outRow m c) (Fin.ext e0.symm) (Fin.ext e1.symm)

end Cert.Kernel2Ideal.OutMlp

end
-- ==== Proof.OutRef.lean ====
/- The reference's output projection and feed-forward layer at an index. -/
module

public import proofs.«01_k».proof.Proof.OutHost
public import proofs.«01_k».proof.Proof.Gen.Reference2Ideal.Run
public import proofs.«01_k».proof.Proof.Gen.Reference2Ideal.Read
public import proofs.«01_k».proof.Defs
public import Idealize.ShloMosaic.Lib.Pointwise
public import Idealize.ShloMosaic.Lib.Claim

@[expose] public section

set_option maxRecDepth 16384

noncomputable section

namespace Cert.Reference2Ideal.OutMlp

open Cert.Reference2Ideal Cert.Reference2Ideal.Gen Idealize.ShloMosaic Idealize.ShloMosaic.TcCoe Cert.Reference2Ideal.Read Cert.OutRow

variable (x0 : FVec Ideal S8x4096x1024 .f32) (x1 x2 : FVec Ideal S8x4096x512 .f32) (x3 : FVec Ideal S8x4096x1024 .f32)
  (x4 x5 x6 x7 : FVec Ideal S8x4096x512 .f32) (x8 : FVec Ideal S2x16x6144 .f32) (x9 : FVec Ideal S2x4x1024 .f32)
  (x10 : FVec Ideal S2x1024x1024 .f32) (x11 : FVec Ideal S2x1024x4096 .f32) (x12 : FVec Ideal S2x4096x1024 .f32)
  (x13 : FVec Ideal S1x64 .f32) (x14 : FVec Ideal S1x512 .f32) (x15 : FVec Ideal S1x64 .f32)

/-! ## The parameters at an index -/

/-- The first residual connection's gate. -/
theorem gate1_at (b : Fin 8) (l : Fin 4096) (j : Fin 1024) :
    val_main_v83 (F := Ideal) x8 (ix3 b l j) = (x8 (ix3 1 ⟨b.val, by omega⟩ ⟨2048 + j.val, by omega⟩) : EReal) := by
  pointwise [val_main_v83, val_main_v7, val_main_v4, val_main_v3, val_main_v2]
/-- The feed-forward layer's shift. -/
theorem shift_at (b : Fin 8) (l : Fin 4096) (j : Fin 1024) :
    val_main_v105 (F := Ideal) x8 (ix3 b l j) = (x8 (ix3 1 ⟨b.val, by omega⟩ ⟨3072 + j.val, by omega⟩) : EReal) := by
  pointwise [val_main_v105, val_main_v8, val_main_v4, val_main_v3, val_main_v2]
/-- The feed-forward layer's scale. -/
theorem scale_at (b : Fin 8) (l : Fin 4096) (j : Fin 1024) :
    val_main_v103 (F := Ideal) x8 (ix3 b l j) =
      (1 + x8 (ix3 1 ⟨b.val, by omega⟩ ⟨4096 + j.val, by omega⟩) : EReal) := by
  pointwise [val_main_v103, val_main_v102, val_main_v101, val_main_cst_11, val_main_v9, val_main_v4, val_main_v3, val_main_v2]
/-- The second residual connection's gate. -/
theorem gate2_at (b : Fin 8) (l : Fin 4096) (j : Fin 1024) :
    val_main_v130 (F := Ideal) x8 (ix3 b l j) = (x8 (ix3 1 ⟨b.val, by omega⟩ ⟨5120 + j.val, by omega⟩) : EReal) := by
  pointwise [val_main_v130, val_main_v10, val_main_v4, val_main_v3, val_main_v2]
/-- The three norms' scales. -/
theorem g1_at (b : Fin 8) (l : Fin 4096) (j : Fin 1024) : val_main_v81 (F := Ideal) x9 (ix3 b l j) = (x9 (ix3 1 1 j) : EReal) := by
  pointwise [val_main_v81, val_main_v80, val_main_v69, val_main_v68, val_main_v1, val_main_v0]
/-- The second of them. -/
theorem g2_at (b : Fin 8) (l : Fin 4096) (j : Fin 1024) : val_main_v99 (F := Ideal) x9 (ix3 b l j) = (x9 (ix3 1 2 j) : EReal) := by
  pointwise [val_main_v99, val_main_v98, val_main_v87, val_main_v86, val_main_v1, val_main_v0]
/-- The third of them. -/
theorem g3_at (b : Fin 8) (l : Fin 4096) (j : Fin 1024) : val_main_v128 (F := Ideal) x9 (ix3 b l j) = (x9 (ix3 1 3 j) : EReal) := by
  pointwise [val_main_v128, val_main_v127, val_main_v116, val_main_v115, val_main_v1, val_main_v0]
/-- The output projection's weights. -/
theorem wo_at (i j : Fin 1024) : val_main_v66 (F := Ideal) x10 (ix2 i j) = (x10 (ix3 1 i j) : EReal) := by
  pointwise [val_main_v66, val_main_v65]
/-- The feed-forward layer's first weights. -/
theorem w1_at (i : Fin 1024) (k : Fin 4096) : val_main_v108 (F := Ideal) x11 (ix2 i k) = (x11 (ix3 1 i k) : EReal) := by
  pointwise [val_main_v108, val_main_v107]
/-- Its second weights. -/
theorem w2_at (k : Fin 4096) (j : Fin 1024) : val_main_v110 (F := Ideal) x12 (ix2 k j) = (x12 (ix3 1 k j) : EReal) := by
  pointwise [val_main_v110, val_main_v109]

/-! ## The mixers -/

/-- The first mixer's two directions, summed by head. -/
theorem sumA_at (b h : Fin 8) (l : Fin 4096) (d : Fin 64) : val_main_v17 (F := Ideal) x1 x2 (ix4 b h l d) =
    (x1 (ix3 b l ⟨h.val * 64 + d.val, by omega⟩) + x2 (ix3 b l ⟨h.val * 64 + d.val, by omega⟩) : EReal) := by
  pointwise [val_main_v17, val_main_v14, val_main_v13, val_main_v16, val_main_v15]
/-- The second mixer's. -/
theorem sumB_at (b h : Fin 8) (l : Fin 4096) (d : Fin 64) : val_main_v22 (F := Ideal) x5 x6 (ix4 b h l d) =
    (x5 (ix3 b l ⟨h.val * 64 + d.val, by omega⟩) + x6 (ix3 b l ⟨h.val * 64 + d.val, by omega⟩) : EReal) := by
  pointwise [val_main_v22, val_main_v19, val_main_v18, val_main_v21, val_main_v20]

/-- The first mixer's norm by head. -/
theorem normA_at (b : Fin 8) (l : Fin 4096) (x : Fin 512) : val_main_v38 (F := Ideal) x1 x2 x13 (ix3 b l x) =
    (val_main_v17 (F := Ideal) x1 x2 (ix4 b ⟨x.val / 64, by omega⟩ l ⟨x.val % 64, by omega⟩) *
      Ideal.rsqrt (Ideal.div (∑ d : Fin 64, val_main_v17 (F := Ideal) x1 x2 (ix4 b ⟨x.val / 64, by omega⟩ l d) *
        val_main_v17 (F := Ideal) x1 x2 (ix4 b ⟨x.val / 64, by omega⟩ l d)) w64 + eps) * x13 (ix2 0 ⟨x.val % 64, by omega⟩) : EReal) := by
  unfold val_main_v38 val_main_v37 val_main_v36 val_main_v33 val_main_v32 val_main_v31 val_main_v30 val_main_v28 val_main_v26 val_main_v25 val_main_v24
  generalize val_main_v17 (F := Ideal) x1 x2 = y
  pointwise [val_main_v35, val_main_v34, val_main_v23, val_main_v29, val_main_v27, val_main_cst, val_main_cst_0, val_main_cst_1, w64, eps]
/-- The second mixer's. -/
theorem normB_at (b : Fin 8) (l : Fin 4096) (x : Fin 512) : val_main_v61 (F := Ideal) x5 x6 x15 (ix3 b l x) =
    (val_main_v22 (F := Ideal) x5 x6 (ix4 b ⟨x.val / 64, by omega⟩ l ⟨x.val % 64, by omega⟩) *
      Ideal.rsqrt (Ideal.div (∑ d : Fin 64, val_main_v22 (F := Ideal) x5 x6 (ix4 b ⟨x.val / 64, by omega⟩ l d) *
        val_main_v22 (F := Ideal) x5 x6 (ix4 b ⟨x.val / 64, by omega⟩ l d)) w64 + eps) * x15 (ix2 0 ⟨x.val % 64, by omega⟩) : EReal) := by
  unfold val_main_v61 val_main_v60 val_main_v59 val_main_v56 val_main_v55 val_main_v54 val_main_v53 val_main_v51 val_main_v49 val_main_v48 val_main_v47
  generalize val_main_v22 (F := Ideal) x5 x6 = y
  pointwise [val_main_v58, val_main_v57, val_main_v46, val_main_v52, val_main_v50, val_main_cst_2, val_main_cst_3, val_main_cst_4, w64, eps]

/-- A head's columns, counted within the row. -/
theorem headNorm_row (f : Fin 512 → EReal) (g : Fin 64 → EReal) (y : Fin 64 → EReal) (x : Fin 512)
    (hy : ∀ d : Fin 64, y d = f ⟨x.val / 64 * 64 + d.val, by omega⟩) :
    y ⟨x.val % 64, by omega⟩ * Ideal.rsqrt (Ideal.div (∑ d, y d * y d) w64 + eps) * g ⟨x.val % 64, by omega⟩ = headNorm f g x := by
  have e : y ⟨x.val % 64, by omega⟩ = f x := (hy _).trans (congrArg f (Fin.ext (by show x.val / 64 * 64 + x.val % 64 = x.val; omega)))
  unfold headNorm
  rw [e]
  simp only [hy]
  rfl

/-- The first mixer's gated row. -/
theorem gateA_at (b : Fin 8) (l : Fin 4096) (x : Fin 512) : val_main_v45 (F := Ideal) x1 x2 x3 x4 x13 x14 (ix3 b l x) =
    gateA (fun x => x1 (ix3 b l x)) (fun x => x2 (ix3 b l x)) (fun d => x13 (ix2 0 d)) (fun x => x14 (ix2 0 x)) (fun x => x4 (ix3 b l x))
      (fun x => x3 (ix3 b l ⟨512 + x.val, by omega⟩)) x := by
  unfold gateA
  rw [← headNorm_row (fun x => (x1 (ix3 b l x) + x2 (ix3 b l x) : EReal)) (fun d => x13 (ix2 0 d))
    (fun d => val_main_v17 (F := Ideal) x1 x2 (ix4 b ⟨x.val / 64, by omega⟩ l d)) x (fun d => sumA_at x1 x2 b _ l d), ← normA_at]
  unfold val_main_v45 val_main_v43
  generalize val_main_v38 (F := Ideal) x1 x2 x13 = y
  pointwise [silu, val_main_v44, val_main_v42, val_main_v41, val_main_v40, val_main_v39, val_main_v12, val_main_call0_v5, val_main_call0_v4, val_main_call0_v3,
    val_main_call0_v2, val_main_call0_v1, val_main_call0_v0, val_main_call0_cst, val_main_call0_cst_0]
  rw [zero_sub]
/-- The second mixer's. -/
theorem gateB_at (b : Fin 8) (l : Fin 4096) (x : Fin 512) : val_main_v63 (F := Ideal) x5 x6 x7 x15 (ix3 b l x) =
    gateB (fun x => x5 (ix3 b l x)) (fun x => x6 (ix3 b l x)) (fun d => x15 (ix2 0 d)) (fun x => x7 (ix3 b l x)) x := by
  unfold gateB
  rw [← headNorm_row (fun x => (x5 (ix3 b l x) + x6 (ix3 b l x) : EReal)) (fun d => x15 (ix2 0 d))
    (fun d => val_main_v22 (F := Ideal) x5 x6 (ix4 b ⟨x.val / 64, by omega⟩ l d)) x (fun d => sumB_at x5 x6 b _ l d), ← normB_at]
  unfold val_main_v63
  generalize val_main_v61 (F := Ideal) x5 x6 x15 = y
  pointwise [silu, val_main_v62, val_main_call1_v5, val_main_call1_v4, val_main_call1_v3,
    val_main_call1_v2, val_main_call1_v1, val_main_call1_v0, val_main_call1_cst, val_main_call1_cst_0]
  rw [zero_sub]

/-- The two mixers' rows, side by side. -/
theorem cat_at (b : Fin 8) (l : Fin 4096) (x : Fin 1024) : val_main_v64 (F := Ideal) x1 x2 x3 x4 x5 x6 x7 x13 x14 x15 (ix3 b l x) =
    cat (fun x => val_main_v45 (F := Ideal) x1 x2 x3 x4 x13 x14 (ix3 b l x)) (fun x => val_main_v63 (F := Ideal) x5 x6 x7 x15 (ix3 b l x)) x := by
  unfold val_main_v64
  generalize val_main_v45 (F := Ideal) x1 x2 x3 x4 x13 x14 = y
  generalize val_main_v63 (F := Ideal) x5 x6 x7 x15 = z
  pointwise [cat]

/-! ## The output projection and the feed-forward layer -/

/-- The projected row. -/
theorem proj_at (b : Fin 8) (l : Fin 4096) (j : Fin 1024) : val_main_v67 (F := Ideal) x1 x2 x3 x4 x5 x6 x7 x10 x13 x14 x15 (ix3 b l j) =
    proj (fun x => val_main_v45 (F := Ideal) x1 x2 x3 x4 x13 x14 (ix3 b l x)) (fun x => val_main_v63 (F := Ideal) x5 x6 x7 x15 (ix3 b l x))
      (fun i j => x10 (ix3 1 i j)) j := by
  unfold proj
  simp only [← cat_at, ← wo_at]
  unfold val_main_v67
  generalize val_main_v64 (F := Ideal) x1 x2 x3 x4 x5 x6 x7 x13 x14 x15 = y
  generalize val_main_v66 (F := Ideal) x10 = z
  pointwise

/-- The residual stream after the mixers. -/
theorem mid_at (b : Fin 8) (l : Fin 4096) (j : Fin 1024) : val_main_v85 (F := Ideal) x0 x1 x2 x3 x4 x5 x6 x7 x8 x9 x10 x13 x14 x15 (ix3 b l j) =
    addGated (fun j => x0 (ix3 b l j)) (fun j => val_main_v83 (F := Ideal) x8 (ix3 b l j)) (fun j => val_main_v67 (F := Ideal) x1 x2 x3 x4 x5 x6 x7 x10 x13 x14 x15 (ix3 b l j))
      (fun j => val_main_v81 (F := Ideal) x9 (ix3 b l j)) j := by
  unfold val_main_v85 val_main_v84 val_main_v82 val_main_v79 val_main_v78 val_main_v77 val_main_v76 val_main_v74 val_main_v72 val_main_v71 val_main_v70
  generalize val_main_v67 (F := Ideal) x1 x2 x3 x4 x5 x6 x7 x10 x13 x14 x15 = y
  generalize val_main_v83 (F := Ideal) x8 = z
  generalize val_main_v81 (F := Ideal) x9 = w
  pointwise [addGated, rowNorm, val_main_v73, val_main_v75, val_main_cst_5, val_main_cst_6, val_main_cst_7, w1024, eps]

/-- The feed-forward layer's input row. -/
theorem in_at (b : Fin 8) (l : Fin 4096) (j : Fin 1024) : val_main_v106 (F := Ideal) x0 x1 x2 x3 x4 x5 x6 x7 x8 x9 x10 x13 x14 x15 (ix3 b l j) =
    (rowNorm (fun j => val_main_v85 (F := Ideal) x0 x1 x2 x3 x4 x5 x6 x7 x8 x9 x10 x13 x14 x15 (ix3 b l j)) (fun j => val_main_v99 (F := Ideal) x9 (ix3 b l j)) j *
      val_main_v103 (F := Ideal) x8 (ix3 b l j) + val_main_v105 (F := Ideal) x8 (ix3 b l j) : EReal) := by
  unfold val_main_v106 val_main_v104 val_main_v100 val_main_v97 val_main_v96 val_main_v95 val_main_v94 val_main_v92 val_main_v90 val_main_v89 val_main_v88
  generalize val_main_v85 (F := Ideal) x0 x1 x2 x3 x4 x5 x6 x7 x8 x9 x10 x13 x14 x15 = y
  generalize val_main_v103 (F := Ideal) x8 = z
  generalize val_main_v99 (F := Ideal) x9 = w
  generalize val_main_v105 (F := Ideal) x8 = v
  pointwise [rowNorm, val_main_v91, val_main_v93, val_main_cst_8, val_main_cst_9, val_main_cst_10, w1024, eps]

/-- The feed-forward layer's hidden row. -/
theorem hidden_at (b : Fin 8) (l : Fin 4096) (k : Fin 4096) : val_main_v112 (F := Ideal) x0 x1 x2 x3 x4 x5 x6 x7 x8 x9 x10 x11 x13 x14 x15 (ix3 b l k) =
    hiddenRow (fun j => val_main_v106 (F := Ideal) x0 x1 x2 x3 x4 x5 x6 x7 x8 x9 x10 x13 x14 x15 (ix3 b l j)) (fun i k => x11 (ix3 1 i k)) k := by
  unfold hiddenRow
  simp only [← w1_at]
  unfold val_main_v112 val_main_v111
  generalize val_main_v106 (F := Ideal) x0 x1 x2 x3 x4 x5 x6 x7 x8 x9 x10 x13 x14 x15 = y
  generalize val_main_v108 (F := Ideal) x11 = z
  pointwise [val_main_call2_v0, val_main_call2_cst]

/-- The feed-forward layer's row. -/
theorem ff_at (b : Fin 8) (l : Fin 4096) (j : Fin 1024) : val_main_v114 (F := Ideal) x0 x1 x2 x3 x4 x5 x6 x7 x8 x9 x10 x11 x12 x13 x14 x15 (ix3 b l j) =
    mlp (fun j => val_main_v106 (F := Ideal) x0 x1 x2 x3 x4 x5 x6 x7 x8 x9 x10 x13 x14 x15 (ix3 b l j)) (fun i k => x11 (ix3 1 i k)) (fun k j => x12 (ix3 1 k j)) j := by
  unfold mlp
  simp only [← hidden_at, ← w2_at]
  unfold val_main_v114 val_main_v113
  generalize val_main_v112 (F := Ideal) x0 x1 x2 x3 x4 x5 x6 x7 x8 x9 x10 x11 x13 x14 x15 = y
  generalize val_main_v110 (F := Ideal) x12 = z
  pointwise

/-- The layer's row. -/
theorem last_at (b : Fin 8) (l : Fin 4096) (j : Fin 1024) : val_main_v132 (F := Ideal) x0 x1 x2 x3 x4 x5 x6 x7 x8 x9 x10 x11 x12 x13 x14 x15 (ix3 b l j) =
    addGated (fun j => val_main_v85 (F := Ideal) x0 x1 x2 x3 x4 x5 x6 x7 x8 x9 x10 x13 x14 x15 (ix3 b l j)) (fun j => val_main_v130 (F := Ideal) x8 (ix3 b l j))
      (fun j => val_main_v114 (F := Ideal) x0 x1 x2 x3 x4 x5 x6 x7 x8 x9 x10 x11 x12 x13 x14 x15 (ix3 b l j)) (fun j => val_main_v128 (F := Ideal) x9 (ix3 b l j)) j := by
  unfold val_main_v132 val_main_v131 val_main_v129 val_main_v126 val_main_v125 val_main_v124 val_main_v123 val_main_v121 val_main_v119 val_main_v118 val_main_v117
  generalize val_main_v114 (F := Ideal) x0 x1 x2 x3 x4 x5 x6 x7 x8 x9 x10 x11 x12 x13 x14 x15 = y
  generalize val_main_v85 (F := Ideal) x0 x1 x2 x3 x4 x5 x6 x7 x8 x9 x10 x13 x14 x15 = x
  generalize val_main_v130 (F := Ideal) x8 = z
  generalize val_main_v128 (F := Ideal) x9 = w
  pointwise [addGated, rowNorm, val_main_v120, val_main_v122, val_main_cst_12, val_main_cst_13, val_main_cst_14, w1024, eps]

/-- The result's rows are those of the sequences, one after another. -/
theorem flat_at (R : Fin 32768) (j : Fin 1024) : val_main_v133 (F := Ideal) x0 x1 x2 x3 x4 x5 x6 x7 x8 x9 x10 x11 x12 x13 x14 x15 (ix2 R j) =
    val_main_v132 (F := Ideal) x0 x1 x2 x3 x4 x5 x6 x7 x8 x9 x10 x11 x12 x13 x14 x15 (ix3 ⟨R.val / 4096, by omega⟩ ⟨R.val % 4096, by omega⟩ j) := by
  unfold val_main_v133
  generalize val_main_v132 (F := Ideal) x0 x1 x2 x3 x4 x5 x6 x7 x8 x9 x10 x11 x12 x13 x14 x15 = y
  pointwise

/-- The reference's result at an index. -/
theorem ref_at (R : Fin 32768) (j : Fin 1024) : val_main_v133 (F := Ideal) x0 x1 x2 x3 x4 x5 x6 x7 x8 x9 x10 x11 x12 x13 x14 x15 (ix2 R j) =
    Cert.Kernel2Ideal.OutMlp.outAt x0 x1 x2 x3 x4 x5 x6 x7 x8 x9 x10 x11 x12 x13 x14 x15 ⟨R.val / 4096, by omega⟩ ⟨R.val % 4096, by omega⟩ j := by
  rw [flat_at, last_at]
  unfold Cert.Kernel2Ideal.OutMlp.outAt lastRow midRow modulated
  simp only [ff_at, in_at, mid_at, proj_at, gateA_at, gateB_at, gate1_at, gate2_at, shift_at, scale_at, g1_at, g2_at, g3_at]

/-- The same from equal arguments. -/
theorem ref_eq (y0 : FVec Ideal S8x4096x1024 .f32) (y1 y2 : FVec Ideal S8x4096x512 .f32) (y3 : FVec Ideal S8x4096x1024 .f32)
    (y4 y5 y6 y7 : FVec Ideal S8x4096x512 .f32) (y8 : FVec Ideal S2x16x6144 .f32) (y9 : FVec Ideal S2x4x1024 .f32)
    (y10 : FVec Ideal S2x1024x1024 .f32) (y11 : FVec Ideal S2x1024x4096 .f32) (y12 : FVec Ideal S2x4096x1024 .f32)
    (y13 : FVec Ideal S1x64 .f32) (y14 : FVec Ideal S1x512 .f32) (y15 : FVec Ideal S1x64 .f32)
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) (h15 : x15 = y15) (R : Fin 32768) (j : Fin 1024) :
    val_main_v133 (F := Ideal) x0 x1 x2 x3 x4 x5 x6 x7 x8 x9 x10 x11 x12 x13 x14 x15 (ix2 R j) =
      Cert.Kernel2Ideal.OutMlp.outAt y0 y1 y2 y3 y4 y5 y6 y7 y8 y9 y10 y11 y12 y13 y14 y15 ⟨R.val / 4096, by omega⟩ ⟨R.val % 4096, by omega⟩ j := by
  subst h0 h1 h2 h3 h4 h5 h6 h7 h8 h9 h10 h11 h12 h13 h14 h15
  exact ref_at x0 x1 x2 x3 x4 x5 x6 x7 x8 x9 x10 x11 x12 x13 x14 x15 R j

end Cert.Reference2Ideal.OutMlp

end
-- ==== Proof.OutClaims.lean ====
/- The claims of the output projection and feed-forward call: the frames, the preservation and the equation with the reference. -/
module

public import proofs.«01_k».proof.Proof.OutRef
public import proofs.«01_k».proof.Proof.Gen.Kernel2
public import proofs.«01_k».proof.Proof.Gen.Kernel2Ideal
public import proofs.«01_k».proof.Proof.Gen.Reference2Ideal
public import Idealize.ShloMosaic.Adequacy
public import Idealize.ShloMosaic.Init

@[expose] public section

set_option maxRecDepth 16384

noncomputable section

namespace Cert.OutClaims

open Idealize.ShloMosaic Idealize.ShloMosaic.TcCoe Idealize.SL.Sem

set_option maxHeartbeats 4000000 in
/-- The kernel and its idealized text have one body. -/
theorem body_eq : Cert.Kernel2.defs₀ (F := Bits) = Cert.Kernel2Ideal.defs₀ (F := Bits) := by
  unfold Cert.Kernel2.defs₀ Cert.Kernel2Ideal.defs₀
  refine congrArg Defs.onTc (funext fun l => funext fun a => ?_)
  match l, a with
  | 0, (t, s) => exact rfl
  | ⟨_ + 1, h⟩, _ => exact absurd h (Nat.not_lt.2 (Nat.le_add_left _ _))

set_option maxHeartbeats 4000000 in
/-- And one table of bodies. -/
theorem defs_eq : Cert.Kernel2.defs (F := Bits) = Cert.Kernel2Ideal.defs (F := Bits) :=
  congrArg (Pipeline.defs Cert.Kernel2.pcfgs) body_eq

set_option maxHeartbeats 4000000 in
/-- The kernel runs, leaves its arguments unchanged and every semaphore at zero: its run is the idealized text's. -/
theorem frame_p : Cert.quiescent_Kernel2 := fun m ρ _ =>
  Eq.mpr (congrArg (fun d => (θ_run d (onTc (τ := Cert.Kernel2.τ) (Cert.Kernel2.main (F := Bits))) ⟨m, fun _ => 0, ρ⟩) _) defs_eq)
    (Cert.Kernel2Ideal.OutRun.frame (F := Bits) m ρ)
/-- The same of the idealized kernel. -/
theorem frame_pi : Cert.quiescent_Kernel2Ideal := fun m ρ _ => Cert.Kernel2Ideal.OutRun.frame m ρ
/-- The reference runs and leaves its arguments unchanged. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
/-- The idealization rewrote nothing. -/
theorem preserves : Cert.preserves_Kernel2_Kernel2Ideal := trivial

/-- The kernel and its reference end with the same array of extended reals. -/
theorem algebraic : Cert.algebraic_Kernel2Ideal_Reference2Ideal := by
  intro m g m' g' _ hagree
  refine ⟨fun c => (Cert.Kernel2Ideal.OutRun.dats m 0 c).arrAt 23 Cert.Kernel2Ideal.cfg0.N, Cert.Kernel2Ideal.OutRun.run_blocks m g, ?_⟩
  refine (θ_run Cert.Reference2Ideal.defs _ _).mono (fun r h c => ⟨(h c).1.trans ?_, (h c).2⟩) (Cert.Reference2Ideal.Value.run (F := Ideal) m' g')
  obtain ⟨h0, h1, h2, h3, h4, h5, h6, h7, h8, h9, h10, h11, h12, h13, h14, h15⟩ := hagree c
  refine Eq.trans ?_ (Cert.Kernel2Ideal.OutMlp.result_eq m c).symm
  refine (Cert.Reference2Ideal.Read.val_main_v133_eq _).trans ?_
  funext i
  refine (congrArg _ (eq_ix2 (n0 := 32768) (n1 := 1024) i)).trans ?_
  exact Cert.Reference2Ideal.OutMlp.ref_eq _ _ _ _ _ _ _ _ _ _ _ _ _ _ _ _ _ _ _ _ _ _ _ _ _ _ _ _ _ _ _ _ h0 h1 h2 h3 h4 h5 h6 h7 h8 h9 h10 h11 h12 h13 h14 h15 (i 0) (i 1)

end Cert.OutClaims

end
-- ==== Proof.FirstBlock.lean ====
/- What the output projection and feed-forward kernel computes of one half of a block of rows, in the first layer. -/
module

public import proofs.«01_k».proof.Proof.Row
public import proofs.«01_k».proof.Proof.Gen.Kernel3Ideal.Frame
public import Idealize.ShloMosaic.Lib.Pipeline.Value
public import Idealize.ShloMosaic.Lib.Pipeline.ValueKit.Tiles

@[expose] public section

set_option maxRecDepth 16384

noncomputable section

namespace Cert.Kernel3Ideal.OutMlp

open Cert.Kernel3Ideal Cert.Kernel3Ideal.Gen Idealize.ShloMosaic Idealize.ShloMosaic.TcCoe Cert.OutRow

variable (o : Vec Ideal S512x512 .bf16) (gf gb : Vec Ideal S256x512 .f32) (gn : Vec Ideal S1x512 .f32) (z : Vec Ideal S256x512 .f32)
  (att : Vec Ideal S256x512 .bf16) (wa wb : Vec Ideal S512x1024 .bf16) (x : Vec Ideal S256x1024 .f32)
  (gate g1 g2 scale shift gate2 g3 : Vec Ideal S1x1x1x1024 .f32) (wA vA wB vB wC vC wD vD : Vec Ideal S1024x1024 .bf16)

/-- The kernel's projected mixers, its feed-forward layer's input and output, for 256 rows. -/
def mixed : FVec Ideal S256x1024 .f32 := k0_pay7 (k0_pay2 o gf gb gn z) att wa wb
def ffIn (t : FVec Ideal S256x1024 .f32) : FVec Ideal S256x1024 .bf16 := k0_pay11 (k0_pay10 t x gate g1) g2 scale shift
def ffOut (u : FVec Ideal S256x1024 .bf16) : FVec Ideal S256x1024 .f32 :=
  k0_pay20 u (k0_pay16 u (k0_pay15 u wA) vA wB vB) (k0_pay18 u wC) vC wD vD

/-- The row after the mixers' residual connection: the gated linear attention beside the attention. -/
def firstMid (x : Fin 1024 → EReal) (gf gb z att : Fin 512 → EReal) (g : Fin 64 → EReal) (wo : Fin 1024 → Fin 1024 → EReal)
    (gate g1 : Fin 1024 → EReal) : Fin 1024 → EReal :=
  addGated x gate (proj (gateB gf gb g z) att wo) g1

/-- All that the kernel computes for 256 rows. -/
def half : FVec Ideal S256x1024 .f32 :=
  k0_pay23 (k0_pay9 (F := Ideal) (mixed o gf gb gn z att wa wb) x gate g1)
    (ffOut wA vA wB vB wC vC wD vD (ffIn x gate g1 g2 scale shift (mixed o gf gb gn z att wa wb))) gate2 g3

/-- The linear attention's half of the projection's operand, at an index. -/
theorem pay2_at (ho : ∀ x j : Fin 512, o (ix2 x j) = (if x.val / 64 = j.val / 64 then 1 else 0 : EReal)) (g : Fin 64 → EReal)
    (hg : ∀ j : Fin 512, gn (ix2 0 j) = g ⟨j.val % 64, by omega⟩) (r : Fin 256) (j : Fin 512) :
    k0_pay2 (F := Ideal) o gf gb gn z (ix2 r j) =
      gateB (fun x => gf (ix2 r x)) (fun x => gb (ix2 r x)) g (fun x => z (ix2 r x)) j := by
  unfold gateB silu
  rw [headNorm_eq, ← hg]
  simp only [← ho, eps]
  pointwise [k0_pay2]

/-- The projected mixers. -/
theorem mixed_at (ho : ∀ x j : Fin 512, o (ix2 x j) = (if x.val / 64 = j.val / 64 then 1 else 0 : EReal)) (gm : Fin 64 → EReal)
    (hg : ∀ j : Fin 512, gn (ix2 0 j) = gm ⟨j.val % 64, by omega⟩)
    (wo : Fin 1024 → Fin 1024 → EReal) (hwa : ∀ (i : Fin 512) j, wa (ix2 i j) = wo ⟨i.val, by omega⟩ j)
    (hwb : ∀ (i : Fin 512) j, wb (ix2 i j) = wo ⟨512 + i.val, by omega⟩ j) (r : Fin 256) (j : Fin 1024) :
    mixed o gf gb gn z att wa wb (ix2 r j) =
      proj (gateB (fun x => gf (ix2 r x)) (fun x => gb (ix2 r x)) gm (fun x => z (ix2 r x))) (fun x => att (ix2 r x)) wo j := by
  unfold proj
  rw [sum_halves]
  have e1 : ∀ (a b : Fin 512 → EReal) (i : Fin 512), cat a b ⟨i.val, by omega⟩ = a i := fun a b i => dif_pos i.isLt
  have e2 : ∀ (a b : Fin 512 → EReal) (i : Fin 512), cat a b ⟨512 + i.val, by omega⟩ = b i := fun a b i => by
    unfold cat; rw [dif_neg (by simp)]; congr 1; exact Fin.ext (by simp)
  simp only [e1, e2, ← hwa, ← hwb, ← pay2_at o gf gb gn z ho gm hg r]
  unfold mixed
  generalize k0_pay2 (F := Ideal) o gf gb gn z = a
  pointwise [k0_pay7]

/-- The row after the first residual connection. -/
theorem lat_at (t : FVec Ideal S256x1024 .f32) (r : Fin 256) (j : Fin 1024) :
    k0_pay9 (F := Ideal) t x gate g1 (ix2 r j) =
      addGated (fun j => x (ix2 r j)) (fun j => gate (ix4 0 0 0 j)) (fun j => t (ix2 r j)) (fun j => g1 (ix4 0 0 0 j)) j := by
  unfold addGated rowNorm eps w1024
  pointwise [k0_pay9]

/-- The feed-forward layer's input. -/
theorem ffIn_at (t : FVec Ideal S256x1024 .f32) (r : Fin 256) (j : Fin 1024) :
    ffIn x gate g1 g2 scale shift t (ix2 r j) =
      modulated (fun j => k0_pay9 (F := Ideal) t x gate g1 (ix2 r j)) (fun j => g2 (ix4 0 0 0 j)) (fun j => scale (ix4 0 0 0 j))
        (fun j => shift (ix4 0 0 0 j)) j := by
  have e : ffIn x gate g1 g2 scale shift t = k0_pay11 (F := Ideal) (k0_pay10 t x gate g1) g2 scale shift := rfl
  rw [e]
  unfold modulated rowNorm eps w1024 k0_pay10
  generalize k0_pay9 (F := Ideal) t x gate g1 = y
  pointwise [k0_pay11]

/-- The feed-forward layer, its hidden columns taken in four quarters. -/
theorem ffOut_at (u : FVec Ideal S256x1024 .bf16) (w1 : Fin 1024 → Fin 4096 → EReal) (w2 : Fin 4096 → Fin 1024 → EReal)
    (hA : ∀ i (k : Fin 1024), wA (ix2 i k) = w1 i ⟨k.val, by omega⟩) (kA : ∀ (k : Fin 1024) j, vA (ix2 k j) = w2 ⟨k.val, by omega⟩ j)
    (hB : ∀ i (k : Fin 1024), wB (ix2 i k) = w1 i ⟨1024 + k.val, by omega⟩) (kB : ∀ (k : Fin 1024) j, vB (ix2 k j) = w2 ⟨1024 + k.val, by omega⟩ j)
    (hC : ∀ i (k : Fin 1024), wC (ix2 i k) = w1 i ⟨2048 + k.val, by omega⟩) (kC : ∀ (k : Fin 1024) j, vC (ix2 k j) = w2 ⟨2048 + k.val, by omega⟩ j)
    (hD : ∀ i (k : Fin 1024), wD (ix2 i k) = w1 i ⟨3072 + k.val, by omega⟩) (kD : ∀ (k : Fin 1024) j, vD (ix2 k j) = w2 ⟨3072 + k.val, by omega⟩ j)
    (r : Fin 256) (j : Fin 1024) :
    ffOut wA vA wB vB wC vC wD vD u (ix2 r j) = mlp (fun j => u (ix2 r j)) w1 w2 j := by
  unfold mlp hiddenRow
  rw [sum_quarters]
  simp only [← hA, ← kA, ← hB, ← kB, ← hC, ← kC, ← hD, ← kD]
  pointwise [ffOut, k0_pay20, k0_pay18, k0_pay16, k0_pay15]

/-- The row after the second residual connection. -/
theorem after_at (y h : FVec Ideal S256x1024 .f32) (r : Fin 256) (j : Fin 1024) :
    k0_pay23 (F := Ideal) y h gate2 g3 (ix2 r j) =
      addGated (fun j => y (ix2 r j)) (fun j => gate2 (ix4 0 0 0 j)) (fun j => h (ix2 r j)) (fun j => g3 (ix4 0 0 0 j)) j := by
  unfold addGated rowNorm eps w1024
  pointwise [k0_pay23]

/-- What the kernel computes for 256 rows, row by row. -/
theorem half_at (ho : ∀ x j : Fin 512, o (ix2 x j) = (if x.val / 64 = j.val / 64 then 1 else 0 : EReal)) (gm : Fin 64 → EReal)
    (hg : ∀ j : Fin 512, gn (ix2 0 j) = gm ⟨j.val % 64, by omega⟩)
    (wo : Fin 1024 → Fin 1024 → EReal) (hwa : ∀ (i : Fin 512) j, wa (ix2 i j) = wo ⟨i.val, by omega⟩ j)
    (hwb : ∀ (i : Fin 512) j, wb (ix2 i j) = wo ⟨512 + i.val, by omega⟩ j)
    (w1 : Fin 1024 → Fin 4096 → EReal) (w2 : Fin 4096 → Fin 1024 → EReal)
    (hA : ∀ i (k : Fin 1024), wA (ix2 i k) = w1 i ⟨k.val, by omega⟩) (kA : ∀ (k : Fin 1024) j, vA (ix2 k j) = w2 ⟨k.val, by omega⟩ j)
    (hB : ∀ i (k : Fin 1024), wB (ix2 i k) = w1 i ⟨1024 + k.val, by omega⟩) (kB : ∀ (k : Fin 1024) j, vB (ix2 k j) = w2 ⟨1024 + k.val, by omega⟩ j)
    (hC : ∀ i (k : Fin 1024), wC (ix2 i k) = w1 i ⟨2048 + k.val, by omega⟩) (kC : ∀ (k : Fin 1024) j, vC (ix2 k j) = w2 ⟨2048 + k.val, by omega⟩ j)
    (hD : ∀ i (k : Fin 1024), wD (ix2 i k) = w1 i ⟨3072 + k.val, by omega⟩) (kD : ∀ (k : Fin 1024) j, vD (ix2 k j) = w2 ⟨3072 + k.val, by omega⟩ j)
    (r : Fin 256) (j : Fin 1024) :
    half o gf gb gn z att wa wb x gate g1 g2 scale shift gate2 g3 wA vA wB vB wC vC wD vD (ix2 r j) =
      lastRow (firstMid (fun j => x (ix2 r j)) (fun x => gf (ix2 r x)) (fun x => gb (ix2 r x)) (fun x => z (ix2 r x)) (fun x => att (ix2 r x)) gm wo
        (fun j => gate (ix4 0 0 0 j)) (fun j => g1 (ix4 0 0 0 j))) (fun j => shift (ix4 0 0 0 j)) (fun j => scale (ix4 0 0 0 j))
        (fun j => gate2 (ix4 0 0 0 j)) (fun j => g2 (ix4 0 0 0 j)) (fun j => g3 (ix4 0 0 0 j)) w1 w2 j := by
  unfold half
  have h1 : (fun j => mixed o gf gb gn z att wa wb (ix2 r j)) = _ := funext fun j =>
    mixed_at o gf gb gn z att wa wb ho gm hg wo hwa hwb r j
  generalize mixed o gf gb gn z att wa wb = t at h1 ⊢
  have h2 := fun j => lat_at x gate g1 t r j
  rw [h1] at h2
  have h3 := fun j => ffIn_at x gate g1 g2 scale shift t r j
  rw [funext h2] at h3
  generalize ffIn x gate g1 g2 scale shift t = u at h3 ⊢
  have h4 := fun j => ffOut_at wA vA wB vB wC vC wD vD u w1 w2 hA kA hB kB hC kC hD kD r j
  rw [funext h3] at h4
  rw [after_at, funext h2, funext h4]
  rfl

section Block

variable (x0 : Vec Ideal S512x1024 .f32) (x1 : Vec Ideal S512x512 .bf16) (x2 x3 x4 : Vec Ideal S512x512 .f32) (x5 : Vec Ideal S1x512 .f32)
  (x6 : Vec Ideal S512x512 .bf16) (x7 x8 x9 x10 x11 x12 x13 : Vec Ideal S1x1x1x1024 .f32)
  (x14 x15 : Vec Ideal S512x1024 .bf16) (x16 : Vec Ideal S1024x4096 .bf16) (x17 : Vec Ideal S4096x1024 .bf16)

/-- A whole block's rows: each from the same row of the input blocks. -/
def blockFn (gm : Fin 64 → EReal) (wo : Fin 1024 → Fin 1024 → EReal) (w1 : Fin 1024 → Fin 4096 → EReal) (w2 : Fin 4096 → Fin 1024 → EReal)
    (R : Fin 512) (j : Fin 1024) : EReal :=
  lastRow (firstMid (fun j => x0 (ix2 R j)) (fun x => x2 (ix2 R x)) (fun x => x3 (ix2 R x)) (fun x => x4 (ix2 R x)) (fun x => x6 (ix2 R x)) gm wo
    (fun j => x7 (ix4 0 0 0 j)) (fun j => x11 (ix4 0 0 0 j))) (fun j => x8 (ix4 0 0 0 j)) (fun j => x9 (ix4 0 0 0 j))
    (fun j => x10 (ix4 0 0 0 j)) (fun j => x12 (ix4 0 0 0 j)) (fun j => x13 (ix4 0 0 0 j)) w1 w2 j

/-- The loads of the first and the second 256 rows of a block, and of whole blocks. -/
theorem ld_lo (x : Vec Ideal S512x512 .f32) (r : Fin 256) (k : Fin 512) : (View.ld x r0_1 : Vec Ideal S256x512 .f32) (ix2 (n0 := 256) (n1 := 512) r k) = x (ix2 ⟨r.val, by omega⟩ k) := by
  refine View.ld_unit_apply_of _ _ _ _ _ _ fun a => ?_
  match a with
  | ⟨0, _⟩ => show r.val = 0 + r.val; omega
  | ⟨1, _⟩ => show k.val = 0 + k.val; omega
theorem ld_hi (x : Vec Ideal S512x512 .f32) (r : Fin 256) (k : Fin 512) : (View.ld x r0_3 : Vec Ideal S256x512 .f32) (ix2 (n0 := 256) (n1 := 512) r k) = x (ix2 ⟨256 + r.val, by omega⟩ k) := by
  refine View.ld_unit_apply_of _ _ _ _ _ _ fun a => ?_
  match a with
  | ⟨0, _⟩ => rfl
  | ⟨1, _⟩ => show k.val = 0 + k.val; omega
theorem ld_lo' (x : Vec Ideal S512x1024 .f32) (r : Fin 256) (k : Fin 1024) : (View.ld x r0_5 : Vec Ideal S256x1024 .f32) (ix2 (n0 := 256) (n1 := 1024) r k) = x (ix2 ⟨r.val, by omega⟩ k) := by
  refine View.ld_unit_apply_of _ _ _ _ _ _ fun a => ?_
  match a with
  | ⟨0, _⟩ => show r.val = 0 + r.val; omega
  | ⟨1, _⟩ => show k.val = 0 + k.val; omega
theorem ld_hi' (x : Vec Ideal S512x1024 .f32) (r : Fin 256) (k : Fin 1024) : (View.ld x r0_7 : Vec Ideal S256x1024 .f32) (ix2 (n0 := 256) (n1 := 1024) r k) = x (ix2 ⟨256 + r.val, by omega⟩ k) := by
  refine View.ld_unit_apply_of _ _ _ _ _ _ fun a => ?_
  match a with
  | ⟨0, _⟩ => rfl
  | ⟨1, _⟩ => show k.val = 0 + k.val; omega
theorem ld_lob (x : Vec Ideal S512x512 .bf16) (r : Fin 256) (k : Fin 512) : (View.ld x r0_1 : Vec Ideal S256x512 .bf16) (ix2 (n0 := 256) (n1 := 512) r k) = x (ix2 ⟨r.val, by omega⟩ k) := by
  refine View.ld_unit_apply_of _ _ _ _ _ _ fun a => ?_
  match a with
  | ⟨0, _⟩ => show r.val = 0 + r.val; omega
  | ⟨1, _⟩ => show k.val = 0 + k.val; omega
theorem ld_hib (x : Vec Ideal S512x512 .bf16) (r : Fin 256) (k : Fin 512) : (View.ld x r0_3 : Vec Ideal S256x512 .bf16) (ix2 (n0 := 256) (n1 := 512) r k) = x (ix2 ⟨256 + r.val, by omega⟩ k) := by
  refine View.ld_unit_apply_of _ _ _ _ _ _ fun a => ?_
  match a with
  | ⟨0, _⟩ => rfl
  | ⟨1, _⟩ => show k.val = 0 + k.val; omega
/-- A load of a column block of the first feed-forward weight, and of a row block of the second. -/
theorem ld_w1 (x : Vec Ideal S1024x4096 .bf16) (n : ℕ) (inb : ∀ a, (![0, n] : Fin 2 → ℕ) a + S1024x1024.size a ≤ S1024x4096.size a)
    (i k : Fin 1024) (hk : n + k.val < 4096) :
    View.ld x (Rect.unit (s := S1024x4096) ![0, n] S1024x1024.size inb) (ix2 i k) = x (ix2 i ⟨n + k.val, hk⟩) := by
  refine View.ld_unit_apply_of _ _ _ _ _ _ fun a => ?_
  match a with
  | ⟨0, _⟩ => show i.val = 0 + i.val; omega
  | ⟨1, _⟩ => rfl
theorem ld_w2 (x : Vec Ideal S4096x1024 .bf16) (n : ℕ) (inb : ∀ a, (![n, 0] : Fin 2 → ℕ) a + S1024x1024.size a ≤ S4096x1024.size a)
    (i k : Fin 1024) (hk : n + i.val < 4096) :
    View.ld x (Rect.unit (s := S4096x1024) ![n, 0] S1024x1024.size inb) (ix2 i k) = x (ix2 ⟨n + i.val, hk⟩ k) := by
  refine View.ld_unit_apply_of _ _ _ _ _ _ fun a => ?_
  match a with
  | ⟨0, _⟩ => rfl
  | ⟨1, _⟩ => show k.val = 0 + k.val; omega

/-- Loads of whole blocks. -/
theorem ld_all2 (x : Vec Ideal S512x512 .bf16) : View.ld x r0_0 = x := View.ld_unit_zero (by funext a; fin_cases a <;> rfl) _ x
theorem ld_all1 (x : Vec Ideal S1x512 .f32) : View.ld x r0_2 = x := View.ld_unit_zero (by funext a; fin_cases a <;> rfl) _ x
theorem ld_all4 (x : Vec Ideal S512x1024 .bf16) : View.ld x r0_4 = x := View.ld_unit_zero (by funext a; fin_cases a <;> rfl) _ x
theorem ld_all6 (x : Vec Ideal S1x1x1x1024 .f32) : View.ld x r0_6 = x := View.ld_unit_zero (by funext a; fin_cases a <;> rfl) _ x

/-- The first 256 rows of a block. -/
theorem half_lo (ho : ∀ x j : Fin 512, x1 (ix2 x j) = (if x.val / 64 = j.val / 64 then 1 else 0 : EReal)) (gm : Fin 64 → EReal)
    (hg : ∀ j : Fin 512, x5 (ix2 0 j) = gm ⟨j.val % 64, by omega⟩)
    (wo : Fin 1024 → Fin 1024 → EReal) (hwa : ∀ (i : Fin 512) j, x14 (ix2 i j) = wo ⟨i.val, by omega⟩ j)
    (hwb : ∀ (i : Fin 512) j, x15 (ix2 i j) = wo ⟨512 + i.val, by omega⟩ j) (r : Fin 256) (j : Fin 1024) :
    half (View.ld x1 r0_0) (View.ld x2 r0_1) (View.ld x3 r0_1) (View.ld x5 r0_2) (View.ld x4 r0_1) (View.ld x6 r0_1) (View.ld x14 r0_4) (View.ld x15 r0_4)
       (View.ld x0 r0_5) (View.ld x7 r0_6) (View.ld x11 r0_6) (View.ld x12 r0_6) (View.ld x9 r0_6) (View.ld x8 r0_6) (View.ld x10 r0_6) (View.ld x13 r0_6)
       (View.ld x16 r0_8) (View.ld x17 r0_9) (View.ld x16 r0_10) (View.ld x17 r0_11) (View.ld x16 r0_12) (View.ld x17 r0_13) (View.ld x16 r0_14) (View.ld x17 r0_15) (ix2 r j) =
      blockFn x0 x2 x3 x4 x6 x7 x8 x9 x10 x11 x12 x13 gm wo (fun i k => x16 (ix2 i k)) (fun k j => x17 (ix2 k j)) ⟨r.val, by omega⟩ j := by
  simp only [ld_all1, ld_all2, ld_all4, ld_all6]
  refine (half_at _ _ _ _ _ _ _ _ _ _ _ _ _ _ _ _ _ _ _ _ _ _ _ _ ho gm hg wo hwa hwb (fun i k => x16 (ix2 i k)) (fun k j => x17 (ix2 k j))
    (fun i k => (ld_w1 x16 0 _ i k (by omega)).trans ?_) (fun k j => (ld_w2 x17 0 _ k j (by omega)).trans ?_) (fun i k => ld_w1 x16 1024 _ i k (by omega))
    (fun k j => ld_w2 x17 1024 _ k j (by omega)) (fun i k => ld_w1 x16 2048 _ i k (by omega)) (fun k j => ld_w2 x17 2048 _ k j (by omega))
    (fun i k => ld_w1 x16 3072 _ i k (by omega)) (fun k j => ld_w2 x17 3072 _ k j (by omega)) r j).trans ?_
  · simp only [Nat.zero_add]
  · simp only [Nat.zero_add]
  have e : ∀ x : Vec Ideal S512x512 .f32, (fun k => x (ix2 ⟨r.val, by omega⟩ k)) = fun k => (View.ld x r0_1 : Vec Ideal S256x512 .f32) (ix2 r k) :=
    fun x => funext fun k => (ld_lo x r k).symm
  have e' : ∀ x : Vec Ideal S512x1024 .f32, (fun k => x (ix2 ⟨r.val, by omega⟩ k)) = fun k => (View.ld x r0_5 : Vec Ideal S256x1024 .f32) (ix2 r k) :=
    fun x => funext fun k => (ld_lo' x r k).symm
  have d : ∀ x : Vec Ideal S512x512 .bf16, (fun k => x (ix2 ⟨r.val, by omega⟩ k)) = fun k => (View.ld x r0_1 : Vec Ideal S256x512 .bf16) (ix2 r k) :=
    fun x => funext fun k => (ld_lob x r k).symm
  unfold blockFn
  rw [e' x0, e x2, e x3, e x4, d x6]

/-- The second 256 rows of a block. -/
theorem half_hi (ho : ∀ x j : Fin 512, x1 (ix2 x j) = (if x.val / 64 = j.val / 64 then 1 else 0 : EReal)) (gm : Fin 64 → EReal)
    (hg : ∀ j : Fin 512, x5 (ix2 0 j) = gm ⟨j.val % 64, by omega⟩)
    (wo : Fin 1024 → Fin 1024 → EReal) (hwa : ∀ (i : Fin 512) j, x14 (ix2 i j) = wo ⟨i.val, by omega⟩ j)
    (hwb : ∀ (i : Fin 512) j, x15 (ix2 i j) = wo ⟨512 + i.val, by omega⟩ j) (r : Fin 256) (j : Fin 1024) :
    half (View.ld x1 r0_0) (View.ld x2 r0_3) (View.ld x3 r0_3) (View.ld x5 r0_2) (View.ld x4 r0_3) (View.ld x6 r0_3) (View.ld x14 r0_4) (View.ld x15 r0_4)
       (View.ld x0 r0_7) (View.ld x7 r0_6) (View.ld x11 r0_6) (View.ld x12 r0_6) (View.ld x9 r0_6) (View.ld x8 r0_6) (View.ld x10 r0_6) (View.ld x13 r0_6)
       (View.ld x16 r0_8) (View.ld x17 r0_9) (View.ld x16 r0_10) (View.ld x17 r0_11) (View.ld x16 r0_12) (View.ld x17 r0_13) (View.ld x16 r0_14) (View.ld x17 r0_15) (ix2 r j) =
      blockFn x0 x2 x3 x4 x6 x7 x8 x9 x10 x11 x12 x13 gm wo (fun i k => x16 (ix2 i k)) (fun k j => x17 (ix2 k j)) ⟨256 + r.val, by omega⟩ j := by
  simp only [ld_all1, ld_all2, ld_all4, ld_all6]
  refine (half_at _ _ _ _ _ _ _ _ _ _ _ _ _ _ _ _ _ _ _ _ _ _ _ _ ho gm hg wo hwa hwb (fun i k => x16 (ix2 i k)) (fun k j => x17 (ix2 k j))
    (fun i k => (ld_w1 x16 0 _ i k (by omega)).trans ?_) (fun k j => (ld_w2 x17 0 _ k j (by omega)).trans ?_) (fun i k => ld_w1 x16 1024 _ i k (by omega))
    (fun k j => ld_w2 x17 1024 _ k j (by omega)) (fun i k => ld_w1 x16 2048 _ i k (by omega)) (fun k j => ld_w2 x17 2048 _ k j (by omega))
    (fun i k => ld_w1 x16 3072 _ i k (by omega)) (fun k j => ld_w2 x17 3072 _ k j (by omega)) r j).trans ?_
  · simp only [Nat.zero_add]
  · simp only [Nat.zero_add]
  have e : ∀ x : Vec Ideal S512x512 .f32, (fun k => x (ix2 ⟨256 + r.val, by omega⟩ k)) = fun k => (View.ld x r0_3 : Vec Ideal S256x512 .f32) (ix2 r k) :=
    fun x => funext fun k => (ld_hi x r k).symm
  have e' : ∀ x : Vec Ideal S512x1024 .f32, (fun k => x (ix2 ⟨256 + r.val, by omega⟩ k)) = fun k => (View.ld x r0_7 : Vec Ideal S256x1024 .f32) (ix2 r k) :=
    fun x => funext fun k => (ld_hi' x r k).symm
  have d : ∀ x : Vec Ideal S512x512 .bf16, (fun k => x (ix2 ⟨256 + r.val, by omega⟩ k)) = fun k => (View.ld x r0_3 : Vec Ideal S256x512 .bf16) (ix2 r k) :=
    fun x => funext fun k => (ld_hib x r k).symm
  unfold blockFn
  rw [e' x0, e x2, e x3, e x4, d x6]

/-- What a grid point leaves in its output block. -/
theorem block_at (ho : ∀ x j : Fin 512, x1 (ix2 x j) = (if x.val / 64 = j.val / 64 then 1 else 0 : EReal)) (gm : Fin 64 → EReal)
    (hg : ∀ j : Fin 512, x5 (ix2 0 j) = gm ⟨j.val % 64, by omega⟩)
    (wo : Fin 1024 → Fin 1024 → EReal) (hwa : ∀ (i : Fin 512) j, x14 (ix2 i j) = wo ⟨i.val, by omega⟩ j)
    (hwb : ∀ (i : Fin 512) j, x15 (ix2 i j) = wo ⟨512 + i.val, by omega⟩ j) (R : Fin 512) (j : Fin 1024) :
    out0_18 x0 x1 x2 x3 x4 x5 x6 x7 x8 x9 x10 x11 x12 x13 x14 x15 x16 x17 (ix2 R j) =
      blockFn x0 x2 x3 x4 x6 x7 x8 x9 x10 x11 x12 x13 gm wo (fun i k => x16 (ix2 i k)) (fun k j => x17 (ix2 k j)) R j := by
  unfold out0_18
  refine View.canon_apply_of_pieces (Val := Elt Ideal) (e := .f32) (fun y : S512x1024.Idx => blockFn x0 x2 x3 x4 x6 x7 x8 x9 x10 x11 x12 x13 gm wo
    (fun i k => x16 (ix2 i k)) (fun k j => x17 (ix2 k j)) (y 0) (y 1)) _ (fun p hp y => ?_) _ (cover0_18 _ _ _)
  rcases List.mem_cons.mp hp with rfl | hp
  · refine Eq.trans (b := half (View.ld x1 r0_0) (View.ld x2 r0_3) (View.ld x3 r0_3) (View.ld x5 r0_2) (View.ld x4 r0_3) (View.ld x6 r0_3) (View.ld x14 r0_4) (View.ld x15 r0_4)
       (View.ld x0 r0_7) (View.ld x7 r0_6) (View.ld x11 r0_6) (View.ld x12 r0_6) (View.ld x9 r0_6) (View.ld x8 r0_6) (View.ld x10 r0_6) (View.ld x13 r0_6)
       (View.ld x16 r0_8) (View.ld x17 r0_9) (View.ld x16 r0_10) (View.ld x17 r0_11) (View.ld x16 r0_12) (View.ld x17 r0_13) (View.ld x16 r0_14) (View.ld x17 r0_15)
      (ix2 (n0 := 256) (n1 := 1024) (y 0) (y 1))) (congrArg _ (eq_ix2 y)) ((half_hi x0 x1 x2 x3 x4 x5 x6 x7 x8 x9 x10 x11 x12 x13 x14 x15 x16 x17
        ho gm hg wo hwa hwb (y 0) (y 1)).trans ?_)
    exact congrArg₂ (blockFn x0 x2 x3 x4 x6 x7 x8 x9 x10 x11 x12 x13 gm wo (fun i k => x16 (ix2 i k)) (fun k j => x17 (ix2 k j)))
      (Fin.ext (show 256 + (y 0).val = 256 + 1 * (y 0).val from by rw [Nat.one_mul])) (Fin.ext (show (y 1).val = 0 + 1 * (y 1).val from by rw [Nat.one_mul, Nat.zero_add]))
  rcases List.mem_cons.mp hp with rfl | hp
  · refine Eq.trans (b := half (View.ld x1 r0_0) (View.ld x2 r0_1) (View.ld x3 r0_1) (View.ld x5 r0_2) (View.ld x4 r0_1) (View.ld x6 r0_1) (View.ld x14 r0_4) (View.ld x15 r0_4)
       (View.ld x0 r0_5) (View.ld x7 r0_6) (View.ld x11 r0_6) (View.ld x12 r0_6) (View.ld x9 r0_6) (View.ld x8 r0_6) (View.ld x10 r0_6) (View.ld x13 r0_6)
       (View.ld x16 r0_8) (View.ld x17 r0_9) (View.ld x16 r0_10) (View.ld x17 r0_11) (View.ld x16 r0_12) (View.ld x17 r0_13) (View.ld x16 r0_14) (View.ld x17 r0_15)
      (ix2 (n0 := 256) (n1 := 1024) (y 0) (y 1))) (congrArg _ (eq_ix2 y)) ((half_lo x0 x1 x2 x3 x4 x5 x6 x7 x8 x9 x10 x11 x12 x13 x14 x15 x16 x17
        ho gm hg wo hwa hwb (y 0) (y 1)).trans ?_)
    exact congrArg₂ (blockFn x0 x2 x3 x4 x6 x7 x8 x9 x10 x11 x12 x13 gm wo (fun i k => x16 (ix2 i k)) (fun k j => x17 (ix2 k j)))
      (Fin.ext (show (y 0).val = 0 + 1 * (y 0).val from by rw [Nat.one_mul, Nat.zero_add])) (Fin.ext (show (y 1).val = 0 + 1 * (y 1).val from by rw [Nat.one_mul, Nat.zero_add]))
  exact absurd hp (List.not_mem_nil)

end Block

end Cert.Kernel3Ideal.OutMlp

end
-- ==== Proof.FirstHost.lean ====
/- The arrays that the first layer's output projection and feed-forward kernel is launched on, and its result array, from the
   call's arguments. -/
module

public import proofs.«01_k».proof.Proof.FirstBlock
public import proofs.«01_k».proof.Proof.Gen.Kernel3Ideal.Value
public import Idealize.ShloMosaic.Lib.Pipeline.ValueKit.Point
public import Idealize.ShloMosaic.Lib.Claim

@[expose] public section

set_option maxRecDepth 16384

noncomputable section

namespace Cert.Kernel3Ideal.OutMlp

open Cert.Kernel3Ideal Cert.Kernel3Ideal.Gen Idealize.ShloMosaic Idealize.ShloMosaic.TcCoe Cert.OutRow
open Idealize.ShloMosaic.Pipeline (Dat)

variable (m : (ℓ : Loc nD τ sig) → Buf (Elt Ideal) ℓ) (c : Dev nD)

/-- The call's arguments. -/
abbrev a0 : FVec Ideal S8x4096x1024 .f32 := m (c, Proc.tc.devRef main_arg0)
abbrev a1 : FVec Ideal S8x4096x512 .f32 := m (c, Proc.tc.devRef main_arg1)
abbrev a2 : FVec Ideal S8x4096x512 .f32 := m (c, Proc.tc.devRef main_arg2)
abbrev a3 : FVec Ideal S8x4096x512 .f32 := m (c, Proc.tc.devRef main_arg3)
abbrev a4 : FVec Ideal S8x4096x512 .bf16 := m (c, Proc.tc.devRef main_arg4)
abbrev a5 : FVec Ideal S2x16x6144 .f32 := m (c, Proc.tc.devRef main_arg5)
abbrev a6 : FVec Ideal S2x4x1024 .f32 := m (c, Proc.tc.devRef main_arg6)
abbrev a7 : FVec Ideal S2x1024x1024 .f32 := m (c, Proc.tc.devRef main_arg7)
abbrev a8 : FVec Ideal S2x1024x4096 .f32 := m (c, Proc.tc.devRef main_arg8)
abbrev a9 : FVec Ideal S2x4096x1024 .f32 := m (c, Proc.tc.devRef main_arg9)
abbrev a10 : FVec Ideal S1x64 .f32 := m (c, Proc.tc.devRef main_arg10)

/-- The batch and the position of a row of the flattened sequences. -/
abbrev bRow (R : Fin 32768) : Fin 8 := ⟨R.val / 4096, by omega⟩
abbrev lRow (R : Fin 32768) : Fin 4096 := ⟨R.val % 4096, by omega⟩

/-- The launch's arrays are what the host's three lines of operations leave, one line after another. -/
theorem V_line (b : Ref sig .tc) : V m c b = StableHlo.after hostOps0_2 (StableHlo.after hostOps0_1
    (StableHlo.after hostOps0 fun b => m (c, b))) b := by
  unfold V
  simp only [List.flatten_cons, List.flatten_nil, List.append_nil, StableHlo.after_append]

/-- A launch's array at an index, from the arguments. -/
theorem h_lat (R : Fin 32768) (j : Fin 1024) : V m c main_v15 (ix2 R j) = a0 m c (ix3 (bRow R) (lRow R) j) := by
  rw [V_line]
  entry_read
  pointwise
/-- A launch's array at an index, from the arguments. -/
theorem h_gf (R : Fin 32768) (j : Fin 512) : V m c main_v16 (ix2 R j) = a1 m c (ix3 (bRow R) (lRow R) j) := by
  rw [V_line]
  entry_read
  pointwise
/-- A launch's array at an index, from the arguments. -/
theorem h_gb (R : Fin 32768) (j : Fin 512) : V m c main_v17 (ix2 R j) = a2 m c (ix3 (bRow R) (lRow R) j) := by
  rw [V_line]
  entry_read
  pointwise
/-- A launch's array at an index, from the arguments. -/
theorem h_z (R : Fin 32768) (j : Fin 512) : V m c main_v18 (ix2 R j) = a3 m c (ix3 (bRow R) (lRow R) j) := by
  rw [V_line]
  entry_read
  pointwise
/-- A launch's array at an index, from the arguments. -/
theorem h_att (R : Fin 32768) (j : Fin 512) : V m c main_v19 (ix2 R j) = a4 m c (ix3 (bRow R) (lRow R) j) := by
  rw [V_line]
  entry_read
  pointwise
/-- A launch's array at an index, from the arguments. -/
theorem h_mod (l : Fin 2) (b : Fin 16) (j : Fin 6144) : V m c main_v0 (ix4 l b 0 j) = a5 m c (ix3 l b j) := by
  rw [V_line]
  entry_read
  pointwise
/-- A launch's array at an index, from the arguments. -/
theorem h_g (l : Fin 2) (b : Fin 4) (j : Fin 1024) : V m c main_v1 (ix4 l b 0 j) = a6 m c (ix3 l b j) := by
  rw [V_line]
  entry_read
  pointwise
/-- A launch's array at an index, from the arguments. -/
theorem h_woa (i : Fin 512) (j : Fin 1024) : V m c main_v23 (ix2 i j) = a7 m c (ix3 0 ⟨i.val, by omega⟩ j) := by
  rw [V_line]
  entry_read
  pointwise
/-- A launch's array at an index, from the arguments. -/
theorem h_wob (i : Fin 512) (j : Fin 1024) : V m c main_v24 (ix2 i j) = a7 m c (ix3 0 ⟨512 + i.val, by omega⟩ j) := by
  rw [V_line]
  entry_read
  pointwise
/-- A launch's array at an index, from the arguments. -/
theorem h_w1 (i : Fin 1024) (j : Fin 4096) : V m c main_v27 (ix2 i j) = a8 m c (ix3 0 i j) := by
  rw [V_line]
  entry_read
  pointwise
/-- A launch's array at an index, from the arguments. -/
theorem h_w2 (i : Fin 4096) (j : Fin 1024) : V m c main_v30 (ix2 i j) = a9 m c (ix3 0 i j) := by
  rw [V_line]
  entry_read
  pointwise
/-- A launch's array at an index, from the arguments. -/
theorem h_gn (j : Fin 512) : V m c main_v14 (ix2 0 j) = a10 m c (ix2 0 ⟨j.val % 64, by omega⟩) := by
  rw [V_line]
  entry_read
  pointwise
/-- The head of each column, as the host computes it: the column's number over 64, rounded down. -/
def heads : IVec S512 32 :=
  select (andi (cmpi .ne (signi (iotaInDim S512 32 0)) (broadcastInDim S512 ![] bcast_S_S512 (signi (constantI S_ 32 64#32))))
      (cmpi .ne (Host.remsi (iotaInDim S512 32 0) (broadcastInDim S512 ![] bcast_S_S512 (constantI S_ 32 64#32)))
        (broadcastInDim S512 ![] bcast_S_S512 (constantI S_ 32 0#32))))
    (subi (Host.divsi (iotaInDim S512 32 0) (broadcastInDim S512 ![] bcast_S_S512 (constantI S_ 32 64#32)))
      (broadcastInDim S512 ![] bcast_S_S512 (constantI S_ 32 1#32)))
    (Host.divsi (iotaInDim S512 32 0) (broadcastInDim S512 ![] bcast_S_S512 (constantI S_ 32 64#32)))

/-- The head of column `x` is `x / 64`. -/
theorem heads_at : ∀ x : Fin 512, heads (ix1 x) = BitVec.ofNat 32 (x.val / 64) := by
  decide +kernel

/-- The mask that sums a head's columns: one where both columns are of one head, zero elsewhere. -/
theorem h_ones (x j : Fin 512) : V m c main_v9 (ix2 x j) = (if x.val / 64 = j.val / 64 then 1 else 0 : EReal) := by
  have e : V m c main_v9 = uitofp (F := Ideal) .bf16 (cmpi .eq
      (broadcastInDim S512x512 ![0, 1] bcast_S512x1_S512x512_0_1 (broadcastInDim S512x1 ![0] bcast_S512_S512x1_0 heads))
      (broadcastInDim S512x512 ![0, 1] bcast_S1x512_S512x512_0_1 (broadcastInDim S1x512 ![1] bcast_S512_S1x512_1 heads))) := rfl
  rw [e]
  pointwise
  rw [heads_at, heads_at]
  have hx := x.isLt
  have hj := j.isLt
  by_cases hc : x.val / 64 = j.val / 64
  · rw [if_pos hc, hc]
    have h1 : IntOp.cmpi CmpIPredicate.eq (BitVec.ofNat 32 (j.val / 64)) (BitVec.ofNat 32 (j.val / 64)) = 1#1 := by simp [IntOp.cmpi]
    rw [h1]
    show (((1#1 : BitVec 1).toNat : ℝ) : EReal) = 1
    norm_num
  · rw [if_neg hc]
    have hne : BitVec.ofNat 32 (x.val / 64) ≠ BitVec.ofNat 32 (j.val / 64) := fun e => hc (by
      have := congrArg BitVec.toNat e
      simp only [BitVec.toNat_ofNat] at this
      omega)
    have h1 : IntOp.cmpi CmpIPredicate.eq (BitVec.ofNat 32 (x.val / 64)) (BitVec.ofNat 32 (j.val / 64)) = 0#1 := by
      show BitVec.ofBool (BitVec.ofNat 32 (x.val / 64) == BitVec.ofNat 32 (j.val / 64)) = 0#1
      rw [beq_eq_false_iff_ne.mpr hne]; rfl
    rw [h1]
    show (((0#1 : BitVec 1).toNat : ℝ) : EReal) = 0
    norm_num

/-! ## The blocks of a grid point -/

/-- The batch of a grid point. -/
def bT (t : Fin cfg0.N) : Fin 8 := ⟨t.val / 8, by have : t.val < 64 := t.isLt; omega⟩

/-- The block of every window at a grid point. -/
theorem idx_all : ∀ t : Fin cfg0.N,
    win0_0.index t = ![t.val, 0] ∧ win0_1.index t = ![0, 0] ∧ win0_2.index t = ![t.val, 0] ∧ win0_3.index t = ![t.val, 0] ∧
    win0_4.index t = ![t.val, 0] ∧ win0_5.index t = ![0, 0] ∧ win0_6.index t = ![t.val, 0] ∧
    win0_7.index t = ![0, (bT t).val, 0, 2] ∧ win0_8.index t = ![0, (bT t).val, 0, 3] ∧ win0_9.index t = ![0, (bT t).val, 0, 4] ∧
    win0_10.index t = ![0, (bT t).val, 0, 5] ∧ win0_11.index t = ![0, 1, 0, 0] ∧ win0_12.index t = ![0, 2, 0, 0] ∧
    win0_13.index t = ![0, 3, 0, 0] ∧ win0_14.index t = ![0, 0] ∧ win0_15.index t = ![0, 0] ∧ win0_16.index t = ![0, 0] ∧
    win0_17.index t = ![0, 0] ∧ win0_18.index t = ![t.val, 0] := by
  decide +kernel

/-- The row of the flattened sequences at row `R` of a grid point's block. -/
def rowT (t : Fin cfg0.N) (R : Fin 512) : Fin 32768 := ⟨t.val * 512 + R.val, by have : t.val < 64 := t.isLt; omega⟩

/-- Window 0's block at an index, from the arguments. -/
theorem b0 (t : Fin cfg0.N) (R : Fin 512) (j : Fin 1024) : iblk m c 0 t (ix2 R j) = a0 m c (ix3 (bRow (rowT t R)) (lRow (rowT t R)) j) := by
  have h := idx_all t
  have ht : t.val < 64 := t.isLt
  have e : iblk m c 0 t (ix2 R j) = V m c main_v15 (ix2 (rowT t R) j) := by
    blk_ext [iblk, h, rowT]
  rw [e, h_lat]
/-- Window 2's block at an index, from the arguments. -/
theorem b2 (t : Fin cfg0.N) (R : Fin 512) (j : Fin 512) : iblk m c 2 t (ix2 R j) = a1 m c (ix3 (bRow (rowT t R)) (lRow (rowT t R)) j) := by
  have h := idx_all t
  have ht : t.val < 64 := t.isLt
  have e : iblk m c 2 t (ix2 R j) = V m c main_v16 (ix2 (rowT t R) j) := by
    blk_ext [iblk, h, rowT]
  rw [e, h_gf]
/-- Window 3's block at an index, from the arguments. -/
theorem b3 (t : Fin cfg0.N) (R : Fin 512) (j : Fin 512) : iblk m c 3 t (ix2 R j) = a2 m c (ix3 (bRow (rowT t R)) (lRow (rowT t R)) j) := by
  have h := idx_all t
  have ht : t.val < 64 := t.isLt
  have e : iblk m c 3 t (ix2 R j) = V m c main_v17 (ix2 (rowT t R) j) := by
    blk_ext [iblk, h, rowT]
  rw [e, h_gb]
/-- Window 4's block at an index, from the arguments. -/
theorem b4 (t : Fin cfg0.N) (R : Fin 512) (j : Fin 512) : iblk m c 4 t (ix2 R j) = a3 m c (ix3 (bRow (rowT t R)) (lRow (rowT t R)) j) := by
  have h := idx_all t
  have ht : t.val < 64 := t.isLt
  have e : iblk m c 4 t (ix2 R j) = V m c main_v18 (ix2 (rowT t R) j) := by
    blk_ext [iblk, h, rowT]
  rw [e, h_z]
/-- Window 6's block at an index, from the arguments. -/
theorem b6 (t : Fin cfg0.N) (R : Fin 512) (j : Fin 512) : iblk m c 6 t (ix2 R j) = a4 m c (ix3 (bRow (rowT t R)) (lRow (rowT t R)) j) := by
  have h := idx_all t
  have ht : t.val < 64 := t.isLt
  have e : iblk m c 6 t (ix2 R j) = V m c main_v19 (ix2 (rowT t R) j) := by
    blk_ext [iblk, h, rowT]
  rw [e, h_att]
/-- Window 1's block at an index, from the arguments. -/
theorem b1 (t : Fin cfg0.N) (x j : Fin 512) : iblk m c 1 t (ix2 x j) = (if x.val / 64 = j.val / 64 then 1 else 0 : EReal) := by
  have h := idx_all t
  have e : iblk m c 1 t (ix2 x j) = V m c main_v9 (ix2 x j) := by
    blk_ext [iblk, h]
  rw [e, h_ones]
/-- Window 5's block at an index, from the arguments. -/
theorem b5 (t : Fin cfg0.N) (j : Fin 512) : iblk m c 5 t (ix2 0 j) = a10 m c (ix2 0 ⟨j.val % 64, by omega⟩) := by
  have h := idx_all t
  have e : iblk m c 5 t (ix2 0 j) = V m c main_v14 (ix2 0 j) := by
    blk_ext [iblk, h]
  rw [e, h_gn]
/-- Window 7's block at an index, from the arguments. -/
theorem b7 (t : Fin cfg0.N) (j : Fin 1024) : iblk m c 7 t (ix4 0 0 0 j) = a5 m c (ix3 0 ⟨(bT t).val, by omega⟩ ⟨2048 + j.val, by omega⟩) := by
  have h := idx_all t
  have e : iblk m c 7 t (ix4 0 0 0 j) = V m c main_v0 (ix4 0 ⟨(bT t).val, by omega⟩ 0 ⟨2048 + j.val, by omega⟩) := by
    blk_ext [iblk, h]
  rw [e, h_mod]
/-- Window 8's block at an index, from the arguments. -/
theorem b8 (t : Fin cfg0.N) (j : Fin 1024) : iblk m c 8 t (ix4 0 0 0 j) = a5 m c (ix3 0 ⟨(bT t).val, by omega⟩ ⟨3072 + j.val, by omega⟩) := by
  have h := idx_all t
  have e : iblk m c 8 t (ix4 0 0 0 j) = V m c main_v0 (ix4 0 ⟨(bT t).val, by omega⟩ 0 ⟨3072 + j.val, by omega⟩) := by
    blk_ext [iblk, h]
  rw [e, h_mod]
/-- Window 9's block at an index, from the arguments. -/
theorem b9 (t : Fin cfg0.N) (j : Fin 1024) : iblk m c 9 t (ix4 0 0 0 j) = a5 m c (ix3 0 ⟨(bT t).val, by omega⟩ ⟨4096 + j.val, by omega⟩) := by
  have h := idx_all t
  have e : iblk m c 9 t (ix4 0 0 0 j) = V m c main_v0 (ix4 0 ⟨(bT t).val, by omega⟩ 0 ⟨4096 + j.val, by omega⟩) := by
    blk_ext [iblk, h]
  rw [e, h_mod]
/-- Window 10's block at an index, from the arguments. -/
theorem b10 (t : Fin cfg0.N) (j : Fin 1024) : iblk m c 10 t (ix4 0 0 0 j) = a5 m c (ix3 0 ⟨(bT t).val, by omega⟩ ⟨5120 + j.val, by omega⟩) := by
  have h := idx_all t
  have e : iblk m c 10 t (ix4 0 0 0 j) = V m c main_v0 (ix4 0 ⟨(bT t).val, by omega⟩ 0 ⟨5120 + j.val, by omega⟩) := by
    blk_ext [iblk, h]
  rw [e, h_mod]
/-- Window 11's block at an index, from the arguments. -/
theorem b11 (t : Fin cfg0.N) (j : Fin 1024) : iblk m c 11 t (ix4 0 0 0 j) = a6 m c (ix3 0 1 j) := by
  have h := idx_all t
  have e : iblk m c 11 t (ix4 0 0 0 j) = V m c main_v1 (ix4 0 1 0 j) := by
    blk_ext [iblk, h]
  rw [e, h_g]
/-- Window 12's block at an index, from the arguments. -/
theorem b12 (t : Fin cfg0.N) (j : Fin 1024) : iblk m c 12 t (ix4 0 0 0 j) = a6 m c (ix3 0 2 j) := by
  have h := idx_all t
  have e : iblk m c 12 t (ix4 0 0 0 j) = V m c main_v1 (ix4 0 2 0 j) := by
    blk_ext [iblk, h]
  rw [e, h_g]
/-- Window 13's block at an index, from the arguments. -/
theorem b13 (t : Fin cfg0.N) (j : Fin 1024) : iblk m c 13 t (ix4 0 0 0 j) = a6 m c (ix3 0 3 j) := by
  have h := idx_all t
  have e : iblk m c 13 t (ix4 0 0 0 j) = V m c main_v1 (ix4 0 3 0 j) := by
    blk_ext [iblk, h]
  rw [e, h_g]
/-- Window 14's block at an index, from the arguments. -/
theorem b14 (t : Fin cfg0.N) (i : Fin 512) (j : Fin 1024) : iblk m c 14 t (ix2 i j) = a7 m c (ix3 0 ⟨i.val, by omega⟩ j) := by
  have h := idx_all t
  have e : iblk m c 14 t (ix2 i j) = V m c main_v23 (ix2 i j) := by
    blk_ext [iblk, h]
  rw [e, h_woa]
/-- Window 15's block at an index, from the arguments. -/
theorem b15 (t : Fin cfg0.N) (i : Fin 512) (j : Fin 1024) : iblk m c 15 t (ix2 i j) = a7 m c (ix3 0 ⟨512 + i.val, by omega⟩ j) := by
  have h := idx_all t
  have e : iblk m c 15 t (ix2 i j) = V m c main_v24 (ix2 i j) := by
    blk_ext [iblk, h]
  rw [e, h_wob]
/-- Window 16's block at an index, from the arguments. -/
theorem b16 (t : Fin cfg0.N) (i : Fin 1024) (j : Fin 4096) : iblk m c 16 t (ix2 i j) = a8 m c (ix3 0 i j) := by
  have h := idx_all t
  have e : iblk m c 16 t (ix2 i j) = V m c main_v27 (ix2 i j) := by
    blk_ext [iblk, h]
  rw [e, h_w1]
/-- Window 17's block at an index, from the arguments. -/
theorem b17 (t : Fin cfg0.N) (i : Fin 4096) (j : Fin 1024) : iblk m c 17 t (ix2 i j) = a9 m c (ix3 0 i j) := by
  have h := idx_all t
  have e : iblk m c 17 t (ix2 i j) = V m c main_v30 (ix2 i j) := by
    blk_ext [iblk, h]
  rw [e, h_w2]

/-! ## The result array -/

/-- The first layer's row `l` of batch `b` at column `j`: the gated linear attention's gated heads and the attention through the
    output projection, added to the residual stream, and the feed-forward layer added to that. -/
def outAt (a0 : FVec Ideal S8x4096x1024 .f32) (a1 a2 a3 : FVec Ideal S8x4096x512 .f32) (a4 : FVec Ideal S8x4096x512 .bf16)
    (a5 : FVec Ideal S2x16x6144 .f32) (a6 : FVec Ideal S2x4x1024 .f32) (a7 : FVec Ideal S2x1024x1024 .f32) (a8 : FVec Ideal S2x1024x4096 .f32)
    (a9 : FVec Ideal S2x4096x1024 .f32) (a10 : FVec Ideal S1x64 .f32) (b : Fin 8) (l : Fin 4096) (j : Fin 1024) : EReal :=
  lastRow (firstMid (fun j => a0 (ix3 b l j)) (fun x => a1 (ix3 b l x)) (fun x => a2 (ix3 b l x)) (fun x => a3 (ix3 b l x))
      (fun x => a4 (ix3 b l x)) (fun d => a10 (ix2 0 d)) (fun i j => a7 (ix3 0 i j))
      (fun j => a5 (ix3 0 ⟨b.val, by omega⟩ ⟨2048 + j.val, by omega⟩)) (fun j => a6 (ix3 0 1 j)))
    (fun j => a5 (ix3 0 ⟨b.val, by omega⟩ ⟨3072 + j.val, by omega⟩)) (fun j => a5 (ix3 0 ⟨b.val, by omega⟩ ⟨4096 + j.val, by omega⟩))
    (fun j => a5 (ix3 0 ⟨b.val, by omega⟩ ⟨5120 + j.val, by omega⟩)) (fun j => a6 (ix3 0 2 j)) (fun j => a6 (ix3 0 3 j))
    (fun i k => a8 (ix3 0 i k)) (fun k j => a9 (ix3 0 k j)) j

/-- The layer's row from the launch's arguments, at row `R` of the flattened sequences. -/
def outRow (R : Fin 32768) (j : Fin 1024) : EReal :=
  outAt (a0 m c) (a1 m c) (a2 m c) (a3 m c) (a4 m c) (a5 m c) (a6 m c) (a7 m c) (a8 m c) (a9 m c) (a10 m c) (bRow R) (lRow R) j

/-- A grid point's rows lie in its batch. -/
theorem bRow_rowT (t : Fin cfg0.N) (R : Fin 512) : bRow (rowT t R) = bT t :=
  Fin.ext (by show (t.val * 512 + R.val) / 4096 = t.val / 8; omega)

/-- What a grid point computes at row `R` and column `j` of its block. -/
theorem point_at (t : Fin cfg0.N) (R : Fin 512) (j : Fin 1024) :
    out0_18 (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) (iblk m c 15 t) (iblk m c 16 t) (iblk m c 17 t) (ix2 R j) =
      outRow m c (rowT t R) j := by
  refine (block_at _ _ _ _ _ _ _ _ _ _ _ _ _ _ _ _ _ _ (b1 m c t) (fun d => a10 m c (ix2 0 d))
    (b5 m c t) (fun i j => a7 m c (ix3 0 i j)) (b14 m c t) (b15 m c t) R j).trans ?_
  unfold blockFn outRow outAt
  rw [funext (b0 m c t R), funext (b2 m c t R), funext (b3 m c t R), funext (b4 m c t R), funext (b6 m c t R), funext (b7 m c t),
    funext (b8 m c t), funext (b9 m c t), funext (b10 m c t), funext (b11 m c t), funext (b12 m c t), funext (b13 m c t),
    funext fun i => funext (b16 m c t i), funext fun i => funext (b17 m c t i), bRow_rowT]

/-- The result array after the run. -/
theorem result_eq : (dats m 0 c).arrAt 18 cfg0.N = fun i : S32768x1024.Idx => outRow m c (i 0) (i 1) := by
  refine (dats m 0 c).arrAt_eq_of_covers 18 _ (by decide +kernel) fun t hf y => ?_
  refine Eq.trans (b := (dats m 0 c).flushed 18 t y) rfl ?_
  refine (congrFun (Value.flushed18 m c t) y).trans ?_
  have h := idx_all t
  have e0 : (((cfg0.win 18).blk t).view.emb y 0).val = t.val * 512 + (y 0).val := by
    blk_simp [h]
  have e1 : (((cfg0.win 18).blk t).view.emb y 1).val = (y 1).val := by
    blk_simp [h]
  have hg : ∀ g : Vec Ideal S512x1024 .f32, (cfg0.win 18).cut (grid0.coords t) g y = g (ix2 (y 0) (y 1)) :=
    fun g => congrArg g (eq_ix2 y)
  refine (hg _).trans ((point_at m c t (y 0) (y 1)).trans ?_)
  exact congrArg₂ (outRow m c) (Fin.ext e0.symm) (Fin.ext e1.symm)

end Cert.Kernel3Ideal.OutMlp

end
-- ==== Proof.FirstRef.lean ====
/- The reference's output projection and feed-forward layer of the first layer at an index. -/
module

public import proofs.«01_k».proof.Proof.FirstHost
public import proofs.«01_k».proof.Proof.OutRef
public import proofs.«01_k».proof.Proof.Gen.Reference3Ideal.Run
public import proofs.«01_k».proof.Proof.Gen.Reference3Ideal.Read
public import proofs.«01_k».proof.Defs
public import Idealize.ShloMosaic.Lib.Pointwise
public import Idealize.ShloMosaic.Lib.Claim

@[expose] public section

set_option maxRecDepth 16384

noncomputable section

namespace Cert.Reference3Ideal.OutMlp

open Cert.Reference3Ideal Cert.Reference3Ideal.Gen Idealize.ShloMosaic Idealize.ShloMosaic.TcCoe Cert.Reference3Ideal.Read Cert.OutRow

variable (x0 : FVec Ideal S8x4096x1024 .f32) (x1 x2 x3 : FVec Ideal S8x4096x512 .f32) (x4 : FVec Ideal S8x4096x512 .bf16)
  (x5 : FVec Ideal S2x16x6144 .f32) (x6 : FVec Ideal S2x4x1024 .f32) (x7 : FVec Ideal S2x1024x1024 .f32)
  (x8 : FVec Ideal S2x1024x4096 .f32) (x9 : FVec Ideal S2x4096x1024 .f32) (x10 : FVec Ideal S1x64 .f32)

/-! ## The parameters at an index -/

/-- The first residual connection's gate. -/
theorem gate1_at (b : Fin 8) (l : Fin 4096) (j : Fin 1024) :
    val_main_v54 (F := Ideal) x5 (ix3 b l j) = (x5 (ix3 0 ⟨b.val, by omega⟩ ⟨2048 + j.val, by omega⟩) : EReal) := by
  pointwise [val_main_v54, val_main_v7, val_main_v4, val_main_v3, val_main_v2]
/-- The feed-forward layer's shift. -/
theorem shift_at (b : Fin 8) (l : Fin 4096) (j : Fin 1024) :
    val_main_v76 (F := Ideal) x5 (ix3 b l j) = (x5 (ix3 0 ⟨b.val, by omega⟩ ⟨3072 + j.val, by omega⟩) : EReal) := by
  pointwise [val_main_v76, val_main_v8, val_main_v4, val_main_v3, val_main_v2]
/-- The feed-forward layer's scale. -/
theorem scale_at (b : Fin 8) (l : Fin 4096) (j : Fin 1024) :
    val_main_v74 (F := Ideal) x5 (ix3 b l j) =
      (1 + x5 (ix3 0 ⟨b.val, by omega⟩ ⟨4096 + j.val, by omega⟩) : EReal) := by
  pointwise [val_main_v74, val_main_v73, val_main_v72, val_main_cst_8, val_main_v9, val_main_v4, val_main_v3, val_main_v2]
/-- The second residual connection's gate. -/
theorem gate2_at (b : Fin 8) (l : Fin 4096) (j : Fin 1024) :
    val_main_v101 (F := Ideal) x5 (ix3 b l j) = (x5 (ix3 0 ⟨b.val, by omega⟩ ⟨5120 + j.val, by omega⟩) : EReal) := by
  pointwise [val_main_v101, val_main_v10, val_main_v4, val_main_v3, val_main_v2]
/-- The three norms' scales. -/
theorem g1_at (b : Fin 8) (l : Fin 4096) (j : Fin 1024) : val_main_v52 (F := Ideal) x6 (ix3 b l j) = (x6 (ix3 0 1 j) : EReal) := by
  pointwise [val_main_v52, val_main_v51, val_main_v40, val_main_v39, val_main_v1, val_main_v0]
/-- The second of them. -/
theorem g2_at (b : Fin 8) (l : Fin 4096) (j : Fin 1024) : val_main_v70 (F := Ideal) x6 (ix3 b l j) = (x6 (ix3 0 2 j) : EReal) := by
  pointwise [val_main_v70, val_main_v69, val_main_v58, val_main_v57, val_main_v1, val_main_v0]
/-- The third of them. -/
theorem g3_at (b : Fin 8) (l : Fin 4096) (j : Fin 1024) : val_main_v99 (F := Ideal) x6 (ix3 b l j) = (x6 (ix3 0 3 j) : EReal) := by
  pointwise [val_main_v99, val_main_v98, val_main_v87, val_main_v86, val_main_v1, val_main_v0]
/-- The output projection's weights. -/
theorem wo_at (i j : Fin 1024) : val_main_v37 (F := Ideal) x7 (ix2 i j) = (x7 (ix3 0 i j) : EReal) := by
  pointwise [val_main_v37, val_main_v36]
/-- The feed-forward layer's first weights. -/
theorem w1_at (i : Fin 1024) (k : Fin 4096) : val_main_v79 (F := Ideal) x8 (ix2 i k) = (x8 (ix3 0 i k) : EReal) := by
  pointwise [val_main_v79, val_main_v78]
/-- Its second weights. -/
theorem w2_at (k : Fin 4096) (j : Fin 1024) : val_main_v81 (F := Ideal) x9 (ix2 k j) = (x9 (ix3 0 k j) : EReal) := by
  pointwise [val_main_v81, val_main_v80]

/-! ## The mixers -/

/-- The two directions of the gated linear attention, summed by head. -/
theorem sumB_at (b h : Fin 8) (l : Fin 4096) (d : Fin 64) : val_main_v15 (F := Ideal) x1 x2 (ix4 b h l d) =
    (x1 (ix3 b l ⟨h.val * 64 + d.val, by omega⟩) + x2 (ix3 b l ⟨h.val * 64 + d.val, by omega⟩) : EReal) := by
  pointwise [val_main_v15, val_main_v12, val_main_v11, val_main_v14, val_main_v13]

/-- Their norm by head. -/
theorem normB_at (b : Fin 8) (l : Fin 4096) (x : Fin 512) : val_main_v31 (F := Ideal) x1 x2 x10 (ix3 b l x) =
    (val_main_v15 (F := Ideal) x1 x2 (ix4 b ⟨x.val / 64, by omega⟩ l ⟨x.val % 64, by omega⟩) *
      Ideal.rsqrt (Ideal.div (∑ d : Fin 64, val_main_v15 (F := Ideal) x1 x2 (ix4 b ⟨x.val / 64, by omega⟩ l d) *
        val_main_v15 (F := Ideal) x1 x2 (ix4 b ⟨x.val / 64, by omega⟩ l d)) w64 + eps) * x10 (ix2 0 ⟨x.val % 64, by omega⟩) : EReal) := by
  unfold val_main_v31 val_main_v30 val_main_v29 val_main_v26 val_main_v25 val_main_v24 val_main_v23 val_main_v21 val_main_v19 val_main_v18 val_main_v17
  generalize val_main_v15 (F := Ideal) x1 x2 = y
  pointwise [val_main_v28, val_main_v27, val_main_v16, val_main_v22, val_main_v20, val_main_cst, val_main_cst_0, val_main_cst_1, w64, eps]

/-- The gated row. -/
theorem gateB_at (b : Fin 8) (l : Fin 4096) (x : Fin 512) : val_main_v33 (F := Ideal) x1 x2 x3 x10 (ix3 b l x) =
    gateB (fun x => x1 (ix3 b l x)) (fun x => x2 (ix3 b l x)) (fun d => x10 (ix2 0 d)) (fun x => x3 (ix3 b l x)) x := by
  unfold gateB
  rw [← Cert.Reference2Ideal.OutMlp.headNorm_row (fun x => (x1 (ix3 b l x) + x2 (ix3 b l x) : EReal)) (fun d => x10 (ix2 0 d))
    (fun d => val_main_v15 (F := Ideal) x1 x2 (ix4 b ⟨x.val / 64, by omega⟩ l d)) x (fun d => sumB_at x1 x2 b _ l d), ← normB_at]
  unfold val_main_v33
  generalize val_main_v31 (F := Ideal) x1 x2 x10 = y
  pointwise [silu, val_main_v32, val_main_call0_v5, val_main_call0_v4, val_main_call0_v3,
    val_main_call0_v2, val_main_call0_v1, val_main_call0_v0, val_main_call0_cst, val_main_call0_cst_0]
  rw [zero_sub]

/-- The two mixers' rows, side by side. -/
theorem cat_at (b : Fin 8) (l : Fin 4096) (x : Fin 1024) : val_main_v35 (F := Ideal) x1 x2 x3 x4 x10 (ix3 b l x) =
    cat (fun x => val_main_v33 (F := Ideal) x1 x2 x3 x10 (ix3 b l x)) (fun x => x4 (ix3 b l x)) x := by
  unfold val_main_v35
  generalize val_main_v33 (F := Ideal) x1 x2 x3 x10 = y
  pointwise [cat, val_main_v34]

/-! ## The output projection and the feed-forward layer -/

/-- The projected row. -/
theorem proj_at (b : Fin 8) (l : Fin 4096) (j : Fin 1024) : val_main_v38 (F := Ideal) x1 x2 x3 x4 x7 x10 (ix3 b l j) =
    proj (fun x => val_main_v33 (F := Ideal) x1 x2 x3 x10 (ix3 b l x)) (fun x => x4 (ix3 b l x))
      (fun i j => x7 (ix3 0 i j)) j := by
  unfold proj
  simp only [← cat_at, ← wo_at]
  unfold val_main_v38
  generalize val_main_v35 (F := Ideal) x1 x2 x3 x4 x10 = y
  generalize val_main_v37 (F := Ideal) x7 = z
  pointwise

/-- The residual stream after the mixers. -/
theorem mid_at (b : Fin 8) (l : Fin 4096) (j : Fin 1024) : val_main_v56 (F := Ideal) x0 x1 x2 x3 x4 x5 x6 x7 x10 (ix3 b l j) =
    addGated (fun j => x0 (ix3 b l j)) (fun j => val_main_v54 (F := Ideal) x5 (ix3 b l j)) (fun j => val_main_v38 (F := Ideal) x1 x2 x3 x4 x7 x10 (ix3 b l j))
      (fun j => val_main_v52 (F := Ideal) x6 (ix3 b l j)) j := by
  unfold val_main_v56 val_main_v55 val_main_v53 val_main_v50 val_main_v49 val_main_v48 val_main_v47 val_main_v45 val_main_v43 val_main_v42 val_main_v41
  generalize val_main_v38 (F := Ideal) x1 x2 x3 x4 x7 x10 = y
  generalize val_main_v54 (F := Ideal) x5 = z
  generalize val_main_v52 (F := Ideal) x6 = w
  pointwise [addGated, rowNorm, val_main_v44, val_main_v46, val_main_cst_2, val_main_cst_3, val_main_cst_4, w1024, eps]

/-- The feed-forward layer's input row. -/
theorem in_at (b : Fin 8) (l : Fin 4096) (j : Fin 1024) : val_main_v77 (F := Ideal) x0 x1 x2 x3 x4 x5 x6 x7 x10 (ix3 b l j) =
    (rowNorm (fun j => val_main_v56 (F := Ideal) x0 x1 x2 x3 x4 x5 x6 x7 x10 (ix3 b l j)) (fun j => val_main_v70 (F := Ideal) x6 (ix3 b l j)) j *
      val_main_v74 (F := Ideal) x5 (ix3 b l j) + val_main_v76 (F := Ideal) x5 (ix3 b l j) : EReal) := by
  unfold val_main_v77 val_main_v75 val_main_v71 val_main_v68 val_main_v67 val_main_v66 val_main_v65 val_main_v63 val_main_v61 val_main_v60 val_main_v59
  generalize val_main_v56 (F := Ideal) x0 x1 x2 x3 x4 x5 x6 x7 x10 = y
  generalize val_main_v74 (F := Ideal) x5 = z
  generalize val_main_v70 (F := Ideal) x6 = w
  generalize val_main_v76 (F := Ideal) x5 = v
  pointwise [rowNorm, val_main_v62, val_main_v64, val_main_cst_5, val_main_cst_6, val_main_cst_7, w1024, eps]

/-- The feed-forward layer's hidden row. -/
theorem hidden_at (b : Fin 8) (l : Fin 4096) (k : Fin 4096) : val_main_v83 (F := Ideal) x0 x1 x2 x3 x4 x5 x6 x7 x8 x10 (ix3 b l k) =
    hiddenRow (fun j => val_main_v77 (F := Ideal) x0 x1 x2 x3 x4 x5 x6 x7 x10 (ix3 b l j)) (fun i k => x8 (ix3 0 i k)) k := by
  unfold hiddenRow
  simp only [← w1_at]
  unfold val_main_v83 val_main_v82
  generalize val_main_v77 (F := Ideal) x0 x1 x2 x3 x4 x5 x6 x7 x10 = y
  generalize val_main_v79 (F := Ideal) x8 = z
  pointwise [val_main_call1_v0, val_main_call1_cst]

/-- The feed-forward layer's row. -/
theorem ff_at (b : Fin 8) (l : Fin 4096) (j : Fin 1024) : val_main_v85 (F := Ideal) x0 x1 x2 x3 x4 x5 x6 x7 x8 x9 x10 (ix3 b l j) =
    mlp (fun j => val_main_v77 (F := Ideal) x0 x1 x2 x3 x4 x5 x6 x7 x10 (ix3 b l j)) (fun i k => x8 (ix3 0 i k)) (fun k j => x9 (ix3 0 k j)) j := by
  unfold mlp
  simp only [← hidden_at, ← w2_at]
  unfold val_main_v85 val_main_v84
  generalize val_main_v83 (F := Ideal) x0 x1 x2 x3 x4 x5 x6 x7 x8 x10 = y
  generalize val_main_v81 (F := Ideal) x9 = z
  pointwise

/-- The layer's row. -/
theorem last_at (b : Fin 8) (l : Fin 4096) (j : Fin 1024) : val_main_v103 (F := Ideal) x0 x1 x2 x3 x4 x5 x6 x7 x8 x9 x10 (ix3 b l j) =
    addGated (fun j => val_main_v56 (F := Ideal) x0 x1 x2 x3 x4 x5 x6 x7 x10 (ix3 b l j)) (fun j => val_main_v101 (F := Ideal) x5 (ix3 b l j))
      (fun j => val_main_v85 (F := Ideal) x0 x1 x2 x3 x4 x5 x6 x7 x8 x9 x10 (ix3 b l j)) (fun j => val_main_v99 (F := Ideal) x6 (ix3 b l j)) j := by
  unfold val_main_v103 val_main_v102 val_main_v100 val_main_v97 val_main_v96 val_main_v95 val_main_v94 val_main_v92 val_main_v90 val_main_v89 val_main_v88
  generalize val_main_v85 (F := Ideal) x0 x1 x2 x3 x4 x5 x6 x7 x8 x9 x10 = y
  generalize val_main_v56 (F := Ideal) x0 x1 x2 x3 x4 x5 x6 x7 x10 = x
  generalize val_main_v101 (F := Ideal) x5 = z
  generalize val_main_v99 (F := Ideal) x6 = w
  pointwise [addGated, rowNorm, val_main_v91, val_main_v93, val_main_cst_9, val_main_cst_10, val_main_cst_11, w1024, eps]

/-- The result's rows are those of the sequences, one after another. -/
theorem flat_at (R : Fin 32768) (j : Fin 1024) : val_main_v104 (F := Ideal) x0 x1 x2 x3 x4 x5 x6 x7 x8 x9 x10 (ix2 R j) =
    val_main_v103 (F := Ideal) x0 x1 x2 x3 x4 x5 x6 x7 x8 x9 x10 (ix3 ⟨R.val / 4096, by omega⟩ ⟨R.val % 4096, by omega⟩ j) := by
  unfold val_main_v104
  generalize val_main_v103 (F := Ideal) x0 x1 x2 x3 x4 x5 x6 x7 x8 x9 x10 = y
  pointwise

/-- The reference's result at an index. -/
theorem ref_at (R : Fin 32768) (j : Fin 1024) : val_main_v104 (F := Ideal) x0 x1 x2 x3 x4 x5 x6 x7 x8 x9 x10 (ix2 R j) =
    Cert.Kernel3Ideal.OutMlp.outAt x0 x1 x2 x3 x4 x5 x6 x7 x8 x9 x10 ⟨R.val / 4096, by omega⟩ ⟨R.val % 4096, by omega⟩ j := by
  rw [flat_at, last_at]
  unfold Cert.Kernel3Ideal.OutMlp.outAt lastRow Cert.Kernel3Ideal.OutMlp.firstMid modulated
  simp only [ff_at, in_at, mid_at, proj_at, gateB_at, gate1_at, gate2_at, shift_at, scale_at, g1_at, g2_at, g3_at]

/-- The same from equal arguments. -/
theorem ref_eq (y0 : FVec Ideal S8x4096x1024 .f32) (y1 y2 y3 : FVec Ideal S8x4096x512 .f32) (y4 : FVec Ideal S8x4096x512 .bf16)
    (y5 : FVec Ideal S2x16x6144 .f32) (y6 : FVec Ideal S2x4x1024 .f32) (y7 : FVec Ideal S2x1024x1024 .f32)
    (y8 : FVec Ideal S2x1024x4096 .f32) (y9 : FVec Ideal S2x4096x1024 .f32) (y10 : FVec Ideal S1x64 .f32)
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (R : Fin 32768) (j : Fin 1024) :
    val_main_v104 (F := Ideal) x0 x1 x2 x3 x4 x5 x6 x7 x8 x9 x10 (ix2 R j) =
      Cert.Kernel3Ideal.OutMlp.outAt y0 y1 y2 y3 y4 y5 y6 y7 y8 y9 y10 ⟨R.val / 4096, by omega⟩ ⟨R.val % 4096, by omega⟩ j := by
  subst h0 h1 h2 h3 h4 h5 h6 h7 h8 h9 h10
  exact ref_at x0 x1 x2 x3 x4 x5 x6 x7 x8 x9 x10 R j

end Cert.Reference3Ideal.OutMlp

end
-- ==== Proof.FirstClaims.lean ====
/- The claims of the first layer's output projection and feed-forward call: the frames, the preservation and the equation with the reference. -/
module

public import proofs.«01_k».proof.Proof.FirstRef
public import proofs.«01_k».proof.Proof.Gen.Kernel3
public import proofs.«01_k».proof.Proof.Gen.Kernel3Ideal
public import proofs.«01_k».proof.Proof.Gen.Reference3Ideal
public import Idealize.ShloMosaic.Adequacy
public import Idealize.ShloMosaic.Init

@[expose] public section

set_option maxRecDepth 16384

noncomputable section

namespace Cert.FirstClaims

open Idealize.ShloMosaic Idealize.ShloMosaic.TcCoe Idealize.SL.Sem

set_option maxHeartbeats 4000000 in
/-- The kernel and its idealized text have one body. -/
theorem body_eq : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) => exact rfl
  | ⟨_ + 1, h⟩, _ => exact absurd h (Nat.not_lt.2 (Nat.le_add_left _ _))

set_option maxHeartbeats 4000000 in
/-- And one table of bodies. -/
theorem defs_eq : Cert.Kernel3.defs (F := Bits) = Cert.Kernel3Ideal.defs (F := Bits) :=
  congrArg (Pipeline.defs Cert.Kernel3.pcfgs) body_eq

set_option maxHeartbeats 4000000 in
/-- The kernel runs, leaves its arguments unchanged and every semaphore at zero: its run is the idealized text's. -/
theorem frame_p : Cert.quiescent_Kernel3 := fun m ρ _ =>
  Eq.mpr (congrArg (fun d => (θ_run d (onTc (τ := Cert.Kernel3.τ) (Cert.Kernel3.main (F := Bits))) ⟨m, fun _ => 0, ρ⟩) _) defs_eq)
    (Cert.Kernel3Ideal.Gen.frame (F := Bits) m ρ)
/-- The same of the idealized kernel. -/
theorem frame_pi : Cert.quiescent_Kernel3Ideal := fun m ρ _ => Cert.Kernel3Ideal.Gen.frame m ρ
/-- The reference runs and leaves its arguments unchanged. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
/-- The idealization rewrote nothing. -/
theorem preserves : Cert.preserves_Kernel3_Kernel3Ideal := trivial

/-- The kernel and its reference end with the same array of extended reals. -/
theorem algebraic : Cert.algebraic_Kernel3Ideal_Reference3Ideal := by
  intro m g m' g' _ hagree
  refine ⟨fun c => (Cert.Kernel3Ideal.Gen.dats m 0 c).arrAt 18 Cert.Kernel3Ideal.cfg0.N, Cert.Kernel3Ideal.Value.run_blocks m g, ?_⟩
  refine (θ_run Cert.Reference3Ideal.defs _ _).mono (fun r h c => ⟨(h c).1.trans ?_, (h c).2⟩) (Cert.Reference3Ideal.Value.run (F := Ideal) m' g')
  obtain ⟨h0, h1, h2, h3, h4, h5, h6, h7, h8, h9, h10⟩ := hagree c
  refine Eq.trans ?_ (Cert.Kernel3Ideal.OutMlp.result_eq m c).symm
  refine (Cert.Reference3Ideal.Read.val_main_v104_eq _).trans ?_
  funext i
  refine (congrArg _ (eq_ix2 (n0 := 32768) (n1 := 1024) i)).trans ?_
  exact Cert.Reference3Ideal.OutMlp.ref_eq _ _ _ _ _ _ _ _ _ _ _ _ _ _ _ _ _ _ _ _ _ _ h0 h1 h2 h3 h4 h5 h6 h7 h8 h9 h10 (i 0) (i 1)

end Cert.FirstClaims

end
-- ==== Proof.InRow.lean ====
/- One row of the last layer's input projection, over the extended reals. -/
module

public import proofs.«01_k».proof.Proof.Row

@[expose] public section

noncomputable section

namespace Cert.InRow

open Idealize.ShloMosaic Cert.OutRow

/-- The factor of the retention's queries, as its word reads. -/
def eighth : EReal := Ideal.ofBits .f32 0x3E000000#32

/-- The column that a column is rotated with: sixteen further in the first half of 32 columns, sixteen back in the second. -/
def partner (j : Fin 512) : Fin 512 := if h : j.val % 32 < 16 then ⟨j.val + 16, by omega⟩ else ⟨j.val - 16, by omega⟩

/-- A row of eight heads rotated by the cosines and the signed sines of a head's columns. -/
def rot (f : Fin 512 → EReal) (cs sn : Fin 64 → EReal) (j : Fin 512) : EReal :=
  f j * cs ⟨j.val % 64, by omega⟩ + f (partner j) * sn ⟨j.val % 64, by omega⟩

/-- A row through the projection. -/
def projRow (u : Fin 1024 → EReal) (w : Fin 1024 → Fin 3072 → EReal) (k : Fin 3072) : EReal := ∑ x, u x * w x k

/-- The rotated queries with their factor, and the rotated keys beside them. -/
def keyRow (p : Fin 3072 → EReal) (cs sn : Fin 64 → EReal) (j : Fin 1024) : EReal :=
  if h : j.val < 512 then rot (fun x => p ⟨1024 + x.val, by omega⟩) cs sn ⟨j.val, h⟩ * eighth
  else rot (fun x => p ⟨1536 + x.val, by omega⟩) cs sn ⟨j.val - 512, by omega⟩

/-- The cosines of a head's columns from the angles of the two axes: the row's in the first 32 columns, the column's in the last. -/
def cosOf (ar ac : Fin 16 → EReal) (d : Fin 64) : EReal :=
  if d.val < 32 then Ideal.cos (ar ⟨d.val % 16, by omega⟩) else Ideal.cos (ac ⟨d.val % 16, by omega⟩)

/-- The signed sines: negated in the first sixteen columns of each axis. -/
def sinOf (ar ac : Fin 16 → EReal) (d : Fin 64) : EReal :=
  if d.val < 16 then -Ideal.sin (ar ⟨d.val % 16, by omega⟩)
  else if d.val < 32 then Ideal.sin (ar ⟨d.val % 16, by omega⟩)
  else if d.val < 48 then -Ideal.sin (ac ⟨d.val % 16, by omega⟩)
  else Ideal.sin (ac ⟨d.val % 16, by omega⟩)

/-- One head's columns rotated as two axes of two halves each. -/
def headRot (g : Fin 64 → EReal) (ar ac : Fin 16 → EReal) (d : Fin 64) : EReal :=
  if h : d.val < 16 then g d * Ideal.cos (ar ⟨d.val, by omega⟩) - g ⟨d.val + 16, by omega⟩ * Ideal.sin (ar ⟨d.val, by omega⟩)
  else if h : d.val < 32 then g ⟨d.val - 16, by omega⟩ * Ideal.sin (ar ⟨d.val - 16, by omega⟩) + g d * Ideal.cos (ar ⟨d.val - 16, by omega⟩)
  else if h : d.val < 48 then g d * Ideal.cos (ac ⟨d.val - 32, by omega⟩) - g ⟨d.val + 16, by omega⟩ * Ideal.sin (ac ⟨d.val - 32, by omega⟩)
  else g ⟨d.val - 16, by omega⟩ * Ideal.sin (ac ⟨d.val - 48, by omega⟩) + g d * Ideal.cos (ac ⟨d.val - 48, by omega⟩)

/-- The row's rotation is each head's. -/
theorem rot_head (f : Fin 512 → EReal) (ar ac : Fin 16 → EReal) (x : Fin 512) : rot f (cosOf ar ac) (sinOf ar ac) x =
    headRot (fun d => f ⟨x.val / 64 * 64 + d.val, by omega⟩) ar ac ⟨x.val % 64, by omega⟩ := by
  have ef : ∀ (u : Fin 512 → EReal) (a b : ℕ) (ha : a < 512) (hb : b < 512), a = b → u ⟨a, ha⟩ = u ⟨b, hb⟩ := fun u a b _ _ h => by subst h; rfl
  have ea : ∀ (u : Fin 16 → EReal) (a b : ℕ) (ha : a < 16) (hb : b < 16), a = b → u ⟨a, ha⟩ = u ⟨b, hb⟩ := fun u a b _ _ h => by subst h; rfl
  unfold rot headRot partner cosOf sinOf
  dsimp only
  have e0 : f x = f ⟨x.val / 64 * 64 + x.val % 64, by omega⟩ := ef f _ _ _ _ (by omega)
  rw [e0]
  by_cases h1 : x.val % 64 < 16
  · rw [dif_pos (by omega), if_pos (by omega), if_pos h1, dif_pos h1, mul_neg, ← sub_eq_add_neg, ea ar _ _ _ (by omega) (by omega : x.val % 64 % 16 = x.val % 64),
      ef f _ _ _ (by omega) (by omega : x.val + 16 = x.val / 64 * 64 + (x.val % 64 + 16))]
  by_cases h2 : x.val % 64 < 32
  · rw [dif_neg (by omega), if_pos h2, if_neg h1, if_pos h2, dif_neg h1, dif_pos h2, add_comm, ea ar _ _ _ (by omega) (by omega : x.val % 64 % 16 = x.val % 64 - 16),
      ef f _ _ _ (by omega) (by omega : x.val - 16 = x.val / 64 * 64 + (x.val % 64 - 16))]
  by_cases h3 : x.val % 64 < 48
  · rw [dif_pos (by omega), if_neg h2, if_neg h1, if_neg h2, if_pos h3, dif_neg h1, dif_neg h2, dif_pos h3, mul_neg, ← sub_eq_add_neg,
      ea ac _ _ _ (by omega) (by omega : x.val % 64 % 16 = x.val % 64 - 32), ef f _ _ _ (by omega) (by omega : x.val + 16 = x.val / 64 * 64 + (x.val % 64 + 16))]
  · rw [dif_neg (by omega), if_neg h2, if_neg h1, if_neg h2, if_neg h3, dif_neg h1, dif_neg h2, dif_neg h3, add_comm,
      ea ac _ _ _ (by omega) (by omega : x.val % 64 % 16 = x.val % 64 - 48), ef f _ _ _ (by omega) (by omega : x.val - 16 = x.val / 64 * 64 + (x.val % 64 - 16))]

end Cert.InRow

end
-- ==== Proof.InBlock.lean ====
/- What the last layer's input projection computes of one block of latent rows. -/
module

public import proofs.«01_k».proof.Proof.InRow
public import proofs.«01_k».proof.Proof.Gen.Kernel4Ideal.Frame
public import Idealize.ShloMosaic.Lib.KernelVsHost
public import Idealize.ShloMosaic.Lib.Pipeline.Value
public import Idealize.ShloMosaic.Lib.Pipeline.ValueKit.Tiles

@[expose] public section

set_option maxRecDepth 16384

noncomputable section

namespace Cert.Kernel4Ideal.InProj

open Cert.Kernel4Ideal Cert.Kernel4Ideal.Gen Idealize.ShloMosaic Idealize.ShloMosaic.TcCoe Cert.OutRow Cert.InRow

variable (x : Vec Ideal S256x1024 .f32) (g scale shift : Vec Ideal S1x1x1x1024 .f32) (w : Vec Ideal S1024x3072 .bf16)
  (y : FVec Ideal S256x512 .f32) (c s : Vec Ideal S256x128 .f32)

/-! ## The product -/

/-- The projection of 256 rows. -/
def prod : FVec Ideal S256x3072 .f32 := k0_pay8 (k0_pay5 x g scale shift) w

/-- The modulated rows. -/
theorem mod_at (r : Fin 256) (j : Fin 1024) : k0_pay5 (F := Ideal) x g scale shift (ix2 r j) =
    modulated (fun j => x (ix2 r j)) (fun j => g (ix4 0 0 0 j)) (fun j => scale (ix4 0 0 0 j)) (fun j => shift (ix4 0 0 0 j)) j := by
  unfold modulated rowNorm eps w1024
  pointwise [k0_pay5]

/-- The product, row by row. -/
theorem prod_at (r : Fin 256) (k : Fin 3072) : prod x g scale shift w (ix2 r k) =
    projRow (modulated (fun j => x (ix2 r j)) (fun j => g (ix4 0 0 0 j)) (fun j => scale (ix4 0 0 0 j)) (fun j => shift (ix4 0 0 0 j)))
      (fun i k => w (ix2 i k)) k := by
  unfold projRow prod
  simp only [← mod_at]
  generalize k0_pay5 (F := Ideal) x g scale shift = u
  pointwise [k0_pay8]

/-! ## The rotation -/

/-- The columns sixteen further. -/
theorem fwd_at (r : Fin 256) (j : Fin 512) (h : j.val + 16 < 512) :
    dynamicRotate 1 496#32 none y rotates_S256x512_d1 (ix2 r j) = y (ix2 r ⟨j.val + 16, h⟩) := by
  refine dynamicRotate_apply _ _ _ _ _ _ fun b => ?_
  match b with
  | ⟨0, _⟩ => rfl
  | ⟨1, _⟩ =>
    rw [if_pos (by rfl)]
    show j.val + 16 = (j.val + 512 - 496 % 512) % 512
    omega
/-- The columns sixteen back. -/
theorem back_at (r : Fin 256) (j : Fin 512) (h : 16 ≤ j.val) :
    dynamicRotate 1 16#32 none y rotates_S256x512_d1 (ix2 r j) = y (ix2 r ⟨j.val - 16, by omega⟩) := by
  refine dynamicRotate_apply _ _ _ _ _ _ fun b => ?_
  match b with
  | ⟨0, _⟩ => rfl
  | ⟨1, _⟩ =>
    rw [if_pos (by rfl)]
    show j.val - 16 = (j.val + 512 - 16 % 512) % 512
    omega

/-- The columns that take the one sixteen further. -/
theorem mask_at : ∀ j : Fin 512, k0_pay24 (ix2 0 j) = if j.val % 32 < 16 then 1#1 else 0#1 := by
  decide +kernel

/-- The rotation with its shifted rows, tables and mask given. -/
theorem rotated_at (cv sv : FVec Ideal S256x512 .f32) (k : IVec S1x512 1) (r : Fin 256) (j : Fin 512) :
    k0_pay2 (F := Ideal) y cv sv k 496#32 (ix2 r j) =
      (y (ix2 r j) * cv (ix2 r j) + (if k (ix2 0 j) = 1#1 then dynamicRotate 1 496#32 none y rotates_S256x512_d1 (ix2 r j)
        else dynamicRotate 1 16#32 none y rotates_S256x512_d1 (ix2 r j)) * sv (ix2 r j) : EReal) := by
  unfold k0_pay2
  generalize dynamicRotate 1 496#32 none y rotates_S256x512_d1 = a
  generalize dynamicRotate 1 16#32 none y rotates_S256x512_d1 = b
  pointwise
  rfl

/-- A row of 128 columns repeated four times. -/
theorem lane_mod (f : Fin 128 → EReal) (j : Fin 512) :
    (if h : j.val < 128 then f ⟨j.val, h⟩ else if h : j.val - 128 < 128 then f ⟨j.val - 128, h⟩
      else if h : j.val - 128 - 128 < 128 then f ⟨j.val - 128 - 128, h⟩ else f ⟨j.val - 128 - 128 - 128, by omega⟩) =
      f ⟨j.val % 128, by omega⟩ := by
  split_ifs <;> exact congrArg f (Fin.ext (by show _ = j.val % 128; dsimp only; omega))

/-- The tables of a head's columns, once for every head. -/
theorem cosines_at (r : Fin 256) (j : Fin 512) : k0_pay22 (F := Ideal) c (ix2 r j) = c (ix2 r ⟨j.val % 128, by omega⟩) := by
  pointwise [k0_pay22]
  exact lane_mod (fun d => c (ix2 r d)) j
/-- The sines. -/
theorem sines_at (r : Fin 256) (j : Fin 512) : k0_pay23 (F := Ideal) s (ix2 r j) = s (ix2 r ⟨j.val % 128, by omega⟩) := by
  pointwise [k0_pay23]
  exact lane_mod (fun d => s (ix2 r d)) j

/-- The rotated rows. -/
theorem rot_at (r : Fin 256) (cs sn : Fin 64 → EReal) (hc : ∀ d : Fin 128, c (ix2 r d) = cs ⟨d.val % 64, by omega⟩)
    (hs : ∀ d : Fin 128, s (ix2 r d) = sn ⟨d.val % 64, by omega⟩) (j : Fin 512) :
    k0_pay16 (F := Ideal) y c s (ix2 r j) = rot (fun x => y (ix2 r x)) cs sn j := by
  have e : k0_pay16 (F := Ideal) y c s = k0_pay2 y (k0_pay22 c) (k0_pay23 s) k0_pay24 496#32 := rfl
  rw [e, rotated_at, cosines_at, sines_at, hc, hs, mask_at]
  have d : (⟨j.val % 128 % 64, by omega⟩ : Fin 64) = ⟨j.val % 64, by omega⟩ := Fin.ext (by show j.val % 128 % 64 = j.val % 64; omega)
  rw [d]
  unfold rot partner
  by_cases h : j.val % 32 < 16
  · rw [if_pos h, if_pos rfl, dif_pos h, fwd_at y r j (by omega)]
  · rw [if_neg h, if_neg (by decide), dif_neg h, back_at y r j (by omega)]

/-- The rotated rows with the queries' factor. -/
theorem scaled_at (r : Fin 256) (j : Fin 512) : k0_pay15 (F := Ideal) y (k0_pay13 c) (k0_pay14 s) (ix2 r j) =
    k0_pay16 (F := Ideal) y c s (ix2 r j) * eighth := rfl

/-! ## The column blocks of the product -/

/-- The first 1024 columns, the queries, the keys, the values and the gates. -/
theorem xz_at (v : FVec Ideal S256x3072 .f32) (r : Fin 256) (j : Fin 1024) : k0_pay19 (F := Ideal) v (ix2 r j) = v (ix2 r ⟨j.val, by omega⟩) := by
  pointwise [k0_pay19]
theorem keys_at (v : FVec Ideal S256x3072 .f32) (r : Fin 256) (j : Fin 512) : k0_pay20 (F := Ideal) v (ix2 r j) = v (ix2 r ⟨1536 + j.val, by omega⟩) := by
  pointwise [k0_pay20]
theorem values_at (v : FVec Ideal S256x3072 .f32) (r : Fin 256) (j : Fin 512) : k0_pay3 (F := Ideal) v (ix2 r j) = v (ix2 r ⟨2048 + j.val, by omega⟩) := by
  pointwise [k0_pay3]
theorem gates_at (v : FVec Ideal S256x3072 .f32) (r : Fin 256) (j : Fin 512) : k0_pay4 (F := Ideal) v (ix2 r j) = v (ix2 r ⟨2560 + j.val, by omega⟩) := by
  pointwise [k0_pay4]
theorem queries_at (u : FVec Ideal S256x1024 .bf16) (r : Fin 256) (j : Fin 512) :
    k0_pay11 (F := Ideal) u w (ix2 r j) = k0_pay8 (F := Ideal) u w (ix2 r ⟨1024 + j.val, by omega⟩) := by
  unfold k0_pay11 k0_pay8
  pointwise

/-- The queries and the keys of 256 rows, from their product. -/
def qV : FVec Ideal S256x512 .bf16 := k0_pay15 (k0_pay11 (k0_pay5 x g scale shift) w) (k0_pay13 c) (k0_pay14 s)
def kV : FVec Ideal S256x512 .bf16 := k0_pay16 (k0_pay12 (k0_pay5 x g scale shift) w) c s

/-- The rotated keys. -/
theorem kV_at (r : Fin 256) (cs sn : Fin 64 → EReal) (hc : ∀ d : Fin 128, c (ix2 r d) = cs ⟨d.val % 64, by omega⟩)
    (hs : ∀ d : Fin 128, s (ix2 r d) = sn ⟨d.val % 64, by omega⟩) (j : Fin 512) :
    kV x g scale shift w c s (ix2 r j) = keyRow (fun k => prod x g scale shift w (ix2 r k)) cs sn ⟨512 + j.val, by omega⟩ := by
  unfold kV keyRow
  rw [rot_at _ c s r cs sn hc hs, dif_neg (by simp)]
  refine congrArg₂ (fun f => rot f cs sn) (funext fun k => ?_) (Fin.ext (by simp))
  exact keys_at (prod x g scale shift w) r k
/-- The rotated queries. -/
theorem qV_at (r : Fin 256) (cs sn : Fin 64 → EReal) (hc : ∀ d : Fin 128, c (ix2 r d) = cs ⟨d.val % 64, by omega⟩)
    (hs : ∀ d : Fin 128, s (ix2 r d) = sn ⟨d.val % 64, by omega⟩) (j : Fin 512) :
    qV x g scale shift w c s (ix2 r j) = keyRow (fun k => prod x g scale shift w (ix2 r k)) cs sn ⟨j.val, by omega⟩ := by
  unfold qV keyRow
  rw [scaled_at, rot_at _ c s r cs sn hc hs, dif_pos j.isLt]
  refine congrArg (fun f => rot f cs sn j * eighth) (funext fun k => ?_)
  exact queries_at w (k0_pay5 x g scale shift) r k

section Block

variable (x0 : Vec Ideal S512x1024 .f32) (x1 x2 x3 : Vec Ideal S1x1x1x1024 .f32) (x4 : Vec Ideal S1024x3072 .bf16)
  (x5 x6 : Vec Ideal S512x128 .f32) (cs sn : Fin 512 → Fin 64 → EReal)

/-- The projection of row `R` of a block. -/
def pRow (R : Fin 512) : Fin 3072 → EReal :=
  projRow (modulated (fun j => x0 (ix2 R j)) (fun j => x1 (ix4 0 0 0 j)) (fun j => x3 (ix4 0 0 0 j)) (fun j => x2 (ix4 0 0 0 j)))
    (fun i k => x4 (ix2 i k))

/-- The loads of the first and the second 256 rows of a block, and of whole blocks. -/
theorem ld_lo (x : Vec Ideal S512x1024 .f32) (r : Fin 256) (k : Fin 1024) : (View.ld x r0_0 : Vec Ideal S256x1024 .f32) (ix2 (n0 := 256) (n1 := 1024) r k) = x (ix2 ⟨r.val, by omega⟩ k) := by
  refine View.ld_unit_apply_of _ _ _ _ _ _ fun a => ?_
  match a with
  | ⟨0, _⟩ => show r.val = 0 + r.val; omega
  | ⟨1, _⟩ => show k.val = 0 + k.val; omega
theorem ld_hi (x : Vec Ideal S512x1024 .f32) (r : Fin 256) (k : Fin 1024) : (View.ld x r0_2 : Vec Ideal S256x1024 .f32) (ix2 (n0 := 256) (n1 := 1024) r k) = x (ix2 ⟨256 + r.val, by omega⟩ k) := by
  refine View.ld_unit_apply_of _ _ _ _ _ _ fun a => ?_
  match a with
  | ⟨0, _⟩ => rfl
  | ⟨1, _⟩ => show k.val = 0 + k.val; omega
theorem ld_lot (x : Vec Ideal S512x128 .f32) (r : Fin 256) (k : Fin 128) : (View.ld x r0_4 : Vec Ideal S256x128 .f32) (ix2 (n0 := 256) (n1 := 128) r k) = x (ix2 ⟨r.val, by omega⟩ k) := by
  refine View.ld_unit_apply_of _ _ _ _ _ _ fun a => ?_
  match a with
  | ⟨0, _⟩ => show r.val = 0 + r.val; omega
  | ⟨1, _⟩ => show k.val = 0 + k.val; omega
theorem ld_hit (x : Vec Ideal S512x128 .f32) (r : Fin 256) (k : Fin 128) : (View.ld x r0_8 : Vec Ideal S256x128 .f32) (ix2 (n0 := 256) (n1 := 128) r k) = x (ix2 ⟨256 + r.val, by omega⟩ k) := by
  refine View.ld_unit_apply_of _ _ _ _ _ _ fun a => ?_
  match a with
  | ⟨0, _⟩ => rfl
  | ⟨1, _⟩ => show k.val = 0 + k.val; omega
theorem ld_all1 (x : Vec Ideal S1x1x1x1024 .f32) : View.ld x r0_1 = x := View.ld_unit_zero (by funext a; fin_cases a <;> rfl) _ x
theorem ld_all3 (x : Vec Ideal S1024x3072 .bf16) : View.ld x r0_3 = x := View.ld_unit_zero (by funext a; fin_cases a <;> rfl) _ x

/-- The products of the first and the second 256 rows of a block. -/
def prodLo : FVec Ideal S256x3072 .f32 := prod (View.ld x0 r0_0) (View.ld x1 r0_1) (View.ld x3 r0_1) (View.ld x2 r0_1) (View.ld x4 r0_3)
def prodHi : FVec Ideal S256x3072 .f32 := prod (View.ld x0 r0_2) (View.ld x1 r0_1) (View.ld x3 r0_1) (View.ld x2 r0_1) (View.ld x4 r0_3)

/-- The first 256 rows. -/
theorem lo_at (r : Fin 256) (k : Fin 3072) : prodLo x0 x1 x2 x3 x4 (ix2 r k) = pRow x0 x1 x2 x3 x4 ⟨r.val, by omega⟩ k := by
  unfold prodLo
  rw [prod_at, ld_all1, ld_all1, ld_all1, ld_all3]
  unfold pRow
  have e : (fun j => x0 (ix2 (⟨r.val, by omega⟩ : Fin 512) j)) = fun j => (View.ld x0 r0_0 : Vec Ideal S256x1024 .f32) (ix2 r j) :=
    funext fun j => (ld_lo x0 r j).symm
  rw [e]
/-- The second 256 rows. -/
theorem hi_at (r : Fin 256) (k : Fin 3072) : prodHi x0 x1 x2 x3 x4 (ix2 r k) = pRow x0 x1 x2 x3 x4 ⟨256 + r.val, by omega⟩ k := by
  unfold prodHi
  rw [prod_at, ld_all1, ld_all1, ld_all1, ld_all3]
  unfold pRow
  have e : (fun j => x0 (ix2 (⟨256 + r.val, by omega⟩ : Fin 512) j)) = fun j => (View.ld x0 r0_2 : Vec Ideal S256x1024 .f32) (ix2 r j) :=
    funext fun j => (ld_hi x0 r j).symm
  rw [e]

/-- What a grid point leaves in its first output block: the first 1024 columns of its rows' projections. -/
theorem out7_at (R : Fin 512) (j : Fin 1024) : out0_7 x0 x1 x2 x3 x4 x5 x6 (ix2 R j) = pRow x0 x1 x2 x3 x4 R ⟨j.val, by omega⟩ := by
  unfold out0_7
  refine View.canon_apply_of_pieces (Val := Elt Ideal) (e := .f32) (fun y : S512x1024.Idx => pRow x0 x1 x2 x3 x4 (y 0) ⟨(y 1).val, by have h : (y 1).val < 1024 := (y 1).isLt; omega⟩)
    _ (fun p hp y => ?_) _ (cover0_7 _ _ _)
  rcases List.mem_cons.mp hp with rfl | hp
  · refine Eq.trans (b := k0_pay19 (F := Ideal) (prodHi x0 x1 x2 x3 x4) (ix2 (n0 := 256) (n1 := 1024) (y 0) (y 1))) (congrArg _ (eq_ix2 y))
      ((xz_at _ (y 0) (y 1)).trans ((hi_at x0 x1 x2 x3 x4 (y 0) _).trans ?_))
    exact congrArg₂ (pRow x0 x1 x2 x3 x4) (Fin.ext (show 256 + (y 0).val = 256 + 1 * (y 0).val from by omega))
      (Fin.ext (show (y 1).val = 0 + 1 * (y 1).val from by omega))
  rcases List.mem_cons.mp hp with rfl | hp
  · refine Eq.trans (b := k0_pay19 (F := Ideal) (prodLo x0 x1 x2 x3 x4) (ix2 (n0 := 256) (n1 := 1024) (y 0) (y 1))) (congrArg _ (eq_ix2 y))
      ((xz_at _ (y 0) (y 1)).trans ((lo_at x0 x1 x2 x3 x4 (y 0) _).trans ?_))
    exact congrArg₂ (pRow x0 x1 x2 x3 x4) (Fin.ext (show (y 0).val = 0 + 1 * (y 0).val from by omega))
      (Fin.ext (show (y 1).val = 0 + 1 * (y 1).val from by omega))
  exact absurd hp (List.not_mem_nil)

/-- What it leaves in its third output block. -/
theorem out9_at (R j : Fin 512) : out0_9 x0 x1 x2 x3 x4 x5 x6 (ix2 R j) = pRow x0 x1 x2 x3 x4 R ⟨2048 + j.val, by omega⟩ := by
  unfold out0_9
  refine View.canon_apply_of_pieces (Val := Elt Ideal) (e := .bf16) (fun y : S512x512.Idx => pRow x0 x1 x2 x3 x4 (y 0) ⟨2048 + (y 1).val, by have h : (y 1).val < 512 := (y 1).isLt; omega⟩)
    _ (fun p hp y => ?_) _ (cover0_9 _ _ _)
  rcases List.mem_cons.mp hp with rfl | hp
  · refine Eq.trans (b := k0_pay3 (F := Ideal) (prodHi x0 x1 x2 x3 x4) (ix2 (n0 := 256) (n1 := 512) (y 0) (y 1))) (congrArg _ (eq_ix2 y))
      ((values_at _ (y 0) (y 1)).trans ((hi_at x0 x1 x2 x3 x4 (y 0) _).trans ?_))
    exact congrArg₂ (pRow x0 x1 x2 x3 x4) (Fin.ext (show 256 + (y 0).val = 256 + 1 * (y 0).val from by omega))
      (Fin.ext (show 2048 + (y 1).val = 2048 + (0 + 1 * (y 1).val) from by omega))
  rcases List.mem_cons.mp hp with rfl | hp
  · refine Eq.trans (b := k0_pay3 (F := Ideal) (prodLo x0 x1 x2 x3 x4) (ix2 (n0 := 256) (n1 := 512) (y 0) (y 1))) (congrArg _ (eq_ix2 y))
      ((values_at _ (y 0) (y 1)).trans ((lo_at x0 x1 x2 x3 x4 (y 0) _).trans ?_))
    exact congrArg₂ (pRow x0 x1 x2 x3 x4) (Fin.ext (show (y 0).val = 0 + 1 * (y 0).val from by omega))
      (Fin.ext (show 2048 + (y 1).val = 2048 + (0 + 1 * (y 1).val) from by omega))
  exact absurd hp (List.not_mem_nil)

/-- What it leaves in its fourth output block. -/
theorem out10_at (R j : Fin 512) : out0_10 x0 x1 x2 x3 x4 x5 x6 (ix2 R j) = pRow x0 x1 x2 x3 x4 R ⟨2560 + j.val, by omega⟩ := by
  unfold out0_10
  refine View.canon_apply_of_pieces (Val := Elt Ideal) (e := .f32) (fun y : S512x512.Idx => pRow x0 x1 x2 x3 x4 (y 0) ⟨2560 + (y 1).val, by have h : (y 1).val < 512 := (y 1).isLt; omega⟩)
    _ (fun p hp y => ?_) _ (cover0_10 _ _ _)
  rcases List.mem_cons.mp hp with rfl | hp
  · refine Eq.trans (b := k0_pay4 (F := Ideal) (prodHi x0 x1 x2 x3 x4) (ix2 (n0 := 256) (n1 := 512) (y 0) (y 1))) (congrArg _ (eq_ix2 y))
      ((gates_at _ (y 0) (y 1)).trans ((hi_at x0 x1 x2 x3 x4 (y 0) _).trans ?_))
    exact congrArg₂ (pRow x0 x1 x2 x3 x4) (Fin.ext (show 256 + (y 0).val = 256 + 1 * (y 0).val from by omega))
      (Fin.ext (show 2560 + (y 1).val = 2560 + (0 + 1 * (y 1).val) from by omega))
  rcases List.mem_cons.mp hp with rfl | hp
  · refine Eq.trans (b := k0_pay4 (F := Ideal) (prodLo x0 x1 x2 x3 x4) (ix2 (n0 := 256) (n1 := 512) (y 0) (y 1))) (congrArg _ (eq_ix2 y))
      ((gates_at _ (y 0) (y 1)).trans ((lo_at x0 x1 x2 x3 x4 (y 0) _).trans ?_))
    exact congrArg₂ (pRow x0 x1 x2 x3 x4) (Fin.ext (show (y 0).val = 0 + 1 * (y 0).val from by omega))
      (Fin.ext (show 2560 + (y 1).val = 2560 + (0 + 1 * (y 1).val) from by omega))
  exact absurd hp (List.not_mem_nil)

/-- A row of the first half, and one of the second, among a block's rows. -/
def rowLo (r : Fin 256) : Fin 512 := ⟨r.val, by omega⟩
def rowHi (r : Fin 256) : Fin 512 := ⟨256 + r.val, by omega⟩

/-- What it leaves in its second output block: the rotated queries with their factor, and the rotated keys. -/
theorem out8_at (hc : ∀ R (d : Fin 128), x5 (ix2 R d) = cs R ⟨d.val % 64, by omega⟩) (hs : ∀ R (d : Fin 128), x6 (ix2 R d) = sn R ⟨d.val % 64, by omega⟩)
    (R : Fin 512) (j : Fin 1024) : out0_8 x0 x1 x2 x3 x4 x5 x6 (ix2 R j) = keyRow (pRow x0 x1 x2 x3 x4 R) (cs R) (sn R) j := by
  unfold out0_8
  refine View.canon_apply_of_pieces (Val := Elt Ideal) (e := .bf16) (fun y : S512x1024.Idx => keyRow (pRow x0 x1 x2 x3 x4 (y 0)) (cs (y 0)) (sn (y 0)) (y 1))
    _ (fun p hp y => ?_) _ (cover0_8 _ _ _ _ _)
  rcases List.mem_cons.mp hp with rfl | hp
  · refine Eq.trans (b := kV (View.ld x0 r0_2) (View.ld x1 r0_1) (View.ld x3 r0_1) (View.ld x2 r0_1) (View.ld x4 r0_3) (View.ld x5 r0_8) (View.ld x6 r0_8)
        (ix2 (n0 := 256) (n1 := 512) (y 0) (y 1))) (congrArg _ (eq_ix2 y)) ((kV_at _ _ _ _ _ _ _ (y 0) (cs (rowHi (y 0))) (sn (rowHi (y 0)))
          (fun d => (ld_hit x5 (y 0) d).trans (hc _ d)) (fun d => (ld_hit x6 (y 0) d).trans (hs _ d)) (y 1)).trans ?_)
    refine (congrArg (fun p => keyRow p (cs (rowHi (y 0))) (sn (rowHi (y 0))) _) (funext (hi_at x0 x1 x2 x3 x4 (y 0)))).trans ?_
    exact congrArg₂ (fun R => keyRow (pRow x0 x1 x2 x3 x4 R) (cs R) (sn R)) (Fin.ext (show 256 + (y 0).val = 256 + 1 * (y 0).val from by omega))
      (Fin.ext (show 512 + (y 1).val = 512 + 1 * (y 1).val from by omega))
  rcases List.mem_cons.mp hp with rfl | hp
  · refine Eq.trans (b := qV (View.ld x0 r0_2) (View.ld x1 r0_1) (View.ld x3 r0_1) (View.ld x2 r0_1) (View.ld x4 r0_3) (View.ld x5 r0_8) (View.ld x6 r0_8)
        (ix2 (n0 := 256) (n1 := 512) (y 0) (y 1))) (congrArg _ (eq_ix2 y)) ((qV_at _ _ _ _ _ _ _ (y 0) (cs (rowHi (y 0))) (sn (rowHi (y 0)))
          (fun d => (ld_hit x5 (y 0) d).trans (hc _ d)) (fun d => (ld_hit x6 (y 0) d).trans (hs _ d)) (y 1)).trans ?_)
    refine (congrArg (fun p => keyRow p (cs (rowHi (y 0))) (sn (rowHi (y 0))) _) (funext (hi_at x0 x1 x2 x3 x4 (y 0)))).trans ?_
    exact congrArg₂ (fun R => keyRow (pRow x0 x1 x2 x3 x4 R) (cs R) (sn R)) (Fin.ext (show 256 + (y 0).val = 256 + 1 * (y 0).val from by omega))
      (Fin.ext (show (y 1).val = 0 + 1 * (y 1).val from by omega))
  rcases List.mem_cons.mp hp with rfl | hp
  · refine Eq.trans (b := kV (View.ld x0 r0_0) (View.ld x1 r0_1) (View.ld x3 r0_1) (View.ld x2 r0_1) (View.ld x4 r0_3) (View.ld x5 r0_4) (View.ld x6 r0_4)
        (ix2 (n0 := 256) (n1 := 512) (y 0) (y 1))) (congrArg _ (eq_ix2 y)) ((kV_at _ _ _ _ _ _ _ (y 0) (cs (rowLo (y 0))) (sn (rowLo (y 0)))
          (fun d => (ld_lot x5 (y 0) d).trans (hc _ d)) (fun d => (ld_lot x6 (y 0) d).trans (hs _ d)) (y 1)).trans ?_)
    refine (congrArg (fun p => keyRow p (cs (rowLo (y 0))) (sn (rowLo (y 0))) _) (funext (lo_at x0 x1 x2 x3 x4 (y 0)))).trans ?_
    exact congrArg₂ (fun R => keyRow (pRow x0 x1 x2 x3 x4 R) (cs R) (sn R)) (Fin.ext (show (y 0).val = 0 + 1 * (y 0).val from by omega))
      (Fin.ext (show 512 + (y 1).val = 512 + 1 * (y 1).val from by omega))
  rcases List.mem_cons.mp hp with rfl | hp
  · refine Eq.trans (b := qV (View.ld x0 r0_0) (View.ld x1 r0_1) (View.ld x3 r0_1) (View.ld x2 r0_1) (View.ld x4 r0_3) (View.ld x5 r0_4) (View.ld x6 r0_4)
        (ix2 (n0 := 256) (n1 := 512) (y 0) (y 1))) (congrArg _ (eq_ix2 y)) ((qV_at _ _ _ _ _ _ _ (y 0) (cs (rowLo (y 0))) (sn (rowLo (y 0)))
          (fun d => (ld_lot x5 (y 0) d).trans (hc _ d)) (fun d => (ld_lot x6 (y 0) d).trans (hs _ d)) (y 1)).trans ?_)
    refine (congrArg (fun p => keyRow p (cs (rowLo (y 0))) (sn (rowLo (y 0))) _) (funext (lo_at x0 x1 x2 x3 x4 (y 0)))).trans ?_
    exact congrArg₂ (fun R => keyRow (pRow x0 x1 x2 x3 x4 R) (cs R) (sn R)) (Fin.ext (show (y 0).val = 0 + 1 * (y 0).val from by omega))
      (Fin.ext (show (y 1).val = 0 + 1 * (y 1).val from by omega))
  exact absurd hp (List.not_mem_nil)

end Block

end Cert.Kernel4Ideal.InProj

end
-- ==== Proof.InHost.lean ====
/- The arrays that the last layer's input projection is launched on, and its result arrays, from the call's arguments. -/
module

public import proofs.«01_k».proof.Proof.InBlock
public import proofs.«01_k».proof.Proof.Gen.Kernel4Ideal.Value
public import Idealize.ShloMosaic.Lib.Pipeline.ValueKit.Point
public import Idealize.ShloMosaic.Lib.Claim

@[expose] public section

set_option maxRecDepth 16384

noncomputable section

namespace Cert.Kernel4Ideal.InProj

open Cert.Kernel4Ideal Cert.Kernel4Ideal.Gen Idealize.ShloMosaic Idealize.ShloMosaic.TcCoe Cert.OutRow Cert.InRow
open Idealize.ShloMosaic.Pipeline (Dat)

variable (m : (ℓ : Loc nD τ sig) → Buf (Elt Ideal) ℓ) (c : Dev nD)

/-- The call's arguments. -/
abbrev a0 : FVec Ideal S8x4096x1024 .f32 := m (c, Proc.tc.devRef main_arg0)
abbrev a1 : FVec Ideal S2x16x6144 .f32 := m (c, Proc.tc.devRef main_arg1)
abbrev a2 : FVec Ideal S2x4x1024 .f32 := m (c, Proc.tc.devRef main_arg2)
abbrev a3 : FVec Ideal S1x1024x3072 .f32 := m (c, Proc.tc.devRef main_arg3)

/-- The batch and the position of a row of the flattened sequences. -/
abbrev bRow (R : Fin 32768) : Fin 8 := ⟨R.val / 4096, by omega⟩
abbrev lRow (R : Fin 32768) : Fin 4096 := ⟨R.val % 4096, by omega⟩

/-- A launch's array at an index, from the arguments. -/
theorem h_lat (R : Fin 32768) (j : Fin 1024) : V m c main_v44 (ix2 R j) = a0 m c (ix3 (bRow R) (lRow R) j) := by
  entry_read
  pointwise
/-- A launch's array at an index, from the arguments. -/
theorem h_mod (l : Fin 2) (b : Fin 16) (j : Fin 6144) : V m c main_v0 (ix4 l b 0 j) = a1 m c (ix3 l b j) := by
  entry_read
  pointwise
/-- A launch's array at an index, from the arguments. -/
theorem h_g (l : Fin 2) (b : Fin 4) (j : Fin 1024) : V m c main_v1 (ix4 l b 0 j) = a2 m c (ix3 l b j) := by
  entry_read
  pointwise
/-- A launch's array at an index, from the arguments. -/
theorem h_w (i : Fin 1024) (k : Fin 3072) : V m c main_v46 (ix2 i k) = a3 m c (ix3 0 i k) := by
  entry_read
  pointwise

/-! ## The tables of the rotation -/

/-- The angles of the two axes, by position. -/
def angR (l : Fin 4096) (d : Fin 16) : EReal := (V m c main_v21 : FVec Ideal S4096x16 .f32) (ix2 l d)
def angC (l : Fin 4096) (d : Fin 16) : EReal := (V m c main_v27 : FVec Ideal S4096x16 .f32) (ix2 l d)

/-- Four tables of sixteen columns side by side, twice. -/
def table (p q r s : FVec Ideal S4096x16 .f32) : FVec Ideal S4096x128 .f32 :=
  shapeCast S4096x128 (broadcastInDim S1x4096x2x64 ![0, 1, 2, 3] bcast_S1x4096x1x64_S1x4096x2x64_0_1_2_3
    (shapeCast S1x4096x1x64 (concatenate S4096x64 1 [⟨S4096x16, p⟩, ⟨S4096x16, q⟩, ⟨S4096x16, r⟩, ⟨S4096x16, s⟩] concatenates_S4096x16_S4096x16_S4096x16_S4096x16_S4096x64_d1)
      shapeCasts_S4096x64_S1x4096x1x64)) shapeCasts_S1x4096x2x64_S4096x128

/-- Such a table at an index. -/
theorem table_at (p q r s : FVec Ideal S4096x16 .f32) (l : Fin 4096) (d : Fin 128) : table p q r s (ix2 l d) =
    (if d.val % 64 < 16 then p (ix2 l ⟨d.val % 64 % 16, by omega⟩) else if d.val % 64 < 32 then q (ix2 l ⟨d.val % 64 % 16, by omega⟩)
      else if d.val % 64 < 48 then r (ix2 l ⟨d.val % 64 % 16, by omega⟩) else s (ix2 l ⟨d.val % 64 % 16, by omega⟩) : EReal) := by
  pointwise [table]
  have e : ∀ (u : FVec Ideal S4096x16 .f32) (a b : ℕ) (ha : a < 16) (hb : b < 16), a = b → (u (ix2 l ⟨a, ha⟩) : EReal) = u (ix2 l ⟨b, hb⟩) :=
    fun u a b _ _ h => by subst h; rfl
  by_cases h1 : d.val % 64 < 16
  · rw [dif_pos h1, if_pos h1]
    exact e _ _ _ _ _ (by omega)
  by_cases h2 : d.val % 64 < 32
  · rw [dif_neg h1, dif_pos (by omega), if_neg h1, if_pos h2]
    exact e _ _ _ _ _ (by omega)
  by_cases h3 : d.val % 64 < 48
  · rw [dif_neg h1, dif_neg (by omega), dif_pos (by omega), if_neg h1, if_neg h2, if_pos h3]
    exact e _ _ _ _ _ (by omega)
  · rw [dif_neg h1, dif_neg (by omega), dif_neg (by omega), if_neg h1, if_neg h2, if_neg h3]
    exact e _ _ _ _ _ (by omega)

/-- The launch's arrays, the host's operations taken in two parts: the angles of the two axes, and the tables from them. -/
theorem V_line (b : Ref sig .tc) : V m c b = StableHlo.after (List.drop 32 hostOps0) (StableHlo.after (List.take 32 hostOps0) fun b => m (c, b)) b := by
  rw [← StableHlo.after_append, List.take_append_drop]

/-- The second part leaves the angles as they are. -/
theorem tail_row (σ : Valuation τ sig (Elt Ideal)) :
    StableHlo.after (List.drop 32 hostOps0) σ main_v21 = σ (Proc.tc.devRef main_v21) := rfl
theorem tail_col (σ : Valuation τ sig (Elt Ideal)) :
    StableHlo.after (List.drop 32 hostOps0) σ main_v27 = σ (Proc.tc.devRef main_v27) := rfl
/-- The tables that it leaves. -/
theorem tail_cos (σ : Valuation τ sig (Elt Ideal)) :
    StableHlo.after (List.drop 32 hostOps0) σ main_v40 = table (Host.cos (σ (Proc.tc.devRef main_v21))) (Host.cos (σ (Proc.tc.devRef main_v21)))
      (Host.cos (σ (Proc.tc.devRef main_v27))) (Host.cos (σ (Proc.tc.devRef main_v27))) := rfl
theorem tail_sin (σ : Valuation τ sig (Elt Ideal)) :
    StableHlo.after (List.drop 32 hostOps0) σ main_v43 = table (Host.negf (Host.sin (σ (Proc.tc.devRef main_v21)))) (Host.sin (σ (Proc.tc.devRef main_v21)))
      (Host.negf (Host.sin (σ (Proc.tc.devRef main_v27)))) (Host.sin (σ (Proc.tc.devRef main_v27))) := rfl

/-- The cosines. -/
theorem h_cos (l : Fin 4096) (d : Fin 128) : V m c main_v40 (ix2 l d) = cosOf (angR m c l) (angC m c l) ⟨d.val % 64, by omega⟩ := by
  unfold angR angC
  rw [V_line, V_line, V_line, tail_cos, tail_row, tail_col, table_at]
  unfold cosOf
  generalize StableHlo.after (List.take 32 hostOps0) (fun b => m (c, b)) = σ
  dsimp only
  by_cases h1 : d.val % 64 < 32
  · rw [if_pos h1]
    by_cases h2 : d.val % 64 < 16
    · rw [if_pos h2, if_pos h1]; rfl
    · rw [if_neg h2, if_pos h1]; rfl
  · by_cases h3 : d.val % 64 < 48
    · rw [if_neg (by omega), if_neg h1, if_pos h3, if_neg h1]; rfl
    · rw [if_neg (by omega), if_neg h1, if_neg h3, if_neg h1]; rfl

/-- The signed sines. -/
theorem h_sin (l : Fin 4096) (d : Fin 128) : V m c main_v43 (ix2 l d) = sinOf (angR m c l) (angC m c l) ⟨d.val % 64, by omega⟩ := by
  unfold angR angC
  rw [V_line, V_line, V_line, tail_sin, tail_row, tail_col, table_at]
  rfl

/-! ## The blocks of a grid point -/

/-- The batch of a grid point. -/
def bT (t : Fin cfg0.N) : Fin 8 := ⟨t.val / 8, by have : t.val < 64 := t.isLt; omega⟩

/-- The block of every window at a grid point. -/
theorem idx_all : ∀ t : Fin cfg0.N,
    win0_0.index t = ![t.val, 0] ∧ win0_1.index t = ![1, 0, 0, 0] ∧ win0_2.index t = ![1, (bT t).val, 0, 0] ∧
    win0_3.index t = ![1, (bT t).val, 0, 1] ∧ win0_4.index t = ![0, 0] ∧ win0_5.index t = ![t.val % 8, 0] ∧
    win0_6.index t = ![t.val % 8, 0] ∧ win0_7.index t = ![t.val, 0] ∧ win0_8.index t = ![t.val, 0] ∧
    win0_9.index t = ![t.val, 0] ∧ win0_10.index t = ![t.val, 0] := by
  decide +kernel

/-- The row of the flattened sequences at row `R` of a grid point's block. -/
def rowT (t : Fin cfg0.N) (R : Fin 512) : Fin 32768 := ⟨t.val * 512 + R.val, by have : t.val < 64 := t.isLt; omega⟩

/-- A grid point's rows lie in its batch. -/
theorem bRow_rowT (t : Fin cfg0.N) (R : Fin 512) : bRow (rowT t R) = bT t :=
  Fin.ext (by show (t.val * 512 + R.val) / 4096 = t.val / 8; omega)

/-- Window 0's block at an index, from the arguments. -/
theorem b0 (t : Fin cfg0.N) (R : Fin 512) (j : Fin 1024) : iblk m c 0 t (ix2 R j) = a0 m c (ix3 (bRow (rowT t R)) (lRow (rowT t R)) j) := by
  have h := idx_all t
  have ht : t.val < 64 := t.isLt
  have e : iblk m c 0 t (ix2 R j) = V m c main_v44 (ix2 (rowT t R) j) := by
    blk_ext [iblk, h, rowT]
  rw [e, h_lat]
/-- Window 1's block at an index, from the arguments. -/
theorem b1 (t : Fin cfg0.N) (j : Fin 1024) : iblk m c 1 t (ix4 0 0 0 j) = a2 m c (ix3 1 0 j) := by
  have h := idx_all t
  have e : iblk m c 1 t (ix4 0 0 0 j) = V m c main_v1 (ix4 1 0 0 j) := by
    blk_ext [iblk, h]
  rw [e, h_g]
/-- Window 2's block at an index, from the arguments. -/
theorem b2 (t : Fin cfg0.N) (j : Fin 1024) : iblk m c 2 t (ix4 0 0 0 j) = a1 m c (ix3 1 ⟨(bT t).val, by omega⟩ ⟨j.val, by omega⟩) := by
  have h := idx_all t
  have e : iblk m c 2 t (ix4 0 0 0 j) = V m c main_v0 (ix4 1 ⟨(bT t).val, by omega⟩ 0 ⟨j.val, by omega⟩) := by
    blk_ext [iblk, h]
  rw [e, h_mod]
/-- Window 3's block at an index, from the arguments. -/
theorem b3 (t : Fin cfg0.N) (j : Fin 1024) : iblk m c 3 t (ix4 0 0 0 j) = a1 m c (ix3 1 ⟨(bT t).val, by omega⟩ ⟨1024 + j.val, by omega⟩) := by
  have h := idx_all t
  have e : iblk m c 3 t (ix4 0 0 0 j) = V m c main_v0 (ix4 1 ⟨(bT t).val, by omega⟩ 0 ⟨1024 + j.val, by omega⟩) := by
    blk_ext [iblk, h]
  rw [e, h_mod]
/-- Window 4's block at an index, from the arguments. -/
theorem b4 (t : Fin cfg0.N) (i : Fin 1024) (k : Fin 3072) : iblk m c 4 t (ix2 i k) = a3 m c (ix3 0 i k) := by
  have h := idx_all t
  have e : iblk m c 4 t (ix2 i k) = V m c main_v46 (ix2 i k) := by
    blk_ext [iblk, h]
  rw [e, h_w]
/-- Window 5's block at an index, from the arguments. -/
theorem b5 (t : Fin cfg0.N) (R : Fin 512) (d : Fin 128) : iblk m c 5 t (ix2 R d) = cosOf (angR m c (lRow (rowT t R))) (angC m c (lRow (rowT t R))) ⟨d.val % 64, by omega⟩ := by
  have h := idx_all t
  have ht : t.val < 64 := t.isLt
  have e : iblk m c 5 t (ix2 R d) = V m c main_v40 (ix2 (lRow (rowT t R)) d) := by
    blk_ext [iblk, h, rowT]
  rw [e, h_cos]
/-- Window 6's block at an index, from the arguments. -/
theorem b6 (t : Fin cfg0.N) (R : Fin 512) (d : Fin 128) : iblk m c 6 t (ix2 R d) = sinOf (angR m c (lRow (rowT t R))) (angC m c (lRow (rowT t R))) ⟨d.val % 64, by omega⟩ := by
  have h := idx_all t
  have ht : t.val < 64 := t.isLt
  have e : iblk m c 6 t (ix2 R d) = V m c main_v43 (ix2 (lRow (rowT t R)) d) := by
    blk_ext [iblk, h, rowT]
  rw [e, h_sin]

/-! ## The result arrays -/

/-- The layer's projection of row `l` of batch `b`: the row's norm, modulated, through the weights. -/
def projAt (a0 : FVec Ideal S8x4096x1024 .f32) (a1 : FVec Ideal S2x16x6144 .f32) (a2 : FVec Ideal S2x4x1024 .f32) (a3 : FVec Ideal S1x1024x3072 .f32)
    (b : Fin 8) (l : Fin 4096) : Fin 3072 → EReal :=
  projRow (modulated (fun j => a0 (ix3 b l j)) (fun j => a2 (ix3 1 0 j)) (fun j => a1 (ix3 1 ⟨b.val, by omega⟩ ⟨1024 + j.val, by omega⟩))
    (fun j => a1 (ix3 1 ⟨b.val, by omega⟩ ⟨j.val, by omega⟩))) (fun i k => a3 (ix3 0 i k))

/-- The projection of row `R` of the flattened sequences, from the launch's arguments. -/
def outRow (R : Fin 32768) : Fin 3072 → EReal := projAt (a0 m c) (a1 m c) (a2 m c) (a3 m c) (bRow R) (lRow R)

/-- A grid point's projection of row `R` of its block. -/
theorem pRow_eq (t : Fin cfg0.N) (R : Fin 512) :
    pRow (iblk m c 0 t) (iblk m c 1 t) (iblk m c 2 t) (iblk m c 3 t) (iblk m c 4 t) R = outRow m c (rowT t R) := by
  unfold pRow outRow projAt
  rw [funext (b0 m c t R), funext (b1 m c t), funext (b2 m c t), funext (b3 m c t), funext fun i => funext (b4 m c t i), bRow_rowT]

/-- The rotated queries and keys of row `R`. -/
def qkRow (R : Fin 32768) : Fin 1024 → EReal :=
  keyRow (outRow m c R) (cosOf (angR m c (lRow R)) (angC m c (lRow R))) (sinOf (angR m c (lRow R)) (angC m c (lRow R)))

/-- The columns of the projection that result array 7 holds. -/
def xzRow (R : Fin 32768) (j : Fin 1024) : EReal := outRow m c R ⟨j.val, by omega⟩
/-- What a grid point computes of them. -/
theorem point7 (t : Fin cfg0.N) (R : Fin 512) (j : Fin 1024) : out0_7 (iblk m c 0 t) (iblk m c 1 t) (iblk m c 2 t) (iblk m c 3 t) (iblk m c 4 t) (iblk m c 5 t) (iblk m c 6 t) (ix2 R j) = xzRow m c (rowT t R) j :=
  (out7_at _ _ _ _ _ _ _ R j).trans (congrFun (pRow_eq m c t R) _)
/-- Result array 7 after the run. -/
theorem result7 : (dats m 0 c).arrAt 7 cfg0.N = fun i : S32768x1024.Idx => xzRow m c (i 0) (i 1) := by
  refine (dats m 0 c).arrAt_eq_of_covers 7 _ (by decide +kernel) fun t hf y => ?_
  refine Eq.trans (b := (dats m 0 c).flushed 7 t y) rfl ?_
  refine (congrFun (Value.flushed7 m c t) y).trans ?_
  have h := idx_all t
  have e0 : (((cfg0.win 7).blk t).view.emb y 0).val = t.val * 512 + (y 0).val := by
    blk_simp [h]
  have e1 : (((cfg0.win 7).blk t).view.emb y 1).val = (y 1).val := by
    blk_simp [h]
  have hg : ∀ g : Vec Ideal S512x1024 .f32, (cfg0.win 7).cut (grid0.coords t) g y = g (ix2 (y 0) (y 1)) :=
    fun g => congrArg g (eq_ix2 y)
  refine (hg _).trans ((point7 m c t (y 0) (y 1)).trans ?_)
  exact congrArg₂ (xzRow m c) (Fin.ext e0.symm) (Fin.ext e1.symm)

/-- The columns of the projection that result array 9 holds. -/
def vRow (R : Fin 32768) (j : Fin 512) : EReal := outRow m c R ⟨2048 + j.val, by omega⟩
/-- What a grid point computes of them. -/
theorem point9 (t : Fin cfg0.N) (R : Fin 512) (j : Fin 512) : out0_9 (iblk m c 0 t) (iblk m c 1 t) (iblk m c 2 t) (iblk m c 3 t) (iblk m c 4 t) (iblk m c 5 t) (iblk m c 6 t) (ix2 R j) = vRow m c (rowT t R) j :=
  (out9_at _ _ _ _ _ _ _ R j).trans (congrFun (pRow_eq m c t R) _)
/-- Result array 9 after the run. -/
theorem result9 : (dats m 0 c).arrAt 9 cfg0.N = fun i : S32768x512.Idx => vRow m c (i 0) (i 1) := by
  refine (dats m 0 c).arrAt_eq_of_covers 9 _ (by decide +kernel) fun t hf y => ?_
  refine Eq.trans (b := (dats m 0 c).flushed 9 t y) rfl ?_
  refine (congrFun (Value.flushed9 m c t) y).trans ?_
  have h := idx_all t
  have e0 : (((cfg0.win 9).blk t).view.emb y 0).val = t.val * 512 + (y 0).val := by
    blk_simp [h]
  have e1 : (((cfg0.win 9).blk t).view.emb y 1).val = (y 1).val := by
    blk_simp [h]
  have hg : ∀ g : Vec Ideal S512x512 .bf16, (cfg0.win 9).cut (grid0.coords t) g y = g (ix2 (y 0) (y 1)) :=
    fun g => congrArg g (eq_ix2 y)
  refine (hg _).trans ((point9 m c t (y 0) (y 1)).trans ?_)
  exact congrArg₂ (vRow m c) (Fin.ext e0.symm) (Fin.ext e1.symm)

/-- The columns of the projection that result array 10 holds. -/
def gRow (R : Fin 32768) (j : Fin 512) : EReal := outRow m c R ⟨2560 + j.val, by omega⟩
/-- What a grid point computes of them. -/
theorem point10 (t : Fin cfg0.N) (R : Fin 512) (j : Fin 512) : out0_10 (iblk m c 0 t) (iblk m c 1 t) (iblk m c 2 t) (iblk m c 3 t) (iblk m c 4 t) (iblk m c 5 t) (iblk m c 6 t) (ix2 R j) = gRow m c (rowT t R) j :=
  (out10_at _ _ _ _ _ _ _ R j).trans (congrFun (pRow_eq m c t R) _)
/-- Result array 10 after the run. -/
theorem result10 : (dats m 0 c).arrAt 10 cfg0.N = fun i : S32768x512.Idx => gRow m c (i 0) (i 1) := by
  refine (dats m 0 c).arrAt_eq_of_covers 10 _ (by decide +kernel) fun t hf y => ?_
  refine Eq.trans (b := (dats m 0 c).flushed 10 t y) rfl ?_
  refine (congrFun (Value.flushed10 m c t) y).trans ?_
  have h := idx_all t
  have e0 : (((cfg0.win 10).blk t).view.emb y 0).val = t.val * 512 + (y 0).val := by
    blk_simp [h]
  have e1 : (((cfg0.win 10).blk t).view.emb y 1).val = (y 1).val := by
    blk_simp [h]
  have hg : ∀ g : Vec Ideal S512x512 .f32, (cfg0.win 10).cut (grid0.coords t) g y = g (ix2 (y 0) (y 1)) :=
    fun g => congrArg g (eq_ix2 y)
  refine (hg _).trans ((point10 m c t (y 0) (y 1)).trans ?_)
  exact congrArg₂ (gRow m c) (Fin.ext e0.symm) (Fin.ext e1.symm)

/-- What a grid point computes of the queries and keys. -/
theorem point8 (t : Fin cfg0.N) (R : Fin 512) (j : Fin 1024) : out0_8 (iblk m c 0 t) (iblk m c 1 t) (iblk m c 2 t) (iblk m c 3 t) (iblk m c 4 t) (iblk m c 5 t) (iblk m c 6 t) (ix2 R j) = qkRow m c (rowT t R) j := by
  refine (out8_at _ _ _ _ _ _ _ (fun R => cosOf (angR m c (lRow (rowT t R))) (angC m c (lRow (rowT t R))))
    (fun R => sinOf (angR m c (lRow (rowT t R))) (angC m c (lRow (rowT t R)))) (b5 m c t) (b6 m c t) R j).trans ?_
  rw [pRow_eq]
  rfl
/-- Result array 8 after the run. -/
theorem result8 : (dats m 0 c).arrAt 8 cfg0.N = fun i : S32768x1024.Idx => qkRow m c (i 0) (i 1) := by
  refine (dats m 0 c).arrAt_eq_of_covers 8 _ (by decide +kernel) fun t hf y => ?_
  refine Eq.trans (b := (dats m 0 c).flushed 8 t y) rfl ?_
  refine (congrFun (Value.flushed8 m c t) y).trans ?_
  have h := idx_all t
  have e0 : (((cfg0.win 8).blk t).view.emb y 0).val = t.val * 512 + (y 0).val := by
    blk_simp [h]
  have e1 : (((cfg0.win 8).blk t).view.emb y 1).val = (y 1).val := by
    blk_simp [h]
  have hg : ∀ g : Vec Ideal S512x1024 .bf16, (cfg0.win 8).cut (grid0.coords t) g y = g (ix2 (y 0) (y 1)) :=
    fun g => congrArg g (eq_ix2 y)
  refine (hg _).trans ((point8 m c t (y 0) (y 1)).trans ?_)
  exact congrArg₂ (qkRow m c) (Fin.ext e0.symm) (Fin.ext e1.symm)

end Cert.Kernel4Ideal.InProj

end
-- ==== Proof.InRef.lean ====
/- The reference's input projection of the last layer at an index. -/
module

public import proofs.«01_k».proof.Proof.InHost
public import proofs.«01_k».proof.Proof.Gen.Reference4Ideal.Run
public import proofs.«01_k».proof.Proof.Gen.Reference4Ideal.Read
public import proofs.«01_k».proof.Defs
public import Idealize.ShloMosaic.Lib.Pointwise
public import Idealize.ShloMosaic.Lib.Claim

@[expose] public section

set_option maxRecDepth 16384

noncomputable section

namespace Cert.Reference4Ideal.InProj

open Cert.Reference4Ideal Cert.Reference4Ideal.Gen Idealize.ShloMosaic Idealize.ShloMosaic.TcCoe Cert.Reference4Ideal.Read Cert.OutRow Cert.InRow

variable (x0 : FVec Ideal S8x4096x1024 .f32) (x1 : FVec Ideal S2x16x6144 .f32) (x2 : FVec Ideal S2x4x1024 .f32) (x3 : FVec Ideal S1x1024x3072 .f32)

/-! ## The product -/

/-- The modulation's shift, its scale, the norm's scale and the weights. -/
theorem shift_at (b : Fin 8) (l : Fin 4096) (j : Fin 1024) :
    val_main_v30 (F := Ideal) x1 (ix3 b l j) = (x1 (ix3 1 ⟨b.val, by omega⟩ ⟨j.val, by omega⟩) : EReal) := by
  pointwise [val_main_v30, val_main_v5, val_main_v4, val_main_v3, val_main_v2]
theorem scale_at (b : Fin 8) (l : Fin 4096) (j : Fin 1024) :
    val_main_v28 (F := Ideal) x1 (ix3 b l j) = (1 + x1 (ix3 1 ⟨b.val, by omega⟩ ⟨1024 + j.val, by omega⟩) : EReal) := by
  pointwise [val_main_v28, val_main_v27, val_main_v26, val_main_cst_2, val_main_v6, val_main_v4, val_main_v3, val_main_v2]
theorem g_at (b : Fin 8) (l : Fin 4096) (j : Fin 1024) : val_main_v24 (F := Ideal) x2 (ix3 b l j) = (x2 (ix3 1 0 j) : EReal) := by
  pointwise [val_main_v24, val_main_v23, val_main_v12, val_main_v11, val_main_v1, val_main_v0]
theorem w_at (i : Fin 1024) (k : Fin 3072) : val_main_v32 (F := Ideal) x3 (ix2 i k) = (x3 (ix3 0 i k) : EReal) := by
  pointwise [val_main_v32]

/-- The modulated row. -/
theorem mod_at (b : Fin 8) (l : Fin 4096) (j : Fin 1024) : val_main_v31 (F := Ideal) x0 x1 x2 (ix3 b l j) =
    modulated (fun j => x0 (ix3 b l j)) (fun j => x2 (ix3 1 0 j)) (fun j => x1 (ix3 1 ⟨b.val, by omega⟩ ⟨1024 + j.val, by omega⟩))
      (fun j => x1 (ix3 1 ⟨b.val, by omega⟩ ⟨j.val, by omega⟩)) j := by
  unfold modulated rowNorm
  dsimp only
  rw [← scale_at x1 b l j, ← shift_at x1 b l j, ← g_at x2 b l j]
  unfold val_main_v31 val_main_v29 val_main_v25
  generalize val_main_v28 (F := Ideal) x1 = p
  generalize val_main_v30 (F := Ideal) x1 = q
  generalize val_main_v24 (F := Ideal) x2 = r
  pointwise [val_main_v22, val_main_v21, val_main_v20, val_main_v19, val_main_v18, val_main_v17, val_main_v16, val_main_v15, val_main_v14,
    val_main_v13, val_main_cst, val_main_cst_0, val_main_cst_1, w1024, eps]

/-- The projected row. -/
theorem proj_at (b : Fin 8) (l : Fin 4096) (k : Fin 3072) :
    val_main_v33 (F := Ideal) x0 x1 x2 x3 (ix3 b l k) = Cert.Kernel4Ideal.InProj.projAt x0 x1 x2 x3 b l k := by
  unfold Cert.Kernel4Ideal.InProj.projAt projRow
  simp only [← mod_at, ← w_at]
  unfold val_main_v33
  generalize val_main_v31 (F := Ideal) x0 x1 x2 = y
  generalize val_main_v32 (F := Ideal) x3 = z
  pointwise

/-! ## The rotation -/

/-- The angles of the two axes. -/
def angR (l : Fin 4096) (d : Fin 16) : EReal := val_main_v59 (F := Ideal) (ix2 l d)
def angC (l : Fin 4096) (d : Fin 16) : EReal := val_main_v65 (F := Ideal) (ix2 l d)

/-- Two axes of two halves each, side by side. -/
theorem halves_eq (g : Fin 64 → EReal) (ar ac : Fin 16 → EReal) (d : Fin 64) :
    (if h : d.val < 32 then
      if h2 : d.val < 16 then g d * Ideal.cos (ar ⟨d.val, h2⟩) - g ⟨16 + d.val, by omega⟩ * Ideal.sin (ar ⟨d.val, h2⟩)
      else g ⟨d.val - 16, by omega⟩ * Ideal.sin (ar ⟨d.val - 16, by omega⟩) + g ⟨16 + (d.val - 16), by omega⟩ * Ideal.cos (ar ⟨d.val - 16, by omega⟩)
    else
      if h2 : d.val - 32 < 16 then g ⟨32 + (d.val - 32), by omega⟩ * Ideal.cos (ac ⟨d.val - 32, h2⟩) -
        g ⟨32 + (16 + (d.val - 32)), by omega⟩ * Ideal.sin (ac ⟨d.val - 32, h2⟩)
      else g ⟨32 + (d.val - 32 - 16), by omega⟩ * Ideal.sin (ac ⟨d.val - 32 - 16, by omega⟩) +
        g ⟨32 + (16 + (d.val - 32 - 16)), by omega⟩ * Ideal.cos (ac ⟨d.val - 32 - 16, by omega⟩)) = headRot g ar ac d := by
  have eg : ∀ (a b : ℕ) (ha : a < 64) (hb : b < 64), a = b → g ⟨a, ha⟩ = g ⟨b, hb⟩ := fun a b _ _ h => by subst h; rfl
  have ea : ∀ (a b : ℕ) (ha : a < 16) (hb : b < 16), a = b → ac ⟨a, ha⟩ = ac ⟨b, hb⟩ := fun a b _ _ h => by subst h; rfl
  have e0 : g d = g ⟨d.val, d.isLt⟩ := rfl
  unfold headRot
  by_cases h1 : d.val < 16
  · rw [dif_pos (by omega), dif_pos h1, dif_pos h1, eg (16 + d.val) (d.val + 16) _ _ (by omega)]
  by_cases h2 : d.val < 32
  · rw [dif_pos h2, dif_neg h1, dif_neg h1, dif_pos h2, eg (16 + (d.val - 16)) d.val _ _ (by omega)]
  by_cases h3 : d.val < 48
  · rw [dif_neg h2, dif_pos (by omega), dif_neg h1, dif_neg h2, dif_pos h3, eg (32 + (d.val - 32)) d.val _ _ (by omega),
      eg (32 + (16 + (d.val - 32))) (d.val + 16) _ _ (by omega)]
  · rw [dif_neg h2, dif_neg (by omega), dif_neg h1, dif_neg h2, dif_neg h3, eg (32 + (d.val - 32 - 16)) (d.val - 16) _ _ (by omega),
      eg (32 + (16 + (d.val - 32 - 16))) d.val _ _ (by omega), ea (d.val - 32 - 16) (d.val - 48) _ _ (by omega)]

/-- The queries by head. -/
theorem q_at (b h : Fin 8) (l : Fin 4096) (d : Fin 64) : val_main_v67 (F := Ideal) x0 x1 x2 x3 (ix4 b h l d) =
    val_main_v33 (F := Ideal) x0 x1 x2 x3 (ix3 b l ⟨1024 + (h.val * 64 + d.val), by omega⟩) := by
  unfold val_main_v67 val_main_v66 val_main_v36
  generalize val_main_v33 (F := Ideal) x0 x1 x2 x3 = y
  pointwise
/-- The rotated queries. -/
theorem qrot_at (b h : Fin 8) (l : Fin 4096) (d : Fin 64) : val_main_v110 (F := Ideal) x0 x1 x2 x3 (ix4 b h l d) =
    headRot (fun d => val_main_v67 (F := Ideal) x0 x1 x2 x3 (ix4 b h l d)) (angR l) (angC l) d := by
  unfold val_main_v110 val_main_v109 val_main_v108 val_main_v107 val_main_v104 val_main_v101 val_main_v100 val_main_v97 val_main_v92 val_main_v91 val_main_v90 val_main_v89 val_main_v88 val_main_v87 val_main_v84 val_main_v81 val_main_v80 val_main_v77 val_main_v72 val_main_v71 val_main_v70
  generalize val_main_v67 (F := Ideal) x0 x1 x2 x3 = y
  pointwise [val_main_v73, val_main_v74, val_main_v75, val_main_v76, val_main_v78, val_main_v79, val_main_v82, val_main_v83, val_main_v85, val_main_v86, val_main_v93, val_main_v94, val_main_v95, val_main_v96, val_main_v98, val_main_v99, val_main_v102, val_main_v103, val_main_v105, val_main_v106]
  exact halves_eq (fun d => y (ix4 b h l d)) (angR l) (angC l) d
/-- The keys by head. -/
theorem k_at (b h : Fin 8) (l : Fin 4096) (d : Fin 64) : val_main_v69 (F := Ideal) x0 x1 x2 x3 (ix4 b h l d) =
    val_main_v33 (F := Ideal) x0 x1 x2 x3 (ix3 b l ⟨1536 + (h.val * 64 + d.val), by omega⟩) := by
  unfold val_main_v69 val_main_v68 val_main_v37
  generalize val_main_v33 (F := Ideal) x0 x1 x2 x3 = y
  pointwise
/-- The rotated keys. -/
theorem krot_at (b h : Fin 8) (l : Fin 4096) (d : Fin 64) : val_main_v151 (F := Ideal) x0 x1 x2 x3 (ix4 b h l d) =
    headRot (fun d => val_main_v69 (F := Ideal) x0 x1 x2 x3 (ix4 b h l d)) (angR l) (angC l) d := by
  unfold val_main_v151 val_main_v150 val_main_v149 val_main_v148 val_main_v145 val_main_v142 val_main_v141 val_main_v138 val_main_v133 val_main_v132 val_main_v131 val_main_v130 val_main_v129 val_main_v128 val_main_v125 val_main_v122 val_main_v121 val_main_v118 val_main_v113 val_main_v112 val_main_v111
  generalize val_main_v69 (F := Ideal) x0 x1 x2 x3 = y
  pointwise [val_main_v114, val_main_v115, val_main_v116, val_main_v117, val_main_v119, val_main_v120, val_main_v123, val_main_v124, val_main_v126, val_main_v127, val_main_v134, val_main_v135, val_main_v136, val_main_v137, val_main_v139, val_main_v140, val_main_v143, val_main_v144, val_main_v146, val_main_v147]
  exact halves_eq (fun d => y (ix4 b h l d)) (angR l) (angC l) d

/-! ## The results -/

/-- The first result: the first 1024 columns of the projection. -/
theorem xz_at (R : Fin 32768) (j : Fin 1024) : val_main_v155 (F := Ideal) x0 x1 x2 x3 (ix2 R j) =
    val_main_v33 (F := Ideal) x0 x1 x2 x3 (ix3 ⟨R.val / 4096, by omega⟩ ⟨R.val % 4096, by omega⟩ ⟨j.val, by omega⟩) := by
  unfold val_main_v155 val_main_v154 val_main_v34 val_main_v35
  generalize val_main_v33 (F := Ideal) x0 x1 x2 x3 = y
  pointwise
  by_cases h : j.val < 512
  · rw [dif_pos h]
  · rw [dif_neg h]
    exact congrArg (fun k => y (ix3 _ _ k)) (Fin.ext (by show 512 + (j.val - 512) = j.val; omega))
/-- The third: the values. -/
theorem v_at (R : Fin 32768) (j : Fin 512) : val_main_v164 (F := Ideal) x0 x1 x2 x3 (ix2 R j) =
    val_main_v33 (F := Ideal) x0 x1 x2 x3 (ix3 ⟨R.val / 4096, by omega⟩ ⟨R.val % 4096, by omega⟩ ⟨2048 + j.val, by omega⟩) := by
  unfold val_main_v164 val_main_v163 val_main_v38
  generalize val_main_v33 (F := Ideal) x0 x1 x2 x3 = y
  pointwise
/-- The fourth: the gates. -/
theorem gate_at (R : Fin 32768) (j : Fin 512) : val_main_v165 (F := Ideal) x0 x1 x2 x3 (ix2 R j) =
    val_main_v33 (F := Ideal) x0 x1 x2 x3 (ix3 ⟨R.val / 4096, by omega⟩ ⟨R.val % 4096, by omega⟩ ⟨2560 + j.val, by omega⟩) := by
  unfold val_main_v165 val_main_v39
  generalize val_main_v33 (F := Ideal) x0 x1 x2 x3 = y
  pointwise
/-- The second, from the heads. -/
theorem qk_at (R : Fin 32768) (j : Fin 1024) : val_main_v162 (F := Ideal) x0 x1 x2 x3 (ix2 R j) =
    if h : j.val < 512 then val_main_v110 (F := Ideal) x0 x1 x2 x3
      (ix4 ⟨R.val / 4096, by omega⟩ ⟨j.val / 64, by omega⟩ ⟨R.val % 4096, by omega⟩ ⟨j.val % 64, by omega⟩) * eighth
    else val_main_v151 (F := Ideal) x0 x1 x2 x3
      (ix4 ⟨R.val / 4096, by omega⟩ ⟨(j.val - 512) / 64, by omega⟩ ⟨R.val % 4096, by omega⟩ ⟨(j.val - 512) % 64, by omega⟩) := by
  unfold val_main_v162 val_main_v161 val_main_v160 val_main_v159 val_main_v158 val_main_v157 val_main_v156 val_main_v153
  generalize val_main_v110 (F := Ideal) x0 x1 x2 x3 = y
  generalize val_main_v151 (F := Ideal) x0 x1 x2 x3 = z
  pointwise [val_main_v152, val_main_cst_7, eighth]

/-- The second result: the rotated queries with their factor, and the rotated keys. -/
theorem key_at (R : Fin 32768) (j : Fin 1024) : val_main_v162 (F := Ideal) x0 x1 x2 x3 (ix2 R j) =
    keyRow (Cert.Kernel4Ideal.InProj.projAt x0 x1 x2 x3 ⟨R.val / 4096, by omega⟩ ⟨R.val % 4096, by omega⟩)
      (cosOf (angR ⟨R.val % 4096, by omega⟩) (angC ⟨R.val % 4096, by omega⟩)) (sinOf (angR ⟨R.val % 4096, by omega⟩) (angC ⟨R.val % 4096, by omega⟩)) j := by
  rw [qk_at]
  unfold keyRow
  by_cases h : j.val < 512
  · rw [dif_pos h, dif_pos h, qrot_at, rot_head]
    simp only [q_at, proj_at]
  · rw [dif_neg h, dif_neg h, krot_at, rot_head]
    simp only [k_at, proj_at]

end Cert.Reference4Ideal.InProj

end
-- ==== Proof.InClaims.lean ====
/- The claims of the last layer's input projection: the frames, the preservation and the equation with the reference. -/
module

public import proofs.«01_k».proof.Proof.InRef
public import proofs.«01_k».proof.Proof.Gen.Kernel4
public import proofs.«01_k».proof.Proof.Gen.Kernel4Ideal
public import proofs.«01_k».proof.Proof.Gen.Reference4Ideal
public import Idealize.ShloMosaic.Adequacy
public import Idealize.ShloMosaic.Init

@[expose] public section

set_option maxRecDepth 16384

noncomputable section

namespace Cert.InClaims

open Idealize.ShloMosaic Idealize.ShloMosaic.TcCoe Idealize.SL.Sem Cert.InRow

set_option maxHeartbeats 4000000 in
/-- The kernel and its idealized text have one body. -/
theorem body_eq : Cert.Kernel4.defs₀ (F := Bits) = Cert.Kernel4Ideal.defs₀ (F := Bits) := by
  unfold Cert.Kernel4.defs₀ Cert.Kernel4Ideal.defs₀
  refine congrArg Defs.onTc (funext fun l => funext fun a => ?_)
  match l, a with
  | 0, (t, s) => exact rfl
  | ⟨_ + 1, h⟩, _ => exact absurd h (Nat.not_lt.2 (Nat.le_add_left _ _))

set_option maxHeartbeats 4000000 in
/-- And one table of bodies. -/
theorem defs_eq : Cert.Kernel4.defs (F := Bits) = Cert.Kernel4Ideal.defs (F := Bits) :=
  congrArg (Pipeline.defs Cert.Kernel4.pcfgs) body_eq

set_option maxHeartbeats 4000000 in
/-- The kernel runs, leaves its arguments unchanged and every semaphore at zero: its run is the idealized text's. -/
theorem frame_p : Cert.quiescent_Kernel4 := fun m ρ _ =>
  Eq.mpr (congrArg (fun d => (θ_run d (onTc (τ := Cert.Kernel4.τ) (Cert.Kernel4.main (F := Bits))) ⟨m, fun _ => 0, ρ⟩) _) defs_eq)
    (Cert.Kernel4Ideal.Gen.frame (F := Bits) m ρ)
/-- The same of the idealized kernel. -/
theorem frame_pi : Cert.quiescent_Kernel4Ideal := fun m ρ _ => Cert.Kernel4Ideal.Gen.frame m ρ
/-- The reference runs and leaves its arguments unchanged. -/
theorem frame_ri : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)
/-- The idealization rewrote nothing. -/
theorem preserves : Cert.preserves_Kernel4_Kernel4Ideal := trivial

/-! ## The angles -/

/-- The host's angles of the first axis are the reference's. -/
theorem head_row (σ : Valuation Cert.Kernel4Ideal.τ Cert.Kernel4Ideal.sig (Elt Ideal)) :
    StableHlo.after (List.take 32 Cert.Kernel4Ideal.Gen.hostOps0) σ Cert.Kernel4Ideal.main_v21 = Cert.Reference4Ideal.Read.val_main_v59 (F := Ideal) := rfl
/-- And those of the second. -/
theorem head_col (σ : Valuation Cert.Kernel4Ideal.τ Cert.Kernel4Ideal.sig (Elt Ideal)) :
    StableHlo.after (List.take 32 Cert.Kernel4Ideal.Gen.hostOps0) σ Cert.Kernel4Ideal.main_v27 = Cert.Reference4Ideal.Read.val_main_v65 (F := Ideal) := rfl

variable (m : (ℓ : Loc Cert.Kernel4Ideal.nD Cert.Kernel4Ideal.τ Cert.Kernel4Ideal.sig) → Buf (Elt Ideal) ℓ) (c : Dev Cert.Kernel4Ideal.nD)

/-- The angles of the first axis at the launch are the reference's. -/
theorem row_eq (l : Fin 4096) : Cert.Kernel4Ideal.InProj.angR m c l = Cert.Reference4Ideal.InProj.angR l := by
  funext d
  unfold Cert.Kernel4Ideal.InProj.angR Cert.Reference4Ideal.InProj.angR
  rw [Cert.Kernel4Ideal.InProj.V_line, Cert.Kernel4Ideal.InProj.tail_row]
  exact congrFun (head_row _) _
/-- And those of the second. -/
theorem col_eq (l : Fin 4096) : Cert.Kernel4Ideal.InProj.angC m c l = Cert.Reference4Ideal.InProj.angC l := by
  funext d
  unfold Cert.Kernel4Ideal.InProj.angC Cert.Reference4Ideal.InProj.angC
  rw [Cert.Kernel4Ideal.InProj.V_line, Cert.Kernel4Ideal.InProj.tail_col]
  exact congrFun (head_col _) _

/-! ## The equations of the four results -/

variable (x0 : FVec Ideal Cert.Kernel4Ideal.S8x4096x1024 .f32) (x1 : FVec Ideal Cert.Kernel4Ideal.S2x16x6144 .f32)
   (x2 : FVec Ideal Cert.Kernel4Ideal.S2x4x1024 .f32) (x3 : FVec Ideal Cert.Kernel4Ideal.S1x1024x3072 .f32)
  (h0 : x0 = Cert.Kernel4Ideal.InProj.a0 m c) (h1 : x1 = Cert.Kernel4Ideal.InProj.a1 m c)
  (h2 : x2 = Cert.Kernel4Ideal.InProj.a2 m c) (h3 : x3 = Cert.Kernel4Ideal.InProj.a3 m c)
include h0 h1 h2 h3

/-- The reference's first result is the first array of the launch. -/
theorem equal7 : Cert.Reference4Ideal.Read.val_main_v155 (F := Ideal) x0 x1 x2 x3 =
    (Cert.Kernel4Ideal.Gen.dats m 0 c).arrAt 7 Cert.Kernel4Ideal.cfg0.N := by
  subst h0 h1 h2 h3
  refine Eq.trans ?_ (Cert.Kernel4Ideal.InProj.result7 m c).symm
  funext i
  refine (congrArg _ (eq_ix2 (n0 := 32768) (n1 := 1024) i)).trans ?_
  refine (Cert.Reference4Ideal.InProj.xz_at _ _ _ _ (i 0) (i 1)).trans ?_
  exact Cert.Reference4Ideal.InProj.proj_at _ _ _ _ _ _ _
/-- The second, of the queries and keys. -/
theorem equal8 : Cert.Reference4Ideal.Read.val_main_v162 (F := Ideal) x0 x1 x2 x3 =
    (Cert.Kernel4Ideal.Gen.dats m 0 c).arrAt 8 Cert.Kernel4Ideal.cfg0.N := by
  subst h0 h1 h2 h3
  refine Eq.trans ?_ (Cert.Kernel4Ideal.InProj.result8 m c).symm
  funext i
  refine (congrArg _ (eq_ix2 (n0 := 32768) (n1 := 1024) i)).trans ?_
  refine (Cert.Reference4Ideal.InProj.key_at _ _ _ _ (i 0) (i 1)).trans ?_
  rw [← row_eq m c, ← col_eq m c]
  rfl
/-- The third, of the values. -/
theorem equal9 : Cert.Reference4Ideal.Read.val_main_v164 (F := Ideal) x0 x1 x2 x3 =
    (Cert.Kernel4Ideal.Gen.dats m 0 c).arrAt 9 Cert.Kernel4Ideal.cfg0.N := by
  subst h0 h1 h2 h3
  refine Eq.trans ?_ (Cert.Kernel4Ideal.InProj.result9 m c).symm
  funext i
  refine (congrArg _ (eq_ix2 (n0 := 32768) (n1 := 512) i)).trans ?_
  refine (Cert.Reference4Ideal.InProj.v_at _ _ _ _ (i 0) (i 1)).trans ?_
  exact Cert.Reference4Ideal.InProj.proj_at _ _ _ _ _ _ _
/-- The fourth, of the gates. -/
theorem equal10 : Cert.Reference4Ideal.Read.val_main_v165 (F := Ideal) x0 x1 x2 x3 =
    (Cert.Kernel4Ideal.Gen.dats m 0 c).arrAt 10 Cert.Kernel4Ideal.cfg0.N := by
  subst h0 h1 h2 h3
  refine Eq.trans ?_ (Cert.Kernel4Ideal.InProj.result10 m c).symm
  funext i
  refine (congrArg _ (eq_ix2 (n0 := 32768) (n1 := 512) i)).trans ?_
  refine (Cert.Reference4Ideal.InProj.gate_at _ _ _ _ (i 0) (i 1)).trans ?_
  exact Cert.Reference4Ideal.InProj.proj_at _ _ _ _ _ _ _

omit h0 h1 h2 h3 in
/-- The kernel and its reference end with the same four arrays of extended reals. -/
theorem algebraic : Cert.algebraic_Kernel4Ideal_Reference4Ideal := by
  intro m g m' g' _ hagree
  refine ⟨fun c => (Cert.Kernel4Ideal.Gen.dats m 0 c).arrAt 7 Cert.Kernel4Ideal.cfg0.N, fun c => (Cert.Kernel4Ideal.Gen.dats m 0 c).arrAt 8 Cert.Kernel4Ideal.cfg0.N,
    fun c => (Cert.Kernel4Ideal.Gen.dats m 0 c).arrAt 9 Cert.Kernel4Ideal.cfg0.N, fun c => (Cert.Kernel4Ideal.Gen.dats m 0 c).arrAt 10 Cert.Kernel4Ideal.cfg0.N,
    Cert.Kernel4Ideal.Value.run_blocks m g, ?_⟩
  refine (θ_run Cert.Reference4Ideal.defs _ _).mono (fun r h c => ⟨(h c).1.trans ?_, (h c).2.1.trans ?_, (h c).2.2.1.trans ?_, (h c).2.2.2.1.trans ?_, (h c).2.2.2.2⟩)
    (Cert.Reference4Ideal.Value.run (F := Ideal) m' g')
  all_goals obtain ⟨h0, h1, h2, h3⟩ := hagree c
  · exact (Cert.Reference4Ideal.Read.val_main_v155_eq _ _).trans (equal7 m c _ _ _ _ h0 h1 h2 h3)
  · exact (Cert.Reference4Ideal.Read.val_main_v162_eq _ _).trans (equal8 m c _ _ _ _ h0 h1 h2 h3)
  · exact (Cert.Reference4Ideal.Read.val_main_v164_eq _ _ _ _).trans (equal9 m c _ _ _ _ h0 h1 h2 h3)
  · exact (Cert.Reference4Ideal.Read.val_main_v165_eq _ _ _ _).trans (equal10 m c _ _ _ _ h0 h1 h2 h3)

end Cert.InClaims

end
-- ==== Proof.AbBlock.lean ====
/- What the first layer's input projection computes of one block of latent rows. -/
module

public import proofs.«01_k».proof.Proof.InRow
public import proofs.«01_k».proof.Proof.Gen.Kernel5Ideal.Frame
public import Idealize.ShloMosaic.Lib.KernelVsHost
public import Idealize.ShloMosaic.Lib.Pipeline.Value
public import Idealize.ShloMosaic.Lib.Pipeline.ValueKit.Tiles

@[expose] public section

set_option maxRecDepth 16384

noncomputable section

namespace Cert.Kernel5Ideal.AbProj

open Cert.Kernel5Ideal Cert.Kernel5Ideal.Gen Idealize.ShloMosaic Idealize.ShloMosaic.TcCoe Cert.OutRow Cert.InRow

variable (x : Vec Ideal S256x1024 .f32) (g scale shift : Vec Ideal S1x1x1x1024 .f32) (w : Vec Ideal S1024x2560 .bf16)

/-! ## The product -/

/-- A row through the projection, its weights' columns in the kernel's order. -/
def abRow (u : Fin 1024 → EReal) (w : Fin 1024 → Fin 2560 → EReal) (k : Fin 2560) : EReal := ∑ x, u x * w x k

/-- The projection of 256 rows. -/
def prod : FVec Ideal S256x2560 .f32 := k0_pay5 (k0_pay2 x g scale shift) w

/-- The modulated rows. -/
theorem mod_at (r : Fin 256) (j : Fin 1024) : k0_pay2 (F := Ideal) x g scale shift (ix2 r j) =
    modulated (fun j => x (ix2 r j)) (fun j => g (ix4 0 0 0 j)) (fun j => scale (ix4 0 0 0 j)) (fun j => shift (ix4 0 0 0 j)) j := by
  unfold modulated rowNorm eps w1024
  pointwise [k0_pay2]

/-- The product, row by row. -/
theorem prod_at (r : Fin 256) (k : Fin 2560) : prod x g scale shift w (ix2 r k) =
    abRow (modulated (fun j => x (ix2 r j)) (fun j => g (ix4 0 0 0 j)) (fun j => scale (ix4 0 0 0 j)) (fun j => shift (ix4 0 0 0 j)))
      (fun i k => w (ix2 i k)) k := by
  unfold abRow prod
  simp only [← mod_at]
  generalize k0_pay2 (F := Ideal) x g scale shift = u
  pointwise [k0_pay5]

/-! ## The column blocks of the product -/

/-- The queries and keys of the linear attention, its values and its gates, and the attention's values with rows and columns exchanged. -/
theorem qk_at (v : FVec Ideal S256x2560 .f32) (r : Fin 256) (j : Fin 512) : k0_pay11 (F := Ideal) v (ix2 r j) = v (ix2 r ⟨j.val, by omega⟩) := by
  pointwise [k0_pay11]
theorem values_at (v : FVec Ideal S256x2560 .f32) (r : Fin 256) (j : Fin 512) : k0_pay12 (F := Ideal) v (ix2 r j) = v (ix2 r ⟨512 + j.val, by omega⟩) := by
  pointwise [k0_pay12]
theorem gates_at (v : FVec Ideal S256x2560 .f32) (r : Fin 256) (j : Fin 512) : k0_pay13 (F := Ideal) v (ix2 r j) = v (ix2 r ⟨1024 + j.val, by omega⟩) := by
  pointwise [k0_pay13]
theorem vt_at (v : FVec Ideal S256x2560 .f32) (j : Fin 128) (r : Fin 256) : k0_pay37 (F := Ideal) v (ix3 0 j r) = v (ix2 r ⟨2432 + j.val, by omega⟩) := by
  pointwise [k0_pay37]

section Block

variable (x0 : Vec Ideal S512x1024 .f32) (x1 x2 x3 : Vec Ideal S1x1x1x1024 .f32) (x4 : Vec Ideal S1024x2560 .bf16)
  (x5 : Vec Ideal S128x512 .bf16) (x6 : Vec Ideal S1x512 .f32) (x7 : Vec Ideal S512x512 .bf16) (x8 : Vec Ideal S256x256 .bf16)
  (x9 : Vec Ideal S1x512 .f32) (x10 : Vec Ideal S1x256 .f32) (x11 x12 : Vec Ideal S512x128 .f32)

/-- The projection of row `R` of a block. -/
def pRow (R : Fin 512) : Fin 2560 → EReal :=
  abRow (modulated (fun j => x0 (ix2 R j)) (fun j => x1 (ix4 0 0 0 j)) (fun j => x3 (ix4 0 0 0 j)) (fun j => x2 (ix4 0 0 0 j)))
    (fun i k => x4 (ix2 i k))

/-- The loads of the first and the second 256 rows of a block, and of whole blocks. -/
theorem ld_lo (x : Vec Ideal S512x1024 .f32) (r : Fin 256) (k : Fin 1024) : (View.ld x r0_0 : Vec Ideal S256x1024 .f32) (ix2 (n0 := 256) (n1 := 1024) r k) = x (ix2 ⟨r.val, by omega⟩ k) := by
  refine View.ld_unit_apply_of _ _ _ _ _ _ fun a => ?_
  match a with
  | ⟨0, _⟩ => show r.val = 0 + r.val; omega
  | ⟨1, _⟩ => show k.val = 0 + k.val; omega
theorem ld_hi (x : Vec Ideal S512x1024 .f32) (r : Fin 256) (k : Fin 1024) : (View.ld x r0_2 : Vec Ideal S256x1024 .f32) (ix2 (n0 := 256) (n1 := 1024) r k) = x (ix2 ⟨256 + r.val, by omega⟩ k) := by
  refine View.ld_unit_apply_of _ _ _ _ _ _ fun a => ?_
  match a with
  | ⟨0, _⟩ => rfl
  | ⟨1, _⟩ => show k.val = 0 + k.val; omega
theorem ld_all1 (x : Vec Ideal S1x1x1x1024 .f32) : View.ld x r0_1 = x := View.ld_unit_zero (by funext a; fin_cases a <;> rfl) _ x
theorem ld_all3 (x : Vec Ideal S1024x2560 .bf16) : View.ld x r0_3 = x := View.ld_unit_zero (by funext a; fin_cases a <;> rfl) _ x

/-- The products of the first and the second 256 rows of a block. -/
def prodLo : FVec Ideal S256x2560 .f32 := prod (View.ld x0 r0_0) (View.ld x1 r0_1) (View.ld x3 r0_1) (View.ld x2 r0_1) (View.ld x4 r0_3)
def prodHi : FVec Ideal S256x2560 .f32 := prod (View.ld x0 r0_2) (View.ld x1 r0_1) (View.ld x3 r0_1) (View.ld x2 r0_1) (View.ld x4 r0_3)

/-- The first 256 rows. -/
theorem lo_at (r : Fin 256) (k : Fin 2560) : prodLo x0 x1 x2 x3 x4 (ix2 r k) = pRow x0 x1 x2 x3 x4 ⟨r.val, by omega⟩ k := by
  unfold prodLo
  rw [prod_at, ld_all1, ld_all1, ld_all1, ld_all3]
  unfold pRow
  have e : (fun j => x0 (ix2 (⟨r.val, by omega⟩ : Fin 512) j)) = fun j => (View.ld x0 r0_0 : Vec Ideal S256x1024 .f32) (ix2 r j) :=
    funext fun j => (ld_lo x0 r j).symm
  rw [e]
/-- The second 256 rows. -/
theorem hi_at (r : Fin 256) (k : Fin 2560) : prodHi x0 x1 x2 x3 x4 (ix2 r k) = pRow x0 x1 x2 x3 x4 ⟨256 + r.val, by omega⟩ k := by
  unfold prodHi
  rw [prod_at, ld_all1, ld_all1, ld_all1, ld_all3]
  unfold pRow
  have e : (fun j => x0 (ix2 (⟨256 + r.val, by omega⟩ : Fin 512) j)) = fun j => (View.ld x0 r0_2 : Vec Ideal S256x1024 .f32) (ix2 r j) :=
    funext fun j => (ld_hi x0 r j).symm
  rw [e]

/-- What a grid point leaves in output block 13: the linear attention's queries and keys. -/
theorem out13_at (R j : Fin 512) : out0_13 x0 x1 x2 x3 x4 x5 x6 x7 x8 x9 x10 x11 x12 (ix2 R j) = pRow x0 x1 x2 x3 x4 R ⟨j.val, by omega⟩ := by
  unfold out0_13
  refine View.canon_apply_of_pieces (Val := Elt Ideal) (e := .bf16) (fun y : S512x512.Idx => pRow x0 x1 x2 x3 x4 (y 0) ⟨(y 1).val, by have h : (y 1).val < 512 := (y 1).isLt; omega⟩)
    _ (fun p hp y => ?_) _ (cover0_13 _ _ _)
  rcases List.mem_cons.mp hp with rfl | hp
  · refine Eq.trans (b := k0_pay11 (F := Ideal) (prodHi x0 x1 x2 x3 x4) (ix2 (n0 := 256) (n1 := 512) (y 0) (y 1))) (congrArg _ (eq_ix2 y))
      ((qk_at _ (y 0) (y 1)).trans ((hi_at x0 x1 x2 x3 x4 (y 0) _).trans ?_))
    exact congrArg₂ (pRow x0 x1 x2 x3 x4) (Fin.ext (show 256 + (y 0).val = 256 + 1 * (y 0).val from by omega))
      (Fin.ext (show (y 1).val = 0 + 1 * (y 1).val from by omega))
  rcases List.mem_cons.mp hp with rfl | hp
  · refine Eq.trans (b := k0_pay11 (F := Ideal) (prodLo x0 x1 x2 x3 x4) (ix2 (n0 := 256) (n1 := 512) (y 0) (y 1))) (congrArg _ (eq_ix2 y))
      ((qk_at _ (y 0) (y 1)).trans ((lo_at x0 x1 x2 x3 x4 (y 0) _).trans ?_))
    exact congrArg₂ (pRow x0 x1 x2 x3 x4) (Fin.ext (show (y 0).val = 0 + 1 * (y 0).val from by omega))
      (Fin.ext (show (y 1).val = 0 + 1 * (y 1).val from by omega))
  exact absurd hp (List.not_mem_nil)

/-- What a grid point leaves in output block 15: its values. -/
theorem out15_at (R j : Fin 512) : out0_15 x0 x1 x2 x3 x4 x5 x6 x7 x8 x9 x10 x11 x12 (ix2 R j) = pRow x0 x1 x2 x3 x4 R ⟨512 + j.val, by omega⟩ := by
  unfold out0_15
  refine View.canon_apply_of_pieces (Val := Elt Ideal) (e := .bf16) (fun y : S512x512.Idx => pRow x0 x1 x2 x3 x4 (y 0) ⟨512 + (y 1).val, by have h : (y 1).val < 512 := (y 1).isLt; omega⟩)
    _ (fun p hp y => ?_) _ (cover0_15 _ _ _)
  rcases List.mem_cons.mp hp with rfl | hp
  · refine Eq.trans (b := k0_pay12 (F := Ideal) (prodHi x0 x1 x2 x3 x4) (ix2 (n0 := 256) (n1 := 512) (y 0) (y 1))) (congrArg _ (eq_ix2 y))
      ((values_at _ (y 0) (y 1)).trans ((hi_at x0 x1 x2 x3 x4 (y 0) _).trans ?_))
    exact congrArg₂ (pRow x0 x1 x2 x3 x4) (Fin.ext (show 256 + (y 0).val = 256 + 1 * (y 0).val from by omega))
      (Fin.ext (show 512 + (y 1).val = 512 + (0 + 1 * (y 1).val) from by omega))
  rcases List.mem_cons.mp hp with rfl | hp
  · refine Eq.trans (b := k0_pay12 (F := Ideal) (prodLo x0 x1 x2 x3 x4) (ix2 (n0 := 256) (n1 := 512) (y 0) (y 1))) (congrArg _ (eq_ix2 y))
      ((values_at _ (y 0) (y 1)).trans ((lo_at x0 x1 x2 x3 x4 (y 0) _).trans ?_))
    exact congrArg₂ (pRow x0 x1 x2 x3 x4) (Fin.ext (show (y 0).val = 0 + 1 * (y 0).val from by omega))
      (Fin.ext (show 512 + (y 1).val = 512 + (0 + 1 * (y 1).val) from by omega))
  exact absurd hp (List.not_mem_nil)

/-- What a grid point leaves in output block 16: its gates. -/
theorem out16_at (R j : Fin 512) : out0_16 x0 x1 x2 x3 x4 x5 x6 x7 x8 x9 x10 x11 x12 (ix2 R j) = pRow x0 x1 x2 x3 x4 R ⟨1024 + j.val, by omega⟩ := by
  unfold out0_16
  refine View.canon_apply_of_pieces (Val := Elt Ideal) (e := .f32) (fun y : S512x512.Idx => pRow x0 x1 x2 x3 x4 (y 0) ⟨1024 + (y 1).val, by have h : (y 1).val < 512 := (y 1).isLt; omega⟩)
    _ (fun p hp y => ?_) _ (cover0_16 _ _ _)
  rcases List.mem_cons.mp hp with rfl | hp
  · refine Eq.trans (b := k0_pay13 (F := Ideal) (prodHi x0 x1 x2 x3 x4) (ix2 (n0 := 256) (n1 := 512) (y 0) (y 1))) (congrArg _ (eq_ix2 y))
      ((gates_at _ (y 0) (y 1)).trans ((hi_at x0 x1 x2 x3 x4 (y 0) _).trans ?_))
    exact congrArg₂ (pRow x0 x1 x2 x3 x4) (Fin.ext (show 256 + (y 0).val = 256 + 1 * (y 0).val from by omega))
      (Fin.ext (show 1024 + (y 1).val = 1024 + (0 + 1 * (y 1).val) from by omega))
  rcases List.mem_cons.mp hp with rfl | hp
  · refine Eq.trans (b := k0_pay13 (F := Ideal) (prodLo x0 x1 x2 x3 x4) (ix2 (n0 := 256) (n1 := 512) (y 0) (y 1))) (congrArg _ (eq_ix2 y))
      ((gates_at _ (y 0) (y 1)).trans ((lo_at x0 x1 x2 x3 x4 (y 0) _).trans ?_))
    exact congrArg₂ (pRow x0 x1 x2 x3 x4) (Fin.ext (show (y 0).val = 0 + 1 * (y 0).val from by omega))
      (Fin.ext (show 1024 + (y 1).val = 1024 + (0 + 1 * (y 1).val) from by omega))
  exact absurd hp (List.not_mem_nil)

/-- An index whose first part has one value. -/
theorem ix3_zero (y : S1x128x256.Idx) : y = ix3 (n0 := 1) (n1 := 128) (n2 := 256) 0 (y 1) (y 2) := by
  refine (eq_ix3 (n0 := 1) (n1 := 128) (n2 := 256) y).trans ?_
  exact congrArg (fun i => ix3 (n0 := 1) (n1 := 128) (n2 := 256) i (y 1) (y 2)) (Fin.ext (by have h : (y 0).val < 1 := (y 0).isLt; show (y 0).val = 0; omega))

/-- What a grid point leaves in output block 19: the attention's values, a column of its rows' projections along each row. -/
theorem out19_at (j : Fin 128) (R : Fin 512) : out0_19 x0 x1 x2 x3 x4 x5 x6 x7 x8 x9 x10 x11 x12 (ix3 0 j R) = pRow x0 x1 x2 x3 x4 R ⟨2432 + j.val, by omega⟩ := by
  unfold out0_19
  refine View.canon_apply_of_pieces (Val := Elt Ideal) (e := .bf16) (fun y : S1x128x512.Idx => pRow x0 x1 x2 x3 x4 (y 2) ⟨2432 + (y 1).val, by have h : (y 1).val < 128 := (y 1).isLt; omega⟩)
    _ (fun p hp y => ?_) _ (cover0_19 _ _ _)
  rcases List.mem_cons.mp hp with rfl | hp
  · refine Eq.trans (b := k0_pay37 (F := Ideal) (prodHi x0 x1 x2 x3 x4) (ix3 (n0 := 1) (n1 := 128) (n2 := 256) 0 (y 1) (y 2))) (congrArg _ (ix3_zero y))
      ((vt_at _ (y 1) (y 2)).trans ((hi_at x0 x1 x2 x3 x4 (y 2) _).trans ?_))
    exact congrArg₂ (pRow x0 x1 x2 x3 x4) (Fin.ext (show 256 + (y 2).val = 256 + 1 * (y 2).val from by omega))
      (Fin.ext (show 2432 + (y 1).val = 2432 + (0 + 1 * (y 1).val) from by omega))
  rcases List.mem_cons.mp hp with rfl | hp
  · refine Eq.trans (b := k0_pay37 (F := Ideal) (prodLo x0 x1 x2 x3 x4) (ix3 (n0 := 1) (n1 := 128) (n2 := 256) 0 (y 1) (y 2))) (congrArg _ (ix3_zero y))
      ((vt_at _ (y 1) (y 2)).trans ((lo_at x0 x1 x2 x3 x4 (y 2) _).trans ?_))
    exact congrArg₂ (pRow x0 x1 x2 x3 x4) (Fin.ext (show (y 2).val = 0 + 1 * (y 2).val from by omega))
      (Fin.ext (show 2432 + (y 1).val = 2432 + (0 + 1 * (y 1).val) from by omega))
  exact absurd hp (List.not_mem_nil)

end Block

end Cert.Kernel5Ideal.AbProj

end
-- ==== Proof.AbHost.lean ====
/- The arrays that the first layer's input projection is launched on, and its result arrays, from the call's arguments. -/
module

public import proofs.«01_k».proof.Proof.AbBlock
public import proofs.«01_k».proof.Proof.Gen.Kernel5Ideal.Value
public import Idealize.ShloMosaic.Lib.Pipeline.ValueKit.Point
public import Idealize.ShloMosaic.Lib.Claim

@[expose] public section

set_option maxRecDepth 16384

noncomputable section

namespace Cert.Kernel5Ideal.AbProj

open Cert.Kernel5Ideal Cert.Kernel5Ideal.Gen Idealize.ShloMosaic Idealize.ShloMosaic.TcCoe Cert.OutRow Cert.InRow
open Idealize.ShloMosaic.Pipeline (Dat)

variable (m : (ℓ : Loc nD τ sig) → Buf (Elt Ideal) ℓ) (c : Dev nD)

/-- The call's arguments that the results here are of. -/
abbrev a0 : FVec Ideal S8x4096x1024 .f32 := m (c, Proc.tc.devRef main_arg0)
abbrev a1 : FVec Ideal S2x16x6144 .f32 := m (c, Proc.tc.devRef main_arg1)
abbrev a2 : FVec Ideal S2x4x1024 .f32 := m (c, Proc.tc.devRef main_arg2)
abbrev a3 : FVec Ideal S1x1024x2336 .f32 := m (c, Proc.tc.devRef main_arg3)

/-- The batch and the position of a row of the flattened sequences. -/
abbrev bRow (R : Fin 32768) : Fin 8 := ⟨R.val / 4096, by omega⟩
abbrev lRow (R : Fin 32768) : Fin 4096 := ⟨R.val % 4096, by omega⟩

/-! ## The launch's arrays -/

/-- The launch's arrays, the host's last operations taken apart from those before them. -/
theorem V_line (b : Ref sig .tc) : V m c b = StableHlo.after hostOps0_4 (StableHlo.after (List.flatten [hostOps0, hostOps0_1, hostOps0_2, hostOps0_3]) fun b => m (c, b)) b := by
  rw [← StableHlo.after_append]
  rfl

/-- The operations before leave the rows and the weights as they are. -/
theorem head_lat : StableHlo.after (List.flatten [hostOps0, hostOps0_1, hostOps0_2, hostOps0_3]) (fun b => m (c, b)) (Proc.tc.devRef main_arg0) = a0 m c := rfl
theorem head_w : StableHlo.after (List.flatten [hostOps0, hostOps0_1, hostOps0_2, hostOps0_3]) (fun b => m (c, b)) (Proc.tc.devRef main_arg3) = a3 m c := rfl

/-- The weights with their columns in the kernel's order: 96 columns of zeros before the queries, and each head of the keys twice. -/
def wide (w : FVec Ideal S1x1024x2336 .f32) : FVec Ideal S1024x2560 .f32 :=
  concatenate S1024x2560 1 [⟨S1024x1568, extractStridedSlice S1024x1568 ![0, 0] (shapeCast S1024x2336 w shapeCasts_S1x1024x2336_S1024x2336) slices_S1024x2336_S1024x1568_0_0⟩,
    ⟨S1024x96, broadcastInDim S1024x96 ![] bcast_S_S1024x96 (constant S_ .f32 0x00000000#32)⟩,
    ⟨S1024x512, extractStridedSlice S1024x512 ![0, 1568] (shapeCast S1024x2336 w shapeCasts_S1x1024x2336_S1024x2336) slices_S1024x2336_S1024x512_0_1568⟩,
    ⟨S1024x256, concatenate S1024x256 1 [⟨S1024x64, extractStridedSlice S1024x64 ![0, 0] (extractStridedSlice S1024x128 ![0, 2080] (shapeCast S1024x2336 w shapeCasts_S1x1024x2336_S1024x2336) slices_S1024x2336_S1024x128_0_2080) slices_S1024x128_S1024x64_0_0⟩,
      ⟨S1024x64, extractStridedSlice S1024x64 ![0, 0] (extractStridedSlice S1024x128 ![0, 2080] (shapeCast S1024x2336 w shapeCasts_S1x1024x2336_S1024x2336) slices_S1024x2336_S1024x128_0_2080) slices_S1024x128_S1024x64_0_0⟩,
      ⟨S1024x64, extractStridedSlice S1024x64 ![0, 64] (extractStridedSlice S1024x128 ![0, 2080] (shapeCast S1024x2336 w shapeCasts_S1x1024x2336_S1024x2336) slices_S1024x2336_S1024x128_0_2080) slices_S1024x128_S1024x64_0_64⟩,
      ⟨S1024x64, extractStridedSlice S1024x64 ![0, 64] (extractStridedSlice S1024x128 ![0, 2080] (shapeCast S1024x2336 w shapeCasts_S1x1024x2336_S1024x2336) slices_S1024x2336_S1024x128_0_2080) slices_S1024x128_S1024x64_0_64⟩]
      concatenates_S1024x64_S1024x64_S1024x64_S1024x64_S1024x256_d1⟩,
    ⟨S1024x128, extractStridedSlice S1024x128 ![0, 2208] (shapeCast S1024x2336 w shapeCasts_S1x1024x2336_S1024x2336) slices_S1024x2336_S1024x128_0_2208⟩]
    concatenates_S1024x1568_S1024x96_S1024x512_S1024x256_S1024x128_S1024x2560_d1

/-- The host builds them so. -/
theorem tail_w (σ : Valuation τ sig (Elt Ideal)) :
    StableHlo.after hostOps0_4 σ main_v73 = truncf (F := Ideal) .bf16 (wide (σ (Proc.tc.devRef main_arg3))) bitsLt_bf16_f32 := rfl

/-- Their first columns are the reference's, and their last too. -/
theorem wide_lo (w : FVec Ideal S1x1024x2336 .f32) (i : Fin 1024) (k : Fin 1568) : wide w (ix2 i ⟨k.val, by omega⟩) = (w (ix3 0 i ⟨k.val, by omega⟩) : EReal) := by
  pointwise [wide]
theorem wide_hi (w : FVec Ideal S1x1024x2336 .f32) (i : Fin 1024) (k : Fin 128) : wide w (ix2 i ⟨2432 + k.val, by omega⟩) = (w (ix3 0 i ⟨2208 + k.val, by omega⟩) : EReal) := by
  pointwise [wide]
  rw [dif_neg (by omega), dif_neg (by omega), dif_neg (by omega), dif_neg (by omega)]
  exact congrArg (fun k => w (ix3 _ _ k)) (Fin.ext (by dsimp only; omega))

/-- A launch's array at an index, from the arguments. -/
theorem h_lat (R : Fin 32768) (j : Fin 1024) : V m c main_v60 (ix2 R j) = a0 m c (ix3 (bRow R) (lRow R) j) := by
  rw [V_line, ← head_lat m c]
  generalize StableHlo.after (List.flatten [hostOps0, hostOps0_1, hostOps0_2, hostOps0_3]) (fun b => m (c, b)) = σ
  entry_read
  pointwise
/-- A launch's array at an index, from the arguments. -/
theorem h_mod (l : Fin 2) (b : Fin 16) (j : Fin 6144) : V m c main_v0 (ix4 l b 0 j) = a1 m c (ix3 l b j) := by
  have e : V m c main_v0 = shapeCast S2x16x1x6144 (a1 m c) shapeCasts_S2x16x6144_S2x16x1x6144 := rfl
  rw [e]
  pointwise
/-- A launch's array at an index, from the arguments. -/
theorem h_g (l : Fin 2) (b : Fin 4) (j : Fin 1024) : V m c main_v1 (ix4 l b 0 j) = a2 m c (ix3 l b j) := by
  have e : V m c main_v1 = shapeCast S2x4x1x1024 (a2 m c) shapeCasts_S2x4x1024_S2x4x1x1024 := rfl
  rw [e]
  pointwise
/-- A launch's array at an index, from the arguments. -/
theorem h_w (i : Fin 1024) (k : Fin 2560) : V m c main_v73 (ix2 i k) = wide (a3 m c) (ix2 i k) := by
  rw [V_line, tail_w, head_w]
  rfl

/-! ## The blocks of a grid point -/

/-- The batch of a grid point. -/
def bT (t : Fin cfg0.N) : Fin 8 := ⟨t.val / 8, by have : t.val < 64 := t.isLt; omega⟩

/-- The block of every window at a grid point. -/
theorem idx_all : ∀ t : Fin cfg0.N,
    win0_0.index t = ![t.val, 0] ∧ win0_1.index t = ![0, 0, 0, 0] ∧ win0_2.index t = ![0, (bT t).val, 0, 0] ∧
    win0_3.index t = ![0, (bT t).val, 0, 1] ∧ win0_4.index t = ![0, 0] ∧ win0_13.index t = ![t.val, 0] ∧ win0_15.index t = ![t.val, 0] ∧
    win0_16.index t = ![t.val, 0] ∧ win0_19.index t = ![(bT t).val, 0, t.val % 8] := by
  decide +kernel

/-- The row of the flattened sequences at row `R` of a grid point's block. -/
def rowT (t : Fin cfg0.N) (R : Fin 512) : Fin 32768 := ⟨t.val * 512 + R.val, by have : t.val < 64 := t.isLt; omega⟩

/-- A grid point's rows lie in its batch. -/
theorem bRow_rowT (t : Fin cfg0.N) (R : Fin 512) : bRow (rowT t R) = bT t :=
  Fin.ext (by show (t.val * 512 + R.val) / 4096 = t.val / 8; omega)

/-- Window 0's block at an index, from the arguments. -/
theorem b0 (t : Fin cfg0.N) (R : Fin 512) (j : Fin 1024) : iblk m c 0 t (ix2 R j) = a0 m c (ix3 (bRow (rowT t R)) (lRow (rowT t R)) j) := by
  have h := idx_all t
  have ht : t.val < 64 := t.isLt
  have e : iblk m c 0 t (ix2 R j) = V m c main_v60 (ix2 (rowT t R) j) := by
    blk_ext [iblk, h, rowT]
  rw [e, h_lat]
/-- Window 1's block at an index, from the arguments. -/
theorem b1 (t : Fin cfg0.N) (j : Fin 1024) : iblk m c 1 t (ix4 0 0 0 j) = a2 m c (ix3 0 0 j) := by
  have h := idx_all t
  have e : iblk m c 1 t (ix4 0 0 0 j) = V m c main_v1 (ix4 0 0 0 j) := by
    blk_ext [iblk, h]
  rw [e, h_g]
/-- Window 2's block at an index, from the arguments. -/
theorem b2 (t : Fin cfg0.N) (j : Fin 1024) : iblk m c 2 t (ix4 0 0 0 j) = a1 m c (ix3 0 ⟨(bT t).val, by omega⟩ ⟨j.val, by omega⟩) := by
  have h := idx_all t
  have e : iblk m c 2 t (ix4 0 0 0 j) = V m c main_v0 (ix4 0 ⟨(bT t).val, by omega⟩ 0 ⟨j.val, by omega⟩) := by
    blk_ext [iblk, h]
  rw [e, h_mod]
/-- Window 3's block at an index, from the arguments. -/
theorem b3 (t : Fin cfg0.N) (j : Fin 1024) : iblk m c 3 t (ix4 0 0 0 j) = a1 m c (ix3 0 ⟨(bT t).val, by omega⟩ ⟨1024 + j.val, by omega⟩) := by
  have h := idx_all t
  have e : iblk m c 3 t (ix4 0 0 0 j) = V m c main_v0 (ix4 0 ⟨(bT t).val, by omega⟩ 0 ⟨1024 + j.val, by omega⟩) := by
    blk_ext [iblk, h]
  rw [e, h_mod]
/-- Window 4's block at an index, from the arguments. -/
theorem b4 (t : Fin cfg0.N) (i : Fin 1024) (k : Fin 2560) : iblk m c 4 t (ix2 i k) = wide (a3 m c) (ix2 i k) := by
  have h := idx_all t
  have e : iblk m c 4 t (ix2 i k) = V m c main_v73 (ix2 i k) := by
    blk_ext [iblk, h]
  rw [e, h_w]

/-! ## The result arrays -/

/-- The norm of row `l` of batch `b`, modulated. -/
def uRow (a0 : FVec Ideal S8x4096x1024 .f32) (a1 : FVec Ideal S2x16x6144 .f32) (a2 : FVec Ideal S2x4x1024 .f32) (b : Fin 8) (l : Fin 4096) : Fin 1024 → EReal :=
  modulated (fun j => a0 (ix3 b l j)) (fun j => a2 (ix3 0 0 j)) (fun j => a1 (ix3 0 ⟨b.val, by omega⟩ ⟨1024 + j.val, by omega⟩))
    (fun j => a1 (ix3 0 ⟨b.val, by omega⟩ ⟨j.val, by omega⟩))

/-- The layer's projection of that row. -/
def projAt (a0 : FVec Ideal S8x4096x1024 .f32) (a1 : FVec Ideal S2x16x6144 .f32) (a2 : FVec Ideal S2x4x1024 .f32) (a3 : FVec Ideal S1x1024x2336 .f32)
    (b : Fin 8) (l : Fin 4096) (k : Fin 2336) : EReal :=
  ∑ x, uRow a0 a1 a2 b l x * a3 (ix3 0 x k)

/-- The projection of row `R` of the flattened sequences, from the launch's arguments. -/
def outRow (R : Fin 32768) : Fin 2336 → EReal := projAt (a0 m c) (a1 m c) (a2 m c) (a3 m c) (bRow R) (lRow R)

/-- A grid point's projection of row `R` of its block, in the kernel's columns. -/
theorem pRow_eq (t : Fin cfg0.N) (R : Fin 512) :
    pRow (iblk m c 0 t) (iblk m c 1 t) (iblk m c 2 t) (iblk m c 3 t) (iblk m c 4 t) R =
      abRow (uRow (a0 m c) (a1 m c) (a2 m c) (bRow (rowT t R)) (lRow (rowT t R))) (fun i k => wide (a3 m c) (ix2 i k)) := by
  unfold pRow uRow
  rw [funext (b0 m c t R), funext (b1 m c t), funext (b2 m c t), funext (b3 m c t), funext fun i => funext (b4 m c t i), bRow_rowT]
/-- Its first columns are the projection's. -/
theorem pRow_lo (t : Fin cfg0.N) (R : Fin 512) (k : Fin 1568) :
    pRow (iblk m c 0 t) (iblk m c 1 t) (iblk m c 2 t) (iblk m c 3 t) (iblk m c 4 t) R ⟨k.val, by omega⟩ = outRow m c (rowT t R) ⟨k.val, by omega⟩ := by
  rw [pRow_eq]
  unfold outRow projAt abRow
  exact Finset.sum_congr rfl fun x _ => congrArg (_ * ·) (wide_lo (a3 m c) x k)
/-- And so are its last. -/
theorem pRow_hi (t : Fin cfg0.N) (R : Fin 512) (k : Fin 128) :
    pRow (iblk m c 0 t) (iblk m c 1 t) (iblk m c 2 t) (iblk m c 3 t) (iblk m c 4 t) R ⟨2432 + k.val, by omega⟩ = outRow m c (rowT t R) ⟨2208 + k.val, by omega⟩ := by
  rw [pRow_eq]
  unfold outRow projAt abRow
  exact Finset.sum_congr rfl fun x _ => congrArg (_ * ·) (wide_hi (a3 m c) x k)

/-- The columns of the projection that result array 13 holds. -/
def qkRow (R : Fin 32768) (j : Fin 512) : EReal := outRow m c R ⟨j.val, by omega⟩
/-- What a grid point computes of them. -/
theorem point13 (t : Fin cfg0.N) (R : Fin 512) (j : Fin 512) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R j) = qkRow m c (rowT t R) j :=
  (out13_at _ _ _ _ _ _ _ _ _ _ _ _ _ R j).trans (pRow_lo m c t R ⟨j.val, by omega⟩)
/-- Result array 13 after the run. -/
theorem result13 : (dats m 0 c).arrAt 13 cfg0.N = fun i : S32768x512.Idx => qkRow m c (i 0) (i 1) := by
  refine (dats m 0 c).arrAt_eq_of_covers 13 _ (by decide +kernel) fun t hf y => ?_
  refine Eq.trans (b := (dats m 0 c).flushed 13 t y) rfl ?_
  refine (congrFun (Value.flushed13 m c t) y).trans ?_
  have h := idx_all t
  have e0 : (((cfg0.win 13).blk t).view.emb y 0).val = t.val * 512 + (y 0).val := by
    blk_simp [h]
  have e1 : (((cfg0.win 13).blk t).view.emb y 1).val = (y 1).val := by
    blk_simp [h]
  have hg : ∀ g : Vec Ideal S512x512 .bf16, (cfg0.win 13).cut (grid0.coords t) g y = g (ix2 (y 0) (y 1)) :=
    fun g => congrArg g (eq_ix2 y)
  refine (hg _).trans ((point13 m c t (y 0) (y 1)).trans ?_)
  exact congrArg₂ (qkRow m c) (Fin.ext e0.symm) (Fin.ext e1.symm)

/-- The columns of the projection that result array 15 holds. -/
def vRow (R : Fin 32768) (j : Fin 512) : EReal := outRow m c R ⟨512 + j.val, by omega⟩
/-- What a grid point computes of them. -/
theorem point15 (t : Fin cfg0.N) (R : Fin 512) (j : Fin 512) : out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R j) = vRow m c (rowT t R) j :=
  (out15_at _ _ _ _ _ _ _ _ _ _ _ _ _ R j).trans (pRow_lo m c t R ⟨512 + j.val, by omega⟩)
/-- Result array 15 after the run. -/
theorem result15 : (dats m 0 c).arrAt 15 cfg0.N = fun i : S32768x512.Idx => vRow m c (i 0) (i 1) := by
  refine (dats m 0 c).arrAt_eq_of_covers 15 _ (by decide +kernel) fun t hf y => ?_
  refine Eq.trans (b := (dats m 0 c).flushed 15 t y) rfl ?_
  refine (congrFun (Value.flushed15 m c t) y).trans ?_
  have h := idx_all t
  have e0 : (((cfg0.win 15).blk t).view.emb y 0).val = t.val * 512 + (y 0).val := by
    blk_simp [h]
  have e1 : (((cfg0.win 15).blk t).view.emb y 1).val = (y 1).val := by
    blk_simp [h]
  have hg : ∀ g : Vec Ideal S512x512 .bf16, (cfg0.win 15).cut (grid0.coords t) g y = g (ix2 (y 0) (y 1)) :=
    fun g => congrArg g (eq_ix2 y)
  refine (hg _).trans ((point15 m c t (y 0) (y 1)).trans ?_)
  exact congrArg₂ (vRow m c) (Fin.ext e0.symm) (Fin.ext e1.symm)

/-- The columns of the projection that result array 16 holds. -/
def gRow (R : Fin 32768) (j : Fin 512) : EReal := outRow m c R ⟨1024 + j.val, by omega⟩
/-- What a grid point computes of them. -/
theorem point16 (t : Fin cfg0.N) (R : Fin 512) (j : Fin 512) : out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R j) = gRow m c (rowT t R) j :=
  (out16_at _ _ _ _ _ _ _ _ _ _ _ _ _ R j).trans (pRow_lo m c t R ⟨1024 + j.val, by omega⟩)
/-- Result array 16 after the run. -/
theorem result16 : (dats m 0 c).arrAt 16 cfg0.N = fun i : S32768x512.Idx => gRow m c (i 0) (i 1) := by
  refine (dats m 0 c).arrAt_eq_of_covers 16 _ (by decide +kernel) fun t hf y => ?_
  refine Eq.trans (b := (dats m 0 c).flushed 16 t y) rfl ?_
  refine (congrFun (Value.flushed16 m c t) y).trans ?_
  have h := idx_all t
  have e0 : (((cfg0.win 16).blk t).view.emb y 0).val = t.val * 512 + (y 0).val := by
    blk_simp [h]
  have e1 : (((cfg0.win 16).blk t).view.emb y 1).val = (y 1).val := by
    blk_simp [h]
  have hg : ∀ g : Vec Ideal S512x512 .f32, (cfg0.win 16).cut (grid0.coords t) g y = g (ix2 (y 0) (y 1)) :=
    fun g => congrArg g (eq_ix2 y)
  refine (hg _).trans ((point16 m c t (y 0) (y 1)).trans ?_)
  exact congrArg₂ (gRow m c) (Fin.ext e0.symm) (Fin.ext e1.symm)

/-- The attention's values: column `j` of batch `b`, along the positions. -/
def vtAt (b : Fin 8) (j : Fin 128) (l : Fin 4096) : EReal := projAt (a0 m c) (a1 m c) (a2 m c) (a3 m c) b l ⟨2208 + j.val, by omega⟩
/-- What a grid point computes of them. -/
theorem point19 (t : Fin cfg0.N) (j : Fin 128) (R : Fin 512) : out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix3 0 j R) = vtAt m c (bRow (rowT t R)) j (lRow (rowT t R)) :=
  (out19_at _ _ _ _ _ _ _ _ _ _ _ _ _ j R).trans (pRow_hi m c t R j)
/-- Result array 19 after the run. -/
theorem result19 : (dats m 0 c).arrAt 19 cfg0.N = fun i : S8x128x4096.Idx => vtAt m c (i 0) (i 1) (i 2) := by
  refine (dats m 0 c).arrAt_eq_of_covers 19 _ (by decide +kernel) fun t hf y => ?_
  refine Eq.trans (b := (dats m 0 c).flushed 19 t y) rfl ?_
  refine (congrFun (Value.flushed19 m c t) y).trans ?_
  have h := idx_all t
  have ht : t.val < 64 := t.isLt
  have hy : (y 2).val < 512 := (y 2).isLt
  have hy0 : (y 0).val < 1 := (y 0).isLt
  have e0 : (((cfg0.win 19).blk t).view.emb y 0).val = (t.val * 512 + (y 2).val) / 4096 := by
    have q : (((cfg0.win 19).blk t).view.emb y 0).val = (bT t).val + (y 0).val := by
      blk_simp [h]
    rw [q]
    show t.val / 8 + (y 0).val = _
    omega
  have e1 : (((cfg0.win 19).blk t).view.emb y 1).val = (y 1).val := by
    blk_simp [h]
  have e2 : (((cfg0.win 19).blk t).view.emb y 2).val = (t.val * 512 + (y 2).val) % 4096 := by
    have q : (((cfg0.win 19).blk t).view.emb y 2).val = t.val % 8 * 512 + (y 2).val := by
      blk_simp [h]
    rw [q]
    omega
  have ey : y = ix3 (n0 := 1) (n1 := 128) (n2 := 512) 0 (y 1) (y 2) := by
    refine (eq_ix3 (n0 := 1) (n1 := 128) (n2 := 512) y).trans ?_
    exact congrArg (fun i => ix3 (n0 := 1) (n1 := 128) (n2 := 512) i (y 1) (y 2)) (Fin.ext (by show (y 0).val = 0; omega))
  have hg : ∀ g : Vec Ideal S1x128x512 .bf16, (cfg0.win 19).cut (grid0.coords t) g y = g (ix3 (n0 := 1) (n1 := 128) (n2 := 512) 0 (y 1) (y 2)) :=
    fun g => congrArg g ey
  refine (hg _).trans ((point19 m c t (y 1) (y 2)).trans ?_)
  have f0 : bRow (rowT t (y 2)) = (((cfg0.win 19).blk t).view.emb y 0 : Fin 8) := Fin.ext e0.symm
  have f1 : (y 1 : Fin 128) = (((cfg0.win 19).blk t).view.emb y 1 : Fin 128) := Fin.ext e1.symm
  have f2 : lRow (rowT t (y 2)) = (((cfg0.win 19).blk t).view.emb y 2 : Fin 4096) := Fin.ext e2.symm
  exact (congrArg (fun b => vtAt m c b (y 1) _) f0).trans ((congrArg (fun j => vtAt m c _ j _) f1).trans (congrArg (fun l => vtAt m c _ _ l) f2))

end Cert.Kernel5Ideal.AbProj

end
-- ==== Proof.AbRef.lean ====
/- The reference's input projection of the first layer at an index. -/
module

public import proofs.«01_k».proof.Proof.AbHost
public import proofs.«01_k».proof.Proof.Gen.Reference5Ideal.Run
public import proofs.«01_k».proof.Proof.Gen.Reference5Ideal.Read
public import proofs.«01_k».proof.Defs
public import Idealize.ShloMosaic.Lib.Pointwise
public import Idealize.ShloMosaic.Lib.Claim

@[expose] public section

set_option maxRecDepth 16384

noncomputable section

namespace Cert.Reference5Ideal.AbProj

open Cert.Reference5Ideal Cert.Reference5Ideal.Gen Idealize.ShloMosaic Idealize.ShloMosaic.TcCoe Cert.Reference5Ideal.Read Cert.OutRow Cert.InRow

variable (x0 : FVec Ideal S8x4096x1024 .f32) (x1 : FVec Ideal S2x16x6144 .f32) (x2 : FVec Ideal S2x4x1024 .f32) (x3 : FVec Ideal S1x1024x2336 .f32)

/-! ## The product -/

/-- The modulation's shift, its scale, the norm's scale and the weights. -/
theorem shift_at (b : Fin 8) (l : Fin 4096) (j : Fin 1024) :
    val_main_v31 (F := Ideal) x1 (ix3 b l j) = (x1 (ix3 0 ⟨b.val, by omega⟩ ⟨j.val, by omega⟩) : EReal) := by
  pointwise [val_main_v31, val_main_v6, val_main_v5, val_main_v4, val_main_v3]
theorem scale_at (b : Fin 8) (l : Fin 4096) (j : Fin 1024) :
    val_main_v29 (F := Ideal) x1 (ix3 b l j) = (1 + x1 (ix3 0 ⟨b.val, by omega⟩ ⟨1024 + j.val, by omega⟩) : EReal) := by
  pointwise [val_main_v29, val_main_v28, val_main_v27, val_main_cst_2, val_main_v7, val_main_v5, val_main_v4, val_main_v3]
theorem g_at (b : Fin 8) (l : Fin 4096) (j : Fin 1024) : val_main_v25 (F := Ideal) x2 (ix3 b l j) = (x2 (ix3 0 0 j) : EReal) := by
  pointwise [val_main_v25, val_main_v24, val_main_v13, val_main_v12, val_main_v1, val_main_v0]
theorem w_at (i : Fin 1024) (k : Fin 2336) : val_main_v33 (F := Ideal) x3 (ix2 i k) = (x3 (ix3 0 i k) : EReal) := by
  pointwise [val_main_v33]

/-- The modulated row. -/
theorem mod_at (b : Fin 8) (l : Fin 4096) (j : Fin 1024) : val_main_v32 (F := Ideal) x0 x1 x2 (ix3 b l j) =
    modulated (fun j => x0 (ix3 b l j)) (fun j => x2 (ix3 0 0 j)) (fun j => x1 (ix3 0 ⟨b.val, by omega⟩ ⟨1024 + j.val, by omega⟩))
      (fun j => x1 (ix3 0 ⟨b.val, by omega⟩ ⟨j.val, by omega⟩)) j := by
  unfold modulated rowNorm
  dsimp only
  rw [← scale_at x1 b l j, ← shift_at x1 b l j, ← g_at x2 b l j]
  unfold val_main_v32 val_main_v30 val_main_v26
  generalize val_main_v29 (F := Ideal) x1 = p
  generalize val_main_v31 (F := Ideal) x1 = q
  generalize val_main_v25 (F := Ideal) x2 = r
  pointwise [val_main_v23, val_main_v22, val_main_v21, val_main_v20, val_main_v19, val_main_v18, val_main_v17, val_main_v16, val_main_v15,
    val_main_v14, val_main_cst, val_main_cst_0, val_main_cst_1, w1024, eps]

/-- The projected row. -/
theorem proj_at (b : Fin 8) (l : Fin 4096) (k : Fin 2336) :
    val_main_v34 (F := Ideal) x0 x1 x2 x3 (ix3 b l k) = Cert.Kernel5Ideal.AbProj.projAt x0 x1 x2 x3 b l k := by
  unfold Cert.Kernel5Ideal.AbProj.projAt Cert.Kernel5Ideal.AbProj.uRow
  simp only [← mod_at, ← w_at]
  unfold val_main_v34
  generalize val_main_v32 (F := Ideal) x0 x1 x2 = y
  generalize val_main_v33 (F := Ideal) x3 = z
  pointwise

/-! ## The results -/

/-- The linear attention's queries and keys. -/
theorem qk_at (R : Fin 32768) (j : Fin 512) : val_main_v192 (F := Ideal) x0 x1 x2 x3 (ix2 R j) =
    val_main_v34 (F := Ideal) x0 x1 x2 x3 (ix3 ⟨R.val / 4096, by omega⟩ ⟨R.val % 4096, by omega⟩ ⟨j.val, by omega⟩) := by
  unfold val_main_v192 val_main_v191 val_main_v190 val_main_v35 val_main_v36
  generalize val_main_v34 (F := Ideal) x0 x1 x2 x3 = y
  pointwise
  by_cases h : j.val < 256
  · rw [dif_pos h]
  · rw [dif_neg h]
    exact congrArg (fun k => y (ix3 _ _ k)) (Fin.ext (by show 256 + (j.val - 256) = j.val; omega))
/-- Its values. -/
theorem v_at (R : Fin 32768) (j : Fin 512) : val_main_v194 (F := Ideal) x0 x1 x2 x3 (ix2 R j) =
    val_main_v34 (F := Ideal) x0 x1 x2 x3 (ix3 ⟨R.val / 4096, by omega⟩ ⟨R.val % 4096, by omega⟩ ⟨512 + j.val, by omega⟩) := by
  unfold val_main_v194 val_main_v193 val_main_v37
  generalize val_main_v34 (F := Ideal) x0 x1 x2 x3 = y
  pointwise
/-- Its gates. -/
theorem gate_at (R : Fin 32768) (j : Fin 512) : val_main_v195 (F := Ideal) x0 x1 x2 x3 (ix2 R j) =
    val_main_v34 (F := Ideal) x0 x1 x2 x3 (ix3 ⟨R.val / 4096, by omega⟩ ⟨R.val % 4096, by omega⟩ ⟨1024 + j.val, by omega⟩) := by
  unfold val_main_v195 val_main_v38
  generalize val_main_v34 (F := Ideal) x0 x1 x2 x3 = y
  pointwise
/-- The attention's values. -/
theorem vt_at (b : Fin 8) (j : Fin 128) (l : Fin 4096) : val_main_v204 (F := Ideal) x0 x1 x2 x3 (ix3 b j l) =
    val_main_v34 (F := Ideal) x0 x1 x2 x3 (ix3 b l ⟨2208 + j.val, by omega⟩) := by
  unfold val_main_v204 val_main_v203 val_main_v43
  generalize val_main_v34 (F := Ideal) x0 x1 x2 x3 = y
  pointwise

end Cert.Reference5Ideal.AbProj

end
-- ==== Proof.AbRow.lean ====
/- One row of the attention's queries and keys in the first layer's input projection, over the extended reals. -/
module

public import proofs.«01_k».proof.Proof.InRow

@[expose] public section

noncomputable section

namespace Cert.AbRow

open Idealize.ShloMosaic Cert.OutRow Cert.InRow

/-- A row of four heads beside four heads of zeros. -/
def ext (f : Fin 256 → EReal) (x : Fin 512) : EReal := if h : x.val < 256 then f ⟨x.val, h⟩ else 0

/-- A row's columns among the wider row's. -/
theorem ext_lt (f : Fin 256 → EReal) (x : Fin 512) (h : x.val < 256) : ext f x = f ⟨x.val, h⟩ := dif_pos h

/-- Eight heads, each normalised and rotated. -/
def headRow (f : Fin 512 → EReal) (g cs sn : Fin 64 → EReal) (j : Fin 512) : EReal := rot (headNorm f g) cs sn j

/-- Four heads, likewise. -/
def headRow4 (f : Fin 256 → EReal) (g cs sn : Fin 64 → EReal) (j : Fin 256) : EReal := headRow (ext f) g cs sn ⟨j.val, by omega⟩

/-- A sum over 512 columns of which the last 256 are zero. -/
theorem sum_ext (F : Fin 512 → EReal) (h : ∀ x : Fin 512, ¬ x.val < 256 → F x = 0) : ∑ x, F x = ∑ x : Fin 256, F ⟨x.val, by omega⟩ := by
  refine (Fin.sum_univ_add (a := 256) (b := 256) F).trans ?_
  refine (congrArg (_ + ·) (Finset.sum_eq_zero fun (x : Fin 256) _ => h (Fin.natAdd 256 x) (by show ¬ 256 + x.val < 256; omega))).trans ?_
  exact add_zero _

/-- The norm of four heads, its sums taken over all columns under a mask. -/
theorem headNorm_ext (f : Fin 256 → EReal) (g : Fin 64 → EReal) (j : Fin 256) :
    headNorm (ext f) g ⟨j.val, by omega⟩ = f j * Ideal.rsqrt ((∑ x : Fin 256, f x * f x * (if x.val / 64 = j.val / 64 then 1 else 0 : EReal)) *
      Ideal.ofBits .f32 0x3C800000#32 + eps) * g ⟨j.val % 64, by omega⟩ := by
  rw [headNorm_eq, sum_ext _ fun x h => ?_]
  · rw [ext_lt f _ j.isLt]
    refine congrArg (fun s => f j * Ideal.rsqrt (s * _ + eps) * _) (Finset.sum_congr rfl fun x _ => ?_)
    rw [ext_lt f _ x.isLt]
  · unfold ext
    rw [dif_neg h, zero_mul, zero_mul]

/-- The norm of a wider row's first heads is that of the row. -/
theorem ext_norm (f : Fin 256 → EReal) (g : Fin 64 → EReal) (x : Fin 512) (h : x.val < 256) :
    ext (fun y => headNorm (ext f) g ⟨y.val, by omega⟩) x = headNorm (ext f) g x := ext_lt _ x h

/-- The rotation of a column of the first half takes columns of the first half alone. -/
theorem rot_ext (u v : Fin 512 → EReal) (cs sn : Fin 64 → EReal) (h : ∀ x : Fin 512, x.val < 256 → u x = v x) (j : Fin 512) (hj : j.val < 256) :
    rot u cs sn j = rot v cs sn j := by
  unfold rot
  have hp : (partner j).val < 256 := by
    unfold partner
    by_cases k : j.val % 32 < 16
    · rw [dif_pos k]; show j.val + 16 < 256; omega
    · rw [dif_neg k]; show j.val - 16 < 256; omega
  rw [h j hj, h _ hp]

end Cert.AbRow

end
-- ==== Proof.AbRope.lean ====
/- What the first layer's input projection computes of the attention's queries and keys, for one block of latent rows. -/
module

public import proofs.«01_k».proof.Proof.AbRow
public import proofs.«01_k».proof.Proof.InBlock
public import proofs.«01_k».proof.Proof.AbBlock

@[expose] public section

set_option maxRecDepth 16384

noncomputable section

namespace Cert.Kernel5Ideal.AbProj

open Cert.Kernel5Ideal Cert.Kernel5Ideal.Gen Idealize.ShloMosaic Idealize.ShloMosaic.TcCoe Cert.OutRow Cert.InRow Cert.AbRow

variable (v : FVec Ideal S256x2560 .f32) (c s : Vec Ideal S256x128 .f32)

/-! ## The norm of each head -/

/-- The queries, normalised. -/
theorem qnorm_at (o : Vec Ideal S512x512 .bf16) (gn : Vec Ideal S1x512 .f32) (ho : ∀ x j : Fin 512, o (ix2 x j) = (if x.val / 64 = j.val / 64 then 1 else 0 : EReal))
    (g : Fin 64 → EReal) (hg : ∀ j : Fin 512, gn (ix2 0 j) = g ⟨j.val % 64, by omega⟩) (r : Fin 256) (j : Fin 512) :
    k0_pay16 (F := Ideal) v o gn (ix2 r j) = headNorm (fun x => v (ix2 r ⟨1664 + x.val, by omega⟩)) g j := by
  rw [headNorm_eq, ← hg]
  simp only [← ho, eps]
  pointwise [k0_pay16]
/-- The keys, normalised. -/
theorem knorm_at (o : Vec Ideal S256x256 .bf16) (gn : Vec Ideal S1x256 .f32) (ho : ∀ x j : Fin 256, o (ix2 x j) = (if x.val / 64 = j.val / 64 then 1 else 0 : EReal))
    (g : Fin 64 → EReal) (hg : ∀ j : Fin 256, gn (ix2 0 j) = g ⟨j.val % 64, by omega⟩) (r : Fin 256) (j : Fin 256) :
    k0_pay28 (F := Ideal) v o gn (ix2 r j) = headNorm (ext fun x => v (ix2 r ⟨2176 + x.val, by omega⟩)) g ⟨j.val, by omega⟩ := by
  rw [headNorm_ext, ← hg]
  simp only [← ho, eps]
  pointwise [k0_pay28]

/-! ## The rotation -/

/-- The rotated rows of eight heads. -/
theorem rot_at (y : FVec Ideal S256x512 .f32) (r : Fin 256) (cs sn : Fin 64 → EReal) (hc : ∀ d : Fin 128, c (ix2 r d) = cs ⟨d.val % 64, by omega⟩)
    (hs : ∀ d : Fin 128, s (ix2 r d) = sn ⟨d.val % 64, by omega⟩) (j : Fin 512) :
    k0_pay20 (F := Ideal) y c s (ix2 r j) = rot (fun x => y (ix2 r x)) cs sn j :=
  Cert.Kernel4Ideal.InProj.rot_at y c s r cs sn hc hs j

/-- The columns of four heads sixteen further. -/
theorem fwd_at (y : FVec Ideal S256x256 .f32) (r : Fin 256) (j : Fin 256) (h : j.val + 16 < 256) :
    dynamicRotate 1 240#32 none y rotates_S256x256_d1 (ix2 r j) = y (ix2 r ⟨j.val + 16, h⟩) := by
  refine dynamicRotate_apply _ _ _ _ _ _ fun b => ?_
  match b with
  | ⟨0, _⟩ => rfl
  | ⟨1, _⟩ =>
    rw [if_pos (by rfl)]
    show j.val + 16 = (j.val + 256 - 240 % 256) % 256
    omega
/-- The columns sixteen back. -/
theorem back_at (y : FVec Ideal S256x256 .f32) (r : Fin 256) (j : Fin 256) (h : 16 ≤ j.val) :
    dynamicRotate 1 16#32 none y rotates_S256x256_d1 (ix2 r j) = y (ix2 r ⟨j.val - 16, by omega⟩) := by
  refine dynamicRotate_apply _ _ _ _ _ _ fun b => ?_
  match b with
  | ⟨0, _⟩ => rfl
  | ⟨1, _⟩ =>
    rw [if_pos (by rfl)]
    show j.val - 16 = (j.val + 256 - 16 % 256) % 256
    omega

/-- The columns that take the one sixteen further. -/
theorem mask_at : ∀ j : Fin 256, k0_pay25 (ix2 0 j) = if j.val % 32 < 16 then 1#1 else 0#1 := by
  decide +kernel

/-- The rotation of four heads with its shifted rows, tables and mask given. -/
theorem rotated_at (y cv sv a b : FVec Ideal S256x256 .f32) (k : IVec S1x256 1) (r : Fin 256) (j : Fin 256) :
    k0_pay26 (F := Ideal) y cv sv a b k (ix2 r j) =
      (y (ix2 r j) * cv (ix2 r j) + (if k (ix2 0 j) = 1#1 then a (ix2 r j) else b (ix2 r j)) * sv (ix2 r j) : EReal) := by
  pointwise [k0_pay26]
  rfl

/-- The tables of a head's columns, once for every head of four. -/
theorem cosines_at (r : Fin 256) (j : Fin 256) : k0_pay21 (F := Ideal) c (ix2 r j) = c (ix2 r ⟨j.val % 128, by omega⟩) := by
  pointwise [k0_pay21]
  by_cases h : j.val < 128
  · rw [dif_pos h]
    exact congrArg (fun d => c (ix2 r d)) (Fin.ext (by show j.val = j.val % 128; omega))
  · rw [dif_neg h]
    exact congrArg (fun d => c (ix2 r d)) (Fin.ext (by show j.val - 128 = j.val % 128; omega))
/-- The sines. -/
theorem sines_at (r : Fin 256) (j : Fin 256) : k0_pay22 (F := Ideal) s (ix2 r j) = s (ix2 r ⟨j.val % 128, by omega⟩) := by
  pointwise [k0_pay22]
  by_cases h : j.val < 128
  · rw [dif_pos h]
    exact congrArg (fun d => s (ix2 r d)) (Fin.ext (by show j.val = j.val % 128; omega))
  · rw [dif_neg h]
    exact congrArg (fun d => s (ix2 r d)) (Fin.ext (by show j.val - 128 = j.val % 128; omega))

/-- The rotated rows of four heads. -/
theorem rot4_at (y : FVec Ideal S256x256 .f32) (r : Fin 256) (cs sn : Fin 64 → EReal) (hc : ∀ d : Fin 128, c (ix2 r d) = cs ⟨d.val % 64, by omega⟩)
    (hs : ∀ d : Fin 128, s (ix2 r d) = sn ⟨d.val % 64, by omega⟩) (j : Fin 256) :
    k0_pay32 (F := Ideal) y c s (ix2 r j) = rot (ext fun x => y (ix2 r x)) cs sn ⟨j.val, by omega⟩ := by
  have e : k0_pay32 (F := Ideal) y c s = k0_pay26 y (k0_pay21 c) (k0_pay22 s) (dynamicRotate 1 240#32 none y rotates_S256x256_d1)
      (dynamicRotate 1 16#32 none y rotates_S256x256_d1) k0_pay25 := rfl
  rw [e, rotated_at, cosines_at, sines_at, hc, hs, mask_at]
  have d : (⟨j.val % 128 % 64, by omega⟩ : Fin 64) = ⟨j.val % 64, by omega⟩ := Fin.ext (by show j.val % 128 % 64 = j.val % 64; omega)
  rw [d]
  unfold rot partner
  rw [ext_lt _ _ j.isLt]
  by_cases h : j.val % 32 < 16
  · rw [if_pos h, if_pos rfl, dif_pos h, fwd_at y r j (by omega), ext_lt _ _ (by show j.val + 16 < 256; omega)]
  · rw [if_neg h, if_neg (by decide), dif_neg h, back_at y r j (by omega), ext_lt _ _ (by show j.val - 16 < 256; omega)]

/-! ## The queries and keys of 256 rows -/

/-- The queries, normalised and rotated. -/
def qV (o : Vec Ideal S512x512 .bf16) (gn : Vec Ideal S1x512 .f32) : FVec Ideal S256x512 .f32 := k0_pay20 (k0_pay16 v o gn) c s
/-- The keys. -/
def kV (o : Vec Ideal S256x256 .bf16) (gn : Vec Ideal S1x256 .f32) : FVec Ideal S256x256 .f32 := k0_pay32 (k0_pay28 v o gn) c s

/-- The queries of row `r`. -/
theorem qV_at (o : Vec Ideal S512x512 .bf16) (gn : Vec Ideal S1x512 .f32) (ho : ∀ x j : Fin 512, o (ix2 x j) = (if x.val / 64 = j.val / 64 then 1 else 0 : EReal))
    (g : Fin 64 → EReal) (hg : ∀ j : Fin 512, gn (ix2 0 j) = g ⟨j.val % 64, by omega⟩) (r : Fin 256)
    (cs sn : Fin 64 → EReal) (hc : ∀ d : Fin 128, c (ix2 r d) = cs ⟨d.val % 64, by omega⟩)
    (hs : ∀ d : Fin 128, s (ix2 r d) = sn ⟨d.val % 64, by omega⟩) (j : Fin 512) :
    qV v c s o gn (ix2 r j) = headRow (fun x => v (ix2 r ⟨1664 + x.val, by omega⟩)) g cs sn j := by
  unfold qV headRow
  rw [rot_at _ _ _ r cs sn hc hs]
  exact congrArg (fun f => rot f cs sn j) (funext fun x => qnorm_at v o gn ho g hg r x)
/-- The keys of row `r`. -/
theorem kV_at (o : Vec Ideal S256x256 .bf16) (gn : Vec Ideal S1x256 .f32) (ho : ∀ x j : Fin 256, o (ix2 x j) = (if x.val / 64 = j.val / 64 then 1 else 0 : EReal))
    (g : Fin 64 → EReal) (hg : ∀ j : Fin 256, gn (ix2 0 j) = g ⟨j.val % 64, by omega⟩) (r : Fin 256)
    (cs sn : Fin 64 → EReal) (hc : ∀ d : Fin 128, c (ix2 r d) = cs ⟨d.val % 64, by omega⟩)
    (hs : ∀ d : Fin 128, s (ix2 r d) = sn ⟨d.val % 64, by omega⟩) (j : Fin 256) :
    kV v c s o gn (ix2 r j) = headRow4 (fun x => v (ix2 r ⟨2176 + x.val, by omega⟩)) g cs sn j := by
  unfold kV headRow4 headRow
  rw [rot4_at _ _ _ r cs sn hc hs]
  refine rot_ext _ _ cs sn (fun x hx => ?_) _ j.isLt
  rw [ext_lt _ _ hx]
  exact knorm_at v o gn ho g hg r ⟨x.val, hx⟩

/-- A tile of 128 rows, rows and columns exchanged. -/
theorem tile0_at (y : FVec Ideal S256x512 .f32) (j : Fin 512) (x : Fin 128) : k0_pay33 (F := Ideal) y (ix4 0 0 j x) = y (ix2 ⟨x.val, by omega⟩ j) := by
  pointwise [k0_pay33]
theorem tile1_at (y : FVec Ideal S256x512 .f32) (j : Fin 512) (x : Fin 128) : k0_pay35 (F := Ideal) (k0_pay34 y) (ix4 0 0 j x) = y (ix2 ⟨128 + x.val, by omega⟩ j) := by
  pointwise [k0_pay35, k0_pay34]

section Block

variable (x0 : Vec Ideal S512x1024 .f32) (x1 x2 x3 : Vec Ideal S1x1x1x1024 .f32) (x4 : Vec Ideal S1024x2560 .bf16)
  (x5 : Vec Ideal S128x512 .bf16) (x6 : Vec Ideal S1x512 .f32) (x7 : Vec Ideal S512x512 .bf16) (x8 : Vec Ideal S256x256 .bf16)
  (x9 : Vec Ideal S1x512 .f32) (x10 : Vec Ideal S1x256 .f32) (x11 x12 : Vec Ideal S512x128 .f32)
  (g : Fin 64 → EReal) (cs sn : Fin 512 → Fin 64 → EReal)

/-- The loads of the tables of the first and the second 256 rows, and of whole blocks. -/
theorem ld_lot (x : Vec Ideal S512x128 .f32) (r : Fin 256) (k : Fin 128) : (View.ld x r0_11 : Vec Ideal S256x128 .f32) (ix2 (n0 := 256) (n1 := 128) r k) = x (ix2 ⟨r.val, by omega⟩ k) := by
  refine View.ld_unit_apply_of _ _ _ _ _ _ fun a => ?_
  match a with
  | ⟨0, _⟩ => show r.val = 0 + r.val; omega
  | ⟨1, _⟩ => show k.val = 0 + k.val; omega
theorem ld_hit (x : Vec Ideal S512x128 .f32) (r : Fin 256) (k : Fin 128) : (View.ld x r0_12 : Vec Ideal S256x128 .f32) (ix2 (n0 := 256) (n1 := 128) r k) = x (ix2 ⟨256 + r.val, by omega⟩ k) := by
  refine View.ld_unit_apply_of _ _ _ _ _ _ fun a => ?_
  match a with
  | ⟨0, _⟩ => rfl
  | ⟨1, _⟩ => show k.val = 0 + k.val; omega
theorem ld_all6 (x : Vec Ideal S1x512 .f32) : View.ld x r0_6 = x := View.ld_unit_zero (by funext a; fin_cases a <;> rfl) _ x
theorem ld_all8 (x : Vec Ideal S512x512 .bf16) : View.ld x r0_8 = x := View.ld_unit_zero (by funext a; fin_cases a <;> rfl) _ x
theorem ld_all9 (x : Vec Ideal S256x256 .bf16) : View.ld x r0_9 = x := View.ld_unit_zero (by funext a; fin_cases a <;> rfl) _ x
theorem ld_all10 (x : Vec Ideal S1x256 .f32) : View.ld x r0_10 = x := View.ld_unit_zero (by funext a; fin_cases a <;> rfl) _ x

/-- The queries of row `R` of a block. -/
def qB (R : Fin 512) : Fin 512 → EReal := headRow (fun x => pRow x0 x1 x2 x3 x4 R ⟨1664 + x.val, by omega⟩) g (cs R) (sn R)
/-- Its keys. -/
def kB (R : Fin 512) : Fin 256 → EReal := headRow4 (fun x => pRow x0 x1 x2 x3 x4 R ⟨2176 + x.val, by omega⟩) g (cs R) (sn R)

variable (hc : ∀ R (d : Fin 128), x11 (ix2 R d) = cs R ⟨d.val % 64, by omega⟩) (hs : ∀ R (d : Fin 128), x12 (ix2 R d) = sn R ⟨d.val % 64, by omega⟩)
include hc hs

/-- The queries of the first 256 rows. -/
theorem qLo_at (ho : ∀ x j : Fin 512, x7 (ix2 x j) = (if x.val / 64 = j.val / 64 then 1 else 0 : EReal)) (hg : ∀ j : Fin 512, x9 (ix2 0 j) = g ⟨j.val % 64, by omega⟩)
    (r : Fin 256) (j : Fin 512) : qV (prodLo x0 x1 x2 x3 x4) (View.ld x11 r0_11) (View.ld x12 r0_11) (View.ld x7 r0_8) (View.ld x9 r0_6) (ix2 r j) =
      qB x0 x1 x2 x3 x4 g cs sn ⟨r.val, by omega⟩ j := by
  rw [ld_all8, ld_all6, qV_at _ _ _ _ _ ho g hg r (cs ⟨r.val, by omega⟩) (sn ⟨r.val, by omega⟩) (fun d => (ld_lot x11 r d).trans (hc _ d)) (fun d => (ld_lot x12 r d).trans (hs _ d))]
  unfold qB
  simp only [lo_at]
/-- Their keys. -/
theorem kLo_at (ho : ∀ x j : Fin 256, x8 (ix2 x j) = (if x.val / 64 = j.val / 64 then 1 else 0 : EReal)) (hg : ∀ j : Fin 256, x10 (ix2 0 j) = g ⟨j.val % 64, by omega⟩)
    (r : Fin 256) (j : Fin 256) : kV (prodLo x0 x1 x2 x3 x4) (View.ld x11 r0_11) (View.ld x12 r0_11) (View.ld x8 r0_9) (View.ld x10 r0_10) (ix2 r j) =
      kB x0 x1 x2 x3 x4 g cs sn ⟨r.val, by omega⟩ j := by
  rw [ld_all9, ld_all10, kV_at _ _ _ _ _ ho g hg r (cs ⟨r.val, by omega⟩) (sn ⟨r.val, by omega⟩) (fun d => (ld_lot x11 r d).trans (hc _ d)) (fun d => (ld_lot x12 r d).trans (hs _ d))]
  unfold kB
  simp only [lo_at]

/-- The queries of the second 256 rows. -/
theorem qHi_at (ho : ∀ x j : Fin 512, x7 (ix2 x j) = (if x.val / 64 = j.val / 64 then 1 else 0 : EReal)) (hg : ∀ j : Fin 512, x9 (ix2 0 j) = g ⟨j.val % 64, by omega⟩)
    (r : Fin 256) (j : Fin 512) : qV (prodHi x0 x1 x2 x3 x4) (View.ld x11 r0_12) (View.ld x12 r0_12) (View.ld x7 r0_8) (View.ld x9 r0_6) (ix2 r j) =
      qB x0 x1 x2 x3 x4 g cs sn ⟨256 + r.val, by omega⟩ j := by
  rw [ld_all8, ld_all6, qV_at _ _ _ _ _ ho g hg r (cs ⟨256 + r.val, by omega⟩) (sn ⟨256 + r.val, by omega⟩) (fun d => (ld_hit x11 r d).trans (hc _ d)) (fun d => (ld_hit x12 r d).trans (hs _ d))]
  unfold qB
  simp only [hi_at]
/-- Their keys. -/
theorem kHi_at (ho : ∀ x j : Fin 256, x8 (ix2 x j) = (if x.val / 64 = j.val / 64 then 1 else 0 : EReal)) (hg : ∀ j : Fin 256, x10 (ix2 0 j) = g ⟨j.val % 64, by omega⟩)
    (r : Fin 256) (j : Fin 256) : kV (prodHi x0 x1 x2 x3 x4) (View.ld x11 r0_12) (View.ld x12 r0_12) (View.ld x8 r0_9) (View.ld x10 r0_10) (ix2 r j) =
      kB x0 x1 x2 x3 x4 g cs sn ⟨256 + r.val, by omega⟩ j := by
  rw [ld_all9, ld_all10, kV_at _ _ _ _ _ ho g hg r (cs ⟨256 + r.val, by omega⟩) (sn ⟨256 + r.val, by omega⟩) (fun d => (ld_hit x11 r d).trans (hc _ d)) (fun d => (ld_hit x12 r d).trans (hs _ d))]
  unfold kB
  simp only [hi_at]

/-- What a grid point leaves in output block 18: the attention's keys. -/
theorem out18_at (ho : ∀ x j : Fin 256, x8 (ix2 x j) = (if x.val / 64 = j.val / 64 then 1 else 0 : EReal)) (hg : ∀ j : Fin 256, x10 (ix2 0 j) = g ⟨j.val % 64, by omega⟩)
    (R : Fin 512) (j : Fin 256) : out0_18 x0 x1 x2 x3 x4 x5 x6 x7 x8 x9 x10 x11 x12 (ix2 R j) = kB x0 x1 x2 x3 x4 g cs sn R j := by
  unfold out0_18
  refine View.canon_apply_of_pieces (Val := Elt Ideal) (e := .bf16) (fun y : S512x256.Idx => kB x0 x1 x2 x3 x4 g cs sn (y 0) (y 1))
    _ (fun p hp y => ?_) _ (cover0_18 _ _ _)
  rcases List.mem_cons.mp hp with rfl | hp
  · refine Eq.trans (b := kV (prodHi x0 x1 x2 x3 x4) (View.ld x11 r0_12) (View.ld x12 r0_12) (View.ld x8 r0_9) (View.ld x10 r0_10) (ix2 (n0 := 256) (n1 := 256) (y 0) (y 1))) (congrArg _ (eq_ix2 y))
      ((kHi_at x0 x1 x2 x3 x4 x8 x10 x11 x12 g cs sn hc hs ho hg (y 0) (y 1)).trans ?_)
    exact congrArg₂ (kB x0 x1 x2 x3 x4 g cs sn) (Fin.ext (show 256 + (y 0).val = 256 + 1 * (y 0).val from by omega))
      (Fin.ext (show (y 1).val = 0 + 1 * (y 1).val from by omega))
  rcases List.mem_cons.mp hp with rfl | hp
  · refine Eq.trans (b := kV (prodLo x0 x1 x2 x3 x4) (View.ld x11 r0_11) (View.ld x12 r0_11) (View.ld x8 r0_9) (View.ld x10 r0_10) (ix2 (n0 := 256) (n1 := 256) (y 0) (y 1))) (congrArg _ (eq_ix2 y))
      ((kLo_at x0 x1 x2 x3 x4 x8 x10 x11 x12 g cs sn hc hs ho hg (y 0) (y 1)).trans ?_)
    exact congrArg₂ (kB x0 x1 x2 x3 x4 g cs sn) (Fin.ext (show (y 0).val = 0 + 1 * (y 0).val from by omega))
      (Fin.ext (show (y 1).val = 0 + 1 * (y 1).val from by omega))
  exact absurd hp (List.not_mem_nil)

omit hc hs in
/-- An index whose first two parts have one value. -/
theorem ix4_zero (y : S1x1x512x128.Idx) : y = ix4 (n0 := 1) (n1 := 1) (n2 := 512) (n3 := 128) 0 0 (y 2) (y 3) := by
  refine (eq_ix4 (n0 := 1) (n1 := 1) (n2 := 512) (n3 := 128) y).trans ?_
  exact congrArg₂ (fun i k => ix4 (n0 := 1) (n1 := 1) (n2 := 512) (n3 := 128) i k (y 2) (y 3))
    (Fin.ext (by have h : (y 0).val < 1 := (y 0).isLt; show (y 0).val = 0; omega)) (Fin.ext (by have h : (y 1).val < 1 := (y 1).isLt; show (y 1).val = 0; omega))

/-- What a grid point leaves in output block 17: the attention's queries, four tiles of 128 rows, rows and columns exchanged. -/
theorem out17_at (ho : ∀ x j : Fin 512, x7 (ix2 x j) = (if x.val / 64 = j.val / 64 then 1 else 0 : EReal)) (hg : ∀ j : Fin 512, x9 (ix2 0 j) = g ⟨j.val % 64, by omega⟩)
    (t : Fin 4) (j : Fin 512) (x : Fin 128) : out0_17 x0 x1 x2 x3 x4 x5 x6 x7 x8 x9 x10 x11 x12 (ix4 0 t j x) =
      qB x0 x1 x2 x3 x4 g cs sn ⟨t.val * 128 + x.val, by omega⟩ j := by
  unfold out0_17
  refine View.canon_apply_of_pieces (Val := Elt Ideal) (e := .bf16) (fun y : S1x4x512x128.Idx => qB x0 x1 x2 x3 x4 g cs sn
    ⟨(y 1).val * 128 + (y 3).val, by have h : (y 1).val < 4 := (y 1).isLt; have k : (y 3).val < 128 := (y 3).isLt; omega⟩ (y 2))
    _ (fun p hp y => ?_) _ (cover0_17 _ _ _ _ _)
  rcases List.mem_cons.mp hp with rfl | hp
  · have h1 : (y 1).val < 1 := (y 1).isLt
    have h3 : (y 3).val < 128 := (y 3).isLt
    refine Eq.trans (b := k0_pay35 (F := Ideal) (k0_pay34 (qV (prodHi x0 x1 x2 x3 x4) (View.ld x11 r0_12) (View.ld x12 r0_12) (View.ld x7 r0_8) (View.ld x9 r0_6))) (ix4 (n0 := 1) (n1 := 1) (n2 := 512) (n3 := 128) 0 0 (y 2) (y 3))) (congrArg _ (ix4_zero y))
      ((tile1_at _ (y 2) (y 3)).trans ((qHi_at x0 x1 x2 x3 x4 x7 x9 x11 x12 g cs sn hc hs ho hg ⟨128 + (y 3).val, by omega⟩ (y 2)).trans ?_))
    exact congrArg₂ (qB x0 x1 x2 x3 x4 g cs sn) (Fin.ext (show 256 + (128 + (y 3).val) = (3 + 1 * (y 1).val) * 128 + (0 + 1 * (y 3).val) from by omega))
      (Fin.ext (show (y 2).val = 0 + 1 * (y 2).val from by omega))
  rcases List.mem_cons.mp hp with rfl | hp
  · have h1 : (y 1).val < 1 := (y 1).isLt
    have h3 : (y 3).val < 128 := (y 3).isLt
    refine Eq.trans (b := k0_pay33 (F := Ideal) (qV (prodHi x0 x1 x2 x3 x4) (View.ld x11 r0_12) (View.ld x12 r0_12) (View.ld x7 r0_8) (View.ld x9 r0_6)) (ix4 (n0 := 1) (n1 := 1) (n2 := 512) (n3 := 128) 0 0 (y 2) (y 3))) (congrArg _ (ix4_zero y))
      ((tile0_at _ (y 2) (y 3)).trans ((qHi_at x0 x1 x2 x3 x4 x7 x9 x11 x12 g cs sn hc hs ho hg ⟨(y 3).val, by omega⟩ (y 2)).trans ?_))
    exact congrArg₂ (qB x0 x1 x2 x3 x4 g cs sn) (Fin.ext (show 256 + (y 3).val = (2 + 1 * (y 1).val) * 128 + (0 + 1 * (y 3).val) from by omega))
      (Fin.ext (show (y 2).val = 0 + 1 * (y 2).val from by omega))
  rcases List.mem_cons.mp hp with rfl | hp
  · have h1 : (y 1).val < 1 := (y 1).isLt
    have h3 : (y 3).val < 128 := (y 3).isLt
    refine Eq.trans (b := k0_pay35 (F := Ideal) (k0_pay34 (qV (prodLo x0 x1 x2 x3 x4) (View.ld x11 r0_11) (View.ld x12 r0_11) (View.ld x7 r0_8) (View.ld x9 r0_6))) (ix4 (n0 := 1) (n1 := 1) (n2 := 512) (n3 := 128) 0 0 (y 2) (y 3))) (congrArg _ (ix4_zero y))
      ((tile1_at _ (y 2) (y 3)).trans ((qLo_at x0 x1 x2 x3 x4 x7 x9 x11 x12 g cs sn hc hs ho hg ⟨128 + (y 3).val, by omega⟩ (y 2)).trans ?_))
    exact congrArg₂ (qB x0 x1 x2 x3 x4 g cs sn) (Fin.ext (show (128 + (y 3).val) = (1 + 1 * (y 1).val) * 128 + (0 + 1 * (y 3).val) from by omega))
      (Fin.ext (show (y 2).val = 0 + 1 * (y 2).val from by omega))
  rcases List.mem_cons.mp hp with rfl | hp
  · have h1 : (y 1).val < 1 := (y 1).isLt
    have h3 : (y 3).val < 128 := (y 3).isLt
    refine Eq.trans (b := k0_pay33 (F := Ideal) (qV (prodLo x0 x1 x2 x3 x4) (View.ld x11 r0_11) (View.ld x12 r0_11) (View.ld x7 r0_8) (View.ld x9 r0_6)) (ix4 (n0 := 1) (n1 := 1) (n2 := 512) (n3 := 128) 0 0 (y 2) (y 3))) (congrArg _ (ix4_zero y))
      ((tile0_at _ (y 2) (y 3)).trans ((qLo_at x0 x1 x2 x3 x4 x7 x9 x11 x12 g cs sn hc hs ho hg ⟨(y 3).val, by omega⟩ (y 2)).trans ?_))
    exact congrArg₂ (qB x0 x1 x2 x3 x4 g cs sn) (Fin.ext (show (y 3).val = (0 + 1 * (y 1).val) * 128 + (0 + 1 * (y 3).val) from by omega))
      (Fin.ext (show (y 2).val = 0 + 1 * (y 2).val from by omega))
  exact absurd hp (List.not_mem_nil)

end Block

end Cert.Kernel5Ideal.AbProj

end
-- ==== Proof.AbQk.lean ====
/- The arrays of the attention's queries and keys that the first layer's input projection leaves, from the call's arguments. -/
module

public import proofs.«01_k».proof.Proof.AbHost
public import proofs.«01_k».proof.Proof.AbRope
public import proofs.«01_k».proof.Proof.InHost
public import proofs.«01_k».proof.Proof.OutHost

@[expose] public section

set_option maxRecDepth 16384

noncomputable section

namespace Cert.Kernel5Ideal.AbProj

open Cert.Kernel5Ideal Cert.Kernel5Ideal.Gen Idealize.ShloMosaic Idealize.ShloMosaic.TcCoe Cert.OutRow Cert.InRow Cert.AbRow
open Idealize.ShloMosaic.Pipeline (Dat)

variable (m : (ℓ : Loc nD τ sig) → Buf (Elt Ideal) ℓ) (c : Dev nD)

/-- The scales of the norms of the queries and the keys. -/
abbrev a6 : FVec Ideal S1x2x64 .f32 := m (c, Proc.tc.devRef main_arg6)

/-! ## The launch's arrays -/

/-- The host's operations after the angles. -/
abbrev tailOps : List (HloOp τ sig (Elt Ideal)) := List.drop 32 hostOps0 ++ List.flatten [hostOps0_1, hostOps0_2, hostOps0_3, hostOps0_4]

/-- The launch's arrays, the host's operations taken in two parts: the angles of the two axes, and what follows. -/
theorem V_ang (b : Ref sig .tc) : V m c b = StableHlo.after tailOps (StableHlo.after (List.take 32 hostOps0) fun b => m (c, b)) b := by
  rw [← StableHlo.after_append]
  rfl

/-- The angles of the two axes, by position. -/
def angR (l : Fin 4096) (d : Fin 16) : EReal := (V m c main_v21 : FVec Ideal S4096x16 .f32) (ix2 l d)
def angC (l : Fin 4096) (d : Fin 16) : EReal := (V m c main_v27 : FVec Ideal S4096x16 .f32) (ix2 l d)

/-- What follows leaves the angles as they are. -/
theorem tail_row (σ : Valuation τ sig (Elt Ideal)) : StableHlo.after tailOps σ main_v21 = σ (Proc.tc.devRef main_v21) := rfl
theorem tail_col (σ : Valuation τ sig (Elt Ideal)) : StableHlo.after tailOps σ main_v27 = σ (Proc.tc.devRef main_v27) := rfl
/-- The tables that it leaves. -/
theorem tail_cos (σ : Valuation τ sig (Elt Ideal)) :
    StableHlo.after tailOps σ main_v40 = Cert.Kernel4Ideal.InProj.table (Host.cos (σ (Proc.tc.devRef main_v21))) (Host.cos (σ (Proc.tc.devRef main_v21)))
      (Host.cos (σ (Proc.tc.devRef main_v27))) (Host.cos (σ (Proc.tc.devRef main_v27))) := rfl
theorem tail_sin (σ : Valuation τ sig (Elt Ideal)) :
    StableHlo.after tailOps σ main_v43 = Cert.Kernel4Ideal.InProj.table (Host.negf (Host.sin (σ (Proc.tc.devRef main_v21)))) (Host.sin (σ (Proc.tc.devRef main_v21)))
      (Host.negf (Host.sin (σ (Proc.tc.devRef main_v27)))) (Host.sin (σ (Proc.tc.devRef main_v27))) := rfl

/-- The cosines. -/
theorem h_cos (l : Fin 4096) (d : Fin 128) : V m c main_v40 (ix2 l d) = cosOf (angR m c l) (angC m c l) ⟨d.val % 64, by omega⟩ := by
  unfold angR angC
  rw [V_ang, V_ang, V_ang, tail_cos, tail_row, tail_col]
  refine (Cert.Kernel4Ideal.InProj.table_at _ _ _ _ l d).trans ?_
  unfold cosOf
  generalize StableHlo.after (List.take 32 hostOps0) (fun b => m (c, b)) = σ
  dsimp only
  by_cases h1 : d.val % 64 < 32
  · rw [if_pos h1]
    by_cases h2 : d.val % 64 < 16
    · rw [if_pos h2, if_pos h1]; rfl
    · rw [if_neg h2, if_pos h1]; rfl
  · by_cases h3 : d.val % 64 < 48
    · rw [if_neg (by omega), if_neg h1, if_pos h3, if_neg h1]; rfl
    · rw [if_neg (by omega), if_neg h1, if_neg h3, if_neg h1]; rfl

/-- The signed sines. -/
theorem h_sin (l : Fin 4096) (d : Fin 128) : V m c main_v43 (ix2 l d) = sinOf (angR m c l) (angC m c l) ⟨d.val % 64, by omega⟩ := by
  unfold angR angC
  rw [V_ang, V_ang, V_ang, tail_sin, tail_row, tail_col]
  refine (Cert.Kernel4Ideal.InProj.table_at _ _ _ _ l d).trans ?_
  rfl

/-- The operations before the last part leave the norms' scales as they are. -/
theorem head_g : StableHlo.after (List.flatten [hostOps0, hostOps0_1, hostOps0_2, hostOps0_3]) (fun b => m (c, b)) (Proc.tc.devRef main_arg6) = a6 m c := rfl
/-- A launch's array at an index, from the arguments. -/
theorem h_gq (j : Fin 512) : V m c main_v95 (ix2 0 j) = a6 m c (ix3 0 0 ⟨j.val % 64, by omega⟩) := by
  rw [V_line, ← head_g m c]
  generalize StableHlo.after (List.flatten [hostOps0, hostOps0_1, hostOps0_2, hostOps0_3]) (fun b => m (c, b)) = σ
  entry_read
  pointwise
/-- A launch's array at an index, from the arguments. -/
theorem h_gk (j : Fin 256) : V m c main_v101 (ix2 0 j) = a6 m c (ix3 0 1 ⟨j.val % 64, by omega⟩) := by
  rw [V_line, ← head_g m c]
  generalize StableHlo.after (List.flatten [hostOps0, hostOps0_1, hostOps0_2, hostOps0_3]) (fun b => m (c, b)) = σ
  entry_read
  pointwise

/-- One where two numbers of heads agree, zero elsewhere. -/
theorem same_head (x j : ℕ) (hx : x < 512) (hj : j < 512) : (((IntOp.cmpi CmpIPredicate.eq (BitVec.ofNat 32 (x / 64)) (BitVec.ofNat 32 (j / 64))).toNat : ℝ) : EReal) =
    if x / 64 = j / 64 then 1 else 0 := by
  by_cases hc : x / 64 = j / 64
  · rw [if_pos hc, hc]
    have h1 : IntOp.cmpi CmpIPredicate.eq (BitVec.ofNat 32 (j / 64)) (BitVec.ofNat 32 (j / 64)) = 1#1 := by simp [IntOp.cmpi]
    rw [h1]
    norm_num
  · rw [if_neg hc]
    have hne : BitVec.ofNat 32 (x / 64) ≠ BitVec.ofNat 32 (j / 64) := fun e => hc (by
      have := congrArg BitVec.toNat e
      simp only [BitVec.toNat_ofNat] at this
      omega)
    have h1 : IntOp.cmpi CmpIPredicate.eq (BitVec.ofNat 32 (x / 64)) (BitVec.ofNat 32 (j / 64)) = 0#1 := by
      show BitVec.ofBool (BitVec.ofNat 32 (x / 64) == BitVec.ofNat 32 (j / 64)) = 0#1
      rw [beq_eq_false_iff_ne.mpr hne]; rfl
    rw [h1]
    norm_num

/-- The mask that sums a head's columns, of eight heads: one where both columns are of one head, zero elsewhere. -/
theorem h_ones8 (x j : Fin 512) : V m c main_v51 (ix2 x j) = (if x.val / 64 = j.val / 64 then 1 else 0 : EReal) := by
  have e : V m c main_v51 = uitofp (F := Ideal) .bf16 (cmpi .eq
      (broadcastInDim S512x512 ![0, 1] bcast_S512x1_S512x512_0_1 (broadcastInDim S512x1 ![0] bcast_S512_S512x1_0 Cert.Kernel2Ideal.OutMlp.heads))
      (broadcastInDim S512x512 ![0, 1] bcast_S1x512_S512x512_0_1 (broadcastInDim S1x512 ![1] bcast_S512_S1x512_1 Cert.Kernel2Ideal.OutMlp.heads))) := rfl
  rw [e]
  pointwise
  rw [Cert.Kernel2Ideal.OutMlp.heads_at, Cert.Kernel2Ideal.OutMlp.heads_at]
  exact same_head x.val j.val x.isLt j.isLt

/-- The head of each of four heads' columns, as the host computes it. -/
def heads4 : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- The head of column `x` is `x / 64`. -/
theorem heads4_at : ∀ x : Fin 256, heads4 (ix1 x) = BitVec.ofNat 32 (x.val / 64) := by
  decide +kernel

/-- The mask of four heads. -/
theorem h_ones4 (x j : Fin 256) : V m c main_v59 (ix2 x j) = (if x.val / 64 = j.val / 64 then 1 else 0 : EReal) := by
  have e : V m c main_v59 = uitofp (F := Ideal) .bf16 (cmpi .eq
      (broadcastInDim S256x256 ![0, 1] bcast_S256x1_S256x256_0_1 (broadcastInDim S256x1 ![0] bcast_S256_S256x1_0 heads4))
      (broadcastInDim S256x256 ![0, 1] bcast_S1x256_S256x256_0_1 (broadcastInDim S1x256 ![1] bcast_S256_S1x256_1 heads4))) := rfl
  rw [e]
  pointwise
  rw [heads4_at, heads4_at]
  exact same_head x.val j.val (by omega) (by omega)

/-! ## The blocks of a grid point -/

/-- The block of every further window at a grid point. -/
theorem idx_qk : ∀ t : Fin cfg0.N,
    win0_7.index t = ![0, 0] ∧ win0_8.index t = ![0, 0] ∧ win0_9.index t = ![0, 0] ∧ win0_10.index t = ![0, 0] ∧ win0_11.index t = ![t.val % 8, 0] ∧
    win0_12.index t = ![t.val % 8, 0] ∧ win0_17.index t = ![(bT t).val, t.val % 8, 0, 0] ∧ win0_18.index t = ![t.val, 0] := by
  decide +kernel

/-- Window 7's block at an index. -/
theorem b7 (t : Fin cfg0.N) (x j : Fin 512) : iblk m c 7 t (ix2 x j) = (if x.val / 64 = j.val / 64 then 1 else 0 : EReal) := by
  have h := idx_qk t
  have e : iblk m c 7 t (ix2 x j) = V m c main_v51 (ix2 x j) := by
    blk_ext [iblk, h]
  rw [e, h_ones8]
/-- Window 8's block at an index. -/
theorem b8 (t : Fin cfg0.N) (x j : Fin 256) : iblk m c 8 t (ix2 x j) = (if x.val / 64 = j.val / 64 then 1 else 0 : EReal) := by
  have h := idx_qk t
  have e : iblk m c 8 t (ix2 x j) = V m c main_v59 (ix2 x j) := by
    blk_ext [iblk, h]
  rw [e, h_ones4]
/-- Window 9's block at an index, from the arguments. -/
theorem b9 (t : Fin cfg0.N) (j : Fin 512) : iblk m c 9 t (ix2 0 j) = a6 m c (ix3 0 0 ⟨j.val % 64, by omega⟩) := by
  have h := idx_qk t
  have e : iblk m c 9 t (ix2 0 j) = V m c main_v95 (ix2 0 j) := by
    blk_ext [iblk, h]
  rw [e, h_gq]
/-- Window 10's block at an index, from the arguments. -/
theorem b10 (t : Fin cfg0.N) (j : Fin 256) : iblk m c 10 t (ix2 0 j) = a6 m c (ix3 0 1 ⟨j.val % 64, by omega⟩) := by
  have h := idx_qk t
  have e : iblk m c 10 t (ix2 0 j) = V m c main_v101 (ix2 0 j) := by
    blk_ext [iblk, h]
  rw [e, h_gk]
/-- Window 11's block at an index: the cosines. -/
theorem b11 (t : Fin cfg0.N) (R : Fin 512) (d : Fin 128) : iblk m c 11 t (ix2 R d) = cosOf (angR m c (lRow (rowT t R))) (angC m c (lRow (rowT t R))) ⟨d.val % 64, by omega⟩ := by
  have h := idx_qk t
  have ht : t.val < 64 := t.isLt
  have e : iblk m c 11 t (ix2 R d) = V m c main_v40 (ix2 (lRow (rowT t R)) d) := by
    blk_ext [iblk, h, rowT]
  rw [e, h_cos]
/-- Window 12's block at an index: the signed sines. -/
theorem b12 (t : Fin cfg0.N) (R : Fin 512) (d : Fin 128) : iblk m c 12 t (ix2 R d) = sinOf (angR m c (lRow (rowT t R))) (angC m c (lRow (rowT t R))) ⟨d.val % 64, by omega⟩ := by
  have h := idx_qk t
  have ht : t.val < 64 := t.isLt
  have e : iblk m c 12 t (ix2 R d) = V m c main_v43 (ix2 (lRow (rowT t R)) d) := by
    blk_ext [iblk, h, rowT]
  rw [e, h_sin]

/-! ## The columns of the queries and the keys -/

/-- The weights' columns of the queries, and those of the keys. -/
theorem wide_q (w : FVec Ideal S1x1024x2336 .f32) (i : Fin 1024) (k : Fin 512) : wide w (ix2 i ⟨1664 + k.val, by omega⟩) = (w (ix3 0 i ⟨1568 + k.val, by omega⟩) : EReal) := by
  pointwise [wide]
  rw [dif_neg (by omega), dif_neg (by omega), dif_pos (by omega)]
  exact congrArg (fun k => w (ix3 _ _ k)) (Fin.ext (by dsimp only; omega))
theorem wide_k (w : FVec Ideal S1x1024x2336 .f32) (i : Fin 1024) (k : Fin 256) :
    wide w (ix2 i ⟨2176 + k.val, by omega⟩) = (w (ix3 0 i ⟨2080 + (k.val / 128 * 64 + k.val % 64), by omega⟩) : EReal) := by
  pointwise [wide]
  rw [dif_neg (by omega), dif_neg (by omega), dif_neg (by omega), dif_pos (by omega)]
  by_cases h1 : k.val < 64
  · rw [dif_pos (by omega)]
    exact congrArg (fun k => w (ix3 _ _ k)) (Fin.ext (by dsimp only; omega))
  by_cases h2 : k.val < 128
  · rw [dif_neg (by omega), dif_pos (by omega)]
    exact congrArg (fun k => w (ix3 _ _ k)) (Fin.ext (by dsimp only; omega))
  by_cases h3 : k.val < 192
  · rw [dif_neg (by omega), dif_neg (by omega), dif_pos (by omega)]
    exact congrArg (fun k => w (ix3 _ _ k)) (Fin.ext (by dsimp only; omega))
  · rw [dif_neg (by omega), dif_neg (by omega), dif_neg (by omega)]
    exact congrArg (fun k => w (ix3 _ _ k)) (Fin.ext (by dsimp only; omega))

/-- A grid point's columns of the queries are the projection's. -/
theorem pRow_q (t : Fin cfg0.N) (R : Fin 512) (k : Fin 512) :
    pRow (iblk m c 0 t) (iblk m c 1 t) (iblk m c 2 t) (iblk m c 3 t) (iblk m c 4 t) R ⟨1664 + k.val, by omega⟩ = outRow m c (rowT t R) ⟨1568 + k.val, by omega⟩ := by
  rw [pRow_eq]
  unfold outRow projAt abRow
  exact Finset.sum_congr rfl fun x _ => congrArg (_ * ·) (wide_q (a3 m c) x k)
/-- And those of the keys, each head of the projection's twice. -/
theorem pRow_k (t : Fin cfg0.N) (R : Fin 512) (k : Fin 256) :
    pRow (iblk m c 0 t) (iblk m c 1 t) (iblk m c 2 t) (iblk m c 3 t) (iblk m c 4 t) R ⟨2176 + k.val, by omega⟩ =
      outRow m c (rowT t R) ⟨2080 + (k.val / 128 * 64 + k.val % 64), by omega⟩ := by
  rw [pRow_eq]
  unfold outRow projAt abRow
  exact Finset.sum_congr rfl fun x _ => congrArg (_ * ·) (wide_k (a3 m c) x k)

/-! ## The result arrays -/

/-- The queries from a projected row, the norm's scales and the angles. -/
def qOf (p : Fin 2336 → EReal) (g : FVec Ideal S1x2x64 .f32) (ar ac : Fin 16 → EReal) (j : Fin 512) : EReal :=
  headRow (fun x => p ⟨1568 + x.val, by omega⟩) (fun d => g (ix3 0 0 d)) (cosOf ar ac) (sinOf ar ac) j
/-- The keys, each head twice. -/
def kOf (p : Fin 2336 → EReal) (g : FVec Ideal S1x2x64 .f32) (ar ac : Fin 16 → EReal) (j : Fin 256) : EReal :=
  headRow4 (fun x => p ⟨2080 + (x.val / 128 * 64 + x.val % 64), by omega⟩) (fun d => g (ix3 0 1 d)) (cosOf ar ac) (sinOf ar ac) j

/-- The queries of position `l` of batch `b`. -/
def qAt (b : Fin 8) (l : Fin 4096) (j : Fin 512) : EReal := qOf (projAt (a0 m c) (a1 m c) (a2 m c) (a3 m c) b l) (a6 m c) (angR m c l) (angC m c l) j
/-- The keys of row `R` of the flattened sequences. -/
def kRow (R : Fin 32768) (j : Fin 256) : EReal := kOf (outRow m c R) (a6 m c) (angR m c (lRow R)) (angC m c (lRow R)) j

/-- What a grid point computes of the queries. -/
theorem point17 (t : Fin cfg0.N) (T : Fin 4) (j : Fin 512) (x : Fin 128) : out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 T j x) =
    qAt m c (bRow (rowT t ⟨T.val * 128 + x.val, by omega⟩)) (lRow (rowT t ⟨T.val * 128 + x.val, by omega⟩)) j := by
  refine (out17_at _ _ _ _ _ _ _ _ _ _ _ _ _ (fun d => a6 m c (ix3 0 0 d)) (fun R => cosOf (angR m c (lRow (rowT t R))) (angC m c (lRow (rowT t R))))
    (fun R => sinOf (angR m c (lRow (rowT t R))) (angC m c (lRow (rowT t R)))) (b11 m c t) (b12 m c t) (b7 m c t) (b9 m c t) T j x).trans ?_
  unfold qB qAt qOf
  exact congrArg (fun f => headRow f _ _ _ j) (funext fun k => pRow_q m c t _ k)
/-- Result array 17 after the run: the queries in tiles of 128 positions. -/
theorem result17 : (dats m 0 c).arrAt 17 cfg0.N = fun i : S8x32x512x128.Idx =>
    qAt m c (i 0) ⟨(i 1).val * 128 + (i 3).val, by have h : (i 1).val < 32 := (i 1).isLt; have k : (i 3).val < 128 := (i 3).isLt; omega⟩ (i 2) := by
  refine (dats m 0 c).arrAt_eq_of_covers 17 _ (by decide +kernel) fun t hf y => ?_
  refine Eq.trans (b := (dats m 0 c).flushed 17 t y) rfl ?_
  refine (congrFun (Value.flushed17 m c t) y).trans ?_
  have h := idx_qk t
  have ht : t.val < 64 := t.isLt
  have hy0 : (y 0).val < 1 := (y 0).isLt
  have hy1 : (y 1).val < 4 := (y 1).isLt
  have hy3 : (y 3).val < 128 := (y 3).isLt
  have e0 : (((cfg0.win 17).blk t).view.emb y 0).val = t.val / 8 := by
    have q : (((cfg0.win 17).blk t).view.emb y 0).val = (bT t).val + (y 0).val := by
      blk_simp [h]
    rw [q]
    show t.val / 8 + (y 0).val = _
    omega
  have e1 : (((cfg0.win 17).blk t).view.emb y 1).val = t.val % 8 * 4 + (y 1).val := by
    blk_simp [h]
  have e2 : (((cfg0.win 17).blk t).view.emb y 2).val = (y 2).val := by
    blk_simp [h]
  have e3 : (((cfg0.win 17).blk t).view.emb y 3).val = (y 3).val := by
    blk_simp [h]
  have ey : y = ix4 (n0 := 1) (n1 := 4) (n2 := 512) (n3 := 128) 0 (y 1) (y 2) (y 3) := by
    refine (eq_ix4 (n0 := 1) (n1 := 4) (n2 := 512) (n3 := 128) y).trans ?_
    exact congrArg (fun i => ix4 (n0 := 1) (n1 := 4) (n2 := 512) (n3 := 128) i (y 1) (y 2) (y 3)) (Fin.ext (by show (y 0).val = 0; omega))
  have hg : ∀ g : Vec Ideal S1x4x512x128 .bf16, (cfg0.win 17).cut (grid0.coords t) g y = g (ix4 (n0 := 1) (n1 := 4) (n2 := 512) (n3 := 128) 0 (y 1) (y 2) (y 3)) :=
    fun g => congrArg g ey
  refine (hg _).trans ((point17 m c t (y 1) (y 2) (y 3)).trans ?_)
  have f0 : bRow (rowT t ⟨(y 1).val * 128 + (y 3).val, by omega⟩) = (((cfg0.win 17).blk t).view.emb y 0 : Fin 8) :=
    Fin.ext (by rw [e0]; show (t.val * 512 + ((y 1).val * 128 + (y 3).val)) / 4096 = _; omega)
  have f2 : (y 2 : Fin 512) = (((cfg0.win 17).blk t).view.emb y 2 : Fin 512) := Fin.ext e2.symm
  refine (congrArg (fun b => qAt m c b _ (y 2)) f0).trans ((congrArg (fun j => qAt m c _ _ j) f2).trans (congrArg (fun l => qAt m c _ l _) (Fin.ext ?_)))
  show (t.val * 512 + ((y 1).val * 128 + (y 3).val)) % 4096 = (((cfg0.win 17).blk t).view.emb y 1).val * 128 + (((cfg0.win 17).blk t).view.emb y 3).val
  rw [e1, e3]
  omega

/-- What a grid point computes of the keys. -/
theorem point18 (t : Fin cfg0.N) (R : Fin 512) (j : Fin 256) : out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 R j) = kRow m c (rowT t R) j := by
  refine (out18_at _ _ _ _ _ _ _ _ _ _ _ _ _ (fun d => a6 m c (ix3 0 1 d)) (fun R => cosOf (angR m c (lRow (rowT t R))) (angC m c (lRow (rowT t R))))
    (fun R => sinOf (angR m c (lRow (rowT t R))) (angC m c (lRow (rowT t R)))) (b11 m c t) (b12 m c t) (b8 m c t) (b10 m c t) R j).trans ?_
  unfold kB kRow kOf
  exact congrArg (fun f => headRow4 f _ _ _ j) (funext fun k => pRow_k m c t _ k)
/-- Result array 18 after the run. -/
theorem result18 : (dats m 0 c).arrAt 18 cfg0.N = fun i : S32768x256.Idx => kRow m c (i 0) (i 1) := by
  refine (dats m 0 c).arrAt_eq_of_covers 18 _ (by decide +kernel) fun t hf y => ?_
  refine Eq.trans (b := (dats m 0 c).flushed 18 t y) rfl ?_
  refine (congrFun (Value.flushed18 m c t) y).trans ?_
  have h := idx_qk t
  have e0 : (((cfg0.win 18).blk t).view.emb y 0).val = t.val * 512 + (y 0).val := by
    blk_simp [h]
  have e1 : (((cfg0.win 18).blk t).view.emb y 1).val = (y 1).val := by
    blk_simp [h]
  have hg : ∀ g : Vec Ideal S512x256 .bf16, (cfg0.win 18).cut (grid0.coords t) g y = g (ix2 (y 0) (y 1)) :=
    fun g => congrArg g (eq_ix2 y)
  refine (hg _).trans ((point18 m c t (y 0) (y 1)).trans ?_)
  exact congrArg₂ (kRow m c) (Fin.ext e0.symm) (Fin.ext e1.symm)

end Cert.Kernel5Ideal.AbProj

end
-- ==== Proof.AbRefQk.lean ====
/- The reference's queries and keys of the first layer's attention at an index. -/
module

public import proofs.«01_k».proof.Proof.AbRef
public import proofs.«01_k».proof.Proof.AbQk
public import proofs.«01_k».proof.Proof.InRef
public import proofs.«01_k».proof.Proof.OutRef

@[expose] public section

set_option maxRecDepth 16384

noncomputable section

namespace Cert.Reference5Ideal.AbProj

open Cert.Reference5Ideal Cert.Reference5Ideal.Gen Idealize.ShloMosaic Idealize.ShloMosaic.TcCoe Cert.Reference5Ideal.Read Cert.OutRow Cert.InRow Cert.AbRow

variable (x0 : FVec Ideal S8x4096x1024 .f32) (x1 : FVec Ideal S2x16x6144 .f32) (x2 : FVec Ideal S2x4x1024 .f32) (x3 : FVec Ideal S1x1024x2336 .f32)
  (x6 : FVec Ideal S1x2x64 .f32)

/-- The angles of the two axes. -/
def angR (l : Fin 4096) (d : Fin 16) : EReal := val_main_v63 (F := Ideal) (ix2 l d)
def angC (l : Fin 4096) (d : Fin 16) : EReal := val_main_v69 (F := Ideal) (ix2 l d)

/-! ## The queries -/

/-- The queries by head. -/
theorem q_at (b h : Fin 8) (l : Fin 4096) (d : Fin 64) : val_main_v71 (F := Ideal) x0 x1 x2 x3 (ix4 b h l d) =
    val_main_v34 (F := Ideal) x0 x1 x2 x3 (ix3 b l ⟨1568 + (h.val * 64 + d.val), by omega⟩) := by
  unfold val_main_v71 val_main_v70 val_main_v41
  generalize val_main_v34 (F := Ideal) x0 x1 x2 x3 = y
  pointwise
/-- The queries, normalised. -/
theorem qnorm_at (b h : Fin 8) (l : Fin 4096) (d : Fin 64) : val_main_v86 (F := Ideal) x0 x1 x2 x3 x6 (ix4 b h l d) =
    (val_main_v71 (F := Ideal) x0 x1 x2 x3 (ix4 b h l d) * Ideal.rsqrt (Ideal.div (∑ d : Fin 64, val_main_v71 (F := Ideal) x0 x1 x2 x3 (ix4 b h l d) *
      val_main_v71 (F := Ideal) x0 x1 x2 x3 (ix4 b h l d)) w64 + eps) * x6 (ix3 0 0 d) : EReal) := by
  unfold val_main_v86 val_main_v83 val_main_v82 val_main_v81 val_main_v80 val_main_v78 val_main_v76 val_main_v75 val_main_v74
  generalize val_main_v71 (F := Ideal) x0 x1 x2 x3 = y
  pointwise [val_main_v85, val_main_v84, val_main_v73, val_main_v72, val_main_v2, val_main_v77, val_main_v79, val_main_cst_7, val_main_cst_8, val_main_cst_9, w64, eps]
/-- The rotated queries. -/
theorem qrot_at (b h : Fin 8) (l : Fin 4096) (d : Fin 64) : val_main_v127 (F := Ideal) x0 x1 x2 x3 x6 (ix4 b h l d) =
    headRot (fun d => val_main_v86 (F := Ideal) x0 x1 x2 x3 x6 (ix4 b h l d)) (angR l) (angC l) d := by
  unfold val_main_v127 val_main_v126 val_main_v125 val_main_v124 val_main_v121 val_main_v118 val_main_v117 val_main_v114 val_main_v109 val_main_v108 val_main_v107 val_main_v106 val_main_v105 val_main_v104 val_main_v101 val_main_v98 val_main_v97 val_main_v94 val_main_v89 val_main_v88 val_main_v87
  generalize val_main_v86 (F := Ideal) x0 x1 x2 x3 x6 = y
  pointwise [val_main_v90, val_main_v91, val_main_v92, val_main_v93, val_main_v95, val_main_v96, val_main_v99, val_main_v100, val_main_v102, val_main_v103, val_main_v110, val_main_v111, val_main_v112, val_main_v113, val_main_v115, val_main_v116, val_main_v119, val_main_v120, val_main_v122, val_main_v123]
  exact Cert.Reference4Ideal.InProj.halves_eq (fun d => y (ix4 b h l d)) (angR l) (angC l) d
/-- The array's queries, from the heads. -/
theorem qt_at (b : Fin 8) (T : Fin 32) (j : Fin 512) (x : Fin 128) : val_main_v196 (F := Ideal) x0 x1 x2 x3 x6 (ix4 b T j x) =
    val_main_v127 (F := Ideal) x0 x1 x2 x3 x6 (ix4 b ⟨j.val / 64, by omega⟩ ⟨T.val * 128 + x.val, by omega⟩ ⟨j.val % 64, by omega⟩) := by
  unfold val_main_v196 val_main_v189 val_main_v188 val_main_v187 val_main_v186
  generalize val_main_v127 (F := Ideal) x0 x1 x2 x3 x6 = y
  pointwise

/-! ## The keys -/

/-- The keys by head. -/
theorem k_at (b : Fin 8) (h : Fin 2) (l : Fin 4096) (d : Fin 64) : val_main_v129 (F := Ideal) x0 x1 x2 x3 (ix4 b h l d) =
    val_main_v34 (F := Ideal) x0 x1 x2 x3 (ix3 b l ⟨2080 + (h.val * 64 + d.val), by omega⟩) := by
  unfold val_main_v129 val_main_v128 val_main_v42
  generalize val_main_v34 (F := Ideal) x0 x1 x2 x3 = y
  pointwise
/-- The keys, normalised. -/
theorem knorm_at (b : Fin 8) (h : Fin 2) (l : Fin 4096) (d : Fin 64) : val_main_v144 (F := Ideal) x0 x1 x2 x3 x6 (ix4 b h l d) =
    (val_main_v129 (F := Ideal) x0 x1 x2 x3 (ix4 b h l d) * Ideal.rsqrt (Ideal.div (∑ d : Fin 64, val_main_v129 (F := Ideal) x0 x1 x2 x3 (ix4 b h l d) *
      val_main_v129 (F := Ideal) x0 x1 x2 x3 (ix4 b h l d)) w64 + eps) * x6 (ix3 0 1 d) : EReal) := by
  unfold val_main_v144 val_main_v141 val_main_v140 val_main_v139 val_main_v138 val_main_v136 val_main_v134 val_main_v133 val_main_v132
  generalize val_main_v129 (F := Ideal) x0 x1 x2 x3 = y
  pointwise [val_main_v143, val_main_v142, val_main_v131, val_main_v130, val_main_v2, val_main_v135, val_main_v137, val_main_cst_10, val_main_cst_11, val_main_cst_12, w64, eps]
/-- The rotated keys. -/
theorem krot_at (b : Fin 8) (h : Fin 2) (l : Fin 4096) (d : Fin 64) : val_main_v185 (F := Ideal) x0 x1 x2 x3 x6 (ix4 b h l d) =
    headRot (fun d => val_main_v144 (F := Ideal) x0 x1 x2 x3 x6 (ix4 b h l d)) (angR l) (angC l) d := by
  unfold val_main_v185 val_main_v184 val_main_v183 val_main_v182 val_main_v179 val_main_v176 val_main_v175 val_main_v172 val_main_v167 val_main_v166 val_main_v165 val_main_v164 val_main_v163 val_main_v162 val_main_v159 val_main_v156 val_main_v155 val_main_v152 val_main_v147 val_main_v146 val_main_v145
  generalize val_main_v144 (F := Ideal) x0 x1 x2 x3 x6 = y
  pointwise [val_main_v148, val_main_v149, val_main_v150, val_main_v151, val_main_v153, val_main_v154, val_main_v157, val_main_v158, val_main_v160, val_main_v161, val_main_v168, val_main_v169, val_main_v170, val_main_v171, val_main_v173, val_main_v174, val_main_v177, val_main_v178, val_main_v180, val_main_v181]
  exact Cert.Reference4Ideal.InProj.halves_eq (fun d => y (ix4 b h l d)) (angR l) (angC l) d
/-- The array's keys, from the heads: each head twice. -/
theorem kt_at (R : Fin 32768) (j : Fin 256) : val_main_v202 (F := Ideal) x0 x1 x2 x3 x6 (ix2 R j) =
    val_main_v185 (F := Ideal) x0 x1 x2 x3 x6 (ix4 ⟨R.val / 4096, by omega⟩ ⟨j.val / 64 / 2, by omega⟩ ⟨R.val % 4096, by omega⟩ ⟨j.val % 64, by omega⟩) := by
  unfold val_main_v202 val_main_v201 val_main_v200 val_main_v199 val_main_v198 val_main_v197
  generalize val_main_v185 (F := Ideal) x0 x1 x2 x3 x6 = y
  pointwise

/-! ## From the projected row -/

/-- A head's norm, its column counted within the row. -/
theorem headNorm_col (f : Fin 512 → EReal) (g y : Fin 64 → EReal) (h : Fin 8) (d : Fin 64) (hy : ∀ d : Fin 64, y d = f ⟨h.val * 64 + d.val, by omega⟩) :
    y d * Ideal.rsqrt (Ideal.div (∑ d, y d * y d) w64 + eps) * g d = headNorm f g ⟨h.val * 64 + d.val, by omega⟩ := by
  have e := Cert.Reference2Ideal.OutMlp.headNorm_row f g y ⟨h.val * 64 + d.val, by omega⟩ fun i =>
    (hy i).trans (congrArg f (Fin.ext (by show h.val * 64 + i.val = (h.val * 64 + d.val) / 64 * 64 + i.val; omega)))
  have ed : (⟨(h.val * 64 + d.val) % 64, by omega⟩ : Fin 64) = d := Fin.ext (by show (h.val * 64 + d.val) % 64 = d.val; omega)
  rw [← e]
  dsimp only
  rw [ed]

/-- The queries of position `l`, from its projected row. -/
theorem query_at (b : Fin 8) (T : Fin 32) (j : Fin 512) (x : Fin 128) : val_main_v196 (F := Ideal) x0 x1 x2 x3 x6 (ix4 b T j x) =
    Cert.Kernel5Ideal.AbProj.qOf (Cert.Kernel5Ideal.AbProj.projAt x0 x1 x2 x3 b ⟨T.val * 128 + x.val, by omega⟩) x6
      (angR ⟨T.val * 128 + x.val, by omega⟩) (angC ⟨T.val * 128 + x.val, by omega⟩) j := by
  rw [qt_at, qrot_at]
  unfold Cert.Kernel5Ideal.AbProj.qOf headRow
  rw [rot_head]
  refine congrArg (fun f => headRot f _ _ _) (funext fun d => ?_)
  rw [qnorm_at]
  refine headNorm_col (fun k => Cert.Kernel5Ideal.AbProj.projAt x0 x1 x2 x3 b ⟨T.val * 128 + x.val, by omega⟩ ⟨1568 + k.val, by omega⟩) (fun d => x6 (ix3 0 0 d))
    (fun d => val_main_v71 (F := Ideal) x0 x1 x2 x3 (ix4 b ⟨j.val / 64, by omega⟩ ⟨T.val * 128 + x.val, by omega⟩ d)) ⟨j.val / 64, by omega⟩ d fun i => ?_
  rw [q_at, proj_at]

/-- The keys of row `R`, from its projected row. -/
theorem key_at (R : Fin 32768) (j : Fin 256) : val_main_v202 (F := Ideal) x0 x1 x2 x3 x6 (ix2 R j) =
    Cert.Kernel5Ideal.AbProj.kOf (Cert.Kernel5Ideal.AbProj.projAt x0 x1 x2 x3 ⟨R.val / 4096, by omega⟩ ⟨R.val % 4096, by omega⟩) x6
      (angR ⟨R.val % 4096, by omega⟩) (angC ⟨R.val % 4096, by omega⟩) j := by
  rw [kt_at, krot_at]
  unfold Cert.Kernel5Ideal.AbProj.kOf headRow4 headRow
  rw [rot_head]
  refine congrArg (fun f => headRot f _ _ _) (funext fun d => ?_)
  rw [knorm_at]
  refine headNorm_col (ext fun k : Fin 256 => Cert.Kernel5Ideal.AbProj.projAt x0 x1 x2 x3 ⟨R.val / 4096, by omega⟩ ⟨R.val % 4096, by omega⟩
      ⟨2080 + (k.val / 128 * 64 + k.val % 64), by omega⟩) (fun d => x6 (ix3 0 1 d))
    (fun d => val_main_v129 (F := Ideal) x0 x1 x2 x3 (ix4 ⟨R.val / 4096, by omega⟩ ⟨j.val / 64 / 2, by omega⟩ ⟨R.val % 4096, by omega⟩ d)) ⟨j.val / 64, by omega⟩ d fun i => ?_
  rw [k_at, proj_at, ext_lt _ _ (by show j.val / 64 * 64 + i.val < 256; omega)]
  exact congrArg (Cert.Kernel5Ideal.AbProj.projAt x0 x1 x2 x3 _ _)
    (Fin.ext (by show 2080 + (j.val / 64 / 2 * 64 + i.val) = 2080 + ((j.val / 64 * 64 + i.val) / 128 * 64 + (j.val / 64 * 64 + i.val) % 64); omega))

end Cert.Reference5Ideal.AbProj

end
-- ==== Proof.AbClaims.lean ====
/- The claims of the first layer's input projection: the frames, the preservation and the equation with the reference. -/
module

public import proofs.«01_k».proof.Proof.AbRefQk
public import proofs.«01_k».proof.Proof.Gen.Kernel5
public import proofs.«01_k».proof.Proof.Gen.Kernel5Ideal
public import proofs.«01_k».proof.Proof.Gen.Reference5Ideal
public import Idealize.ShloMosaic.Adequacy
public import Idealize.ShloMosaic.Init

@[expose] public section

set_option maxRecDepth 16384

noncomputable section

namespace Cert.AbClaims

open Idealize.ShloMosaic Idealize.ShloMosaic.TcCoe Idealize.SL.Sem

set_option maxHeartbeats 4000000 in
/-- The kernel and its idealized text have one body. -/
theorem body_eq : Cert.Kernel5.defs₀ (F := Bits) = Cert.Kernel5Ideal.defs₀ (F := Bits) := by
  unfold Cert.Kernel5.defs₀ Cert.Kernel5Ideal.defs₀
  refine congrArg Defs.onTc (funext fun l => funext fun a => ?_)
  match l, a with
  | 0, (t, s) => exact rfl
  | ⟨_ + 1, h⟩, _ => exact absurd h (Nat.not_lt.2 (Nat.le_add_left _ _))

set_option maxHeartbeats 4000000 in
/-- And one table of bodies. -/
theorem defs_eq : Cert.Kernel5.defs (F := Bits) = Cert.Kernel5Ideal.defs (F := Bits) :=
  congrArg (Pipeline.defs Cert.Kernel5.pcfgs) body_eq

set_option maxHeartbeats 4000000 in
/-- The kernel runs, leaves its arguments unchanged and every semaphore at zero: its run is the idealized text's. -/
theorem frame_p : Cert.quiescent_Kernel5 := fun m ρ _ =>
  Eq.mpr (congrArg (fun d => (θ_run d (onTc (τ := Cert.Kernel5.τ) (Cert.Kernel5.main (F := Bits))) ⟨m, fun _ => 0, ρ⟩) _) defs_eq)
    (Cert.Kernel5Ideal.Gen.frame (F := Bits) m ρ)
/-- The same of the idealized kernel. -/
theorem frame_pi : Cert.quiescent_Kernel5Ideal := fun m ρ _ => Cert.Kernel5Ideal.Gen.frame m ρ
/-- The reference runs and leaves its arguments unchanged. -/
theorem frame_ri : Cert.quiescent_Reference5Ideal := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)
/-- The idealization rewrote nothing. -/
theorem preserves : Cert.preserves_Kernel5_Kernel5Ideal := trivial

/-! ## The angles -/

/-- The host's angles of the first axis are the reference's. -/
theorem head_row (σ : Valuation Cert.Kernel5Ideal.τ Cert.Kernel5Ideal.sig (Elt Ideal)) :
    StableHlo.after (List.take 32 Cert.Kernel5Ideal.Gen.hostOps0) σ Cert.Kernel5Ideal.main_v21 = Cert.Reference5Ideal.Read.val_main_v63 (F := Ideal) := rfl
/-- And those of the second. -/
theorem head_col (σ : Valuation Cert.Kernel5Ideal.τ Cert.Kernel5Ideal.sig (Elt Ideal)) :
    StableHlo.after (List.take 32 Cert.Kernel5Ideal.Gen.hostOps0) σ Cert.Kernel5Ideal.main_v27 = Cert.Reference5Ideal.Read.val_main_v69 (F := Ideal) := rfl

variable (m : (ℓ : Loc Cert.Kernel5Ideal.nD Cert.Kernel5Ideal.τ Cert.Kernel5Ideal.sig) → Buf (Elt Ideal) ℓ) (c : Dev Cert.Kernel5Ideal.nD)

/-- The angles of the first axis at the launch are the reference's. -/
theorem row_eq (l : Fin 4096) : Cert.Kernel5Ideal.AbProj.angR m c l = Cert.Reference5Ideal.AbProj.angR l := by
  funext d
  unfold Cert.Kernel5Ideal.AbProj.angR Cert.Reference5Ideal.AbProj.angR
  rw [Cert.Kernel5Ideal.AbProj.V_ang, Cert.Kernel5Ideal.AbProj.tail_row]
  exact congrFun (head_row _) _
/-- And those of the second. -/
theorem col_eq (l : Fin 4096) : Cert.Kernel5Ideal.AbProj.angC m c l = Cert.Reference5Ideal.AbProj.angC l := by
  funext d
  unfold Cert.Kernel5Ideal.AbProj.angC Cert.Reference5Ideal.AbProj.angC
  rw [Cert.Kernel5Ideal.AbProj.V_ang, Cert.Kernel5Ideal.AbProj.tail_col]
  exact congrFun (head_col _) _

/-! ## The equations of the six results -/

variable (x0 : FVec Ideal Cert.Kernel5Ideal.S8x4096x1024 .f32) (x1 : FVec Ideal Cert.Kernel5Ideal.S2x16x6144 .f32)
  (x2 : FVec Ideal Cert.Kernel5Ideal.S2x4x1024 .f32) (x3 : FVec Ideal Cert.Kernel5Ideal.S1x1024x2336 .f32)
  (h0 : x0 = Cert.Kernel5Ideal.AbProj.a0 m c) (h1 : x1 = Cert.Kernel5Ideal.AbProj.a1 m c)
  (h2 : x2 = Cert.Kernel5Ideal.AbProj.a2 m c) (h3 : x3 = Cert.Kernel5Ideal.AbProj.a3 m c)
include h0 h1 h2 h3

/-- The reference's first result is the array of the linear attention's queries and keys. -/
theorem equal13 : Cert.Reference5Ideal.Read.val_main_v192 (F := Ideal) x0 x1 x2 x3 =
    (Cert.Kernel5Ideal.Gen.dats m 0 c).arrAt 13 Cert.Kernel5Ideal.cfg0.N := by
  subst h0 h1 h2 h3
  refine Eq.trans ?_ (Cert.Kernel5Ideal.AbProj.result13 m c).symm
  funext i
  refine (congrArg _ (eq_ix2 (n0 := 32768) (n1 := 512) i)).trans ?_
  refine (Cert.Reference5Ideal.AbProj.qk_at _ _ _ _ (i 0) (i 1)).trans ?_
  exact Cert.Reference5Ideal.AbProj.proj_at _ _ _ _ _ _ _
/-- The second, of its values. -/
theorem equal15 : Cert.Reference5Ideal.Read.val_main_v194 (F := Ideal) x0 x1 x2 x3 =
    (Cert.Kernel5Ideal.Gen.dats m 0 c).arrAt 15 Cert.Kernel5Ideal.cfg0.N := by
  subst h0 h1 h2 h3
  refine Eq.trans ?_ (Cert.Kernel5Ideal.AbProj.result15 m c).symm
  funext i
  refine (congrArg _ (eq_ix2 (n0 := 32768) (n1 := 512) i)).trans ?_
  refine (Cert.Reference5Ideal.AbProj.v_at _ _ _ _ (i 0) (i 1)).trans ?_
  exact Cert.Reference5Ideal.AbProj.proj_at _ _ _ _ _ _ _
/-- The third, of its gates. -/
theorem equal16 : Cert.Reference5Ideal.Read.val_main_v195 (F := Ideal) x0 x1 x2 x3 =
    (Cert.Kernel5Ideal.Gen.dats m 0 c).arrAt 16 Cert.Kernel5Ideal.cfg0.N := by
  subst h0 h1 h2 h3
  refine Eq.trans ?_ (Cert.Kernel5Ideal.AbProj.result16 m c).symm
  funext i
  refine (congrArg _ (eq_ix2 (n0 := 32768) (n1 := 512) i)).trans ?_
  refine (Cert.Reference5Ideal.AbProj.gate_at _ _ _ _ (i 0) (i 1)).trans ?_
  exact Cert.Reference5Ideal.AbProj.proj_at _ _ _ _ _ _ _
/-- The sixth, of the attention's values. -/
theorem equal19 : Cert.Reference5Ideal.Read.val_main_v204 (F := Ideal) x0 x1 x2 x3 =
    (Cert.Kernel5Ideal.Gen.dats m 0 c).arrAt 19 Cert.Kernel5Ideal.cfg0.N := by
  subst h0 h1 h2 h3
  refine Eq.trans ?_ (Cert.Kernel5Ideal.AbProj.result19 m c).symm
  funext i
  refine (congrArg _ (eq_ix3 (n0 := 8) (n1 := 128) (n2 := 4096) i)).trans ?_
  refine (Cert.Reference5Ideal.AbProj.vt_at _ _ _ _ (i 0) (i 1) (i 2)).trans ?_
  exact Cert.Reference5Ideal.AbProj.proj_at _ _ _ _ _ _ _

variable (x6 : FVec Ideal Cert.Kernel5Ideal.S1x2x64 .f32) (h6 : x6 = Cert.Kernel5Ideal.AbProj.a6 m c)
include h6

/-- The fourth, of the attention's queries. -/
theorem equal17 : Cert.Reference5Ideal.Read.val_main_v196 (F := Ideal) x0 x1 x2 x3 x6 =
    (Cert.Kernel5Ideal.Gen.dats m 0 c).arrAt 17 Cert.Kernel5Ideal.cfg0.N := by
  subst h0 h1 h2 h3 h6
  refine Eq.trans ?_ (Cert.Kernel5Ideal.AbProj.result17 m c).symm
  funext i
  refine (congrArg _ (eq_ix4 (n0 := 8) (n1 := 32) (n2 := 512) (n3 := 128) i)).trans ?_
  refine (Cert.Reference5Ideal.AbProj.query_at _ _ _ _ _ (i 0) (i 1) (i 2) (i 3)).trans ?_
  rw [← row_eq m c, ← col_eq m c]
  rfl
/-- The fifth, of its keys. -/
theorem equal18 : Cert.Reference5Ideal.Read.val_main_v202 (F := Ideal) x0 x1 x2 x3 x6 =
    (Cert.Kernel5Ideal.Gen.dats m 0 c).arrAt 18 Cert.Kernel5Ideal.cfg0.N := by
  subst h0 h1 h2 h3 h6
  refine Eq.trans ?_ (Cert.Kernel5Ideal.AbProj.result18 m c).symm
  funext i
  refine (congrArg _ (eq_ix2 (n0 := 32768) (n1 := 256) i)).trans ?_
  refine (Cert.Reference5Ideal.AbProj.key_at _ _ _ _ _ (i 0) (i 1)).trans ?_
  rw [← row_eq m c, ← col_eq m c]
  rfl

omit h0 h1 h2 h3 h6 in
/-- The kernel and its reference end with the same six arrays of extended reals. -/
theorem algebraic : Cert.algebraic_Kernel5Ideal_Reference5Ideal := by
  intro m g m' g' _ hagree
  refine ⟨fun c => (Cert.Kernel5Ideal.Gen.dats m 0 c).arrAt 13 Cert.Kernel5Ideal.cfg0.N, fun c => (Cert.Kernel5Ideal.Gen.dats m 0 c).arrAt 15 Cert.Kernel5Ideal.cfg0.N,
    fun c => (Cert.Kernel5Ideal.Gen.dats m 0 c).arrAt 16 Cert.Kernel5Ideal.cfg0.N, fun c => (Cert.Kernel5Ideal.Gen.dats m 0 c).arrAt 17 Cert.Kernel5Ideal.cfg0.N,
    fun c => (Cert.Kernel5Ideal.Gen.dats m 0 c).arrAt 18 Cert.Kernel5Ideal.cfg0.N, fun c => (Cert.Kernel5Ideal.Gen.dats m 0 c).arrAt 19 Cert.Kernel5Ideal.cfg0.N, ?_, ?_⟩
  · exact (θ_run Cert.Kernel5Ideal.defs _ _).mono (fun r h c => ⟨(h c).1, (h c).2.2.1, (h c).2.2.2.1, (h c).2.2.2.2.1, (h c).2.2.2.2.2.1, (h c).2.2.2.2.2.2.1, (h c).2.2.2.2.2.2.2⟩)
      (Cert.Kernel5Ideal.Value.run_blocks m g)
  refine (θ_run Cert.Reference5Ideal.defs _ _).mono (fun r h c => ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩)
    (Cert.Reference5Ideal.Value.run (F := Ideal) m' g')
  all_goals obtain ⟨h0, h1, h2, h3, _, _, h6⟩ := hagree c
  · exact (Cert.Reference5Ideal.Read.val_main_v192_eq _).trans (equal13 m c _ _ _ _ h0 h1 h2 h3)
  · exact (Cert.Reference5Ideal.Read.val_main_v194_eq _).trans (equal15 m c _ _ _ _ h0 h1 h2 h3)
  · exact (Cert.Reference5Ideal.Read.val_main_v195_eq _).trans (equal16 m c _ _ _ _ h0 h1 h2 h3)
  · exact (Cert.Reference5Ideal.Read.val_main_v196_eq _).trans (equal17 m c _ _ _ _ h0 h1 h2 h3 _ h6)
  · exact (Cert.Reference5Ideal.Read.val_main_v202_eq _).trans (equal18 m c _ _ _ _ h0 h1 h2 h3 _ h6)
  · exact (Cert.Reference5Ideal.Read.val_main_v204_eq _).trans (equal19 m c _ _ _ _ h0 h1 h2 h3)

end Cert.AbClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Claims
public import proofs.«01_k».proof.Proof.OutClaims
public import proofs.«01_k».proof.Proof.FirstClaims
public import proofs.«01_k».proof.Proof.InClaims
public import proofs.«01_k».proof.Proof.AbClaims
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts,
    AttnClaims.frame_p, AttnClaims.frame_pi, AttnClaims.frame_pi_pre, AttnClaims.frame_ri, AttnClaims.frame_ri_pre,
    OutClaims.frame_p, OutClaims.frame_pi, OutClaims.frame_ri,
    FirstClaims.frame_p, FirstClaims.frame_pi, FirstClaims.frame_ri,
    InClaims.frame_p, InClaims.frame_pi, InClaims.frame_ri,
    AbClaims.frame_p, AbClaims.frame_pi, AbClaims.frame_ri,
    AttnClaims.preserves, AttnClaims.algebraic, OutClaims.preserves, OutClaims.algebraic,
    FirstClaims.preserves, FirstClaims.algebraic, InClaims.preserves, InClaims.algebraic,
    AbClaims.preserves, AbClaims.algebraic⟩

end Cert.Proof

end
